-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_packed [hPre_packed : Cert.Pre_packed.Facts] (m : (ℓ : Loc Cert.KernelIdeal.nD Cert.KernelIdeal.τ Cert.KernelIdeal.sig) → Buf (Elt Ideal) ℓ) : Prop :=
  ∀ c : Dev Cert.KernelIdeal.nD,
    (Cert.Pre_packed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_packed [hPre_packed : Cert.Pre_packed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_packed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_packed [hKernelIdeal : Cert.KernelIdeal.Facts] [hPre_packed : Cert.Pre_packed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_packed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_packed [hReferenceIdeal : Cert.ReferenceIdeal.Facts] [hPre_packed : Cert.Pre_packed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_packed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_packed [hKernelIdeal : Cert.KernelIdeal.Facts] [hReferenceIdeal : Cert.ReferenceIdeal.Facts] [hPre_packed : Cert.Pre_packed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_packed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27_0) = v0 c
          ∧ r.2.mem ((c.tc : Thread Cert.ReferenceIdeal.nD Cert.ReferenceIdeal.τ).loc Cert.ReferenceIdeal.main_v27_1) = v1 c
          ∧ r.2.mem ((c.tc : Thread Cert.ReferenceIdeal.nD Cert.ReferenceIdeal.τ).loc Cert.ReferenceIdeal.main_v27_2) = v2 c
          ∧ r.2.mem ((c.tc : Thread Cert.ReferenceIdeal.nD Cert.ReferenceIdeal.τ).loc Cert.ReferenceIdeal.main_v27_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_packed : Cert.Pre_packed.Facts),
    quiescent_Kernel (hKernel := hKernel)
    ∧ quiescent_KernelIdeal (hKernelIdeal := hKernelIdeal)
    ∧ quiescent_KernelIdeal_pre_packed (hKernelIdeal := hKernelIdeal) (hPre_packed := hPre_packed)
    ∧ quiescent_ReferenceIdeal (hReferenceIdeal := hReferenceIdeal)
    ∧ quiescent_ReferenceIdeal_pre_packed (hReferenceIdeal := hReferenceIdeal) (hPre_packed := hPre_packed)
    ∧ preserves_Kernel_KernelIdeal
    ∧ algebraic_KernelIdeal_ReferenceIdeal_pre_packed (hKernelIdeal := hKernelIdeal) (hReferenceIdeal := hReferenceIdeal) (hPre_packed := hPre_packed)
-- ==== Pre_packed.lean ====
abbrev S23040x1536 : Shape := ⟨2, ![23040, 1536]⟩
abbrev S23040x8960 : Shape := ⟨2, ![23040, 8960]⟩
abbrev S23040x70 : Shape := ⟨2, ![23040, 70]⟩
abbrev S8960x1536 : Shape := ⟨2, ![8960, 1536]⟩
abbrev S70x12 : Shape := ⟨2, ![70, 12]⟩
abbrev S1536 : Shape := ⟨1, ![1536]⟩
abbrev S21 : Shape := ⟨1, ![21]⟩
abbrev S20 : Shape := ⟨1, ![20]⟩
abbrev S_ : Shape := ⟨0, ![]⟩
abbrev S1 : Shape := ⟨1, ![1]⟩

class Facts : Prop where
  slices_S21_S20_0 : S21.Slices ![0] S20
  slices_S21_S20_1 : S21.Slices ![1] S20
  reducesTo_S20_S_d0 : S20.ReducesTo [0] S_
  h_S_ : 0 < S_.numel
  slices_S21_S1_20 : S21.Slices ![20] S1
  shapeCasts_S1_S_ : S1.ShapeCasts S_

variable [Facts]

def fn {F : FTy → Type} [FloatOps F] (main_arg0 : FVec F S23040x1536 .bf16) (main_arg1 : FVec F S23040x8960 .fp8e4m3) (main_arg2 : FVec F S23040x70 .f32) (main_arg3 : FVec F S8960x1536 .fp8e4m3) (main_arg4 : FVec F S70x12 .f32) (main_arg5 : FVec F S1536 .f32) (main_arg6 : FVec F S1536 .f32) (main_arg7 : FVec F S1536 .f32) (main_arg8 : IVec S21 32) : IVec S_ 1 :=
  let main_v0 : IVec S20 32 := (extractStridedSlice S20 ![0] · slices_S21_S20_0) main_arg8
  let main_v1 : IVec S20 32 := (extractStridedSlice S20 ![1] · slices_S21_S20_1) main_arg8
  let main_v2 : IVec S20 1 := cmpi .sle main_v0 main_v1
  let main_c : IVec S_ 1 := constantI S_ 1 1#1
  let main_v3 : IVec S_ 1 := (fun x v => Host.reduce IntOp.andi x v reducesTo_S20_S_d0 h_S_) main_v2 main_c
  let main_v4 : IVec S1 32 := (extractStridedSlice S1 ![20] · slices_S21_S1_20) main_arg8
  let main_v5 : IVec S_ 32 := shapeCast S_ main_v4 shapeCasts_S1_S_
  let main_c_0 : IVec S_ 32 := constantI S_ 32 2147483520#32
  let main_v6 : IVec S_ 1 := cmpi .sle main_v5 main_c_0
  let main_v7 : IVec S_ 1 := andi main_v3 main_v6
  main_v7
-- ==== Kernel.lean ====
abbrev S23040x1536 : Shape := ⟨2, ![23040, 1536]⟩
abbrev S23040x8960 : Shape := ⟨2, ![23040, 8960]⟩
abbrev S23040x70 : Shape := ⟨2, ![23040, 70]⟩
abbrev S8960x1536 : Shape := ⟨2, ![8960, 1536]⟩
abbrev S70x12 : Shape := ⟨2, ![70, 12]⟩
abbrev S1536 : Shape := ⟨1, ![1536]⟩
abbrev S21 : Shape := ⟨1, ![21]⟩
abbrev S1x1536 : Shape := ⟨2, ![1, 1536]⟩
abbrev S20x1536 : Shape := ⟨2, ![20, 1536]⟩
abbrev S20x1 : Shape := ⟨2, ![20, 1]⟩
abbrev S128x8960 : Shape := ⟨2, ![128, 8960]⟩
abbrev S1 : Shape := ⟨1, ![1]⟩
abbrev S128x70 : Shape := ⟨2, ![128, 70]⟩
abbrev S128x1536 : Shape := ⟨2, ![128, 1536]⟩
abbrev S1x1 : Shape := ⟨2, ![1, 1]⟩
abbrev S128x128 : Shape := ⟨2, ![128, 128]⟩
abbrev S128x1 : Shape := ⟨2, ![128, 1]⟩
abbrev S128 : Shape := ⟨1, ![128]⟩
abbrev S20 : Shape := ⟨1, ![20]⟩

abbrev nBuf : Space → Nat
  | .hbm => 15
  | .vmem => 18
  | .smem => 2
  | _ => 0

abbrev bufTy : (tb : Table) → Fin (tcTables nBuf tb) → BufTy
  | .hbm, ⟨0, _⟩ => ⟨S23040x1536, .bf16⟩
  | .hbm, ⟨1, _⟩ => ⟨S23040x8960, .fp8e4m3⟩
  | .hbm, ⟨2, _⟩ => ⟨S23040x70, .f32⟩
  | .hbm, ⟨3, _⟩ => ⟨S8960x1536, .fp8e4m3⟩
  | .hbm, ⟨4, _⟩ => ⟨S70x12, .f32⟩
  | .hbm, ⟨5, _⟩ => ⟨S1536, .f32⟩
  | .hbm, ⟨6, _⟩ => ⟨S1536, .f32⟩
  | .hbm, ⟨7, _⟩ => ⟨S1536, .f32⟩
  | .hbm, ⟨8, _⟩ => ⟨S1x1536, .f32⟩
  | .hbm, ⟨9, _⟩ => ⟨S1x1536, .f32⟩
  | .hbm, ⟨10, _⟩ => ⟨S1x1536, .f32⟩
  | .hbm, ⟨11, _⟩ => ⟨S23040x1536, .f32⟩
  | .hbm, ⟨12, _⟩ => ⟨S20x1536, .f32⟩
  | .hbm, ⟨13, _⟩ => ⟨S20x1536, .i8⟩
  | .hbm, ⟨14, _⟩ => ⟨S20x1, .f32⟩
  | .local _ .vmem, ⟨0, _⟩ => ⟨S128x8960, .fp8e4m3⟩
  | .local _ .vmem, ⟨1, _⟩ => ⟨S128x8960, .fp8e4m3⟩
  | .local _ .vmem, ⟨2, _⟩ => ⟨S128x70, .f32⟩
  | .local _ .vmem, ⟨3, _⟩ => ⟨S128x70, .f32⟩
  | .local _ .vmem, ⟨4, _⟩ => ⟨S128x1536, .bf16⟩
  | .local _ .vmem, ⟨5, _⟩ => ⟨S128x1536, .bf16⟩
  | .local _ .vmem, ⟨6, _⟩ => ⟨S8960x1536, .fp8e4m3⟩
  | .local _ .vmem, ⟨7, _⟩ => ⟨S1x1536, .f32⟩
  | .local _ .vmem, ⟨8, _⟩ => ⟨S1x1536, .f32⟩
  | .local _ .vmem, ⟨9, _⟩ => ⟨S1x1536, .f32⟩
  | .local _ .vmem, ⟨10, _⟩ => ⟨S128x1536, .f32⟩
  | .local _ .vmem, ⟨11, _⟩ => ⟨S128x1536, .f32⟩
  | .local _ .vmem, ⟨12, _⟩ => ⟨S20x1536, .f32⟩
  | .local _ .vmem, ⟨13, _⟩ => ⟨S20x1536, .i8⟩
  | .local _ .vmem, ⟨14, _⟩ => ⟨S20x1, .f32⟩
  | .local _ .vmem, ⟨15, _⟩ => ⟨S8960x1536, .bf16⟩
  | .local _ .vmem, ⟨16, _⟩ => ⟨S128x8960, .bf16⟩
  | .local _ .vmem, ⟨17, _⟩ => ⟨S20x1536, .f32⟩
  | .local _ .smem, ⟨0, _⟩ => ⟨S21, .i32⟩
  | .local _ .smem, ⟨1, _⟩ => ⟨S70x12, .f32⟩
  | _, _ => ⟨S23040x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_arg8 : Ref sig .tc := ⟨.smem, 0, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![180], ![false]⟩

abbrev pre0 : Pipeline.Prefetch sig := ⟨1, ![main_arg8.idx], fun | 0 => main_arg8.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

@[reducible] def k0_t1_loop : Scf.Loop 32 :=
  let c0_i32_5 : BitVec 32 := 0#32
  let c70_i32 : BitVec 32 := 70#32
  let v18 : BitVec 32 := Scalar.addi c0_i32_5 c70_i32
  let c1_i32 : BitVec 32 := 1#32
  ⟨c0_i32_5, v18, c1_i32⟩
def k0_mult1 (k0_t1 : Fin k0_t1_loop.trips) : BitVec 32 :=
  let c0_i32_8 : BitVec 32 := 0#32
  let c0_i32_5 : BitVec 32 := 0#32
  let c1_i32 : BitVec 32 := 1#32
  let arg17 : BitVec 32 := Scf.iv c0_i32_5 c1_i32 k0_t1
  let c1_i32_7 : BitVec 32 := 1#32
  let v19 : BitVec 32 := Scalar.muli arg17 c1_i32_7
  let v20 : BitVec 32 := Scalar.addi c0_i32_8 v19
  let c128_i32_9 : BitVec 32 := 128#32
  let v21 : BitVec 32 := Scalar.muli v20 c128_i32_9
  v21
def k0_off1 (k0_t1 : Fin k0_t1_loop.trips) : Fin 2 → Nat :=
  let c0_i32_8 : BitVec 32 := 0#32
  let c0_i32_5 : BitVec 32 := 0#32
  let c1_i32 : BitVec 32 := 1#32
  let arg17 : BitVec 32 := Scf.iv c0_i32_5 c1_i32 k0_t1
  let c1_i32_7 : BitVec 32 := 1#32
  let v19 : BitVec 32 := Scalar.muli arg17 c1_i32_7
  let v20 : BitVec 32 := Scalar.addi c0_i32_8 v19
  let v23 : Index := Scalar.indexCast v20
  let c0_10 : Index := 0#32
  ![v23.toNat, 0]
def k0_off2 (k0_t1 : Fin k0_t1_loop.trips) : Fin 2 → Nat :=
  let c0_i32_8 : BitVec 32 := 0#32
  let c0_i32_5 : BitVec 32 := 0#32
  let c1_i32 : BitVec 32 := 1#32
  let arg17 : BitVec 32 := Scf.iv c0_i32_5 c1_i32 k0_t1
  let c1_i32_7 : BitVec 32 := 1#32
  let v19 : BitVec 32 := Scalar.muli arg17 c1_i32_7
  let v20 : BitVec 32 := Scalar.addi c0_i32_8 v19
  let c128_i32_9 : BitVec 32 := 128#32
  let v21 : BitVec 32 := Scalar.muli v20 c128_i32_9
  let v22 : BitVec 32 := v21
  let v27 : Index := Scalar.indexCast v22
  let c0_11 : Index := 0#32
  ![v27.toNat, 0]
def k0_off3 (k0_t1 : Fin k0_t1_loop.trips) : Fin 2 → Nat :=
  let c0_i32_8 : BitVec 32 := 0#32
  let c0_i32_5 : BitVec 32 := 0#32
  let c1_i32 : BitVec 32 := 1#32
  let arg17 : BitVec 32 := Scf.iv c0_i32_5 c1_i32 k0_t1
  let c1_i32_7 : BitVec 32 := 1#32
  let v19 : BitVec 32 := Scalar.muli arg17 c1_i32_7
  let v20 : BitVec 32 := Scalar.addi c0_i32_8 v19
  let v35 : Index := Scalar.indexCast v20
  let c1 : Index := 1#32
  ![v35.toNat, 1]
def k0_off4 (k0_t1 : Fin k0_t1_loop.trips) : Fin 2 → Nat :=
  let c0_i32_8 : BitVec 32 := 0#32
  let c0_i32_5 : BitVec 32 := 0#32
  let c1_i32 : BitVec 32 := 1#32
  let arg17 : BitVec 32 := Scf.iv c0_i32_5 c1_i32 k0_t1
  let c1_i32_7 : BitVec 32 := 1#32
  let v19 : BitVec 32 := Scalar.muli arg17 c1_i32_7
  let v20 : BitVec 32 := Scalar.addi c0_i32_8 v19
  let c128_i32_9 : BitVec 32 := 128#32
  let v21 : BitVec 32 := Scalar.muli v20 c128_i32_9
  let v22 : BitVec 32 := v21
  let v39 : Index := Scalar.indexCast v22
  let c128 : Index := 128#32
  ![v39.toNat, 128]
def k0_off5 (k0_t1 : Fin k0_t1_loop.trips) : Fin 2 → Nat :=
  let c0_i32_8 : BitVec 32 := 0#32
  let c0_i32_5 : BitVec 32 := 0#32
  let c1_i32 : BitVec 32 := 1#32
  let arg17 : BitVec 32 := Scf.iv c0_i32_5 c1_i32 k0_t1
  let c1_i32_7 : BitVec 32 := 1#32
  let v19 : BitVec 32 := Scalar.muli arg17 c1_i32_7
  let v20 : BitVec 32 := Scalar.addi c0_i32_8 v19
  let v47 : Index := Scalar.indexCast v20
  let c2 : Index := 2#32
  ![v47.toNat, 2]
def k0_off6 (k0_t1 : Fin k0_t1_loop.trips) : Fin 2 → Nat :=
  let c0_i32_8 : BitVec 32 := 0#32
  let c0_i32_5 : BitVec 32 := 0#32
  let c1_i32 : BitVec 32 := 1#32
  let arg17 : BitVec 32 := Scf.iv c0_i32_5 c1_i32 k0_t1
  let c1_i32_7 : BitVec 32 := 1#32
  let v19 : BitVec 32 := Scalar.muli arg17 c1_i32_7
  let v20 : BitVec 32 := Scalar.addi c0_i32_8 v19
  let c128_i32_9 : BitVec 32 := 128#32
  let v21 : BitVec 32 := Scalar.muli v20 c128_i32_9
  let v22 : BitVec 32 := v21
  let v51 : Index := Scalar.indexCast v22
  let c256 : Index := 256#32
  ![v51.toNat, 256]
def k0_off7 (k0_t1 : Fin k0_t1_loop.trips) : Fin 2 → Nat :=
  let c0_i32_8 : BitVec 32 := 0#32
  let c0_i32_5 : BitVec 32 := 0#32
  let c1_i32 : BitVec 32 := 1#32
  let arg17 : BitVec 32 := Scf.iv c0_i32_5 c1_i32 k0_t1
  let c1_i32_7 : BitVec 32 := 1#32
  let v19 : BitVec 32 := Scalar.muli arg17 c1_i32_7
  let v20 : BitVec 32 := Scalar.addi c0_i32_8 v19
  let v59 : Index := Scalar.indexCast v20
  let c3 : Index := 3#32
  ![v59.toNat, 3]
def k0_off8 (k0_t1 : Fin k0_t1_loop.trips) : Fin 2 → Nat :=
  let c0_i32_8 : BitVec 32 := 0#32
  let c0_i32_5 : BitVec 32 := 0#32
  let c1_i32 : BitVec 32 := 1#32
  let arg17 : BitVec 32 := Scf.iv c0_i32_5 c1_i32 k0_t1
  let c1_i32_7 : BitVec 32 := 1#32
  let v19 : BitVec 32 := Scalar.muli arg17 c1_i32_7
  let v20 : BitVec 32 := Scalar.addi c0_i32_8 v19
  let c128_i32_9 : BitVec 32 := 128#32
  let v21 : BitVec 32 := Scalar.muli v20 c128_i32_9
  let v22 : BitVec 32 := v21
  let v63 : Index := Scalar.indexCast v22
  let c384 : Index := 384#32
  ![v63.toNat, 384]
def k0_off9 (k0_t1 : Fin k0_t1_loop.trips) : Fin 2 → Nat :=
  let c0_i32_8 : BitVec 32 := 0#32
  let c0_i32_5 : BitVec 32 := 0#32
  let c1_i32 : BitVec 32 := 1#32
  let arg17 : BitVec 32 := Scf.iv c0_i32_5 c1_i32 k0_t1
  let c1_i32_7 : BitVec 32 := 1#32
  let v19 : BitVec 32 := Scalar.muli arg17 c1_i32_7
  let v20 : BitVec 32 := Scalar.addi c0_i32_8 v19
  let v71 : Index := Scalar.indexCast v20
  let c4 : Index := 4#32
  ![v71.toNat, 4]
def k0_off10 (k0_t1 : Fin k0_t1_loop.trips) : Fin 2 → Nat :=
  let c0_i32_8 : BitVec 32 := 0#32
  let c0_i32_5 : BitVec 32 := 0#32
  let c1_i32 : BitVec 32 := 1#32
  let arg17 : BitVec 32 := Scf.iv c0_i32_5 c1_i32 k0_t1
  let c1_i32_7 : BitVec 32 := 1#32
  let v19 : BitVec 32 := Scalar.muli arg17 c1_i32_7
  let v20 : BitVec 32 := Scalar.addi c0_i32_8 v19
  let c128_i32_9 : BitVec 32 := 128#32
  let v21 : BitVec 32 := Scalar.muli v20 c128_i32_9
  let v22 : BitVec 32 := v21
  let v75 : Index := Scalar.indexCast v22
  let c512 : Index := 512#32
  ![v75.toNat, 512]
def k0_off11 (k0_t1 : Fin k0_t1_loop.trips) : Fin 2 → Nat :=
  let c0_i32_8 : BitVec 32 := 0#32
  let c0_i32_5 : BitVec 32 := 0#32
  let c1_i32 : BitVec 32 := 1#32
  let arg17 : BitVec 32 := Scf.iv c0_i32_5 c1_i32 k0_t1
  let c1_i32_7 : BitVec 32 := 1#32
  let v19 : BitVec 32 := Scalar.muli arg17 c1_i32_7
  let v20 : BitVec 32 := Scalar.addi c0_i32_8 v19
  let v83 : Index := Scalar.indexCast v20
  let c5 : Index := 5#32
  ![v83.toNat, 5]
def k0_off12 (k0_t1 : Fin k0_t1_loop.trips) : Fin 2 → Nat :=
  let c0_i32_8 : BitVec 32 := 0#32
  let c0_i32_5 : BitVec 32 := 0#32
  let c1_i32 : BitVec 32 := 1#32
  let arg17 : BitVec 32 := Scf.iv c0_i32_5 c1_i32 k0_t1
  let c1_i32_7 : BitVec 32 := 1#32
  let v19 : BitVec 32 := Scalar.muli arg17 c1_i32_7
  let v20 : BitVec 32 := Scalar.addi c0_i32_8 v19
  let c128_i32_9 : BitVec 32 := 128#32
  let v21 : BitVec 32 := Scalar.muli v20 c128_i32_9
  let v22 : BitVec 32 := v21
  let v87 : Index := Scalar.indexCast v22
  let c640 : Index := 640#32
  ![v87.toNat, 640]
def k0_off13 (k0_t1 : Fin k0_t1_loop.trips) : Fin 2 → Nat :=
  let c0_i32_8 : BitVec 32 := 0#32
  let c0_i32_5 : BitVec 32 := 0#32
  let c1_i32 : BitVec 32 := 1#32
  let arg17 : BitVec 32 := Scf.iv c0_i32_5 c1_i32 k0_t1
  let c1_i32_7 : BitVec 32 := 1#32
  let v19 : BitVec 32 := Scalar.muli arg17 c1_i32_7
  let v20 : BitVec 32 := Scalar.addi c0_i32_8 v19
  let v95 : Index := Scalar.indexCast v20
  let c6 : Index := 6#32
  ![v95.toNat, 6]
def k0_off14 (k0_t1 : Fin k0_t1_loop.trips) : Fin 2 → Nat :=
  let c0_i32_8 : BitVec 32 := 0#32
  let c0_i32_5 : BitVec 32 := 0#32
  let c1_i32 : BitVec 32 := 1#32
  let arg17 : BitVec 32 := Scf.iv c0_i32_5 c1_i32 k0_t1
  let c1_i32_7 : BitVec 32 := 1#32
  let v19 : BitVec 32 := Scalar.muli arg17 c1_i32_7
  let v20 : BitVec 32 := Scalar.addi c0_i32_8 v19
  let c128_i32_9 : BitVec 32 := 128#32
  let v21 : BitVec 32 := Scalar.muli v20 c128_i32_9
  let v22 : BitVec 32 := v21
  let v99 : Index := Scalar.indexCast v22
  let c768 : Index := 768#32
  ![v99.toNat, 768]
def k0_off15 (k0_t1 : Fin k0_t1_loop.trips) : Fin 2 → Nat :=
  let c0_i32_8 : BitVec 32 := 0#32
  let c0_i32_5 : BitVec 32 := 0#32
  let c1_i32 : BitVec 32 := 1#32
  let arg17 : BitVec 32 := Scf.iv c0_i32_5 c1_i32 k0_t1
  let c1_i32_7 : BitVec 32 := 1#32
  let v19 : BitVec 32 := Scalar.muli arg17 c1_i32_7
  let v20 : BitVec 32 := Scalar.addi c0_i32_8 v19
  let v107 : Index := Scalar.indexCast v20
  let c7 : Index := 7#32
  ![v107.toNat, 7]
def k0_off16 (k0_t1 : Fin k0_t1_loop.trips) : Fin 2 → Nat :=
  let c0_i32_8 : BitVec 32 := 0#32
  let c0_i32_5 : BitVec 32 := 0#32
  let c1_i32 : BitVec 32 := 1#32
  let arg17 : BitVec 32 := Scf.iv c0_i32_5 c1_i32 k0_t1
  let c1_i32_7 : BitVec 32 := 1#32
  let v19 : BitVec 32 := Scalar.muli arg17 c1_i32_7
  let v20 : BitVec 32 := Scalar.addi c0_i32_8 v19
  let c128_i32_9 : BitVec 32 := 128#32
  let v21 : BitVec 32 := Scalar.muli v20 c128_i32_9
  let v22 : BitVec 32 := v21
  let v111 : Index := Scalar.indexCast v22
  let c896 : Index := 896#32
  ![v111.toNat, 896]
def k0_off17 (k0_t1 : Fin k0_t1_loop.trips) : Fin 2 → Nat :=
  let c0_i32_8 : BitVec 32 := 0#32
  let c0_i32_5 : BitVec 32 := 0#32
  let c1_i32 : BitVec 32 := 1#32
  let arg17 : BitVec 32 := Scf.iv c0_i32_5 c1_i32 k0_t1
  let c1_i32_7 : BitVec 32 := 1#32
  let v19 : BitVec 32 := Scalar.muli arg17 c1_i32_7
  let v20 : BitVec 32 := Scalar.addi c0_i32_8 v19
  let v119 : Index := Scalar.indexCast v20
  let c8 : Index := 8#32
  ![v119.toNat, 8]
def k0_off18 (k0_t1 : Fin k0_t1_loop.trips) : Fin 2 → Nat :=
  let c0_i32_8 : BitVec 32 := 0#32
  let c0_i32_5 : BitVec 32 := 0#32
  let c1_i32 : BitVec 32 := 1#32
  let arg17 : BitVec 32 := Scf.iv c0_i32_5 c1_i32 k0_t1
  let c1_i32_7 : BitVec 32 := 1#32
  let v19 : BitVec 32 := Scalar.muli arg17 c1_i32_7
  let v20 : BitVec 32 := Scalar.addi c0_i32_8 v19
  let c128_i32_9 : BitVec 32 := 128#32
  let v21 : BitVec 32 := Scalar.muli v20 c128_i32_9
  let v22 : BitVec 32 := v21
  let v123 : Index := Scalar.indexCast v22
  let c1024 : Index := 1024#32
  ![v123.toNat, 1024]
def k0_off19 (k0_t1 : Fin k0_t1_loop.trips) : Fin 2 → Nat :=
  let c0_i32_8 : BitVec 32 := 0#32
  let c0_i32_5 : BitVec 32 := 0#32
  let c1_i32 : BitVec 32 := 1#32
  let arg17 : BitVec 32 := Scf.iv c0_i32_5 c1_i32 k0_t1
  let c1_i32_7 : BitVec 32 := 1#32
  let v19 : BitVec 32 := Scalar.muli arg17 c1_i32_7
  let v20 : BitVec 32 := Scalar.addi c0_i32_8 v19
  let v131 : Index := Scalar.indexCast v20
  let c9 : Index := 9#32
  ![v131.toNat, 9]
def k0_off20 (k0_t1 : Fin k0_t1_loop.trips) : Fin 2 → Nat :=
  let c0_i32_8 : BitVec 32 := 0#32
  let c0_i32_5 : BitVec 32 := 0#32
  let c1_i32 : BitVec 32 := 1#32
  let arg17 : BitVec 32 := Scf.iv c0_i32_5 c1_i32 k0_t1
  let c1_i32_7 : BitVec 32 := 1#32
  let v19 : BitVec 32 := Scalar.muli arg17 c1_i32_7
  let v20 : BitVec 32 := Scalar.addi c0_i32_8 v19
  let c128_i32_9 : BitVec 32 := 128#32
  let v21 : BitVec 32 := Scalar.muli v20 c128_i32_9
  let v22 : BitVec 32 := v21
  let v135 : Index := Scalar.indexCast v22
  let c1152 : Index := 1152#32
  ![v135.toNat, 1152]
def k0_off21 (k0_t1 : Fin k0_t1_loop.trips) : Fin 2 → Nat :=
  let c0_i32_8 : BitVec 32 := 0#32
  let c0_i32_5 : BitVec 32 := 0#32
  let c1_i32 : BitVec 32 := 1#32
  let arg17 : BitVec 32 := Scf.iv c0_i32_5 c1_i32 k0_t1
  let c1_i32_7 : BitVec 32 := 1#32
  let v19 : BitVec 32 := Scalar.muli arg17 c1_i32_7
  let v20 : BitVec 32 := Scalar.addi c0_i32_8 v19
  let v143 : Index := Scalar.indexCast v20
  let c10 : Index := 10#32
  ![v143.toNat, 10]
def k0_off22 (k0_t1 : Fin k0_t1_loop.trips) : Fin 2 → Nat :=
  let c0_i32_8 : BitVec 32 := 0#32
  let c0_i32_5 : BitVec 32 := 0#32
  let c1_i32 : BitVec 32 := 1#32
  let arg17 : BitVec 32 := Scf.iv c0_i32_5 c1_i32 k0_t1
  let c1_i32_7 : BitVec 32 := 1#32
  let v19 : BitVec 32 := Scalar.muli arg17 c1_i32_7
  let v20 : BitVec 32 := Scalar.addi c0_i32_8 v19
  let c128_i32_9 : BitVec 32 := 128#32
  let v21 : BitVec 32 := Scalar.muli v20 c128_i32_9
  let v22 : BitVec 32 := v21
  let v147 : Index := Scalar.indexCast v22
  let c1280 : Index := 1280#32
  ![v147.toNat, 1280]
def k0_off23 (k0_t1 : Fin k0_t1_loop.trips) : Fin 2 → Nat :=
  let c0_i32_8 : BitVec 32 := 0#32
  let c0_i32_5 : BitVec 32 := 0#32
  let c1_i32 : BitVec 32 := 1#32
  let arg17 : BitVec 32 := Scf.iv c0_i32_5 c1_i32 k0_t1
  let c1_i32_7 : BitVec 32 := 1#32
  let v19 : BitVec 32 := Scalar.muli arg17 c1_i32_7
  let v20 : BitVec 32 := Scalar.addi c0_i32_8 v19
  let v155 : Index := Scalar.indexCast v20
  let c11 : Index := 11#32
  ![v155.toNat, 11]
def k0_off24 (k0_t1 : Fin k0_t1_loop.trips) : Fin 2 → Nat :=
  let c0_i32_8 : BitVec 32 := 0#32
  let c0_i32_5 : BitVec 32 := 0#32
  let c1_i32 : BitVec 32 := 1#32
  let arg17 : BitVec 32 := Scf.iv c0_i32_5 c1_i32 k0_t1
  let c1_i32_7 : BitVec 32 := 1#32
  let v19 : BitVec 32 := Scalar.muli arg17 c1_i32_7
  let v20 : BitVec 32 := Scalar.addi c0_i32_8 v19
  let c128_i32_9 : BitVec 32 := 128#32
  let v21 : BitVec 32 := Scalar.muli v20 c128_i32_9
  let v22 : BitVec 32 := v21
  let v159 : Index := Scalar.indexCast v22
  let c1408 : Index := 1408#32
  ![v159.toNat, 1408]
@[reducible] def k0_t2_loop : Scf.Loop 32 :=
  let c0_i32_236 : BitVec 32 := 0#32
  let c20_i32 : BitVec 32 := 20#32
  let v689 : BitVec 32 := Scalar.addi c0_i32_236 c20_i32
  let c1_i32 : BitVec 32 := 1#32
  ⟨c0_i32_236, v689, c1_i32⟩
def k0_off25 (k0_t2 : Fin k0_t2_loop.trips) : Fin 1 → Nat :=
  let c0_i32_239 : BitVec 32 := 0#32
  let c0_i32_236 : BitVec 32 := 0#32
  let c1_i32 : BitVec 32 := 1#32
  let arg17 : BitVec 32 := Scf.iv c0_i32_236 c1_i32 k0_t2
  let c1_i32_238 : BitVec 32 := 1#32
  let v690 : BitVec 32 := Scalar.muli arg17 c1_i32_238
  let v691 : BitVec 32 := Scalar.addi c0_i32_239 v690
  let v692 : Index := Scalar.indexCast v691
  ![v692.toNat]
def k0_off26 (k0_t2 : Fin k0_t2_loop.trips) : Fin 1 → Nat :=
  let c0_i32_239 : BitVec 32 := 0#32
  let c0_i32_236 : BitVec 32 := 0#32
  let c1_i32 : BitVec 32 := 1#32
  let arg17 : BitVec 32 := Scf.iv c0_i32_236 c1_i32 k0_t2
  let c1_i32_238 : BitVec 32 := 1#32
  let v690 : BitVec 32 := Scalar.muli arg17 c1_i32_238
  let v691 : BitVec 32 := Scalar.addi c0_i32_239 v690
  let c1_i32_240 : BitVec 32 := 1#32
  let v694 : BitVec 32 := Scalar.addi v691 c1_i32_240
  let v695 : Index := Scalar.indexCast v694
  ![v695.toNat]
def k0_off27 (k0_t2 : Fin k0_t2_loop.trips) : Fin 2 → Nat :=
  let c0_i32_239 : BitVec 32 := 0#32
  let c0_i32_236 : BitVec 32 := 0#32
  let c1_i32 : BitVec 32 := 1#32
  let arg17 : BitVec 32 := Scf.iv c0_i32_236 c1_i32 k0_t2
  let c1_i32_238 : BitVec 32 := 1#32
  let v690 : BitVec 32 := Scalar.muli arg17 c1_i32_238
  let v691 : BitVec 32 := Scalar.addi c0_i32_239 v690
  let v716 : Index := Scalar.indexCast v691
  let c0_247 : Index := 0#32
  ![v716.toNat, 0]
def k0_cond2 (i : grid0.Coords) (v0 : BitVec 32) : BitVec 1 :=
  let arg0 : BitVec 32 := BitVec.ofNat 32 (i 0).val
  let c128_i32 : BitVec 32 := 128#32
  let v1 : BitVec 32 := Scalar.muli arg0 c128_i32
  let v5 : BitVec 1 := Scalar.cmpi .sge v1 v0
  let v6 : BitVec 32 := Scalar.extui v5
  let c0_i32_1 : BitVec 32 := 0#32
  let v7 : BitVec 1 := Scalar.cmpi .ne v6 c0_i32_1
  v7

def k0_cond3 (i : grid0.Coords) (v0 : BitVec 32) : BitVec 1 :=
  let arg0 : BitVec 32 := BitVec.ofNat 32 (i 0).val
  let c128_i32 : BitVec 32 := 128#32
  let v1 : BitVec 32 := Scalar.muli arg0 c128_i32
  let v8 : BitVec 1 := Scalar.cmpi .slt v1 v0
  let v9 : BitVec 32 := Scalar.extui v8
  let c0_i32_2 : BitVec 32 := 0#32
  let v10 : BitVec 1 := Scalar.cmpi .ne v9 c0_i32_2
  v10

def k0_cond5 (i : grid0.Coords) : BitVec 1 :=
  let arg0 : BitVec 32 := BitVec.ofNat 32 (i 0).val
  let c179_i32 : BitVec 32 := 179#32
  let v11 : BitVec 1 := Scalar.cmpi .eq arg0 c179_i32
  let v12 : BitVec 32 := Scalar.extui v11
  let c0_i32_3 : BitVec 32 := 0#32
  let v13 : BitVec 1 := Scalar.cmpi .ne v12 c0_i32_3
  v13

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (inb_S21_S1_20 : ∀ a, (![20] : Fin 1 → Nat) a + S1.size a ≤ S21.size a) (numel1_S1 : S1.numel = 1) (pf : pre0.Contents (Elt F)) (i : grid0.Coords) : Fin 2 → Nat :=
  let arg0 : BitVec 32 := BitVec.ofNat 32 (i 0).val
  let c20 : Index := 20#32
  let v0 : BitVec 32 := pf.at 0 (Rect.unit (s := S21) ![20] S1.size inb_S21_S1_20) numel1_S1
  let c128_i32 : BitVec 32 := 128#32
  let v1 : BitVec 32 := Scalar.addi v0 c128_i32
  let c1_i32 : BitVec 32 := 1#32
  let v2 : BitVec 32 := Scalar.subi v1 c1_i32
  let c128_i32_0 : BitVec 32 := 128#32
  let v3 : BitVec 32 := Scalar.divsi v2 c128_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c128_i32_0 c0_i32_2
  let v10 : BitVec 32 := Scalar.extui v9
  let c0_i32_3 : BitVec 32 := 0#32
  let v11 : BitVec 1 := Scalar.cmpi .slt c128_i32_0 c0_i32_3
  let v12 : BitVec 32 := Scalar.extui v11
  let v13 : BitVec 32 := Scalar.subi v10 v12
  let v14 : BitVec 1 := Scalar.cmpi .ne v8 v13
  let v15 : BitVec 32 := Scalar.remsi v2 c128_i32_0
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.subi v19 c1_i32_6
  let c0_i32_7 : BitVec 32 := 0#32
  let v21 : BitVec 32 := Scalar.maxsi v20 c0_i32_7
  let v22 : BitVec 32 := Scalar.minsi arg0 v21
  let c0_i32_8 : BitVec 32 := 0#32
  let c0_i32_9 : BitVec 32 := 0#32
  ![v22.toNat, c0_i32_8.toNat]

def cc0_transform_2 (inb_S21_S1_20 : ∀ a, (![20] : Fin 1 → Nat) a + S1.size a ≤ S21.size a) (numel1_S1 : S1.numel = 1) (pf : pre0.Contents (Elt F)) (i : grid0.Coords) : Fin 2 → Nat :=
  let arg0 : BitVec 32 := BitVec.ofNat 32 (i 0).val
  let c20 : Index := 20#32
  let v0 : BitVec 32 := pf.at 0 (Rect.unit (s := S21) ![20] S1.size inb_S21_S1_20) numel1_S1
  let c128_i32 : BitVec 32 := 128#32
  let v1 : BitVec 32 := Scalar.addi v0 c128_i32
  let c1_i32 : BitVec 32 := 1#32
  let v2 : BitVec 32 := Scalar.subi v1 c1_i32
  let c128_i32_0 : BitVec 32 := 128#32
  let v3 : BitVec 32 := Scalar.divsi v2 c128_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c128_i32_0 c0_i32_2
  let v10 : BitVec 32 := Scalar.extui v9
  let c0_i32_3 : BitVec 32 := 0#32
  let v11 : BitVec 1 := Scalar.cmpi .slt c128_i32_0 c0_i32_3
  let v12 : BitVec 32 := Scalar.extui v11
  let v13 : BitVec 32 := Scalar.subi v10 v12
  let v14 : BitVec 1 := Scalar.cmpi .ne v8 v13
  let v15 : BitVec 32 := Scalar.remsi v2 c128_i32_0
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.subi v19 c1_i32_6
  let c0_i32_7 : BitVec 32 := 0#32
  let v21 : BitVec 32 := Scalar.maxsi v20 c0_i32_7
  let v22 : BitVec 32 := Scalar.minsi arg0 v21
  let c0_i32_8 : BitVec 32 := 0#32
  let c0_i32_9 : BitVec 32 := 0#32
  ![v22.toNat, c0_i32_8.toNat]

def cc0_transform_3 (inb_S21_S1_20 : ∀ a, (![20] : Fin 1 → Nat) a + S1.size a ≤ S21.size a) (numel1_S1 : S1.numel = 1) (pf : pre0.Contents (Elt F)) (i : grid0.Coords) : Fin 2 → Nat :=
  let arg0 : BitVec 32 := BitVec.ofNat 32 (i 0).val
  let c20 : Index := 20#32
  let v0 : BitVec 32 := pf.at 0 (Rect.unit (s := S21) ![20] S1.size inb_S21_S1_20) numel1_S1
  let c128_i32 : BitVec 32 := 128#32
  let v1 : BitVec 32 := Scalar.addi v0 c128_i32
  let c1_i32 : BitVec 32 := 1#32
  let v2 : BitVec 32 := Scalar.subi v1 c1_i32
  let c128_i32_0 : BitVec 32 := 128#32
  let v3 : BitVec 32 := Scalar.divsi v2 c128_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c128_i32_0 c0_i32_2
  let v10 : BitVec 32 := Scalar.extui v9
  let c0_i32_3 : BitVec 32 := 0#32
  let v11 : BitVec 1 := Scalar.cmpi .slt c128_i32_0 c0_i32_3
  let v12 : BitVec 32 := Scalar.extui v11
  let v13 : BitVec 32 := Scalar.subi v10 v12
  let v14 : BitVec 1 := Scalar.cmpi .ne v8 v13
  let v15 : BitVec 32 := Scalar.remsi v2 c128_i32_0
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.subi v19 c1_i32_6
  let c0_i32_7 : BitVec 32 := 0#32
  let v21 : BitVec 32 := Scalar.maxsi v20 c0_i32_7
  let v22 : BitVec 32 := Scalar.minsi arg0 v21
  let c0_i32_8 : BitVec 32 := 0#32
  let c0_i32_9 : BitVec 32 := 0#32
  ![v22.toNat, c0_i32_8.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S70x12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x8960 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x70 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8960x1536 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S20x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S20x1536 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S20x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S23040x1536 : Shape := ⟨2, ![23040, 1536]⟩
abbrev S23040x8960 : Shape := ⟨2, ![23040, 8960]⟩
abbrev S23040x70 : Shape := ⟨2, ![23040, 70]⟩
abbrev S8960x1536 : Shape := ⟨2, ![8960, 1536]⟩
abbrev S70x12 : Shape := ⟨2, ![70, 12]⟩
abbrev S1536 : Shape := ⟨1, ![1536]⟩
abbrev S21 : Shape := ⟨1, ![21]⟩
abbrev S23040x70x128 : Shape := ⟨3, ![23040, 70, 128]⟩
abbrev S70x128x12 : Shape := ⟨3, ![70, 128, 12]⟩
abbrev S8960x12 : Shape := ⟨2, ![8960, 12]⟩
abbrev S8960x12x128 : Shape := ⟨3, ![8960, 12, 128]⟩
abbrev S23040 : Shape := ⟨1, ![23040]⟩
abbrev S1x23040 : Shape := ⟨2, ![1, 23040]⟩
abbrev S21x1 : Shape := ⟨2, ![21, 1]⟩
abbrev S21x23040 : Shape := ⟨2, ![21, 23040]⟩
abbrev S_ : Shape := ⟨0, ![]⟩
abbrev S1 : Shape := ⟨1, ![1]⟩
abbrev S20 : Shape := ⟨1, ![20]⟩
abbrev S1x1536 : Shape := ⟨2, ![1, 1536]⟩
abbrev S23040x1 : Shape := ⟨2, ![23040, 1]⟩
abbrev S20x1 : Shape := ⟨2, ![20, 1]⟩
abbrev S20x1536 : Shape := ⟨2, ![20, 1536]⟩
abbrev S20x1x1 : Shape := ⟨3, ![20, 1, 1]⟩
abbrev S1x23040x1 : Shape := ⟨3, ![1, 23040, 1]⟩
abbrev S20x23040x1 : Shape := ⟨3, ![20, 23040, 1]⟩
abbrev S1x23040x1536 : Shape := ⟨3, ![1, 23040, 1536]⟩
abbrev S20x23040x1536 : Shape := ⟨3, ![20, 23040, 1536]⟩

abbrev nBuf : Space → Nat
  | .hbm => 51
  | .vmem => 15
  | .smem => 0
  | _ => 0

abbrev bufTy : (tb : Table) → Fin (tcTables nBuf tb) → BufTy
  | .hbm, ⟨0, _⟩ => ⟨S23040x1536, .bf16⟩
  | .hbm, ⟨1, _⟩ => ⟨S23040x8960, .fp8e4m3⟩
  | .hbm, ⟨2, _⟩ => ⟨S23040x70, .f32⟩
  | .hbm, ⟨3, _⟩ => ⟨S8960x1536, .fp8e4m3⟩
  | .hbm, ⟨4, _⟩ => ⟨S70x12, .f32⟩
  | .hbm, ⟨5, _⟩ => ⟨S1536, .f32⟩
  | .hbm, ⟨6, _⟩ => ⟨S1536, .f32⟩
  | .hbm, ⟨7, _⟩ => ⟨S1536, .f32⟩
  | .hbm, ⟨8, _⟩ => ⟨S21, .i32⟩
  | .hbm, ⟨9, _⟩ => ⟨S23040x70, .bf16⟩
  | .hbm, ⟨10, _⟩ => ⟨S23040x70x128, .bf16⟩
  | .hbm, ⟨11, _⟩ => ⟨S23040x8960, .bf16⟩
  | .hbm, ⟨12, _⟩ => ⟨S70x12, .bf16⟩
  | .hbm, ⟨13, _⟩ => ⟨S70x128x12, .bf16⟩
  | .hbm, ⟨14, _⟩ => ⟨S8960x12, .bf16⟩
  | .hbm, ⟨15, _⟩ => ⟨S8960x12x128, .bf16⟩
  | .hbm, ⟨16, _⟩ => ⟨S8960x1536, .bf16⟩
  | .hbm, ⟨17, _⟩ => ⟨S23040, .i32⟩
  | .hbm, ⟨18, _⟩ => ⟨S1x23040, .i32⟩
  | .hbm, ⟨19, _⟩ => ⟨S21x1, .i32⟩
  | .hbm, ⟨20, _⟩ => ⟨S21x23040, .i32⟩
  | .hbm, ⟨21, _⟩ => ⟨S21x23040, .i32⟩
  | .hbm, ⟨22, _⟩ => ⟨S21x23040, .i1⟩
  | .hbm, ⟨23, _⟩ => ⟨S21x23040, .i32⟩
  | .hbm, ⟨24, _⟩ => ⟨S_, .i32⟩
  | .hbm, ⟨25, _⟩ => ⟨S23040, .i32⟩
  | .hbm, ⟨26, _⟩ => ⟨S_, .i32⟩
  | .hbm, ⟨27, _⟩ => ⟨S23040, .i32⟩
  | .hbm, ⟨28, _⟩ => ⟨S23040, .i32⟩
  | .hbm, ⟨29, _⟩ => ⟨S_, .i32⟩
  | .hbm, ⟨30, _⟩ => ⟨S23040, .i32⟩
  | .hbm, ⟨31, _⟩ => ⟨S23040, .i32⟩
  | .hbm, ⟨32, _⟩ => ⟨S1, .i32⟩
  | .hbm, ⟨33, _⟩ => ⟨S_, .i32⟩
  | .hbm, ⟨34, _⟩ => ⟨S23040, .i32⟩
  | .hbm, ⟨35, _⟩ => ⟨S23040, .i1⟩
  | .hbm, ⟨36, _⟩ => ⟨S23040, .i32⟩
  | .hbm, ⟨37, _⟩ => ⟨S20, .i32⟩
  | .hbm, ⟨38, _⟩ => ⟨S20, .i32⟩
  | .hbm, ⟨39, _⟩ => ⟨S20, .i32⟩
  | .hbm, ⟨40, _⟩ => ⟨S20, .f32⟩
  | .hbm, ⟨41, _⟩ => ⟨S1x1536, .f32⟩
  | .hbm, ⟨42, _⟩ => ⟨S1x1536, .f32⟩
  | .hbm, ⟨43, _⟩ => ⟨S1x1536, .f32⟩
  | .hbm, ⟨44, _⟩ => ⟨S23040x1, .i32⟩
  | .hbm, ⟨45, _⟩ => ⟨S23040x1, .i32⟩
  | .hbm, ⟨46, _⟩ => ⟨S20x1, .f32⟩
  | .hbm, ⟨47, _⟩ => ⟨S23040x1536, .f32⟩
  | .hbm, ⟨48, _⟩ => ⟨S20x1536, .f32⟩
  | .hbm, ⟨49, _⟩ => ⟨S20x1536, .i8⟩
  | .hbm, ⟨50, _⟩ => ⟨S20x1, .f32⟩
  | .local _ .vmem, ⟨0, _⟩ => ⟨S23040x1536, .bf16⟩
  | .local _ .vmem, ⟨1, _⟩ => ⟨S23040x8960, .fp8e4m3⟩
  | .local _ .vmem, ⟨2, _⟩ => ⟨S23040x8960, .bf16⟩
  | .local _ .vmem, ⟨3, _⟩ => ⟨S8960x1536, .fp8e4m3⟩
  | .local _ .vmem, ⟨4, _⟩ => ⟨S8960x1536, .bf16⟩
  | .local _ .vmem, ⟨5, _⟩ => ⟨S1x1536, .f32⟩
  | .local _ .vmem, ⟨6, _⟩ => ⟨S1x1536, .f32⟩
  | .local _ .vmem, ⟨7, _⟩ => ⟨S1x1536, .f32⟩
  | .local _ .vmem, ⟨8, _⟩ => ⟨S23040x1, .i32⟩
  | .local _ .vmem, ⟨9, _⟩ => ⟨S23040x1, .i32⟩
  | .local _ .vmem, ⟨10, _⟩ => ⟨S20x1, .f32⟩
  | .local _ .vmem, ⟨11, _⟩ => ⟨S23040x1536, .f32⟩
  | .local _ .vmem, ⟨12, _⟩ => ⟨S20x1536, .f32⟩
  | .local _ .vmem, ⟨13, _⟩ => ⟨S20x1536, .i8⟩
  | .local _ .vmem, ⟨14, _⟩ => ⟨S20x1, .f32⟩
  | _, _ => ⟨S23040x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_c : Ref sig .tc := ⟨.hbm, 24, rfl⟩
abbrev main_v9 : Ref sig .tc := ⟨.hbm, 25, rfl⟩
abbrev main_c : Ref sig .tc := ⟨.hbm, 26, rfl⟩
abbrev main_v10 : Ref sig .tc := ⟨.hbm, 27, rfl⟩
abbrev main_v11 : Ref sig .tc := ⟨.hbm, 28, rfl⟩
abbrev main_c_0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call1_v0 : Ref sig .tc := ⟨.hbm, 37, rfl⟩
abbrev main_call1_v1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27_0 : Ref sig .tc := ⟨.hbm, 47, rfl⟩
abbrev main_v27_1 : Ref sig .tc := ⟨.hbm, 48, rfl⟩
abbrev main_v27_2 : Ref sig .tc := ⟨.hbm, 49, rfl⟩
abbrev main_v27_3 : Ref sig .tc := ⟨.hbm, 50, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S23040x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S23040x8960 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S23040x8960 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8960x1536 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8960x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S23040x1 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S23040x1 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S20x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S23040x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S20x1536 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S20x1536 .i8 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S20x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.Kern.Loop1.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import Idealize.ShloMosaic.Adequacy
public import Idealize.ShloMosaic.Init
public import Idealize.ShloMosaic.Lib.WritesUnit
public import Idealize.ShloMosaic.Lib.VecWindow
public import Idealize.ShloMosaic.Lib.Pointwise

@[expose] public section

set_option maxRecDepth 16384
set_option maxHeartbeats 4000000

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The weights, dequantised into the scratch at the first point -/

/-- One weight: the code widened, times its block's scale rounded to bf16. -/
def wbElt (s : F .f32) (w : F .fp8e4m3) : F .bf16 :=
  FloatOps.mulf (FloatOps.extf .bf16 (by decide) w) (FloatOps.truncf .bf16 (by decide) s)

/-- The dequantised weights: the block of row `r` and column `n` is `(r / 128, n / 128)`. -/
def WB (x2 : S70x12.Idx → Elt F .f32) (x6 : S8960x1536.Idx → Elt F .fp8e4m3) (y : S8960x1536.Idx) : Elt F .bf16 :=
  wbElt (x2 (ix2 ⟨(y 0).val / 128, by have h : (y 0).val < 8960 := (y 0).isLt; omega⟩
    ⟨(y 1).val / 128, by have h : (y 1).val < 1536 := (y 1).isLt; omega⟩)) (x6 y)

theorem unit_emb_val {s : Shape} (off size : Fin s.rank → ℕ) (inb) (x : (Rect.unit (s := s) off size inb).shape.Idx) (a : Fin s.rank) :
    ((Rect.unit off size inb).emb x a).val = off a + (x a).val := by
  show off a + 1 * (x a).val = _
  omega

/-- A load of a whole buffer reads its contents. -/
theorem readAt_zero {κ : Kind} {sp : Space} {e : EltTy} {d : Fin 2 → ℕ} (v : View sig κ sp (⟨2, d⟩ : Shape) e) (f : v.ty.Contents (Elt F))
    (inb : ∀ a, (![0, 0] : Fin 2 → ℕ) a + (⟨2, d⟩ : Shape).size a ≤ (⟨2, d⟩ : Shape).size a) :
    v.readAt (Elt F) (Rect.unit (s := ⟨2, d⟩) ![0, 0] (⟨2, d⟩ : Shape).size inb).toLoadRect f = v.read (Elt F) f := by
  funext x
  show v.read (Elt F) f ((Rect.unit (s := ⟨2, d⟩) ![0, 0] (⟨2, d⟩ : Shape).size inb).emb x) = _
  congr 1
  funext a
  apply Fin.ext
  rw [unit_emb_val]
  match a with
  | 0 => exact Nat.zero_add _
  | 1 => exact Nat.zero_add _

theorem wb_piece (x2 : S70x12.Idx → Elt F .f32) (x6 : S8960x1536.Idx → Elt F .fp8e4m3) (k j : ℕ)
    (off1 : Fin 2 → ℕ) (off2 : Fin 2 → ℕ) (h1 : off1 = ![k, j]) (h2 : off2 = ![128 * k, 128 * j]) (inb1) (inb2) (h)
    (w : S128x128.Idx → Elt F .bf16)
    (hw : ∀ x : S128x128.Idx, w x = wbElt (x2 ((Rect.unit (s := S70x12) off1 S1x1.size inb1).emb (Shape.Idx.first h)))
      (x6 ((Rect.unit (s := S8960x1536) off2 S128x128.size inb2).emb x))) :
    ∀ x : (Rect.unit (s := S8960x1536) off2 S128x128.size inb2).shape.Idx, w x
      = WB x2 x6 ((Rect.unit (s := S8960x1536) off2 S128x128.size inb2).emb x) := by
  intro x
  refine (hw x).trans ?_
  unfold WB
  congr 2
  subst h1 h2
  have hx0 : (x 0).val < 128 := (x 0).isLt
  have hx1 : (x 1).val < 128 := (x 1).isLt
  have e0 := unit_emb_val (s := S8960x1536) ![128 * k, 128 * j] S128x128.size inb2 x 0
  have e1 := unit_emb_val (s := S8960x1536) ![128 * k, 128 * j] S128x128.size inb2 x 1
  simp only [Matrix.cons_val_zero, Matrix.cons_val_one] at e0 e1
  funext a
  apply Fin.ext
  rw [unit_emb_val]
  match a with
  | 0 =>
    show k + (Shape.Idx.first h 0).val = ((Rect.unit (s := S8960x1536) ![128 * k, 128 * j] S128x128.size inb2).emb x 0).val / 128
    have : (Shape.Idx.first h 0).val < 1 := (Shape.Idx.first h 0).isLt
    rw [e0]; omega
  | 1 =>
    show j + (Shape.Idx.first h 1).val = ((Rect.unit (s := S8960x1536) ![128 * k, 128 * j] S128x128.size inb2).emb x 1).val / 128
    have : (Shape.Idx.first h 1).val < 1 := (Shape.Idx.first h 1).isLt
    rw [e1]; omega

theorem mem_block {s2 : Fin 2 → ℕ} (off2 : Fin 2 → ℕ) (inb2) (y : (⟨2, s2⟩ : Shape).Idx) (a b : ℕ)
    (h2 : off2 = ![a, b]) (h0 : a ≤ (y 0).val ∧ (y 0).val < a + 128) (h1 : b ≤ (y 1).val ∧ (y 1).val < b + 128) :
    y ∈ (Rect.unit (s := ⟨2, s2⟩) off2 S128x128.size inb2).set := by
  subst h2
  rw [Rect.mem_set_unit]
  intro c
  match c with
  | 0 => exact h0
  | 1 => exact h1

theorem not_mem_block {s2 : Fin 2 → ℕ} (off2 : Fin 2 → ℕ) (inb2) (y : (⟨2, s2⟩ : Shape).Idx) (a b : ℕ)
    (h2 : off2 = ![a, b]) (h0 : ¬ (a ≤ (y 0).val ∧ (y 0).val < a + 128)) :
    y ∉ (Rect.unit (s := ⟨2, s2⟩) off2 S128x128.size inb2).set := by
  subst h2
  rw [Rect.mem_set_unit]
  intro hc
  exact h0 (hc 0)

/-- Before trip `k` of the weight loop: the rows of the trips before hold the dequantised weights. -/
def WBto (x2 : S70x12.Idx → Elt F .f32) (x6 : S8960x1536.Idx → Elt F .fp8e4m3) (g : S8960x1536.Idx → Elt F .bf16) (k : ℕ)
    (y : S8960x1536.Idx) : Elt F .bf16 :=
  if (y 0).val < 128 * k then WB x2 x6 y else g y

abbrev inv_t1 (c : Dev nD) (arg2 : Memref sig .tc .smem S70x12 .f32) (arg6 : Memref sig .tc .vmem S8960x1536 .fp8e4m3)
    (arg14 : Memref sig .tc .vmem S8960x1536 .bf16) (X2 : BufTy.Contents (Elt F) arg2.view.ty) (X6 : BufTy.Contents (Elt F) arg6.view.ty)
    (G : BufTy.Contents (Elt F) arg14.view.ty) (k : ℕ) (_ : Unit) : sProp (MT nD τ sig Unit (Elt F) ℕ (UR sig nD τ) ℕ) :=
  iprop((arg2.view.loc (c : Thread nD τ) ↦[arg2.view.set]{fullShare} X2) ∗ (arg6.view.loc (c : Thread nD τ) ↦[arg6.view.set]{fullShare} X6) ∗ (∃ f, (arg14.view.loc (c : Thread nD τ) ↦[arg14.view.set]{fullShare} f) ∗ ⌜arg14.view.read (Elt F) f = WBto (arg2.view.read (Elt F) X2) (arg6.view.read (Elt F) X6) (arg14.view.read (Elt F) G) k⌝))

set_option warn.classDefReducibility false in
/-- The weight loop by its invariant. -/
@[sl_loop] def loopInv_t1 (c : Dev nD) (i : grid0.Coords) (arg1 : Memref sig .tc .smem S21 .i32) (harg1 : arg1.IsWhole) (arg2 : Memref sig .tc .smem S70x12 .f32) (harg2 : arg2.IsWhole) (arg3 : Memref sig .tc .vmem S128x8960 .fp8e4m3) (harg3 : arg3.IsWhole) (arg4 : Memref sig .tc .vmem S128x70 .f32) (harg4 : arg4.IsWhole) (arg5 : Memref sig .tc .vmem S128x1536 .bf16) (harg5 : arg5.IsWhole) (arg6 : Memref sig .tc .vmem S8960x1536 .fp8e4m3) (harg6 : arg6.IsWhole) (arg7 : Memref sig .tc .vmem S1x1536 .f32) (harg7 : arg7.IsWhole) (arg8 : Memref sig .tc .vmem S1x1536 .f32) (harg8 : arg8.IsWhole) (arg9 : Memref sig .tc .vmem S1x1536 .f32) (harg9 : arg9.IsWhole) (arg10 : Memref sig .tc .vmem S128x1536 .f32) (harg10 : arg10.IsWhole) (arg11 : Memref sig .tc .vmem S20x1536 .f32) (harg11 : arg11.IsWhole) (arg12 : Memref sig .tc .vmem S20x1536 .i8) (harg12 : arg12.IsWhole) (arg13 : Memref sig .tc .vmem S20x1 .f32) (harg13 : arg13.IsWhole) (arg14 : Memref sig .tc .vmem S8960x1536 .bf16) (harg14 : arg14.IsWhole) (arg15 : Memref sig .tc .vmem S128x8960 .bf16) (harg15 : arg15.IsWhole) (arg16 : Memref sig .tc .vmem S20x1536 .f32) (harg16 : arg16.IsWhole) (k0_h1 : k0_cond1 i = 1#1)
    (X2 : BufTy.Contents (Elt F) arg2.view.ty) (X6 : BufTy.Contents (Elt F) arg6.view.ty) (G : BufTy.Contents (Elt F) arg14.view.ty) :
    Gen.LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 where
  inv := inv_t1 (F := F) c arg2 arg6 arg14 X2 X6 G
  step k acc := by
    have hk : k.val < 70 := Nat.lt_of_lt_of_le k.isLt Gen.k0_t1_abs.2.1
    unfold Gen.k0_t1_body
    iintro ⟨HR_arg2, HR_arg6, ⟨%f, HW_arg14, %hf⟩⟩
    sl_exec
    sl_step
    isplitl [HR_arg2]; · iexact HR_arg2
    isplitl [HR_arg6]; · iexact HR_arg6
    iexists _; isplitl [HW_arg14]; · iexact HW_arg14
    ipureintro
    sl_unfold_run_names
    funext y
    unfold WBto
    by_cases hy : (y 0).val < 128 * (k.val + 1)
    · rw [if_pos hy]
      by_cases hy' : (y 0).val < 128 * k.val
      · rw [View.read_writes_apply_of_forall_not_mem, hf]
        · exact if_pos hy'
        · simp only [List.forall_mem_cons, List.not_mem_nil, false_imp_iff, implies_true, and_true]
          refine ⟨?_, ?_, ?_, ?_, ?_, ?_, ?_, ?_, ?_, ?_, ?_, ?_⟩
          · exact not_mem_block _ _ y _ _ (Gen.k0_off24_eq k) (by omega)
          · exact not_mem_block _ _ y _ _ (Gen.k0_off22_eq k) (by omega)
          · exact not_mem_block _ _ y _ _ (Gen.k0_off20_eq k) (by omega)
          · exact not_mem_block _ _ y _ _ (Gen.k0_off18_eq k) (by omega)
          · exact not_mem_block _ _ y _ _ (Gen.k0_off16_eq k) (by omega)
          · exact not_mem_block _ _ y _ _ (Gen.k0_off14_eq k) (by omega)
          · exact not_mem_block _ _ y _ _ (Gen.k0_off12_eq k) (by omega)
          · exact not_mem_block _ _ y _ _ (Gen.k0_off10_eq k) (by omega)
          · exact not_mem_block _ _ y _ _ (Gen.k0_off8_eq k) (by omega)
          · exact not_mem_block _ _ y _ _ (Gen.k0_off6_eq k) (by omega)
          · exact not_mem_block _ _ y _ _ (Gen.k0_off4_eq k) (by omega)
          · exact not_mem_block _ _ y _ _ (Gen.k0_off2_eq k) (by omega)
      · refine View.read_writes_apply_of_pieces _ _ (WB (arg2.view.read (Elt F) X2) (arg6.view.read (Elt F) X6)) _ ?_ y ?_
        · simp only [List.forall_mem_cons, List.not_mem_nil, false_imp_iff, implies_true, and_true]
          refine ⟨?_, ?_, ?_, ?_, ?_, ?_, ?_, ?_, ?_, ?_, ?_, ?_⟩
          · exact wb_piece _ _ k.val 11 _ _ (Gen.k0_off23_eq k) (Gen.k0_off24_eq k) _ _ _ _ (fun x => by unfold Gen.k0_pay3; rw [shapeCast_id]; rfl)
          · exact wb_piece _ _ k.val 10 _ _ (Gen.k0_off21_eq k) (Gen.k0_off22_eq k) _ _ _ _ (fun x => by unfold Gen.k0_pay2 Gen.k0_pay22; rw [shapeCast_id]; rfl)
          · exact wb_piece _ _ k.val 9 _ _ (Gen.k0_off19_eq k) (Gen.k0_off20_eq k) _ _ _ _ (fun x => by unfold Gen.k0_pay21; rw [shapeCast_id]; rfl)
          · exact wb_piece _ _ k.val 8 _ _ (Gen.k0_off17_eq k) (Gen.k0_off18_eq k) _ _ _ _ (fun x => by unfold Gen.k0_pay20; rw [shapeCast_id]; rfl)
          · exact wb_piece _ _ k.val 7 _ _ (Gen.k0_off15_eq k) (Gen.k0_off16_eq k) _ _ _ _ (fun x => by unfold Gen.k0_pay19; rw [shapeCast_id]; rfl)
          · exact wb_piece _ _ k.val 6 _ _ (Gen.k0_off13_eq k) (Gen.k0_off14_eq k) _ _ _ _ (fun x => by unfold Gen.k0_pay18; rw [shapeCast_id]; rfl)
          · exact wb_piece _ _ k.val 5 _ _ (Gen.k0_off11_eq k) (Gen.k0_off12_eq k) _ _ _ _ (fun x => by unfold Gen.k0_pay17; rw [shapeCast_id]; rfl)
          · exact wb_piece _ _ k.val 4 _ _ (Gen.k0_off9_eq k) (Gen.k0_off10_eq k) _ _ _ _ (fun x => by unfold Gen.k0_pay16; rw [shapeCast_id]; rfl)
          · exact wb_piece _ _ k.val 3 _ _ (Gen.k0_off7_eq k) (Gen.k0_off8_eq k) _ _ _ _ (fun x => by unfold Gen.k0_pay15 Gen.k0_pay14; rw [shapeCast_id]; rfl)
          · exact wb_piece _ _ k.val 2 _ _ (Gen.k0_off5_eq k) (Gen.k0_off6_eq k) _ _ _ _ (fun x => by unfold Gen.k0_pay13; rw [shapeCast_id]; rfl)
          · exact wb_piece _ _ k.val 1 _ _ (Gen.k0_off3_eq k) (Gen.k0_off4_eq k) _ _ _ _ (fun x => by unfold Gen.k0_pay12; rw [shapeCast_id]; rfl)
          · exact wb_piece _ _ k.val 0 _ _ (Gen.k0_off1_eq k) (Gen.k0_off2_eq k) _ _ _ _ (fun x => by unfold Gen.k0_pay11; rw [shapeCast_id]; rfl)
        · have hy1 : (y 1).val < 1536 := (y 1).isLt
          simp only [List.exists_mem_cons_iff, List.not_mem_nil, false_and, exists_false, or_false]
          have hd : ∃ j, j < 12 ∧ (y 1).val / 128 = j := ⟨_, by omega, rfl⟩
          obtain ⟨j, hj, hd⟩ := hd
          interval_cases j
          · exact .inr (.inr (.inr (.inr (.inr (.inr (.inr (.inr (.inr (.inr (.inr ((mem_block _ _ y _ _ (Gen.k0_off2_eq k) (by omega) (by omega)))))))))))))
          · exact .inr (.inr (.inr (.inr (.inr (.inr (.inr (.inr (.inr (.inr (.inl (mem_block _ _ y _ _ (Gen.k0_off4_eq k) (by omega) (by omega))))))))))))
          · exact .inr (.inr (.inr (.inr (.inr (.inr (.inr (.inr (.inr (.inl (mem_block _ _ y _ _ (Gen.k0_off6_eq k) (by omega) (by omega)))))))))))
          · exact .inr (.inr (.inr (.inr (.inr (.inr (.inr (.inr (.inl (mem_block _ _ y _ _ (Gen.k0_off8_eq k) (by omega) (by omega))))))))))
          · exact .inr (.inr (.inr (.inr (.inr (.inr (.inr (.inl (mem_block _ _ y _ _ (Gen.k0_off10_eq k) (by omega) (by omega)))))))))
          · exact .inr (.inr (.inr (.inr (.inr (.inr (.inl (mem_block _ _ y _ _ (Gen.k0_off12_eq k) (by omega) (by omega))))))))
          · exact .inr (.inr (.inr (.inr (.inr (.inl (mem_block _ _ y _ _ (Gen.k0_off14_eq k) (by omega) (by omega)))))))
          · exact .inr (.inr (.inr (.inr (.inl (mem_block _ _ y _ _ (Gen.k0_off16_eq k) (by omega) (by omega))))))
          · exact .inr (.inr (.inr (.inl (mem_block _ _ y _ _ (Gen.k0_off18_eq k) (by omega) (by omega)))))
          · exact .inr (.inr (.inl (mem_block _ _ y _ _ (Gen.k0_off20_eq k) (by omega) (by omega))))
          · exact .inr (.inl (mem_block _ _ y _ _ (Gen.k0_off22_eq k) (by omega) (by omega)))
          · exact .inl (mem_block _ _ y _ _ (Gen.k0_off24_eq k) (by omega) (by omega))
    · rw [if_neg hy, View.read_writes_apply_of_forall_not_mem, hf]
      · exact if_neg (by omega)
      · simp only [List.forall_mem_cons, List.not_mem_nil, false_imp_iff, implies_true, and_true]
        refine ⟨?_, ?_, ?_, ?_, ?_, ?_, ?_, ?_, ?_, ?_, ?_, ?_⟩
        · exact not_mem_block _ _ y _ _ (Gen.k0_off24_eq k) (by omega)
        · exact not_mem_block _ _ y _ _ (Gen.k0_off22_eq k) (by omega)
        · exact not_mem_block _ _ y _ _ (Gen.k0_off20_eq k) (by omega)
        · exact not_mem_block _ _ y _ _ (Gen.k0_off18_eq k) (by omega)
        · exact not_mem_block _ _ y _ _ (Gen.k0_off16_eq k) (by omega)
        · exact not_mem_block _ _ y _ _ (Gen.k0_off14_eq k) (by omega)
        · exact not_mem_block _ _ y _ _ (Gen.k0_off12_eq k) (by omega)
        · exact not_mem_block _ _ y _ _ (Gen.k0_off10_eq k) (by omega)
        · exact not_mem_block _ _ y _ _ (Gen.k0_off8_eq k) (by omega)
        · exact not_mem_block _ _ y _ _ (Gen.k0_off6_eq k) (by omega)
        · exact not_mem_block _ _ y _ _ (Gen.k0_off4_eq k) (by omega)
        · exact not_mem_block _ _ y _ _ (Gen.k0_off2_eq k) (by omega)
end Cert.Proof.Kernel
end
end
-- ==== Proof.Kern.Loop2.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Kern.Loop1
public import Idealize.ShloMosaic.Adequacy
public import Idealize.ShloMosaic.Init
public import Idealize.ShloMosaic.Lib.WritesUnit
public import Idealize.ShloMosaic.Lib.VecWindow
public import Idealize.ShloMosaic.Lib.Pointwise

@[expose] public section

set_option maxRecDepth 16384
set_option maxHeartbeats 4000000

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The running sums, one row per sequence -/

/-- Whether the rows `[v1, v1 + 128)` meet the rows `[lo, hi)`, as the kernel tests it. -/
def meets (v1 lo hi : BitVec 32) : BitVec 1 :=
  let v697 : BitVec 32 := Scalar.addi v1 128#32
  let v698 : BitVec 1 := Scalar.cmpi .slt lo v697
  let v699 : BitVec 1 := Scalar.cmpi .sgt hi v1
  let v700 : BitVec 1 := Scalar.andi v698 v699
  let v701 : BitVec 32 := Scalar.extui v700
  Scalar.cmpi .ne v701 0#32

/-- Row `r` of the running sums. -/
def sumRow (s : S20x1536.Idx → Elt F .f32) (r : Fin 20) : S1x1536.Idx → Elt F .f32 := fun x => s (ix2 r (x 1))

/-- The bounds of sequence `r`. -/
def cuLo (cu : S21.Idx → Elt F .i32) (r : Fin 20) : Elt F .i32 := cu (ix1 ⟨r.val, by omega⟩)
def cuHi (cu : S21.Idx → Elt F .i32) (r : Fin 20) : Elt F .i32 := cu (ix1 ⟨r.val + 1, by omega⟩)

/-- The running sums after a tile of rows: the sequences whose rows the tile meets take its rows in. -/
def sumNew (i : grid0.Coords) (v1 : BitVec 32) (cu : S21.Idx → Elt F .i32) (z : S128x1536.Idx → Elt F .f32)
    (s : S20x1536.Idx → Elt F .f32) (y : S20x1536.Idx) : Elt F .f32 :=
  if meets v1 (cuLo (F := F) cu (y 0)) (cuHi (F := F) cu (y 0)) = 1#1 then
    Gen.k0_pay7 i (cuLo (F := F) cu (y 0)) (cuHi (F := F) cu (y 0)) z (sumRow s (y 0)) (ix2 0 (y 1))
  else s y

/-- The same after the first `k` sequences. -/
def sumTo (i : grid0.Coords) (v1 : BitVec 32) (cu : S21.Idx → Elt F .i32) (z : S128x1536.Idx → Elt F .f32)
    (s : S20x1536.Idx → Elt F .f32) (k : ℕ) (y : S20x1536.Idx) : Elt F .f32 :=
  if (y 0).val < k then sumNew i v1 cu z s y else s y

abbrev inv_t2 (c : Dev nD) (i : grid0.Coords) (arg1 : Memref sig .tc .smem S21 .i32) (arg10 : Memref sig .tc .vmem S128x1536 .f32)
    (arg16 : Memref sig .tc .vmem S20x1536 .f32) (v1 : BitVec 32) (q : PosShare TreeShare) (X1 : BufTy.Contents (Elt F) arg1.view.ty) (X10 : BufTy.Contents (Elt F) arg10.view.ty)
    (G : BufTy.Contents (Elt F) arg16.view.ty) (k : ℕ) (_ : Unit) : sProp (MT nD τ sig Unit (Elt F) ℕ (UR sig nD τ) ℕ) :=
  iprop((arg1.view.loc (c : Thread nD τ) ↦[arg1.view.set]{q} X1) ∗ (arg10.view.loc (c : Thread nD τ) ↦[arg10.view.set]{fullShare} X10) ∗ (∃ f, (arg16.view.loc (c : Thread nD τ) ↦[arg16.view.set]{fullShare} f) ∗ ⌜arg16.view.read (Elt F) f = sumTo i v1 (arg1.view.read (Elt F) X1) (arg10.view.read (Elt F) X10) (arg16.view.read (Elt F) G) k⌝))

theorem row_emb (off : Fin 2 → ℕ) (inb) (x : S1x1536.Idx) (k : ℕ) (h : off = ![k, 0]) (y : S20x1536.Idx)
    (h0 : (y 0).val = k) (h1 : (y 1).val = (x 1).val) :
    (Rect.unit (s := S20x1536) off S1x1536.size inb).emb x = y := by
  subst h
  have hx0 : (x 0).val < 1 := (x 0).isLt
  funext a
  apply Fin.ext
  rw [unit_emb_val]
  match a with
  | 0 => show k + (x 0).val = (y 0).val; omega
  | 1 => show 0 + (x 1).val = (y 1).val; omega

theorem cu_word (cu : S21.Idx → Elt F .i32) (off : Fin 1 → ℕ) (inb) (h) (k : ℕ) (hk : k < 21) (ho : off = ![k]) :
    cu ((Rect.unit (s := S21) off S1.size inb).emb (Shape.Idx.first h)) = cu (ix1 ⟨k, hk⟩) := by
  subst ho
  congr 1
  funext a
  apply Fin.ext
  rw [unit_emb_val]
  have : (Shape.Idx.first h a).val < 1 := by
    have := (Shape.Idx.first h a).isLt
    match a with
    | 0 => exact this
  match a with
  | 0 => show k + (Shape.Idx.first h 0).val = k; omega

set_option warn.classDefReducibility false in
/-- The sequence loop by its invariant. -/
@[sl_loop] def loopInv_t2 (c : Dev nD) (i : grid0.Coords) (arg1 : Memref sig .tc .smem S21 .i32) (harg1 : arg1.IsWhole) (arg2 : Memref sig .tc .smem S70x12 .f32) (harg2 : arg2.IsWhole) (arg3 : Memref sig .tc .vmem S128x8960 .fp8e4m3) (harg3 : arg3.IsWhole) (arg4 : Memref sig .tc .vmem S128x70 .f32) (harg4 : arg4.IsWhole) (arg5 : Memref sig .tc .vmem S128x1536 .bf16) (harg5 : arg5.IsWhole) (arg6 : Memref sig .tc .vmem S8960x1536 .fp8e4m3) (harg6 : arg6.IsWhole) (arg7 : Memref sig .tc .vmem S1x1536 .f32) (harg7 : arg7.IsWhole) (arg8 : Memref sig .tc .vmem S1x1536 .f32) (harg8 : arg8.IsWhole) (arg9 : Memref sig .tc .vmem S1x1536 .f32) (harg9 : arg9.IsWhole) (arg10 : Memref sig .tc .vmem S128x1536 .f32) (harg10 : arg10.IsWhole) (arg11 : Memref sig .tc .vmem S20x1536 .f32) (harg11 : arg11.IsWhole) (arg12 : Memref sig .tc .vmem S20x1536 .i8) (harg12 : arg12.IsWhole) (arg13 : Memref sig .tc .vmem S20x1 .f32) (harg13 : arg13.IsWhole) (arg14 : Memref sig .tc .vmem S8960x1536 .bf16) (harg14 : arg14.IsWhole) (arg15 : Memref sig .tc .vmem S128x8960 .bf16) (harg15 : arg15.IsWhole) (arg16 : Memref sig .tc .vmem S20x1536 .f32) (harg16 : arg16.IsWhole) (v1 : BitVec 32) (q : PosShare TreeShare)
    (X1 : BufTy.Contents (Elt F) arg1.view.ty) (X10 : BufTy.Contents (Elt F) arg10.view.ty) (G : BufTy.Contents (Elt F) arg16.view.ty) :
    Gen.LoopInvTy_k0_t2 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 where
  inv := inv_t2 (F := F) c i arg1 arg10 arg16 v1 q X1 X10 G
  step k acc := by
    have hk : k.val < 20 := Nat.lt_of_lt_of_le k.isLt Gen.k0_t2_abs.2.1
    unfold Gen.k0_t2_body
    iintro ⟨HR_arg1, HR_arg10, ⟨%f, HW_arg16, %hf⟩⟩
    sl_exec
    sl_step
    isplitl [HR_arg1]; · iexact HR_arg1
    isplitl [HR_arg10]; · iexact HR_arg10
    iexists _; isplitl [HW_arg16]; · iexact HW_arg16
    ipureintro
    sl_unfold_run_names
    have hlo : ∀ inb h, arg1.view.readAt (Elt F) (Rect.unit (s := S21) (k0_off25 k) S1.size inb).toLoadRect X1 (Shape.Idx.first h)
        = cuLo (F := F) (arg1.view.read (Elt F) X1) ⟨k.val, hk⟩ := fun inb h =>
      cu_word (arg1.view.read (Elt F) X1) _ inb h k.val (by omega) (Gen.k0_off25_eq k)
    have hhi : ∀ inb h, arg1.view.readAt (Elt F) (Rect.unit (s := S21) (k0_off26 k) S1.size inb).toLoadRect X1 (Shape.Idx.first h)
        = cuHi (F := F) (arg1.view.read (Elt F) X1) ⟨k.val, hk⟩ := fun inb h =>
      cu_word (arg1.view.read (Elt F) X1) _ inb h (k.val + 1) (by omega) (Gen.k0_off26_eq k)
    have hz : arg10.view.readAt (Elt F) (Rect.unit (s := S128x1536) ![0, 0] S128x1536.size Gen.inb_S128x1536_S128x1536_0_0).toLoadRect X10
        = arg10.view.read (Elt F) X10 := readAt_zero _ _ _
    have hs : ∀ inb, arg16.view.readAt (Elt F) (Rect.unit (s := S20x1536) (k0_off27 k) S1x1536.size inb).toLoadRect f
        = sumRow (arg16.view.read (Elt F) G) ⟨k.val, hk⟩ := by
      intro inb
      funext x
      show arg16.view.read (Elt F) f ((Rect.unit (s := S20x1536) (k0_off27 k) S1x1536.size inb).emb x) = _
      rw [row_emb (k0_off27 k) inb x k.val (Gen.k0_off27_eq k) (ix2 ⟨k.val, hk⟩ (x 1)) rfl rfl, hf]
      unfold sumTo
      exact if_neg (by show ¬ (k.val < k.val); omega)
    simp only [hlo, hhi, hz, hs]
    funext y
    unfold sumTo
    by_cases hm : meets v1 (cuLo (F := F) (arg1.view.read (Elt F) X1) ⟨k.val, hk⟩) (cuHi (F := F) (arg1.view.read (Elt F) X1) ⟨k.val, hk⟩) = 1#1
    · have hm' := hm
      unfold meets at hm'
      rw [dif_pos hm']
      by_cases hy : (y 0).val = k.val
      · have hy0 : (⟨k.val, hk⟩ : Fin 20) = y 0 := Fin.ext hy.symm
        rw [if_pos (by omega)]
        have he := row_emb (k0_off27 k) (Gen.k0_off27_inb k) (ix2 0 (y 1)) k.val (Gen.k0_off27_eq k) y hy rfl
        conv_lhs => rw [← he]
        rw [View.read_writes_cons_emb]
        unfold sumNew
        rw [← hy0, if_pos hm]
      · rw [View.read_writes_apply_of_forall_not_mem, hf]
        · unfold sumTo
          by_cases h1 : (y 0).val < k.val
          · rw [if_pos h1, if_pos (by omega)]
          · rw [if_neg h1, if_neg (by omega)]
        · simp only [List.forall_mem_cons, List.not_mem_nil, false_imp_iff, implies_true, _root_.and_true]
          intro hc
          rw [Rect.mem_set_unit] at hc
          have := hc 0
          rw [Gen.k0_off27_eq k] at this
          have hx0 : k.val ≤ (y 0).val ∧ (y 0).val < k.val + 1 := this
          omega
    · have hm' := hm
      unfold meets at hm'
      rw [dif_neg hm', hf]
      unfold sumTo
      by_cases h1 : (y 0).val < k.val
      · rw [if_pos h1, if_pos (by omega)]
      · rw [if_neg h1]
        by_cases h2 : (y 0).val < k.val + 1
        · have hy0 : (⟨k.val, hk⟩ : Fin 20) = y 0 := Fin.ext (by show k.val = (y 0).val; omega)
          rw [if_pos h2]
          unfold sumNew
          rw [← hy0, if_neg hm]
        · rw [if_neg h2]
end Cert.Proof.Kernel
end
end
-- ==== Proof.Kern.Vals.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Kern.Loop2
public import Idealize.ShloMosaic.Adequacy
public import Idealize.ShloMosaic.Init
public import Idealize.ShloMosaic.Lib.WritesUnit
public import Idealize.ShloMosaic.Lib.VecWindow
public import Idealize.ShloMosaic.Lib.Pointwise

@[expose] public section

set_option maxRecDepth 16384
set_option maxHeartbeats 4000000

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## What one grid point computes -/

/-- The first row of the tile at a grid point. -/
def rowWord (i : grid0.Coords) : BitVec 32 := Scalar.muli (BitVec.ofNat 32 (i 0).val) 128#32

/-- Entry `k` of the prefix sums of the lengths. -/
def cuAt (cu : S21.Idx → Elt F .i32) (k : ℕ) (hk : k < 21 := by decide) : Elt F .i32 := cu (ix1 ⟨k, hk⟩)

/-- The tile of activations, dequantised: column `n` lies in the group `n / 128`. -/
def HB (x3 : S128x8960.Idx → Elt F .fp8e4m3) (x4 : S128x70.Idx → Elt F .f32) (y : S128x8960.Idx) : Elt F .bf16 :=
  wbElt (x4 (ix2 (y 0) ⟨(y 1).val / 128, by have h : (y 1).val < 8960 := (y 1).isLt; omega⟩)) (x3 y)

/-- The tile of normalised rows of a live grid point. -/
def zLive (i : grid0.Coords) (x1 : S21.Idx → Elt F .i32) (hb : S128x8960.Idx → Elt F .bf16) (wb : S8960x1536.Idx → Elt F .bf16)
    (x5 : S128x1536.Idx → Elt F .bf16) (x7 x8 x9 : S1x1536.Idx → Elt F .f32) : S128x1536.Idx → Elt F .f32 :=
  Gen.k0_pay6 i (cuAt (F := F) x1 20) (Gen.k0_pay107 hb wb x5 x7) (Gen.k0_pay108 hb wb x5 x7) x8 x9

/-- The tile of normalised rows. -/
def zBlk (i : grid0.Coords) (x1 : S21.Idx → Elt F .i32) (x3 : S128x8960.Idx → Elt F .fp8e4m3) (x4 : S128x70.Idx → Elt F .f32)
    (wb : S8960x1536.Idx → Elt F .bf16)
    (x5 : S128x1536.Idx → Elt F .bf16) (x7 x8 x9 : S1x1536.Idx → Elt F .f32) : S128x1536.Idx → Elt F .f32 :=
  if k0_cond3 i (cuAt (F := F) x1 20) = 1#1 then zLive i x1 (HB x3 x4) wb x5 x7 x8 x9 else Gen.k0_pay4

/-- The running sums after a grid point. -/
def sumStep (i : grid0.Coords) (x1 : S21.Idx → Elt F .i32) (z : S128x1536.Idx → Elt F .f32) (s : S20x1536.Idx → Elt F .f32) :
    S20x1536.Idx → Elt F .f32 :=
  if k0_cond3 i (cuAt (F := F) x1 20) = 1#1 then sumNew i (rowWord i) x1 z s else s

/-- The row numbers `0 … 19` of the lengths. -/
def iotaW : IVec S20x1 32 := iota .tc S20x1 32 [0] Gen.iota_S20x1_d0_w32
/-- The lengths, as the last point gathers them, in four steps. -/
def lens1 (x1 : S21.Idx → Elt F .i32) : FVec F S20x1 .f32 :=
  Gen.k0_pay109 (cuAt (F := F) x1 1) (cuAt (F := F) x1 0) (cuAt (F := F) x1 2) (cuAt (F := F) x1 1) (cuAt (F := F) x1 3) (cuAt (F := F) x1 2)
    (cuAt (F := F) x1 4) (cuAt (F := F) x1 3) (cuAt (F := F) x1 5) (cuAt (F := F) x1 4)
def lens2 (x1 : S21.Idx → Elt F .i32) : FVec F S20x1 .f32 :=
  Gen.k0_pay110 iotaW (lens1 x1) (cuAt (F := F) x1 6) (cuAt (F := F) x1 5) (cuAt (F := F) x1 7) (cuAt (F := F) x1 6) (cuAt (F := F) x1 8) (cuAt (F := F) x1 7)
    (cuAt (F := F) x1 9) (cuAt (F := F) x1 8) (cuAt (F := F) x1 10) (cuAt (F := F) x1 9)
def lens3 (x1 : S21.Idx → Elt F .i32) : FVec F S20x1 .f32 :=
  Gen.k0_pay112 iotaW (lens2 x1) (Gen.k0_pay111 (cuAt (F := F) x1 11) (cuAt (F := F) x1 10)) 10#32
    (cuAt (F := F) x1 12) (cuAt (F := F) x1 11) (cuAt (F := F) x1 13) (cuAt (F := F) x1 12) (cuAt (F := F) x1 14) (cuAt (F := F) x1 13)
    (cuAt (F := F) x1 15) (cuAt (F := F) x1 14) (cuAt (F := F) x1 16) (cuAt (F := F) x1 15)
/-- The means of the sequences' rows. -/
def mVal (x1 : S21.Idx → Elt F .i32) (s : S20x1536.Idx → Elt F .f32) : FVec F S20x1536 .f32 :=
  Gen.k0_pay113 iotaW (lens3 x1) (cuAt (F := F) x1 17) (cuAt (F := F) x1 16) (cuAt (F := F) x1 18) (cuAt (F := F) x1 17)
    (cuAt (F := F) x1 19) (cuAt (F := F) x1 18) (cuAt (F := F) x1 20) (cuAt (F := F) x1 19) s
/-- Their squares. -/
def sqVal (x1 : S21.Idx → Elt F .i32) (s : S20x1536.Idx → Elt F .f32) : FVec F S20x1536 .f32 :=
  Gen.k0_pay114 iotaW (lens3 x1) (cuAt (F := F) x1 17) (cuAt (F := F) x1 16) (cuAt (F := F) x1 18) (cuAt (F := F) x1 17)
    (cuAt (F := F) x1 19) (cuAt (F := F) x1 18) (cuAt (F := F) x1 20) (cuAt (F := F) x1 19) s
/-- The codes and the scales of the normalised means. -/
def codesVal (x1 : S21.Idx → Elt F .i32) (s : S20x1536.Idx → Elt F .f32) : IVec S20x1536 8 := Gen.k0_pay10 (mVal x1 s) (sqVal x1 s)
def scaleVal (x1 : S21.Idx → Elt F .i32) (s : S20x1536.Idx → Elt F .f32) : FVec F S20x1 .f32 := Gen.k0_pay9 (mVal x1 s) (sqVal x1 s)

/-! ## Pieces and words -/

theorem cu_at {κ : Kind} {sp : Space} (v : View sig κ sp S21 .i32) (f : v.ty.Contents (Elt F)) (k : ℕ) (hk : k < 21) (inb) (h) :
    v.readAt (Elt F) (Rect.unit (s := S21) ![k] S1.size inb).toLoadRect f (Shape.Idx.first h) = cuAt (F := F) (v.read (Elt F) f) k hk :=
  cu_word (v.read (Elt F) f) ![k] inb h k hk rfl

theorem hbpay (v : S128x70.Idx → F .f32) (w : S128x128.Idx → F .fp8e4m3) (j : ℕ) (hj : j < 70) (h1) (h2) (hs) (hb) (x : S128x128.Idx) :
    mulf (F := F) (extf .bf16 w h1) (broadcastTo S128x128 (truncf .bf16 (extractStridedSlice S128x1 ![0, j] v hs) h2) hb) x
      = wbElt (v (ix2 (x 0) ⟨j, hj⟩)) (w x) := by
  show wbElt (v _) (w x) = _
  congr 2
  funext a
  apply Fin.ext
  match a with
  | 0 => exact Nat.zero_add _
  | 1 => rfl

theorem hb_piece (x3 : S128x8960.Idx → Elt F .fp8e4m3) (x4 : S128x70.Idx → Elt F .f32) (j : ℕ) (hj : j < 70) (c : ℕ) (hc : c = 128 * j) (inb)
    (w : S128x128.Idx → Elt F .bf16)
    (hw : ∀ x : S128x128.Idx, w x = wbElt (x4 (ix2 (x 0) ⟨j, hj⟩)) (x3 ((Rect.unit (s := S128x8960) ![0, c] S128x128.size inb).emb x))) :
    ∀ x : (Rect.unit (s := S128x8960) ![0, c] S128x128.size inb).shape.Idx, w x
      = HB x3 x4 ((Rect.unit (s := S128x8960) ![0, c] S128x128.size inb).emb x) := by
  intro x
  refine (hw x).trans ?_
  unfold HB
  congr 2
  subst hc
  have hx1 : (x 1).val < 128 := (x 1).isLt
  have e0 := unit_emb_val (s := S128x8960) ![0, 128 * j] S128x128.size inb x 0
  have e1 := unit_emb_val (s := S128x8960) ![0, 128 * j] S128x128.size inb x 1
  simp only [Matrix.cons_val_zero, Matrix.cons_val_one] at e0 e1
  funext a
  apply Fin.ext
  match a with
  | 0 =>
    show (x 0).val = ((Rect.unit (s := S128x8960) ![0, 128 * j] S128x128.size inb).emb x 0).val
    rw [e0]; omega
  | 1 =>
    show j = ((Rect.unit (s := S128x8960) ![0, 128 * j] S128x128.size inb).emb x 1).val / 128
    rw [e1]; omega

/-- A store of a whole buffer leaves what it stored. -/
theorem read_zero {κ : Kind} {sp : Space} {e : EltTy} {d : Fin 2 → ℕ} (v : View sig κ sp (⟨2, d⟩ : Shape) e) (f : v.ty.Contents (Elt F))
    (inb : ∀ a, (![0, 0] : Fin 2 → ℕ) a + (⟨2, d⟩ : Shape).size a ≤ (⟨2, d⟩ : Shape).size a) (w : (⟨2, d⟩ : Shape).Idx → Elt F e) (L) :
    v.read (Elt F) (v.writes (Elt F) f (⟨Rect.unit (s := ⟨2, d⟩) ![0, 0] (⟨2, d⟩ : Shape).size inb, w⟩ :: L)) = w := by
  funext y
  have he : (Rect.unit (s := ⟨2, d⟩) ![0, 0] (⟨2, d⟩ : Shape).size inb).emb y = y := by
    funext a
    apply Fin.ext
    rw [unit_emb_val]
    match a with
    | 0 => exact Nat.zero_add _
    | 1 => exact Nat.zero_add _
  conv_lhs => rw [← he]
  exact View.read_writes_cons_emb ..

theorem trips1 : k0_t1_loop.trips = 70 := by decide +kernel
theorem trips2 : k0_t2_loop.trips = 20 := by decide +kernel

theorem WBto_all (x2 : S70x12.Idx → Elt F .f32) (x6 : S8960x1536.Idx → Elt F .fp8e4m3) (g) (n : ℕ) (hn : n = k0_t1_loop.trips) :
    WBto x2 x6 g n = WB x2 x6 := by
  subst hn
  funext y
  have h : (y 0).val < 8960 := (y 0).isLt
  unfold WBto
  rw [trips1]
  exact if_pos (by omega)

theorem sumTo_all (i : grid0.Coords) (v1 : BitVec 32) (cu : S21.Idx → Elt F .i32) (z : S128x1536.Idx → Elt F .f32)
    (s : S20x1536.Idx → Elt F .f32) (n : ℕ) (hn : n = k0_t2_loop.trips) : sumTo i v1 cu z s n = sumNew i v1 cu z s := by
  subst hn
  funext y
  have h : (y 0).val < 20 := (y 0).isLt
  unfold sumTo
  rw [trips2]
  exact if_pos h

end Cert.Proof.Kernel
end
end
-- ==== Proof.Kern.Hb.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Kern.Vals
public import Idealize.ShloMosaic.Adequacy
public import Idealize.ShloMosaic.Init
public import Idealize.ShloMosaic.Lib.WritesUnit
public import Idealize.ShloMosaic.Lib.VecWindow
public import Idealize.ShloMosaic.Lib.Ring
public import Idealize.ShloMosaic.Lib.Pointwise

@[expose] public section

set_option maxRecDepth 16384
set_option maxHeartbeats 4000000

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Reading the whole tile back after its seventy column stores. -/
theorem hb_cov {k3 k4 k15 : Kind} {p3 p4 p15 : Space} (v15 : View sig k15 p15 S128x8960 .bf16) (v3 : View sig k3 p3 S128x8960 .fp8e4m3) (f3 : v3.ty.Contents (Elt F))
    (v4 : View sig k4 p4 S128x70 .f32) (f4 : v4.ty.Contents (Elt F)) :
    View.readCov v15 [
      ⟨Rect.unit (s := S128x8960) ![0, 8832] S128x128.size Gen.inb_S128x8960_S128x128_0_8832, Gen.k0_pay106 (v4.readAt (Elt F) (Rect.unit (s := S128x70) ![0, 0] S128x70.size Gen.inb_S128x70_S128x70_0_0).toLoadRect f4) (v3.readAt (Elt F) (Rect.unit (s := S128x8960) ![0, 8832] S128x128.size Gen.inb_S128x8960_S128x128_0_8832).toLoadRect f3)⟩,
      ⟨Rect.unit (s := S128x8960) ![0, 8704] S128x128.size Gen.inb_S128x8960_S128x128_0_8704, Gen.k0_pay105 (Gen.k0_pay103 (v3.readAt (Elt F) (Rect.unit (s := S128x8960) ![0, 8704] S128x128.size Gen.inb_S128x8960_S128x128_0_8704).toLoadRect f3)) (Gen.k0_pay104 (v4.readAt (Elt F) (Rect.unit (s := S128x70) ![0, 0] S128x70.size Gen.inb_S128x70_S128x70_0_0).toLoadRect f4))⟩,
      ⟨Rect.unit (s := S128x8960) ![0, 8576] S128x128.size Gen.inb_S128x8960_S128x128_0_8576, Gen.k0_pay102 (v4.readAt (Elt F) (Rect.unit (s := S128x70) ![0, 0] S128x70.size Gen.inb_S128x70_S128x70_0_0).toLoadRect f4) (v3.readAt (Elt F) (Rect.unit (s := S128x8960) ![0, 8576] S128x128.size Gen.inb_S128x8960_S128x128_0_8576).toLoadRect f3)⟩,
      ⟨Rect.unit (s := S128x8960) ![0, 8448] S128x128.size Gen.inb_S128x8960_S128x128_0_8448, Gen.k0_pay101 (v4.readAt (Elt F) (Rect.unit (s := S128x70) ![0, 0] S128x70.size Gen.inb_S128x70_S128x70_0_0).toLoadRect f4) (v3.readAt (Elt F) (Rect.unit (s := S128x8960) ![0, 8448] S128x128.size Gen.inb_S128x8960_S128x128_0_8448).toLoadRect f3)⟩,
      ⟨Rect.unit (s := S128x8960) ![0, 8320] S128x128.size Gen.inb_S128x8960_S128x128_0_8320, Gen.k0_pay100 (v4.readAt (Elt F) (Rect.unit (s := S128x70) ![0, 0] S128x70.size Gen.inb_S128x70_S128x70_0_0).toLoadRect f4) (v3.readAt (Elt F) (Rect.unit (s := S128x8960) ![0, 8320] S128x128.size Gen.inb_S128x8960_S128x128_0_8320).toLoadRect f3)⟩,
      ⟨Rect.unit (s := S128x8960) ![0, 8192] S128x128.size Gen.inb_S128x8960_S128x128_0_8192, Gen.k0_pay99 (v4.readAt (Elt F) (Rect.unit (s := S128x70) ![0, 0] S128x70.size Gen.inb_S128x70_S128x70_0_0).toLoadRect f4) (v3.readAt (Elt F) (Rect.unit (s := S128x8960) ![0, 8192] S128x128.size Gen.inb_S128x8960_S128x128_0_8192).toLoadRect f3)⟩,
      ⟨Rect.unit (s := S128x8960) ![0, 8064] S128x128.size Gen.inb_S128x8960_S128x128_0_8064, Gen.k0_pay98 (v4.readAt (Elt F) (Rect.unit (s := S128x70) ![0, 0] S128x70.size Gen.inb_S128x70_S128x70_0_0).toLoadRect f4) (v3.readAt (Elt F) (Rect.unit (s := S128x8960) ![0, 8064] S128x128.size Gen.inb_S128x8960_S128x128_0_8064).toLoadRect f3)⟩,
      ⟨Rect.unit (s := S128x8960) ![0, 7936] S128x128.size Gen.inb_S128x8960_S128x128_0_7936, Gen.k0_pay97 (v4.readAt (Elt F) (Rect.unit (s := S128x70) ![0, 0] S128x70.size Gen.inb_S128x70_S128x70_0_0).toLoadRect f4) (v3.readAt (Elt F) (Rect.unit (s := S128x8960) ![0, 7936] S128x128.size Gen.inb_S128x8960_S128x128_0_7936).toLoadRect f3)⟩,
      ⟨Rect.unit (s := S128x8960) ![0, 7808] S128x128.size Gen.inb_S128x8960_S128x128_0_7808, Gen.k0_pay96 (v4.readAt (Elt F) (Rect.unit (s := S128x70) ![0, 0] S128x70.size Gen.inb_S128x70_S128x70_0_0).toLoadRect f4) (v3.readAt (Elt F) (Rect.unit (s := S128x8960) ![0, 7808] S128x128.size Gen.inb_S128x8960_S128x128_0_7808).toLoadRect f3)⟩,
      ⟨Rect.unit (s := S128x8960) ![0, 7680] S128x128.size Gen.inb_S128x8960_S128x128_0_7680, Gen.k0_pay95 (v4.readAt (Elt F) (Rect.unit (s := S128x70) ![0, 0] S128x70.size Gen.inb_S128x70_S128x70_0_0).toLoadRect f4) (v3.readAt (Elt F) (Rect.unit (s := S128x8960) ![0, 7680] S128x128.size Gen.inb_S128x8960_S128x128_0_7680).toLoadRect f3)⟩,
      ⟨Rect.unit (s := S128x8960) ![0, 7552] S128x128.size Gen.inb_S128x8960_S128x128_0_7552, Gen.k0_pay94 (Gen.k0_pay93 (v4.readAt (Elt F) (Rect.unit (s := S128x70) ![0, 0] S128x70.size Gen.inb_S128x70_S128x70_0_0).toLoadRect f4) (v3.readAt (Elt F) (Rect.unit (s := S128x8960) ![0, 7552] S128x128.size Gen.inb_S128x8960_S128x128_0_7552).toLoadRect f3))⟩,
      ⟨Rect.unit (s := S128x8960) ![0, 7424] S128x128.size Gen.inb_S128x8960_S128x128_0_7424, Gen.k0_pay92 (v4.readAt (Elt F) (Rect.unit (s := S128x70) ![0, 0] S128x70.size Gen.inb_S128x70_S128x70_0_0).toLoadRect f4) (v3.readAt (Elt F) (Rect.unit (s := S128x8960) ![0, 7424] S128x128.size Gen.inb_S128x8960_S128x128_0_7424).toLoadRect f3)⟩,
      ⟨Rect.unit (s := S128x8960) ![0, 7296] S128x128.size Gen.inb_S128x8960_S128x128_0_7296, Gen.k0_pay91 (v4.readAt (Elt F) (Rect.unit (s := S128x70) ![0, 0] S128x70.size Gen.inb_S128x70_S128x70_0_0).toLoadRect f4) (v3.readAt (Elt F) (Rect.unit (s := S128x8960) ![0, 7296] S128x128.size Gen.inb_S128x8960_S128x128_0_7296).toLoadRect f3)⟩,
      ⟨Rect.unit (s := S128x8960) ![0, 7168] S128x128.size Gen.inb_S128x8960_S128x128_0_7168, Gen.k0_pay90 (v4.readAt (Elt F) (Rect.unit (s := S128x70) ![0, 0] S128x70.size Gen.inb_S128x70_S128x70_0_0).toLoadRect f4) (v3.readAt (Elt F) (Rect.unit (s := S128x8960) ![0, 7168] S128x128.size Gen.inb_S128x8960_S128x128_0_7168).toLoadRect f3)⟩,
      ⟨Rect.unit (s := S128x8960) ![0, 7040] S128x128.size Gen.inb_S128x8960_S128x128_0_7040, Gen.k0_pay89 (Gen.k0_pay87 (v3.readAt (Elt F) (Rect.unit (s := S128x8960) ![0, 7040] S128x128.size Gen.inb_S128x8960_S128x128_0_7040).toLoadRect f3)) (Gen.k0_pay88 (v4.readAt (Elt F) (Rect.unit (s := S128x70) ![0, 0] S128x70.size Gen.inb_S128x70_S128x70_0_0).toLoadRect f4))⟩,
      ⟨Rect.unit (s := S128x8960) ![0, 6912] S128x128.size Gen.inb_S128x8960_S128x128_0_6912, Gen.k0_pay86 (v4.readAt (Elt F) (Rect.unit (s := S128x70) ![0, 0] S128x70.size Gen.inb_S128x70_S128x70_0_0).toLoadRect f4) (v3.readAt (Elt F) (Rect.unit (s := S128x8960) ![0, 6912] S128x128.size Gen.inb_S128x8960_S128x128_0_6912).toLoadRect f3)⟩,
      ⟨Rect.unit (s := S128x8960) ![0, 6784] S128x128.size Gen.inb_S128x8960_S128x128_0_6784, Gen.k0_pay85 (v4.readAt (Elt F) (Rect.unit (s := S128x70) ![0, 0] S128x70.size Gen.inb_S128x70_S128x70_0_0).toLoadRect f4) (v3.readAt (Elt F) (Rect.unit (s := S128x8960) ![0, 6784] S128x128.size Gen.inb_S128x8960_S128x128_0_6784).toLoadRect f3)⟩,
      ⟨Rect.unit (s := S128x8960) ![0, 6656] S128x128.size Gen.inb_S128x8960_S128x128_0_6656, Gen.k0_pay84 (v4.readAt (Elt F) (Rect.unit (s := S128x70) ![0, 0] S128x70.size Gen.inb_S128x70_S128x70_0_0).toLoadRect f4) (v3.readAt (Elt F) (Rect.unit (s := S128x8960) ![0, 6656] S128x128.size Gen.inb_S128x8960_S128x128_0_6656).toLoadRect f3)⟩,
      ⟨Rect.unit (s := S128x8960) ![0, 6528] S128x128.size Gen.inb_S128x8960_S128x128_0_6528, Gen.k0_pay83 (v4.readAt (Elt F) (Rect.unit (s := S128x70) ![0, 0] S128x70.size Gen.inb_S128x70_S128x70_0_0).toLoadRect f4) (v3.readAt (Elt F) (Rect.unit (s := S128x8960) ![0, 6528] S128x128.size Gen.inb_S128x8960_S128x128_0_6528).toLoadRect f3)⟩,
      ⟨Rect.unit (s := S128x8960) ![0, 6400] S128x128.size Gen.inb_S128x8960_S128x128_0_6400, Gen.k0_pay82 (v4.readAt (Elt F) (Rect.unit (s := S128x70) ![0, 0] S128x70.size Gen.inb_S128x70_S128x70_0_0).toLoadRect f4) (v3.readAt (Elt F) (Rect.unit (s := S128x8960) ![0, 6400] S128x128.size Gen.inb_S128x8960_S128x128_0_6400).toLoadRect f3)⟩,
      ⟨Rect.unit (s := S128x8960) ![0, 6272] S128x128.size Gen.inb_S128x8960_S128x128_0_6272, Gen.k0_pay81 (v4.readAt (Elt F) (Rect.unit (s := S128x70) ![0, 0] S128x70.size Gen.inb_S128x70_S128x70_0_0).toLoadRect f4) (v3.readAt (Elt F) (Rect.unit (s := S128x8960) ![0, 6272] S128x128.size Gen.inb_S128x8960_S128x128_0_6272).toLoadRect f3)⟩,
      ⟨Rect.unit (s := S128x8960) ![0, 6144] S128x128.size Gen.inb_S128x8960_S128x128_0_6144, Gen.k0_pay80 (v4.readAt (Elt F) (Rect.unit (s := S128x70) ![0, 0] S128x70.size Gen.inb_S128x70_S128x70_0_0).toLoadRect f4) (v3.readAt (Elt F) (Rect.unit (s := S128x8960) ![0, 6144] S128x128.size Gen.inb_S128x8960_S128x128_0_6144).toLoadRect f3)⟩,
      ⟨Rect.unit (s := S128x8960) ![0, 6016] S128x128.size Gen.inb_S128x8960_S128x128_0_6016, Gen.k0_pay79 (v4.readAt (Elt F) (Rect.unit (s := S128x70) ![0, 0] S128x70.size Gen.inb_S128x70_S128x70_0_0).toLoadRect f4) (v3.readAt (Elt F) (Rect.unit (s := S128x8960) ![0, 6016] S128x128.size Gen.inb_S128x8960_S128x128_0_6016).toLoadRect f3)⟩,
      ⟨Rect.unit (s := S128x8960) ![0, 5888] S128x128.size Gen.inb_S128x8960_S128x128_0_5888, Gen.k0_pay78 (v4.readAt (Elt F) (Rect.unit (s := S128x70) ![0, 0] S128x70.size Gen.inb_S128x70_S128x70_0_0).toLoadRect f4) (v3.readAt (Elt F) (Rect.unit (s := S128x8960) ![0, 5888] S128x128.size Gen.inb_S128x8960_S128x128_0_5888).toLoadRect f3)⟩,
      ⟨Rect.unit (s := S128x8960) ![0, 5760] S128x128.size Gen.inb_S128x8960_S128x128_0_5760, Gen.k0_pay77 (v4.readAt (Elt F) (Rect.unit (s := S128x70) ![0, 0] S128x70.size Gen.inb_S128x70_S128x70_0_0).toLoadRect f4) (v3.readAt (Elt F) (Rect.unit (s := S128x8960) ![0, 5760] S128x128.size Gen.inb_S128x8960_S128x128_0_5760).toLoadRect f3)⟩,
      ⟨Rect.unit (s := S128x8960) ![0, 5632] S128x128.size Gen.inb_S128x8960_S128x128_0_5632, Gen.k0_pay76 (v4.readAt (Elt F) (Rect.unit (s := S128x70) ![0, 0] S128x70.size Gen.inb_S128x70_S128x70_0_0).toLoadRect f4) (v3.readAt (Elt F) (Rect.unit (s := S128x8960) ![0, 5632] S128x128.size Gen.inb_S128x8960_S128x128_0_5632).toLoadRect f3)⟩,
      ⟨Rect.unit (s := S128x8960) ![0, 5504] S128x128.size Gen.inb_S128x8960_S128x128_0_5504, Gen.k0_pay75 (v4.readAt (Elt F) (Rect.unit (s := S128x70) ![0, 0] S128x70.size Gen.inb_S128x70_S128x70_0_0).toLoadRect f4) (v3.readAt (Elt F) (Rect.unit (s := S128x8960) ![0, 5504] S128x128.size Gen.inb_S128x8960_S128x128_0_5504).toLoadRect f3)⟩,
      ⟨Rect.unit (s := S128x8960) ![0, 5376] S128x128.size Gen.inb_S128x8960_S128x128_0_5376, Gen.k0_pay74 (Gen.k0_pay73 (v4.readAt (Elt F) (Rect.unit (s := S128x70) ![0, 0] S128x70.size Gen.inb_S128x70_S128x70_0_0).toLoadRect f4) (v3.readAt (Elt F) (Rect.unit (s := S128x8960) ![0, 5376] S128x128.size Gen.inb_S128x8960_S128x128_0_5376).toLoadRect f3))⟩,
      ⟨Rect.unit (s := S128x8960) ![0, 5248] S128x128.size Gen.inb_S128x8960_S128x128_0_5248, Gen.k0_pay72 (v4.readAt (Elt F) (Rect.unit (s := S128x70) ![0, 0] S128x70.size Gen.inb_S128x70_S128x70_0_0).toLoadRect f4) (v3.readAt (Elt F) (Rect.unit (s := S128x8960) ![0, 5248] S128x128.size Gen.inb_S128x8960_S128x128_0_5248).toLoadRect f3)⟩,
      ⟨Rect.unit (s := S128x8960) ![0, 5120] S128x128.size Gen.inb_S128x8960_S128x128_0_5120, Gen.k0_pay71 (v4.readAt (Elt F) (Rect.unit (s := S128x70) ![0, 0] S128x70.size Gen.inb_S128x70_S128x70_0_0).toLoadRect f4) (v3.readAt (Elt F) (Rect.unit (s := S128x8960) ![0, 5120] S128x128.size Gen.inb_S128x8960_S128x128_0_5120).toLoadRect f3)⟩,
      ⟨Rect.unit (s := S128x8960) ![0, 4992] S128x128.size Gen.inb_S128x8960_S128x128_0_4992, Gen.k0_pay70 (v4.readAt (Elt F) (Rect.unit (s := S128x70) ![0, 0] S128x70.size Gen.inb_S128x70_S128x70_0_0).toLoadRect f4) (v3.readAt (Elt F) (Rect.unit (s := S128x8960) ![0, 4992] S128x128.size Gen.inb_S128x8960_S128x128_0_4992).toLoadRect f3)⟩,
      ⟨Rect.unit (s := S128x8960) ![0, 4864] S128x128.size Gen.inb_S128x8960_S128x128_0_4864, Gen.k0_pay69 (Gen.k0_pay67 (v3.readAt (Elt F) (Rect.unit (s := S128x8960) ![0, 4864] S128x128.size Gen.inb_S128x8960_S128x128_0_4864).toLoadRect f3)) (Gen.k0_pay68 (v4.readAt (Elt F) (Rect.unit (s := S128x70) ![0, 0] S128x70.size Gen.inb_S128x70_S128x70_0_0).toLoadRect f4))⟩,
      ⟨Rect.unit (s := S128x8960) ![0, 4736] S128x128.size Gen.inb_S128x8960_S128x128_0_4736, Gen.k0_pay66 (v4.readAt (Elt F) (Rect.unit (s := S128x70) ![0, 0] S128x70.size Gen.inb_S128x70_S128x70_0_0).toLoadRect f4) (v3.readAt (Elt F) (Rect.unit (s := S128x8960) ![0, 4736] S128x128.size Gen.inb_S128x8960_S128x128_0_4736).toLoadRect f3)⟩,
      ⟨Rect.unit (s := S128x8960) ![0, 4608] S128x128.size Gen.inb_S128x8960_S128x128_0_4608, Gen.k0_pay65 (v4.readAt (Elt F) (Rect.unit (s := S128x70) ![0, 0] S128x70.size Gen.inb_S128x70_S128x70_0_0).toLoadRect f4) (v3.readAt (Elt F) (Rect.unit (s := S128x8960) ![0, 4608] S128x128.size Gen.inb_S128x8960_S128x128_0_4608).toLoadRect f3)⟩,
      ⟨Rect.unit (s := S128x8960) ![0, 4480] S128x128.size Gen.inb_S128x8960_S128x128_0_4480, Gen.k0_pay64 (v4.readAt (Elt F) (Rect.unit (s := S128x70) ![0, 0] S128x70.size Gen.inb_S128x70_S128x70_0_0).toLoadRect f4) (v3.readAt (Elt F) (Rect.unit (s := S128x8960) ![0, 4480] S128x128.size Gen.inb_S128x8960_S128x128_0_4480).toLoadRect f3)⟩,
      ⟨Rect.unit (s := S128x8960) ![0, 4352] S128x128.size Gen.inb_S128x8960_S128x128_0_4352, Gen.k0_pay63 (v4.readAt (Elt F) (Rect.unit (s := S128x70) ![0, 0] S128x70.size Gen.inb_S128x70_S128x70_0_0).toLoadRect f4) (v3.readAt (Elt F) (Rect.unit (s := S128x8960) ![0, 4352] S128x128.size Gen.inb_S128x8960_S128x128_0_4352).toLoadRect f3)⟩,
      ⟨Rect.unit (s := S128x8960) ![0, 4224] S128x128.size Gen.inb_S128x8960_S128x128_0_4224, Gen.k0_pay62 (v4.readAt (Elt F) (Rect.unit (s := S128x70) ![0, 0] S128x70.size Gen.inb_S128x70_S128x70_0_0).toLoadRect f4) (v3.readAt (Elt F) (Rect.unit (s := S128x8960) ![0, 4224] S128x128.size Gen.inb_S128x8960_S128x128_0_4224).toLoadRect f3)⟩,
      ⟨Rect.unit (s := S128x8960) ![0, 4096] S128x128.size Gen.inb_S128x8960_S128x128_0_4096, Gen.k0_pay61 (v4.readAt (Elt F) (Rect.unit (s := S128x70) ![0, 0] S128x70.size Gen.inb_S128x70_S128x70_0_0).toLoadRect f4) (v3.readAt (Elt F) (Rect.unit (s := S128x8960) ![0, 4096] S128x128.size Gen.inb_S128x8960_S128x128_0_4096).toLoadRect f3)⟩,
      ⟨Rect.unit (s := S128x8960) ![0, 3968] S128x128.size Gen.inb_S128x8960_S128x128_0_3968, Gen.k0_pay60 (v4.readAt (Elt F) (Rect.unit (s := S128x70) ![0, 0] S128x70.size Gen.inb_S128x70_S128x70_0_0).toLoadRect f4) (v3.readAt (Elt F) (Rect.unit (s := S128x8960) ![0, 3968] S128x128.size Gen.inb_S128x8960_S128x128_0_3968).toLoadRect f3)⟩,
      ⟨Rect.unit (s := S128x8960) ![0, 3840] S128x128.size Gen.inb_S128x8960_S128x128_0_3840, Gen.k0_pay59 (v4.readAt (Elt F) (Rect.unit (s := S128x70) ![0, 0] S128x70.size Gen.inb_S128x70_S128x70_0_0).toLoadRect f4) (v3.readAt (Elt F) (Rect.unit (s := S128x8960) ![0, 3840] S128x128.size Gen.inb_S128x8960_S128x128_0_3840).toLoadRect f3)⟩,
      ⟨Rect.unit (s := S128x8960) ![0, 3712] S128x128.size Gen.inb_S128x8960_S128x128_0_3712, Gen.k0_pay58 (Gen.k0_pay57 (v4.readAt (Elt F) (Rect.unit (s := S128x70) ![0, 0] S128x70.size Gen.inb_S128x70_S128x70_0_0).toLoadRect f4) (v3.readAt (Elt F) (Rect.unit (s := S128x8960) ![0, 3712] S128x128.size Gen.inb_S128x8960_S128x128_0_3712).toLoadRect f3))⟩,
      ⟨Rect.unit (s := S128x8960) ![0, 3584] S128x128.size Gen.inb_S128x8960_S128x128_0_3584, Gen.k0_pay56 (v4.readAt (Elt F) (Rect.unit (s := S128x70) ![0, 0] S128x70.size Gen.inb_S128x70_S128x70_0_0).toLoadRect f4) (v3.readAt (Elt F) (Rect.unit (s := S128x8960) ![0, 3584] S128x128.size Gen.inb_S128x8960_S128x128_0_3584).toLoadRect f3)⟩,
      ⟨Rect.unit (s := S128x8960) ![0, 3456] S128x128.size Gen.inb_S128x8960_S128x128_0_3456, Gen.k0_pay55 (v4.readAt (Elt F) (Rect.unit (s := S128x70) ![0, 0] S128x70.size Gen.inb_S128x70_S128x70_0_0).toLoadRect f4) (v3.readAt (Elt F) (Rect.unit (s := S128x8960) ![0, 3456] S128x128.size Gen.inb_S128x8960_S128x128_0_3456).toLoadRect f3)⟩,
      ⟨Rect.unit (s := S128x8960) ![0, 3328] S128x128.size Gen.inb_S128x8960_S128x128_0_3328, Gen.k0_pay54 (v4.readAt (Elt F) (Rect.unit (s := S128x70) ![0, 0] S128x70.size Gen.inb_S128x70_S128x70_0_0).toLoadRect f4) (v3.readAt (Elt F) (Rect.unit (s := S128x8960) ![0, 3328] S128x128.size Gen.inb_S128x8960_S128x128_0_3328).toLoadRect f3)⟩,
      ⟨Rect.unit (s := S128x8960) ![0, 3200] S128x128.size Gen.inb_S128x8960_S128x128_0_3200, Gen.k0_pay53 (Gen.k0_pay51 (v3.readAt (Elt F) (Rect.unit (s := S128x8960) ![0, 3200] S128x128.size Gen.inb_S128x8960_S128x128_0_3200).toLoadRect f3)) (Gen.k0_pay52 (v4.readAt (Elt F) (Rect.unit (s := S128x70) ![0, 0] S128x70.size Gen.inb_S128x70_S128x70_0_0).toLoadRect f4))⟩,
      ⟨Rect.unit (s := S128x8960) ![0, 3072] S128x128.size Gen.inb_S128x8960_S128x128_0_3072, Gen.k0_pay50 (v4.readAt (Elt F) (Rect.unit (s := S128x70) ![0, 0] S128x70.size Gen.inb_S128x70_S128x70_0_0).toLoadRect f4) (v3.readAt (Elt F) (Rect.unit (s := S128x8960) ![0, 3072] S128x128.size Gen.inb_S128x8960_S128x128_0_3072).toLoadRect f3)⟩,
      ⟨Rect.unit (s := S128x8960) ![0, 2944] S128x128.size Gen.inb_S128x8960_S128x128_0_2944, Gen.k0_pay49 (v4.readAt (Elt F) (Rect.unit (s := S128x70) ![0, 0] S128x70.size Gen.inb_S128x70_S128x70_0_0).toLoadRect f4) (v3.readAt (Elt F) (Rect.unit (s := S128x8960) ![0, 2944] S128x128.size Gen.inb_S128x8960_S128x128_0_2944).toLoadRect f3)⟩,
      ⟨Rect.unit (s := S128x8960) ![0, 2816] S128x128.size Gen.inb_S128x8960_S128x128_0_2816, Gen.k0_pay48 (v4.readAt (Elt F) (Rect.unit (s := S128x70) ![0, 0] S128x70.size Gen.inb_S128x70_S128x70_0_0).toLoadRect f4) (v3.readAt (Elt F) (Rect.unit (s := S128x8960) ![0, 2816] S128x128.size Gen.inb_S128x8960_S128x128_0_2816).toLoadRect f3)⟩,
      ⟨Rect.unit (s := S128x8960) ![0, 2688] S128x128.size Gen.inb_S128x8960_S128x128_0_2688, Gen.k0_pay47 (v4.readAt (Elt F) (Rect.unit (s := S128x70) ![0, 0] S128x70.size Gen.inb_S128x70_S128x70_0_0).toLoadRect f4) (v3.readAt (Elt F) (Rect.unit (s := S128x8960) ![0, 2688] S128x128.size Gen.inb_S128x8960_S128x128_0_2688).toLoadRect f3)⟩,
      ⟨Rect.unit (s := S128x8960) ![0, 2560] S128x128.size Gen.inb_S128x8960_S128x128_0_2560, Gen.k0_pay46 (v4.readAt (Elt F) (Rect.unit (s := S128x70) ![0, 0] S128x70.size Gen.inb_S128x70_S128x70_0_0).toLoadRect f4) (v3.readAt (Elt F) (Rect.unit (s := S128x8960) ![0, 2560] S128x128.size Gen.inb_S128x8960_S128x128_0_2560).toLoadRect f3)⟩,
      ⟨Rect.unit (s := S128x8960) ![0, 2432] S128x128.size Gen.inb_S128x8960_S128x128_0_2432, Gen.k0_pay45 (v4.readAt (Elt F) (Rect.unit (s := S128x70) ![0, 0] S128x70.size Gen.inb_S128x70_S128x70_0_0).toLoadRect f4) (v3.readAt (Elt F) (Rect.unit (s := S128x8960) ![0, 2432] S128x128.size Gen.inb_S128x8960_S128x128_0_2432).toLoadRect f3)⟩,
      ⟨Rect.unit (s := S128x8960) ![0, 2304] S128x128.size Gen.inb_S128x8960_S128x128_0_2304, Gen.k0_pay44 (v4.readAt (Elt F) (Rect.unit (s := S128x70) ![0, 0] S128x70.size Gen.inb_S128x70_S128x70_0_0).toLoadRect f4) (v3.readAt (Elt F) (Rect.unit (s := S128x8960) ![0, 2304] S128x128.size Gen.inb_S128x8960_S128x128_0_2304).toLoadRect f3)⟩,
      ⟨Rect.unit (s := S128x8960) ![0, 2176] S128x128.size Gen.inb_S128x8960_S128x128_0_2176, Gen.k0_pay43 (v4.readAt (Elt F) (Rect.unit (s := S128x70) ![0, 0] S128x70.size Gen.inb_S128x70_S128x70_0_0).toLoadRect f4) (v3.readAt (Elt F) (Rect.unit (s := S128x8960) ![0, 2176] S128x128.size Gen.inb_S128x8960_S128x128_0_2176).toLoadRect f3)⟩,
      ⟨Rect.unit (s := S128x8960) ![0, 2048] S128x128.size Gen.inb_S128x8960_S128x128_0_2048, Gen.k0_pay42 (v4.readAt (Elt F) (Rect.unit (s := S128x70) ![0, 0] S128x70.size Gen.inb_S128x70_S128x70_0_0).toLoadRect f4) (v3.readAt (Elt F) (Rect.unit (s := S128x8960) ![0, 2048] S128x128.size Gen.inb_S128x8960_S128x128_0_2048).toLoadRect f3)⟩,
      ⟨Rect.unit (s := S128x8960) ![0, 1920] S128x128.size Gen.inb_S128x8960_S128x128_0_1920, Gen.k0_pay41 (v4.readAt (Elt F) (Rect.unit (s := S128x70) ![0, 0] S128x70.size Gen.inb_S128x70_S128x70_0_0).toLoadRect f4) (v3.readAt (Elt F) (Rect.unit (s := S128x8960) ![0, 1920] S128x128.size Gen.inb_S128x8960_S128x128_0_1920).toLoadRect f3)⟩,
      ⟨Rect.unit (s := S128x8960) ![0, 1792] S128x128.size Gen.inb_S128x8960_S128x128_0_1792, Gen.k0_pay40 (v4.readAt (Elt F) (Rect.unit (s := S128x70) ![0, 0] S128x70.size Gen.inb_S128x70_S128x70_0_0).toLoadRect f4) (v3.readAt (Elt F) (Rect.unit (s := S128x8960) ![0, 1792] S128x128.size Gen.inb_S128x8960_S128x128_0_1792).toLoadRect f3)⟩,
      ⟨Rect.unit (s := S128x8960) ![0, 1664] S128x128.size Gen.inb_S128x8960_S128x128_0_1664, Gen.k0_pay39 (v4.readAt (Elt F) (Rect.unit (s := S128x70) ![0, 0] S128x70.size Gen.inb_S128x70_S128x70_0_0).toLoadRect f4) (v3.readAt (Elt F) (Rect.unit (s := S128x8960) ![0, 1664] S128x128.size Gen.inb_S128x8960_S128x128_0_1664).toLoadRect f3)⟩,
      ⟨Rect.unit (s := S128x8960) ![0, 1536] S128x128.size Gen.inb_S128x8960_S128x128_0_1536, Gen.k0_pay38 (Gen.k0_pay37 (v4.readAt (Elt F) (Rect.unit (s := S128x70) ![0, 0] S128x70.size Gen.inb_S128x70_S128x70_0_0).toLoadRect f4) (v3.readAt (Elt F) (Rect.unit (s := S128x8960) ![0, 1536] S128x128.size Gen.inb_S128x8960_S128x128_0_1536).toLoadRect f3))⟩,
      ⟨Rect.unit (s := S128x8960) ![0, 1408] S128x128.size Gen.inb_S128x8960_S128x128_0_1408, Gen.k0_pay36 (v4.readAt (Elt F) (Rect.unit (s := S128x70) ![0, 0] S128x70.size Gen.inb_S128x70_S128x70_0_0).toLoadRect f4) (v3.readAt (Elt F) (Rect.unit (s := S128x8960) ![0, 1408] S128x128.size Gen.inb_S128x8960_S128x128_0_1408).toLoadRect f3)⟩,
      ⟨Rect.unit (s := S128x8960) ![0, 1280] S128x128.size Gen.inb_S128x8960_S128x128_0_1280, Gen.k0_pay35 (v4.readAt (Elt F) (Rect.unit (s := S128x70) ![0, 0] S128x70.size Gen.inb_S128x70_S128x70_0_0).toLoadRect f4) (v3.readAt (Elt F) (Rect.unit (s := S128x8960) ![0, 1280] S128x128.size Gen.inb_S128x8960_S128x128_0_1280).toLoadRect f3)⟩,
      ⟨Rect.unit (s := S128x8960) ![0, 1152] S128x128.size Gen.inb_S128x8960_S128x128_0_1152, Gen.k0_pay34 (v4.readAt (Elt F) (Rect.unit (s := S128x70) ![0, 0] S128x70.size Gen.inb_S128x70_S128x70_0_0).toLoadRect f4) (v3.readAt (Elt F) (Rect.unit (s := S128x8960) ![0, 1152] S128x128.size Gen.inb_S128x8960_S128x128_0_1152).toLoadRect f3)⟩,
      ⟨Rect.unit (s := S128x8960) ![0, 1024] S128x128.size Gen.inb_S128x8960_S128x128_0_1024, Gen.k0_pay33 (Gen.k0_pay31 (v3.readAt (Elt F) (Rect.unit (s := S128x8960) ![0, 1024] S128x128.size Gen.inb_S128x8960_S128x128_0_1024).toLoadRect f3)) (Gen.k0_pay32 (v4.readAt (Elt F) (Rect.unit (s := S128x70) ![0, 0] S128x70.size Gen.inb_S128x70_S128x70_0_0).toLoadRect f4))⟩,
      ⟨Rect.unit (s := S128x8960) ![0, 896] S128x128.size Gen.inb_S128x8960_S128x128_0_896, Gen.k0_pay30 (v4.readAt (Elt F) (Rect.unit (s := S128x70) ![0, 0] S128x70.size Gen.inb_S128x70_S128x70_0_0).toLoadRect f4) (v3.readAt (Elt F) (Rect.unit (s := S128x8960) ![0, 896] S128x128.size Gen.inb_S128x8960_S128x128_0_896).toLoadRect f3)⟩,
      ⟨Rect.unit (s := S128x8960) ![0, 768] S128x128.size Gen.inb_S128x8960_S128x128_0_768, Gen.k0_pay29 (v4.readAt (Elt F) (Rect.unit (s := S128x70) ![0, 0] S128x70.size Gen.inb_S128x70_S128x70_0_0).toLoadRect f4) (v3.readAt (Elt F) (Rect.unit (s := S128x8960) ![0, 768] S128x128.size Gen.inb_S128x8960_S128x128_0_768).toLoadRect f3)⟩,
      ⟨Rect.unit (s := S128x8960) ![0, 640] S128x128.size Gen.inb_S128x8960_S128x128_0_640, Gen.k0_pay28 (v4.readAt (Elt F) (Rect.unit (s := S128x70) ![0, 0] S128x70.size Gen.inb_S128x70_S128x70_0_0).toLoadRect f4) (v3.readAt (Elt F) (Rect.unit (s := S128x8960) ![0, 640] S128x128.size Gen.inb_S128x8960_S128x128_0_640).toLoadRect f3)⟩,
      ⟨Rect.unit (s := S128x8960) ![0, 512] S128x128.size Gen.inb_S128x8960_S128x128_0_512, Gen.k0_pay27 (v4.readAt (Elt F) (Rect.unit (s := S128x70) ![0, 0] S128x70.size Gen.inb_S128x70_S128x70_0_0).toLoadRect f4) (v3.readAt (Elt F) (Rect.unit (s := S128x8960) ![0, 512] S128x128.size Gen.inb_S128x8960_S128x128_0_512).toLoadRect f3)⟩,
      ⟨Rect.unit (s := S128x8960) ![0, 384] S128x128.size Gen.inb_S128x8960_S128x128_0_384, Gen.k0_pay26 (v4.readAt (Elt F) (Rect.unit (s := S128x70) ![0, 0] S128x70.size Gen.inb_S128x70_S128x70_0_0).toLoadRect f4) (v3.readAt (Elt F) (Rect.unit (s := S128x8960) ![0, 384] S128x128.size Gen.inb_S128x8960_S128x128_0_384).toLoadRect f3)⟩,
      ⟨Rect.unit (s := S128x8960) ![0, 256] S128x128.size Gen.inb_S128x8960_S128x128_0_256, Gen.k0_pay25 (v4.readAt (Elt F) (Rect.unit (s := S128x70) ![0, 0] S128x70.size Gen.inb_S128x70_S128x70_0_0).toLoadRect f4) (v3.readAt (Elt F) (Rect.unit (s := S128x8960) ![0, 256] S128x128.size Gen.inb_S128x8960_S128x128_0_256).toLoadRect f3)⟩,
      ⟨Rect.unit (s := S128x8960) ![0, 128] S128x128.size Gen.inb_S128x8960_S128x128_0_128, Gen.k0_pay24 (v4.readAt (Elt F) (Rect.unit (s := S128x70) ![0, 0] S128x70.size Gen.inb_S128x70_S128x70_0_0).toLoadRect f4) (v3.readAt (Elt F) (Rect.unit (s := S128x8960) ![0, 128] S128x128.size Gen.inb_S128x8960_S128x128_0_128).toLoadRect f3)⟩,
      ⟨Rect.unit (s := S128x8960) ![0, 0] S128x128.size Gen.inb_S128x8960_S128x128_0_0, Gen.k0_pay23 (v4.readAt (Elt F) (Rect.unit (s := S128x70) ![0, 0] S128x70.size Gen.inb_S128x70_S128x70_0_0).toLoadRect f4) (v3.readAt (Elt F) (Rect.unit (s := S128x8960) ![0, 0] S128x128.size Gen.inb_S128x8960_S128x128_0_0).toLoadRect f3)⟩] (Rect.unit (s := S128x8960) ![0, 0] S128x8960.size Gen.inb_S128x8960_S128x8960_0_0).toLoadRect
      = HB (v3.read (Elt F) f3) (v4.read (Elt F) f4) := by
  rw [show v4.readAt (Elt F) (Rect.unit (s := S128x70) ![0, 0] S128x70.size Gen.inb_S128x70_S128x70_0_0).toLoadRect f4 = v4.read (Elt F) f4 from readAt_zero _ _ _]
  unfold View.readCov
  rw [readAt_zero]
  funext y
  refine View.read_writes_apply_of_pieces _ _ (HB (v3.read (Elt F) f3) (v4.read (Elt F) f4)) _ ?_ y
    (View.cover_of_tiledL _ ![128, 128] (by sl_kernel_rfl) y)
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩
  · exact hb_piece _ _ 69 (by decide) 8832 rfl _ _ (fun x => by (try dsimp only); unfold Gen.k0_pay106; (try dsimp only); rw [shapeCast_id]; exact hbpay _ _ 69 _ _ _ _ _ x)
  · exact hb_piece _ _ 68 (by decide) 8704 rfl _ _ (fun x => by (try dsimp only); unfold Gen.k0_pay105 Gen.k0_pay104 Gen.k0_pay103; (try dsimp only); rw [shapeCast_id]; exact hbpay _ _ 68 _ _ _ _ _ x)
  · exact hb_piece _ _ 67 (by decide) 8576 rfl _ _ (fun x => by (try dsimp only); unfold Gen.k0_pay102; (try dsimp only); rw [shapeCast_id]; exact hbpay _ _ 67 _ _ _ _ _ x)
  · exact hb_piece _ _ 66 (by decide) 8448 rfl _ _ (fun x => by (try dsimp only); unfold Gen.k0_pay101; (try dsimp only); rw [shapeCast_id]; exact hbpay _ _ 66 _ _ _ _ _ x)
  · exact hb_piece _ _ 65 (by decide) 8320 rfl _ _ (fun x => by (try dsimp only); unfold Gen.k0_pay100; (try dsimp only); rw [shapeCast_id]; exact hbpay _ _ 65 _ _ _ _ _ x)
  · exact hb_piece _ _ 64 (by decide) 8192 rfl _ _ (fun x => by (try dsimp only); unfold Gen.k0_pay99; (try dsimp only); rw [shapeCast_id]; exact hbpay _ _ 64 _ _ _ _ _ x)
  · exact hb_piece _ _ 63 (by decide) 8064 rfl _ _ (fun x => by (try dsimp only); unfold Gen.k0_pay98; (try dsimp only); rw [shapeCast_id]; exact hbpay _ _ 63 _ _ _ _ _ x)
  · exact hb_piece _ _ 62 (by decide) 7936 rfl _ _ (fun x => by (try dsimp only); unfold Gen.k0_pay97; (try dsimp only); rw [shapeCast_id]; exact hbpay _ _ 62 _ _ _ _ _ x)
  · exact hb_piece _ _ 61 (by decide) 7808 rfl _ _ (fun x => by (try dsimp only); unfold Gen.k0_pay96; (try dsimp only); rw [shapeCast_id]; exact hbpay _ _ 61 _ _ _ _ _ x)
  · exact hb_piece _ _ 60 (by decide) 7680 rfl _ _ (fun x => by (try dsimp only); unfold Gen.k0_pay95; (try dsimp only); rw [shapeCast_id]; exact hbpay _ _ 60 _ _ _ _ _ x)
  · exact hb_piece _ _ 59 (by decide) 7552 rfl _ _ (fun x => by (try dsimp only); unfold Gen.k0_pay94 Gen.k0_pay93; (try dsimp only); rw [shapeCast_id]; exact hbpay _ _ 59 _ _ _ _ _ x)
  · exact hb_piece _ _ 58 (by decide) 7424 rfl _ _ (fun x => by (try dsimp only); unfold Gen.k0_pay92; (try dsimp only); rw [shapeCast_id]; exact hbpay _ _ 58 _ _ _ _ _ x)
  · exact hb_piece _ _ 57 (by decide) 7296 rfl _ _ (fun x => by (try dsimp only); unfold Gen.k0_pay91; (try dsimp only); rw [shapeCast_id]; exact hbpay _ _ 57 _ _ _ _ _ x)
  · exact hb_piece _ _ 56 (by decide) 7168 rfl _ _ (fun x => by (try dsimp only); unfold Gen.k0_pay90; (try dsimp only); rw [shapeCast_id]; exact hbpay _ _ 56 _ _ _ _ _ x)
  · exact hb_piece _ _ 55 (by decide) 7040 rfl _ _ (fun x => by (try dsimp only); unfold Gen.k0_pay89 Gen.k0_pay88 Gen.k0_pay87; (try dsimp only); rw [shapeCast_id]; exact hbpay _ _ 55 _ _ _ _ _ x)
  · exact hb_piece _ _ 54 (by decide) 6912 rfl _ _ (fun x => by (try dsimp only); unfold Gen.k0_pay86; (try dsimp only); rw [shapeCast_id]; exact hbpay _ _ 54 _ _ _ _ _ x)
  · exact hb_piece _ _ 53 (by decide) 6784 rfl _ _ (fun x => by (try dsimp only); unfold Gen.k0_pay85; (try dsimp only); rw [shapeCast_id]; exact hbpay _ _ 53 _ _ _ _ _ x)
  · exact hb_piece _ _ 52 (by decide) 6656 rfl _ _ (fun x => by (try dsimp only); unfold Gen.k0_pay84; (try dsimp only); rw [shapeCast_id]; exact hbpay _ _ 52 _ _ _ _ _ x)
  · exact hb_piece _ _ 51 (by decide) 6528 rfl _ _ (fun x => by (try dsimp only); unfold Gen.k0_pay83; (try dsimp only); rw [shapeCast_id]; exact hbpay _ _ 51 _ _ _ _ _ x)
  · exact hb_piece _ _ 50 (by decide) 6400 rfl _ _ (fun x => by (try dsimp only); unfold Gen.k0_pay82; (try dsimp only); rw [shapeCast_id]; exact hbpay _ _ 50 _ _ _ _ _ x)
  · exact hb_piece _ _ 49 (by decide) 6272 rfl _ _ (fun x => by (try dsimp only); unfold Gen.k0_pay81; (try dsimp only); rw [shapeCast_id]; exact hbpay _ _ 49 _ _ _ _ _ x)
  · exact hb_piece _ _ 48 (by decide) 6144 rfl _ _ (fun x => by (try dsimp only); unfold Gen.k0_pay80; (try dsimp only); rw [shapeCast_id]; exact hbpay _ _ 48 _ _ _ _ _ x)
  · exact hb_piece _ _ 47 (by decide) 6016 rfl _ _ (fun x => by (try dsimp only); unfold Gen.k0_pay79; (try dsimp only); rw [shapeCast_id]; exact hbpay _ _ 47 _ _ _ _ _ x)
  · exact hb_piece _ _ 46 (by decide) 5888 rfl _ _ (fun x => by (try dsimp only); unfold Gen.k0_pay78; (try dsimp only); rw [shapeCast_id]; exact hbpay _ _ 46 _ _ _ _ _ x)
  · exact hb_piece _ _ 45 (by decide) 5760 rfl _ _ (fun x => by (try dsimp only); unfold Gen.k0_pay77; (try dsimp only); rw [shapeCast_id]; exact hbpay _ _ 45 _ _ _ _ _ x)
  · exact hb_piece _ _ 44 (by decide) 5632 rfl _ _ (fun x => by (try dsimp only); unfold Gen.k0_pay76; (try dsimp only); rw [shapeCast_id]; exact hbpay _ _ 44 _ _ _ _ _ x)
  · exact hb_piece _ _ 43 (by decide) 5504 rfl _ _ (fun x => by (try dsimp only); unfold Gen.k0_pay75; (try dsimp only); rw [shapeCast_id]; exact hbpay _ _ 43 _ _ _ _ _ x)
  · exact hb_piece _ _ 42 (by decide) 5376 rfl _ _ (fun x => by (try dsimp only); unfold Gen.k0_pay74 Gen.k0_pay73; (try dsimp only); rw [shapeCast_id]; exact hbpay _ _ 42 _ _ _ _ _ x)
  · exact hb_piece _ _ 41 (by decide) 5248 rfl _ _ (fun x => by (try dsimp only); unfold Gen.k0_pay72; (try dsimp only); rw [shapeCast_id]; exact hbpay _ _ 41 _ _ _ _ _ x)
  · exact hb_piece _ _ 40 (by decide) 5120 rfl _ _ (fun x => by (try dsimp only); unfold Gen.k0_pay71; (try dsimp only); rw [shapeCast_id]; exact hbpay _ _ 40 _ _ _ _ _ x)
  · exact hb_piece _ _ 39 (by decide) 4992 rfl _ _ (fun x => by (try dsimp only); unfold Gen.k0_pay70; (try dsimp only); rw [shapeCast_id]; exact hbpay _ _ 39 _ _ _ _ _ x)
  · exact hb_piece _ _ 38 (by decide) 4864 rfl _ _ (fun x => by (try dsimp only); unfold Gen.k0_pay69 Gen.k0_pay68 Gen.k0_pay67; (try dsimp only); rw [shapeCast_id]; exact hbpay _ _ 38 _ _ _ _ _ x)
  · exact hb_piece _ _ 37 (by decide) 4736 rfl _ _ (fun x => by (try dsimp only); unfold Gen.k0_pay66; (try dsimp only); rw [shapeCast_id]; exact hbpay _ _ 37 _ _ _ _ _ x)
  · exact hb_piece _ _ 36 (by decide) 4608 rfl _ _ (fun x => by (try dsimp only); unfold Gen.k0_pay65; (try dsimp only); rw [shapeCast_id]; exact hbpay _ _ 36 _ _ _ _ _ x)
  · exact hb_piece _ _ 35 (by decide) 4480 rfl _ _ (fun x => by (try dsimp only); unfold Gen.k0_pay64; (try dsimp only); rw [shapeCast_id]; exact hbpay _ _ 35 _ _ _ _ _ x)
  · exact hb_piece _ _ 34 (by decide) 4352 rfl _ _ (fun x => by (try dsimp only); unfold Gen.k0_pay63; (try dsimp only); rw [shapeCast_id]; exact hbpay _ _ 34 _ _ _ _ _ x)
  · exact hb_piece _ _ 33 (by decide) 4224 rfl _ _ (fun x => by (try dsimp only); unfold Gen.k0_pay62; (try dsimp only); rw [shapeCast_id]; exact hbpay _ _ 33 _ _ _ _ _ x)
  · exact hb_piece _ _ 32 (by decide) 4096 rfl _ _ (fun x => by (try dsimp only); unfold Gen.k0_pay61; (try dsimp only); rw [shapeCast_id]; exact hbpay _ _ 32 _ _ _ _ _ x)
  · exact hb_piece _ _ 31 (by decide) 3968 rfl _ _ (fun x => by (try dsimp only); unfold Gen.k0_pay60; (try dsimp only); rw [shapeCast_id]; exact hbpay _ _ 31 _ _ _ _ _ x)
  · exact hb_piece _ _ 30 (by decide) 3840 rfl _ _ (fun x => by (try dsimp only); unfold Gen.k0_pay59; (try dsimp only); rw [shapeCast_id]; exact hbpay _ _ 30 _ _ _ _ _ x)
  · exact hb_piece _ _ 29 (by decide) 3712 rfl _ _ (fun x => by (try dsimp only); unfold Gen.k0_pay58 Gen.k0_pay57; (try dsimp only); rw [shapeCast_id]; exact hbpay _ _ 29 _ _ _ _ _ x)
  · exact hb_piece _ _ 28 (by decide) 3584 rfl _ _ (fun x => by (try dsimp only); unfold Gen.k0_pay56; (try dsimp only); rw [shapeCast_id]; exact hbpay _ _ 28 _ _ _ _ _ x)
  · exact hb_piece _ _ 27 (by decide) 3456 rfl _ _ (fun x => by (try dsimp only); unfold Gen.k0_pay55; (try dsimp only); rw [shapeCast_id]; exact hbpay _ _ 27 _ _ _ _ _ x)
  · exact hb_piece _ _ 26 (by decide) 3328 rfl _ _ (fun x => by (try dsimp only); unfold Gen.k0_pay54; (try dsimp only); rw [shapeCast_id]; exact hbpay _ _ 26 _ _ _ _ _ x)
  · exact hb_piece _ _ 25 (by decide) 3200 rfl _ _ (fun x => by (try dsimp only); unfold Gen.k0_pay53 Gen.k0_pay52 Gen.k0_pay51; (try dsimp only); rw [shapeCast_id]; exact hbpay _ _ 25 _ _ _ _ _ x)
  · exact hb_piece _ _ 24 (by decide) 3072 rfl _ _ (fun x => by (try dsimp only); unfold Gen.k0_pay50; (try dsimp only); rw [shapeCast_id]; exact hbpay _ _ 24 _ _ _ _ _ x)
  · exact hb_piece _ _ 23 (by decide) 2944 rfl _ _ (fun x => by (try dsimp only); unfold Gen.k0_pay49; (try dsimp only); rw [shapeCast_id]; exact hbpay _ _ 23 _ _ _ _ _ x)
  · exact hb_piece _ _ 22 (by decide) 2816 rfl _ _ (fun x => by (try dsimp only); unfold Gen.k0_pay48; (try dsimp only); rw [shapeCast_id]; exact hbpay _ _ 22 _ _ _ _ _ x)
  · exact hb_piece _ _ 21 (by decide) 2688 rfl _ _ (fun x => by (try dsimp only); unfold Gen.k0_pay47; (try dsimp only); rw [shapeCast_id]; exact hbpay _ _ 21 _ _ _ _ _ x)
  · exact hb_piece _ _ 20 (by decide) 2560 rfl _ _ (fun x => by (try dsimp only); unfold Gen.k0_pay46; (try dsimp only); rw [shapeCast_id]; exact hbpay _ _ 20 _ _ _ _ _ x)
  · exact hb_piece _ _ 19 (by decide) 2432 rfl _ _ (fun x => by (try dsimp only); unfold Gen.k0_pay45; (try dsimp only); rw [shapeCast_id]; exact hbpay _ _ 19 _ _ _ _ _ x)
  · exact hb_piece _ _ 18 (by decide) 2304 rfl _ _ (fun x => by (try dsimp only); unfold Gen.k0_pay44; (try dsimp only); rw [shapeCast_id]; exact hbpay _ _ 18 _ _ _ _ _ x)
  · exact hb_piece _ _ 17 (by decide) 2176 rfl _ _ (fun x => by (try dsimp only); unfold Gen.k0_pay43; (try dsimp only); rw [shapeCast_id]; exact hbpay _ _ 17 _ _ _ _ _ x)
  · exact hb_piece _ _ 16 (by decide) 2048 rfl _ _ (fun x => by (try dsimp only); unfold Gen.k0_pay42; (try dsimp only); rw [shapeCast_id]; exact hbpay _ _ 16 _ _ _ _ _ x)
  · exact hb_piece _ _ 15 (by decide) 1920 rfl _ _ (fun x => by (try dsimp only); unfold Gen.k0_pay41; (try dsimp only); rw [shapeCast_id]; exact hbpay _ _ 15 _ _ _ _ _ x)
  · exact hb_piece _ _ 14 (by decide) 1792 rfl _ _ (fun x => by (try dsimp only); unfold Gen.k0_pay40; (try dsimp only); rw [shapeCast_id]; exact hbpay _ _ 14 _ _ _ _ _ x)
  · exact hb_piece _ _ 13 (by decide) 1664 rfl _ _ (fun x => by (try dsimp only); unfold Gen.k0_pay39; (try dsimp only); rw [shapeCast_id]; exact hbpay _ _ 13 _ _ _ _ _ x)
  · exact hb_piece _ _ 12 (by decide) 1536 rfl _ _ (fun x => by (try dsimp only); unfold Gen.k0_pay38 Gen.k0_pay37; (try dsimp only); rw [shapeCast_id]; exact hbpay _ _ 12 _ _ _ _ _ x)
  · exact hb_piece _ _ 11 (by decide) 1408 rfl _ _ (fun x => by (try dsimp only); unfold Gen.k0_pay36; (try dsimp only); rw [shapeCast_id]; exact hbpay _ _ 11 _ _ _ _ _ x)
  · exact hb_piece _ _ 10 (by decide) 1280 rfl _ _ (fun x => by (try dsimp only); unfold Gen.k0_pay35; (try dsimp only); rw [shapeCast_id]; exact hbpay _ _ 10 _ _ _ _ _ x)
  · exact hb_piece _ _ 9 (by decide) 1152 rfl _ _ (fun x => by (try dsimp only); unfold Gen.k0_pay34; (try dsimp only); rw [shapeCast_id]; exact hbpay _ _ 9 _ _ _ _ _ x)
  · exact hb_piece _ _ 8 (by decide) 1024 rfl _ _ (fun x => by (try dsimp only); unfold Gen.k0_pay33 Gen.k0_pay32 Gen.k0_pay31; (try dsimp only); rw [shapeCast_id]; exact hbpay _ _ 8 _ _ _ _ _ x)
  · exact hb_piece _ _ 7 (by decide) 896 rfl _ _ (fun x => by (try dsimp only); unfold Gen.k0_pay30; (try dsimp only); rw [shapeCast_id]; exact hbpay _ _ 7 _ _ _ _ _ x)
  · exact hb_piece _ _ 6 (by decide) 768 rfl _ _ (fun x => by (try dsimp only); unfold Gen.k0_pay29; (try dsimp only); rw [shapeCast_id]; exact hbpay _ _ 6 _ _ _ _ _ x)
  · exact hb_piece _ _ 5 (by decide) 640 rfl _ _ (fun x => by (try dsimp only); unfold Gen.k0_pay28; (try dsimp only); rw [shapeCast_id]; exact hbpay _ _ 5 _ _ _ _ _ x)
  · exact hb_piece _ _ 4 (by decide) 512 rfl _ _ (fun x => by (try dsimp only); unfold Gen.k0_pay27; (try dsimp only); rw [shapeCast_id]; exact hbpay _ _ 4 _ _ _ _ _ x)
  · exact hb_piece _ _ 3 (by decide) 384 rfl _ _ (fun x => by (try dsimp only); unfold Gen.k0_pay26; (try dsimp only); rw [shapeCast_id]; exact hbpay _ _ 3 _ _ _ _ _ x)
  · exact hb_piece _ _ 2 (by decide) 256 rfl _ _ (fun x => by (try dsimp only); unfold Gen.k0_pay25; (try dsimp only); rw [shapeCast_id]; exact hbpay _ _ 2 _ _ _ _ _ x)
  · exact hb_piece _ _ 1 (by decide) 128 rfl _ _ (fun x => by (try dsimp only); unfold Gen.k0_pay24; (try dsimp only); rw [shapeCast_id]; exact hbpay _ _ 1 _ _ _ _ _ x)
  · exact hb_piece _ _ 0 (by decide) 0 rfl _ _ (fun x => by (try dsimp only); unfold Gen.k0_pay23; (try dsimp only); rw [shapeCast_id]; exact hbpay _ _ 0 _ _ _ _ _ x)

theorem zLive_congr {i : grid0.Coords} {w : Elt F .i32} {x1 : S21.Idx → Elt F .i32} {hb hb' : S128x8960.Idx → Elt F .bf16} {wb wb' : S8960x1536.Idx → Elt F .bf16}
    {x5 x5' : S128x1536.Idx → Elt F .bf16} {x7 x8 x9 x7' x8' x9' : S1x1536.Idx → Elt F .f32} (hw : w = cuAt (F := F) x1 20)
    (h : hb = hb') (h' : wb = wb') (h5 : x5 = x5') (h7 : x7 = x7') (h8 : x8 = x8') (h9 : x9 = x9') :
    Gen.k0_pay6 i w (Gen.k0_pay107 hb wb x5 x7) (Gen.k0_pay108 hb wb x5 x7) x8 x9 = zLive i x1 hb' wb' x5' x7' x8' x9' := by
  subst hw h h' h5 h7 h8 h9; rfl

theorem sumNew_congr (i : grid0.Coords) (v : BitVec 32) {x1 x1' : S21.Idx → Elt F .i32} {z z' : S128x1536.Idx → Elt F .f32} {s s' : S20x1536.Idx → Elt F .f32}
    (h1 : x1 = x1') (hz : z = z') (hs : s = s') : sumNew i v x1 z s = sumNew i v x1' z' s' := by
  subst h1 hz hs; rfl

theorem mVal_congr (x1 : S21.Idx → Elt F .i32) (s' : S20x1536.Idx → Elt F .f32) {w0 w1 w2 w3 w4 w5 w6 w7 w8 w9 w10 w11 w12 w13 w14 w15 w16 w17 w18 w19 w20 w21 w22 w23 w24 w25 w26 w27 w28 w29 w30 w31 w32 w33 w34 w35 w36 w37 w38 w39 : Elt F .i32} {s : S20x1536.Idx → Elt F .f32} (h0 : w0 = cuAt (F := F) x1 1) (h1 : w1 = cuAt (F := F) x1 0) (h2 : w2 = cuAt (F := F) x1 2) (h3 : w3 = cuAt (F := F) x1 1) (h4 : w4 = cuAt (F := F) x1 3) (h5 : w5 = cuAt (F := F) x1 2) (h6 : w6 = cuAt (F := F) x1 4) (h7 : w7 = cuAt (F := F) x1 3) (h8 : w8 = cuAt (F := F) x1 5) (h9 : w9 = cuAt (F := F) x1 4) (h10 : w10 = cuAt (F := F) x1 6) (h11 : w11 = cuAt (F := F) x1 5) (h12 : w12 = cuAt (F := F) x1 7) (h13 : w13 = cuAt (F := F) x1 6) (h14 : w14 = cuAt (F := F) x1 8) (h15 : w15 = cuAt (F := F) x1 7) (h16 : w16 = cuAt (F := F) x1 9) (h17 : w17 = cuAt (F := F) x1 8) (h18 : w18 = cuAt (F := F) x1 10) (h19 : w19 = cuAt (F := F) x1 9) (h20 : w20 = cuAt (F := F) x1 11) (h21 : w21 = cuAt (F := F) x1 10) (h22 : w22 = cuAt (F := F) x1 12) (h23 : w23 = cuAt (F := F) x1 11) (h24 : w24 = cuAt (F := F) x1 13) (h25 : w25 = cuAt (F := F) x1 12) (h26 : w26 = cuAt (F := F) x1 14) (h27 : w27 = cuAt (F := F) x1 13) (h28 : w28 = cuAt (F := F) x1 15) (h29 : w29 = cuAt (F := F) x1 14) (h30 : w30 = cuAt (F := F) x1 16) (h31 : w31 = cuAt (F := F) x1 15) (h32 : w32 = cuAt (F := F) x1 17) (h33 : w33 = cuAt (F := F) x1 16) (h34 : w34 = cuAt (F := F) x1 18) (h35 : w35 = cuAt (F := F) x1 17) (h36 : w36 = cuAt (F := F) x1 19) (h37 : w37 = cuAt (F := F) x1 18) (h38 : w38 = cuAt (F := F) x1 20) (h39 : w39 = cuAt (F := F) x1 19) (hs : s = s') :
    (Gen.k0_pay113 iotaW (Gen.k0_pay112 iotaW (Gen.k0_pay110 iotaW (Gen.k0_pay109 w0 w1 w2 w3 w4 w5 w6 w7 w8 w9) w10 w11 w12 w13 w14 w15 w16 w17 w18 w19) (Gen.k0_pay111 w20 w21) 10#32 w22 w23 w24 w25 w26 w27 w28 w29 w30 w31) w32 w33 w34 w35 w36 w37 w38 w39 s) = mVal x1 s' := by
  subst h0 h1 h2 h3 h4 h5 h6 h7 h8 h9 h10 h11 h12 h13 h14 h15 h16 h17 h18 h19 h20 h21 h22 h23 h24 h25 h26 h27 h28 h29 h30 h31 h32 h33 h34 h35 h36 h37 h38 h39 hs; rfl

theorem codesVal_congr (x1 : S21.Idx → Elt F .i32) (s' : S20x1536.Idx → Elt F .f32) {w0 w1 w2 w3 w4 w5 w6 w7 w8 w9 w10 w11 w12 w13 w14 w15 w16 w17 w18 w19 w20 w21 w22 w23 w24 w25 w26 w27 w28 w29 w30 w31 w32 w33 w34 w35 w36 w37 w38 w39 : Elt F .i32} {s : S20x1536.Idx → Elt F .f32} (h0 : w0 = cuAt (F := F) x1 1) (h1 : w1 = cuAt (F := F) x1 0) (h2 : w2 = cuAt (F := F) x1 2) (h3 : w3 = cuAt (F := F) x1 1) (h4 : w4 = cuAt (F := F) x1 3) (h5 : w5 = cuAt (F := F) x1 2) (h6 : w6 = cuAt (F := F) x1 4) (h7 : w7 = cuAt (F := F) x1 3) (h8 : w8 = cuAt (F := F) x1 5) (h9 : w9 = cuAt (F := F) x1 4) (h10 : w10 = cuAt (F := F) x1 6) (h11 : w11 = cuAt (F := F) x1 5) (h12 : w12 = cuAt (F := F) x1 7) (h13 : w13 = cuAt (F := F) x1 6) (h14 : w14 = cuAt (F := F) x1 8) (h15 : w15 = cuAt (F := F) x1 7) (h16 : w16 = cuAt (F := F) x1 9) (h17 : w17 = cuAt (F := F) x1 8) (h18 : w18 = cuAt (F := F) x1 10) (h19 : w19 = cuAt (F := F) x1 9) (h20 : w20 = cuAt (F := F) x1 11) (h21 : w21 = cuAt (F := F) x1 10) (h22 : w22 = cuAt (F := F) x1 12) (h23 : w23 = cuAt (F := F) x1 11) (h24 : w24 = cuAt (F := F) x1 13) (h25 : w25 = cuAt (F := F) x1 12) (h26 : w26 = cuAt (F := F) x1 14) (h27 : w27 = cuAt (F := F) x1 13) (h28 : w28 = cuAt (F := F) x1 15) (h29 : w29 = cuAt (F := F) x1 14) (h30 : w30 = cuAt (F := F) x1 16) (h31 : w31 = cuAt (F := F) x1 15) (h32 : w32 = cuAt (F := F) x1 17) (h33 : w33 = cuAt (F := F) x1 16) (h34 : w34 = cuAt (F := F) x1 18) (h35 : w35 = cuAt (F := F) x1 17) (h36 : w36 = cuAt (F := F) x1 19) (h37 : w37 = cuAt (F := F) x1 18) (h38 : w38 = cuAt (F := F) x1 20) (h39 : w39 = cuAt (F := F) x1 19) (hs : s = s') :
    Gen.k0_pay10 (Gen.k0_pay113 iotaW (Gen.k0_pay112 iotaW (Gen.k0_pay110 iotaW (Gen.k0_pay109 w0 w1 w2 w3 w4 w5 w6 w7 w8 w9) w10 w11 w12 w13 w14 w15 w16 w17 w18 w19) (Gen.k0_pay111 w20 w21) 10#32 w22 w23 w24 w25 w26 w27 w28 w29 w30 w31) w32 w33 w34 w35 w36 w37 w38 w39 s) (Gen.k0_pay114 iotaW (Gen.k0_pay112 iotaW (Gen.k0_pay110 iotaW (Gen.k0_pay109 w0 w1 w2 w3 w4 w5 w6 w7 w8 w9) w10 w11 w12 w13 w14 w15 w16 w17 w18 w19) (Gen.k0_pay111 w20 w21) 10#32 w22 w23 w24 w25 w26 w27 w28 w29 w30 w31) w32 w33 w34 w35 w36 w37 w38 w39 s) = codesVal x1 s' := by
  subst h0 h1 h2 h3 h4 h5 h6 h7 h8 h9 h10 h11 h12 h13 h14 h15 h16 h17 h18 h19 h20 h21 h22 h23 h24 h25 h26 h27 h28 h29 h30 h31 h32 h33 h34 h35 h36 h37 h38 h39 hs; rfl

theorem scaleVal_congr (x1 : S21.Idx → Elt F .i32) (s' : S20x1536.Idx → Elt F .f32) {w0 w1 w2 w3 w4 w5 w6 w7 w8 w9 w10 w11 w12 w13 w14 w15 w16 w17 w18 w19 w20 w21 w22 w23 w24 w25 w26 w27 w28 w29 w30 w31 w32 w33 w34 w35 w36 w37 w38 w39 : Elt F .i32} {s : S20x1536.Idx → Elt F .f32} (h0 : w0 = cuAt (F := F) x1 1) (h1 : w1 = cuAt (F := F) x1 0) (h2 : w2 = cuAt (F := F) x1 2) (h3 : w3 = cuAt (F := F) x1 1) (h4 : w4 = cuAt (F := F) x1 3) (h5 : w5 = cuAt (F := F) x1 2) (h6 : w6 = cuAt (F := F) x1 4) (h7 : w7 = cuAt (F := F) x1 3) (h8 : w8 = cuAt (F := F) x1 5) (h9 : w9 = cuAt (F := F) x1 4) (h10 : w10 = cuAt (F := F) x1 6) (h11 : w11 = cuAt (F := F) x1 5) (h12 : w12 = cuAt (F := F) x1 7) (h13 : w13 = cuAt (F := F) x1 6) (h14 : w14 = cuAt (F := F) x1 8) (h15 : w15 = cuAt (F := F) x1 7) (h16 : w16 = cuAt (F := F) x1 9) (h17 : w17 = cuAt (F := F) x1 8) (h18 : w18 = cuAt (F := F) x1 10) (h19 : w19 = cuAt (F := F) x1 9) (h20 : w20 = cuAt (F := F) x1 11) (h21 : w21 = cuAt (F := F) x1 10) (h22 : w22 = cuAt (F := F) x1 12) (h23 : w23 = cuAt (F := F) x1 11) (h24 : w24 = cuAt (F := F) x1 13) (h25 : w25 = cuAt (F := F) x1 12) (h26 : w26 = cuAt (F := F) x1 14) (h27 : w27 = cuAt (F := F) x1 13) (h28 : w28 = cuAt (F := F) x1 15) (h29 : w29 = cuAt (F := F) x1 14) (h30 : w30 = cuAt (F := F) x1 16) (h31 : w31 = cuAt (F := F) x1 15) (h32 : w32 = cuAt (F := F) x1 17) (h33 : w33 = cuAt (F := F) x1 16) (h34 : w34 = cuAt (F := F) x1 18) (h35 : w35 = cuAt (F := F) x1 17) (h36 : w36 = cuAt (F := F) x1 19) (h37 : w37 = cuAt (F := F) x1 18) (h38 : w38 = cuAt (F := F) x1 20) (h39 : w39 = cuAt (F := F) x1 19) (hs : s = s') :
    Gen.k0_pay9 (Gen.k0_pay113 iotaW (Gen.k0_pay112 iotaW (Gen.k0_pay110 iotaW (Gen.k0_pay109 w0 w1 w2 w3 w4 w5 w6 w7 w8 w9) w10 w11 w12 w13 w14 w15 w16 w17 w18 w19) (Gen.k0_pay111 w20 w21) 10#32 w22 w23 w24 w25 w26 w27 w28 w29 w30 w31) w32 w33 w34 w35 w36 w37 w38 w39 s) (Gen.k0_pay114 iotaW (Gen.k0_pay112 iotaW (Gen.k0_pay110 iotaW (Gen.k0_pay109 w0 w1 w2 w3 w4 w5 w6 w7 w8 w9) w10 w11 w12 w13 w14 w15 w16 w17 w18 w19) (Gen.k0_pay111 w20 w21) 10#32 w22 w23 w24 w25 w26 w27 w28 w29 w30 w31) w32 w33 w34 w35 w36 w37 w38 w39 s) = scaleVal x1 s' := by
  subst h0 h1 h2 h3 h4 h5 h6 h7 h8 h9 h10 h11 h12 h13 h14 h15 h16 h17 h18 h19 h20 h21 h22 h23 h24 h25 h26 h27 h28 h29 h30 h31 h32 h33 h34 h35 h36 h37 h38 h39 hs; rfl

/-- What the kernel's function holds at a grid point: every buffer at its contents (the tile of activations at any). -/
abbrev Held (c : Dev nD) (arg1 : Memref sig .tc .smem S21 .i32) (arg2 : Memref sig .tc .smem S70x12 .f32) (arg3 : Memref sig .tc .vmem S128x8960 .fp8e4m3) (arg4 : Memref sig .tc .vmem S128x70 .f32) (arg5 : Memref sig .tc .vmem S128x1536 .bf16) (arg6 : Memref sig .tc .vmem S8960x1536 .fp8e4m3) (arg7 : Memref sig .tc .vmem S1x1536 .f32) (arg8 : Memref sig .tc .vmem S1x1536 .f32) (arg9 : Memref sig .tc .vmem S1x1536 .f32) (arg10 : Memref sig .tc .vmem S128x1536 .f32) (arg11 : Memref sig .tc .vmem S20x1536 .f32) (arg12 : Memref sig .tc .vmem S20x1536 .i8) (arg13 : Memref sig .tc .vmem S20x1 .f32) (arg14 : Memref sig .tc .vmem S8960x1536 .bf16) (arg15 : Memref sig .tc .vmem S128x8960 .bf16) (arg16 : Memref sig .tc .vmem S20x1536 .f32) (q : PosShare TreeShare) (x1 : S21.Idx → Elt F .i32) (x2 : S70x12.Idx → Elt F .f32) (x3 : S128x8960.Idx → Elt F .fp8e4m3) (x4 : S128x70.Idx → Elt F .f32) (x5 : S128x1536.Idx → Elt F .bf16) (x6 : S8960x1536.Idx → Elt F .fp8e4m3) (x7 : S1x1536.Idx → Elt F .f32) (x8 : S1x1536.Idx → Elt F .f32) (x9 : S1x1536.Idx → Elt F .f32) (x10 : S128x1536.Idx → Elt F .f32) (x11 : S20x1536.Idx → Elt F .f32) (x12 : S20x1536.Idx → Elt F .i8) (x13 : S20x1.Idx → Elt F .f32) (x14 : S8960x1536.Idx → Elt F .bf16) (x16 : S20x1536.Idx → Elt F .f32) : sProp (MT nD τ sig Unit (Elt F) ℕ (UR sig nD τ) ℕ) :=
  iprop(owns (c : Thread nD τ) arg1 q x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg16 fullShare x16 ∗ (∃ y, owns (c : Thread nD τ) arg15 fullShare y))
end Cert.Proof.Kernel
end
end
-- ==== Proof.Kern.BodyF.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Kern.Hb
public import Idealize.ShloMosaic.Adequacy
public import Idealize.ShloMosaic.Init
public import Idealize.ShloMosaic.Lib.WritesUnit
public import Idealize.ShloMosaic.Lib.VecWindow
public import Idealize.ShloMosaic.Lib.Pointwise

@[expose] public section

set_option maxRecDepth 16384
set_option maxHeartbeats 4000000

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 20000000 in
theorem body_F_live (c : Dev nD) (i : grid0.Coords) (arg1 : Memref sig .tc .smem S21 .i32) (harg1 : arg1.IsWhole) (arg2 : Memref sig .tc .smem S70x12 .f32) (harg2 : arg2.IsWhole) (arg3 : Memref sig .tc .vmem S128x8960 .fp8e4m3) (harg3 : arg3.IsWhole) (arg4 : Memref sig .tc .vmem S128x70 .f32) (harg4 : arg4.IsWhole) (arg5 : Memref sig .tc .vmem S128x1536 .bf16) (harg5 : arg5.IsWhole) (arg6 : Memref sig .tc .vmem S8960x1536 .fp8e4m3) (harg6 : arg6.IsWhole) (arg7 : Memref sig .tc .vmem S1x1536 .f32) (harg7 : arg7.IsWhole) (arg8 : Memref sig .tc .vmem S1x1536 .f32) (harg8 : arg8.IsWhole) (arg9 : Memref sig .tc .vmem S1x1536 .f32) (harg9 : arg9.IsWhole) (arg10 : Memref sig .tc .vmem S128x1536 .f32) (harg10 : arg10.IsWhole) (arg11 : Memref sig .tc .vmem S20x1536 .f32) (harg11 : arg11.IsWhole) (arg12 : Memref sig .tc .vmem S20x1536 .i8) (harg12 : arg12.IsWhole) (arg13 : Memref sig .tc .vmem S20x1 .f32) (harg13 : arg13.IsWhole) (arg14 : Memref sig .tc .vmem S8960x1536 .bf16) (harg14 : arg14.IsWhole) (arg15 : Memref sig .tc .vmem S128x8960 .bf16) (harg15 : arg15.IsWhole) (arg16 : Memref sig .tc .vmem S20x1536 .f32) (harg16 : arg16.IsWhole) (q : PosShare TreeShare) (x1 : S21.Idx → Elt F .i32) (x2 : S70x12.Idx → Elt F .f32) (x3 : S128x8960.Idx → Elt F .fp8e4m3) (x4 : S128x70.Idx → Elt F .f32) (x5 : S128x1536.Idx → Elt F .bf16) (x6 : S8960x1536.Idx → Elt F .fp8e4m3) (x7 : S1x1536.Idx → Elt F .f32) (x8 : S1x1536.Idx → Elt F .f32) (x9 : S1x1536.Idx → Elt F .f32) (x10 : S128x1536.Idx → Elt F .f32) (x11 : S20x1536.Idx → Elt F .f32) (x12 : S20x1536.Idx → Elt F .i8) (x13 : S20x1.Idx → Elt F .f32) (x14 : S8960x1536.Idx → Elt F .bf16) (x16 : S20x1536.Idx → Elt F .f32)
    (h1 : k0_cond1 i = 1#1) (h2' : ¬ k0_cond2 i (cuAt (F := F) x1 20) = 1#1)
    (h3' : k0_cond3 i (cuAt (F := F) x1 20) = 1#1) (h5 : ¬ k0_cond5 i = 1#1) :
    Held c arg1 arg2 arg3 arg4 arg5 arg6 arg7 arg8 arg9 arg10 arg11 arg12 arg13 arg14 arg15 arg16 q x1 x2 x3 x4 x5 x6 x7 x8 x9 x10 x11 x12 x13 x14 x16
      ⊢ wp frame (wpE (defs₀ (F := F)) Variants.none (c : Thread nD τ) none) Set.univ (cc0_ffn_down_ln_pool (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => Held c arg1 arg2 arg3 arg4 arg5 arg6 arg7 arg8 arg9 arg10 arg11 arg12 arg13 arg14 arg15 arg16 q x1 x2 x3 x4 x5 x6 x7 x8 x9 (zLive i x1 (HB x3 x4) (WB x2 x6) x5 x7 x8 x9) x11 x12 x13 (WB x2 x6) (sumNew i (rowWord i) x1 (zLive i x1 (HB x3 x4) (WB x2 x6) x5 x7 x8 x9) Gen.k0_pay1)) := by
  simp only [Gen.cc0_ffn_down_ln_pool_eq_skeleton]
  unfold Gen.cc0_ffn_down_ln_pool_skel
  simp only [Gen.k0_part4_eq_skeleton, Gen.k0_part5_eq_skeleton, Gen.k0_part6_eq_skeleton, Gen.k0_part7_eq_skeleton, Gen.k0_part8_eq_skeleton, Gen.k0_part9_eq_skeleton, Gen.k0_part10_eq_skeleton, Gen.k0_part11_eq_skeleton, Gen.k0_part12_eq_skeleton, Gen.k0_part13_eq_skeleton, Gen.k0_part14_eq_skeleton, Gen.k0_part15_eq_skeleton, Gen.k0_part16_eq_skeleton, Gen.k0_part17_eq_skeleton, Gen.k0_part18_eq_skeleton, Gen.k0_part19_eq_skeleton, Gen.k0_part20_eq_skeleton]
  unfold Held owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f16, %hf16, H16⟩, ⟨%y15, %f15, %hf15, H15⟩⟩
  have hw : ∀ h, arg1.view.readAt (Elt F) (Rect.unit (s := S21) ![20] S1.size Gen.inb_S21_S1_20).toLoadRect f1 (Shape.Idx.first h)
      = cuAt (F := F) x1 20 := fun h => by rw [cu_at, hf1]
  have h2 : ∀ h, ¬ k0_cond2 i (arg1.view.readAt (Elt F) (Rect.unit (s := S21) ![20] S1.size Gen.inb_S21_S1_20).toLoadRect f1 (Shape.Idx.first h)) = 1#1 :=
    fun h => by rw [hw h]; exact h2'
  have h3 : ∀ h, k0_cond3 i (arg1.view.readAt (Elt F) (Rect.unit (s := S21) ![20] S1.size Gen.inb_S21_S1_20).toLoadRect f1 (Shape.Idx.first h)) = 1#1 :=
    fun h => by rw [hw h]; exact h3'
  have h2 := h2 (by show 0 < S1.numel; decide)
  have h3 := h3 (by show 0 < S1.numel; decide)
  sl_exec
  sl_step
  isplitl [H1]
  · iexists f1; isplitr; swap; · iexact H1
    ipureintro
    exact hf1
  isplitl [H2]
  · iexists f2; isplitr; swap; · iexact H2
    ipureintro
    exact hf2
  isplitl [H3]
  · iexists f3; isplitr; swap; · iexact H3
    ipureintro
    exact hf3
  isplitl [H4]
  · iexists f4; isplitr; swap; · iexact H4
    ipureintro
    exact hf4
  isplitl [H5]
  · iexists f5; isplitr; swap; · iexact H5
    ipureintro
    exact hf5
  isplitl [H6]
  · iexists f6; isplitr; swap; · iexact H6
    ipureintro
    exact hf6
  isplitl [H7]
  · iexists f7; isplitr; swap; · iexact H7
    ipureintro
    exact hf7
  isplitl [H8]
  · iexists f8; isplitr; swap; · iexact H8
    ipureintro
    exact hf8
  isplitl [H9]
  · iexists f9; isplitr; swap; · iexact H9
    ipureintro
    exact hf9
  isplitl [H10]
  · iexists _; isplitr; swap; · iexact H10
    ipureintro
    sl_unfold_run_names
    rw [read_zero]
    refine zLive_congr (hw _) ?_ ?_ ?_ ?_ ?_ ?_
    · exact (hb_cov _ _ _ _ _).trans (by rw [hf3, hf4])
    · exact (readAt_zero _ _ _).trans (hL3.trans ((WBto_all _ _ _ _ rfl).trans (by rw [hf2, hf6])))
    · exact (readAt_zero _ _ _).trans hf5
    · exact (readAt_zero _ _ _).trans hf7
    · exact (readAt_zero _ _ _).trans hf8
    · exact (readAt_zero _ _ _).trans hf9
  isplitl [H11]
  · iexists f11; isplitr; swap; · iexact H11
    ipureintro
    exact hf11
  isplitl [H12]
  · iexists f12; isplitr; swap; · iexact H12
    ipureintro
    exact hf12
  isplitl [H13]
  · iexists f13; isplitr; swap; · iexact H13
    ipureintro
    exact hf13
  isplitl [H14]
  · iexists _; isplitr; swap; · iexact H14
    ipureintro
    sl_unfold_run_names
    exact (hL3.trans ((WBto_all _ _ _ _ rfl).trans (by rw [hf2, hf6])))
  isplitl [H16]
  · iexists _; isplitr; swap; · iexact H16
    ipureintro
    sl_unfold_run_names
    refine hL7.trans ((sumTo_all _ _ _ _ _ _ rfl).trans ?_)
    refine sumNew_congr _ _ hf1 ?_ ?_
    · sl_unfold_run_names
      rw [read_zero]
      refine zLive_congr (hw _) ?_ ?_ ?_ ?_ ?_ ?_
      · exact (hb_cov _ _ _ _ _).trans (by rw [hf3, hf4])
      · exact (readAt_zero _ _ _).trans (hL3.trans ((WBto_all _ _ _ _ rfl).trans (by rw [hf2, hf6])))
      · exact (readAt_zero _ _ _).trans hf5
      · exact (readAt_zero _ _ _).trans hf7
      · exact (readAt_zero _ _ _).trans hf8
      · exact (readAt_zero _ _ _).trans hf9
    · sl_unfold_run_names
      exact read_zero _ _ _ _ _
  iexists _; iexists _; isplitr; swap; · iexact H15
  ipureintro; rfl

set_option maxHeartbeats 20000000 in
theorem body_F_dead (c : Dev nD) (i : grid0.Coords) (arg1 : Memref sig .tc .smem S21 .i32) (harg1 : arg1.IsWhole) (arg2 : Memref sig .tc .smem S70x12 .f32) (harg2 : arg2.IsWhole) (arg3 : Memref sig .tc .vmem S128x8960 .fp8e4m3) (harg3 : arg3.IsWhole) (arg4 : Memref sig .tc .vmem S128x70 .f32) (harg4 : arg4.IsWhole) (arg5 : Memref sig .tc .vmem S128x1536 .bf16) (harg5 : arg5.IsWhole) (arg6 : Memref sig .tc .vmem S8960x1536 .fp8e4m3) (harg6 : arg6.IsWhole) (arg7 : Memref sig .tc .vmem S1x1536 .f32) (harg7 : arg7.IsWhole) (arg8 : Memref sig .tc .vmem S1x1536 .f32) (harg8 : arg8.IsWhole) (arg9 : Memref sig .tc .vmem S1x1536 .f32) (harg9 : arg9.IsWhole) (arg10 : Memref sig .tc .vmem S128x1536 .f32) (harg10 : arg10.IsWhole) (arg11 : Memref sig .tc .vmem S20x1536 .f32) (harg11 : arg11.IsWhole) (arg12 : Memref sig .tc .vmem S20x1536 .i8) (harg12 : arg12.IsWhole) (arg13 : Memref sig .tc .vmem S20x1 .f32) (harg13 : arg13.IsWhole) (arg14 : Memref sig .tc .vmem S8960x1536 .bf16) (harg14 : arg14.IsWhole) (arg15 : Memref sig .tc .vmem S128x8960 .bf16) (harg15 : arg15.IsWhole) (arg16 : Memref sig .tc .vmem S20x1536 .f32) (harg16 : arg16.IsWhole) (q : PosShare TreeShare) (x1 : S21.Idx → Elt F .i32) (x2 : S70x12.Idx → Elt F .f32) (x3 : S128x8960.Idx → Elt F .fp8e4m3) (x4 : S128x70.Idx → Elt F .f32) (x5 : S128x1536.Idx → Elt F .bf16) (x6 : S8960x1536.Idx → Elt F .fp8e4m3) (x7 : S1x1536.Idx → Elt F .f32) (x8 : S1x1536.Idx → Elt F .f32) (x9 : S1x1536.Idx → Elt F .f32) (x10 : S128x1536.Idx → Elt F .f32) (x11 : S20x1536.Idx → Elt F .f32) (x12 : S20x1536.Idx → Elt F .i8) (x13 : S20x1.Idx → Elt F .f32) (x14 : S8960x1536.Idx → Elt F .bf16) (x16 : S20x1536.Idx → Elt F .f32)
    (h1 : k0_cond1 i = 1#1) (h2' : k0_cond2 i (cuAt (F := F) x1 20) = 1#1)
    (h3' : ¬ k0_cond3 i (cuAt (F := F) x1 20) = 1#1) (h5 : ¬ k0_cond5 i = 1#1) :
    Held c arg1 arg2 arg3 arg4 arg5 arg6 arg7 arg8 arg9 arg10 arg11 arg12 arg13 arg14 arg15 arg16 q x1 x2 x3 x4 x5 x6 x7 x8 x9 x10 x11 x12 x13 x14 x16
      ⊢ wp frame (wpE (defs₀ (F := F)) Variants.none (c : Thread nD τ) none) Set.univ (cc0_ffn_down_ln_pool (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => Held c arg1 arg2 arg3 arg4 arg5 arg6 arg7 arg8 arg9 arg10 arg11 arg12 arg13 arg14 arg15 arg16 q x1 x2 x3 x4 x5 x6 x7 x8 x9 Gen.k0_pay4 x11 x12 x13 (WB x2 x6) Gen.k0_pay1) := by
  simp only [Gen.cc0_ffn_down_ln_pool_eq_skeleton]
  unfold Gen.cc0_ffn_down_ln_pool_skel
  unfold Held owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f16, %hf16, H16⟩, ⟨%y15, %f15, %hf15, H15⟩⟩
  have hw : ∀ h, arg1.view.readAt (Elt F) (Rect.unit (s := S21) ![20] S1.size Gen.inb_S21_S1_20).toLoadRect f1 (Shape.Idx.first h)
      = cuAt (F := F) x1 20 := fun h => by rw [cu_at, hf1]
  have h2 : ∀ h, k0_cond2 i (arg1.view.readAt (Elt F) (Rect.unit (s := S21) ![20] S1.size Gen.inb_S21_S1_20).toLoadRect f1 (Shape.Idx.first h)) = 1#1 :=
    fun h => by rw [hw h]; exact h2'
  have h3 : ∀ h, ¬ k0_cond3 i (arg1.view.readAt (Elt F) (Rect.unit (s := S21) ![20] S1.size Gen.inb_S21_S1_20).toLoadRect f1 (Shape.Idx.first h)) = 1#1 :=
    fun h => by rw [hw h]; exact h3'
  have h2 := h2 (by show 0 < S1.numel; decide)
  have h3 := h3 (by show 0 < S1.numel; decide)
  sl_exec
  sl_step
  isplitl [H1]
  · iexists f1; isplitr; swap; · iexact H1
    ipureintro
    exact hf1
  isplitl [H2]
  · iexists f2; isplitr; swap; · iexact H2
    ipureintro
    exact hf2
  isplitl [H3]
  · iexists f3; isplitr; swap; · iexact H3
    ipureintro
    exact hf3
  isplitl [H4]
  · iexists f4; isplitr; swap; · iexact H4
    ipureintro
    exact hf4
  isplitl [H5]
  · iexists f5; isplitr; swap; · iexact H5
    ipureintro
    exact hf5
  isplitl [H6]
  · iexists f6; isplitr; swap; · iexact H6
    ipureintro
    exact hf6
  isplitl [H7]
  · iexists f7; isplitr; swap; · iexact H7
    ipureintro
    exact hf7
  isplitl [H8]
  · iexists f8; isplitr; swap; · iexact H8
    ipureintro
    exact hf8
  isplitl [H9]
  · iexists f9; isplitr; swap; · iexact H9
    ipureintro
    exact hf9
  isplitl [H10]
  · iexists _; isplitr; swap; · iexact H10
    ipureintro
    sl_unfold_run_names
    exact read_zero _ _ _ _ _
  isplitl [H11]
  · iexists f11; isplitr; swap; · iexact H11
    ipureintro
    exact hf11
  isplitl [H12]
  · iexists f12; isplitr; swap; · iexact H12
    ipureintro
    exact hf12
  isplitl [H13]
  · iexists f13; isplitr; swap; · iexact H13
    ipureintro
    exact hf13
  isplitl [H14]
  · iexists _; isplitr; swap; · iexact H14
    ipureintro
    sl_unfold_run_names
    exact (hL3.trans ((WBto_all _ _ _ _ rfl).trans (by rw [hf2, hf6])))
  isplitl [H16]
  · iexists _; isplitr; swap; · iexact H16
    ipureintro
    sl_unfold_run_names
    exact read_zero _ _ _ _ _
  iexists _; iexists _; isplitr; swap; · iexact H15
  ipureintro; rfl
end Cert.Proof.Kernel
end
end
-- ==== Proof.Kern.BodyM.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Kern.Hb
public import Idealize.ShloMosaic.Adequacy
public import Idealize.ShloMosaic.Init
public import Idealize.ShloMosaic.Lib.WritesUnit
public import Idealize.ShloMosaic.Lib.VecWindow
public import Idealize.ShloMosaic.Lib.Pointwise

@[expose] public section

set_option maxRecDepth 16384
set_option maxHeartbeats 4000000

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 20000000 in
theorem body_M_live (c : Dev nD) (i : grid0.Coords) (arg1 : Memref sig .tc .smem S21 .i32) (harg1 : arg1.IsWhole) (arg2 : Memref sig .tc .smem S70x12 .f32) (harg2 : arg2.IsWhole) (arg3 : Memref sig .tc .vmem S128x8960 .fp8e4m3) (harg3 : arg3.IsWhole) (arg4 : Memref sig .tc .vmem S128x70 .f32) (harg4 : arg4.IsWhole) (arg5 : Memref sig .tc .vmem S128x1536 .bf16) (harg5 : arg5.IsWhole) (arg6 : Memref sig .tc .vmem S8960x1536 .fp8e4m3) (harg6 : arg6.IsWhole) (arg7 : Memref sig .tc .vmem S1x1536 .f32) (harg7 : arg7.IsWhole) (arg8 : Memref sig .tc .vmem S1x1536 .f32) (harg8 : arg8.IsWhole) (arg9 : Memref sig .tc .vmem S1x1536 .f32) (harg9 : arg9.IsWhole) (arg10 : Memref sig .tc .vmem S128x1536 .f32) (harg10 : arg10.IsWhole) (arg11 : Memref sig .tc .vmem S20x1536 .f32) (harg11 : arg11.IsWhole) (arg12 : Memref sig .tc .vmem S20x1536 .i8) (harg12 : arg12.IsWhole) (arg13 : Memref sig .tc .vmem S20x1 .f32) (harg13 : arg13.IsWhole) (arg14 : Memref sig .tc .vmem S8960x1536 .bf16) (harg14 : arg14.IsWhole) (arg15 : Memref sig .tc .vmem S128x8960 .bf16) (harg15 : arg15.IsWhole) (arg16 : Memref sig .tc .vmem S20x1536 .f32) (harg16 : arg16.IsWhole) (q : PosShare TreeShare) (x1 : S21.Idx → Elt F .i32) (x2 : S70x12.Idx → Elt F .f32) (x3 : S128x8960.Idx → Elt F .fp8e4m3) (x4 : S128x70.Idx → Elt F .f32) (x5 : S128x1536.Idx → Elt F .bf16) (x6 : S8960x1536.Idx → Elt F .fp8e4m3) (x7 : S1x1536.Idx → Elt F .f32) (x8 : S1x1536.Idx → Elt F .f32) (x9 : S1x1536.Idx → Elt F .f32) (x10 : S128x1536.Idx → Elt F .f32) (x11 : S20x1536.Idx → Elt F .f32) (x12 : S20x1536.Idx → Elt F .i8) (x13 : S20x1.Idx → Elt F .f32) (x14 : S8960x1536.Idx → Elt F .bf16) (x16 : S20x1536.Idx → Elt F .f32)
    (h1 : ¬ k0_cond1 i = 1#1) (h2' : ¬ k0_cond2 i (cuAt (F := F) x1 20) = 1#1)
    (h3' : k0_cond3 i (cuAt (F := F) x1 20) = 1#1) (h5 : ¬ k0_cond5 i = 1#1) :
    Held c arg1 arg2 arg3 arg4 arg5 arg6 arg7 arg8 arg9 arg10 arg11 arg12 arg13 arg14 arg15 arg16 q x1 x2 x3 x4 x5 x6 x7 x8 x9 x10 x11 x12 x13 x14 x16
      ⊢ wp frame (wpE (defs₀ (F := F)) Variants.none (c : Thread nD τ) none) Set.univ (cc0_ffn_down_ln_pool (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => Held c arg1 arg2 arg3 arg4 arg5 arg6 arg7 arg8 arg9 arg10 arg11 arg12 arg13 arg14 arg15 arg16 q x1 x2 x3 x4 x5 x6 x7 x8 x9 (zLive i x1 (HB x3 x4) x14 x5 x7 x8 x9) x11 x12 x13 x14 (sumNew i (rowWord i) x1 (zLive i x1 (HB x3 x4) x14 x5 x7 x8 x9) x16)) := by
  simp only [Gen.cc0_ffn_down_ln_pool_eq_skeleton]
  unfold Gen.cc0_ffn_down_ln_pool_skel
  simp only [Gen.k0_part4_eq_skeleton, Gen.k0_part5_eq_skeleton, Gen.k0_part6_eq_skeleton, Gen.k0_part7_eq_skeleton, Gen.k0_part8_eq_skeleton, Gen.k0_part9_eq_skeleton, Gen.k0_part10_eq_skeleton, Gen.k0_part11_eq_skeleton, Gen.k0_part12_eq_skeleton, Gen.k0_part13_eq_skeleton, Gen.k0_part14_eq_skeleton, Gen.k0_part15_eq_skeleton, Gen.k0_part16_eq_skeleton, Gen.k0_part17_eq_skeleton, Gen.k0_part18_eq_skeleton, Gen.k0_part19_eq_skeleton, Gen.k0_part20_eq_skeleton]
  unfold Held owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f16, %hf16, H16⟩, ⟨%y15, %f15, %hf15, H15⟩⟩
  have hw : ∀ h, arg1.view.readAt (Elt F) (Rect.unit (s := S21) ![20] S1.size Gen.inb_S21_S1_20).toLoadRect f1 (Shape.Idx.first h)
      = cuAt (F := F) x1 20 := fun h => by rw [cu_at, hf1]
  have h2 : ∀ h, ¬ k0_cond2 i (arg1.view.readAt (Elt F) (Rect.unit (s := S21) ![20] S1.size Gen.inb_S21_S1_20).toLoadRect f1 (Shape.Idx.first h)) = 1#1 :=
    fun h => by rw [hw h]; exact h2'
  have h3 : ∀ h, k0_cond3 i (arg1.view.readAt (Elt F) (Rect.unit (s := S21) ![20] S1.size Gen.inb_S21_S1_20).toLoadRect f1 (Shape.Idx.first h)) = 1#1 :=
    fun h => by rw [hw h]; exact h3'
  have h2 := h2 (by show 0 < S1.numel; decide)
  have h3 := h3 (by show 0 < S1.numel; decide)
  sl_exec
  sl_step
  isplitl [H1]
  · iexists f1; isplitr; swap; · iexact H1
    ipureintro
    exact hf1
  isplitl [H2]
  · iexists f2; isplitr; swap; · iexact H2
    ipureintro
    exact hf2
  isplitl [H3]
  · iexists f3; isplitr; swap; · iexact H3
    ipureintro
    exact hf3
  isplitl [H4]
  · iexists f4; isplitr; swap; · iexact H4
    ipureintro
    exact hf4
  isplitl [H5]
  · iexists f5; isplitr; swap; · iexact H5
    ipureintro
    exact hf5
  isplitl [H6]
  · iexists f6; isplitr; swap; · iexact H6
    ipureintro
    exact hf6
  isplitl [H7]
  · iexists f7; isplitr; swap; · iexact H7
    ipureintro
    exact hf7
  isplitl [H8]
  · iexists f8; isplitr; swap; · iexact H8
    ipureintro
    exact hf8
  isplitl [H9]
  · iexists f9; isplitr; swap; · iexact H9
    ipureintro
    exact hf9
  isplitl [H10]
  · iexists _; isplitr; swap; · iexact H10
    ipureintro
    sl_unfold_run_names
    rw [read_zero]
    refine zLive_congr (hw _) ?_ ?_ ?_ ?_ ?_ ?_
    · exact (hb_cov _ _ _ _ _).trans (by rw [hf3, hf4])
    · exact (readAt_zero _ _ _).trans hf14
    · exact (readAt_zero _ _ _).trans hf5
    · exact (readAt_zero _ _ _).trans hf7
    · exact (readAt_zero _ _ _).trans hf8
    · exact (readAt_zero _ _ _).trans hf9
  isplitl [H11]
  · iexists f11; isplitr; swap; · iexact H11
    ipureintro
    exact hf11
  isplitl [H12]
  · iexists f12; isplitr; swap; · iexact H12
    ipureintro
    exact hf12
  isplitl [H13]
  · iexists f13; isplitr; swap; · iexact H13
    ipureintro
    exact hf13
  isplitl [H14]
  · iexists _; isplitr; swap; · iexact H14
    ipureintro
    sl_unfold_run_names
    exact hf14
  isplitl [H16]
  · iexists _; isplitr; swap; · iexact H16
    ipureintro
    sl_unfold_run_names
    refine hL3.trans ((sumTo_all _ _ _ _ _ _ rfl).trans ?_)
    refine sumNew_congr _ _ hf1 ?_ ?_
    · sl_unfold_run_names
      rw [read_zero]
      refine zLive_congr (hw _) ?_ ?_ ?_ ?_ ?_ ?_
      · exact (hb_cov _ _ _ _ _).trans (by rw [hf3, hf4])
      · exact (readAt_zero _ _ _).trans hf14
      · exact (readAt_zero _ _ _).trans hf5
      · exact (readAt_zero _ _ _).trans hf7
      · exact (readAt_zero _ _ _).trans hf8
      · exact (readAt_zero _ _ _).trans hf9
    · exact hf16
  iexists _; iexists _; isplitr; swap; · iexact H15
  ipureintro; rfl

set_option maxHeartbeats 20000000 in
theorem body_M_dead (c : Dev nD) (i : grid0.Coords) (arg1 : Memref sig .tc .smem S21 .i32) (harg1 : arg1.IsWhole) (arg2 : Memref sig .tc .smem S70x12 .f32) (harg2 : arg2.IsWhole) (arg3 : Memref sig .tc .vmem S128x8960 .fp8e4m3) (harg3 : arg3.IsWhole) (arg4 : Memref sig .tc .vmem S128x70 .f32) (harg4 : arg4.IsWhole) (arg5 : Memref sig .tc .vmem S128x1536 .bf16) (harg5 : arg5.IsWhole) (arg6 : Memref sig .tc .vmem S8960x1536 .fp8e4m3) (harg6 : arg6.IsWhole) (arg7 : Memref sig .tc .vmem S1x1536 .f32) (harg7 : arg7.IsWhole) (arg8 : Memref sig .tc .vmem S1x1536 .f32) (harg8 : arg8.IsWhole) (arg9 : Memref sig .tc .vmem S1x1536 .f32) (harg9 : arg9.IsWhole) (arg10 : Memref sig .tc .vmem S128x1536 .f32) (harg10 : arg10.IsWhole) (arg11 : Memref sig .tc .vmem S20x1536 .f32) (harg11 : arg11.IsWhole) (arg12 : Memref sig .tc .vmem S20x1536 .i8) (harg12 : arg12.IsWhole) (arg13 : Memref sig .tc .vmem S20x1 .f32) (harg13 : arg13.IsWhole) (arg14 : Memref sig .tc .vmem S8960x1536 .bf16) (harg14 : arg14.IsWhole) (arg15 : Memref sig .tc .vmem S128x8960 .bf16) (harg15 : arg15.IsWhole) (arg16 : Memref sig .tc .vmem S20x1536 .f32) (harg16 : arg16.IsWhole) (q : PosShare TreeShare) (x1 : S21.Idx → Elt F .i32) (x2 : S70x12.Idx → Elt F .f32) (x3 : S128x8960.Idx → Elt F .fp8e4m3) (x4 : S128x70.Idx → Elt F .f32) (x5 : S128x1536.Idx → Elt F .bf16) (x6 : S8960x1536.Idx → Elt F .fp8e4m3) (x7 : S1x1536.Idx → Elt F .f32) (x8 : S1x1536.Idx → Elt F .f32) (x9 : S1x1536.Idx → Elt F .f32) (x10 : S128x1536.Idx → Elt F .f32) (x11 : S20x1536.Idx → Elt F .f32) (x12 : S20x1536.Idx → Elt F .i8) (x13 : S20x1.Idx → Elt F .f32) (x14 : S8960x1536.Idx → Elt F .bf16) (x16 : S20x1536.Idx → Elt F .f32)
    (h1 : ¬ k0_cond1 i = 1#1) (h2' : k0_cond2 i (cuAt (F := F) x1 20) = 1#1)
    (h3' : ¬ k0_cond3 i (cuAt (F := F) x1 20) = 1#1) (h5 : ¬ k0_cond5 i = 1#1) :
    Held c arg1 arg2 arg3 arg4 arg5 arg6 arg7 arg8 arg9 arg10 arg11 arg12 arg13 arg14 arg15 arg16 q x1 x2 x3 x4 x5 x6 x7 x8 x9 x10 x11 x12 x13 x14 x16
      ⊢ wp frame (wpE (defs₀ (F := F)) Variants.none (c : Thread nD τ) none) Set.univ (cc0_ffn_down_ln_pool (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => Held c arg1 arg2 arg3 arg4 arg5 arg6 arg7 arg8 arg9 arg10 arg11 arg12 arg13 arg14 arg15 arg16 q x1 x2 x3 x4 x5 x6 x7 x8 x9 Gen.k0_pay4 x11 x12 x13 x14 x16) := by
  simp only [Gen.cc0_ffn_down_ln_pool_eq_skeleton]
  unfold Gen.cc0_ffn_down_ln_pool_skel
  unfold Held owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f16, %hf16, H16⟩, ⟨%y15, %f15, %hf15, H15⟩⟩
  have hw : ∀ h, arg1.view.readAt (Elt F) (Rect.unit (s := S21) ![20] S1.size Gen.inb_S21_S1_20).toLoadRect f1 (Shape.Idx.first h)
      = cuAt (F := F) x1 20 := fun h => by rw [cu_at, hf1]
  have h2 : ∀ h, k0_cond2 i (arg1.view.readAt (Elt F) (Rect.unit (s := S21) ![20] S1.size Gen.inb_S21_S1_20).toLoadRect f1 (Shape.Idx.first h)) = 1#1 :=
    fun h => by rw [hw h]; exact h2'
  have h3 : ∀ h, ¬ k0_cond3 i (arg1.view.readAt (Elt F) (Rect.unit (s := S21) ![20] S1.size Gen.inb_S21_S1_20).toLoadRect f1 (Shape.Idx.first h)) = 1#1 :=
    fun h => by rw [hw h]; exact h3'
  have h2 := h2 (by show 0 < S1.numel; decide)
  have h3 := h3 (by show 0 < S1.numel; decide)
  sl_exec
  sl_step
  isplitl [H1]
  · iexists f1; isplitr; swap; · iexact H1
    ipureintro
    exact hf1
  isplitl [H2]
  · iexists f2; isplitr; swap; · iexact H2
    ipureintro
    exact hf2
  isplitl [H3]
  · iexists f3; isplitr; swap; · iexact H3
    ipureintro
    exact hf3
  isplitl [H4]
  · iexists f4; isplitr; swap; · iexact H4
    ipureintro
    exact hf4
  isplitl [H5]
  · iexists f5; isplitr; swap; · iexact H5
    ipureintro
    exact hf5
  isplitl [H6]
  · iexists f6; isplitr; swap; · iexact H6
    ipureintro
    exact hf6
  isplitl [H7]
  · iexists f7; isplitr; swap; · iexact H7
    ipureintro
    exact hf7
  isplitl [H8]
  · iexists f8; isplitr; swap; · iexact H8
    ipureintro
    exact hf8
  isplitl [H9]
  · iexists f9; isplitr; swap; · iexact H9
    ipureintro
    exact hf9
  isplitl [H10]
  · iexists _; isplitr; swap; · iexact H10
    ipureintro
    sl_unfold_run_names
    exact read_zero _ _ _ _ _
  isplitl [H11]
  · iexists f11; isplitr; swap; · iexact H11
    ipureintro
    exact hf11
  isplitl [H12]
  · iexists f12; isplitr; swap; · iexact H12
    ipureintro
    exact hf12
  isplitl [H13]
  · iexists f13; isplitr; swap; · iexact H13
    ipureintro
    exact hf13
  isplitl [H14]
  · iexists _; isplitr; swap; · iexact H14
    ipureintro
    sl_unfold_run_names
    exact hf14
  isplitl [H16]
  · iexists _; isplitr; swap; · iexact H16
    ipureintro
    sl_unfold_run_names
    exact hf16
  iexists _; iexists _; isplitr; swap; · iexact H15
  ipureintro; rfl
end Cert.Proof.Kernel
end
end
-- ==== Proof.Kern.BodyL.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Kern.Hb
public import Idealize.ShloMosaic.Adequacy
public import Idealize.ShloMosaic.Init
public import Idealize.ShloMosaic.Lib.WritesUnit
public import Idealize.ShloMosaic.Lib.VecWindow
public import Idealize.ShloMosaic.Lib.Pointwise

@[expose] public section

set_option maxRecDepth 16384
set_option maxHeartbeats 4000000

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 20000000 in
theorem body_L_live (c : Dev nD) (i : grid0.Coords) (arg1 : Memref sig .tc .smem S21 .i32) (harg1 : arg1.IsWhole) (arg2 : Memref sig .tc .smem S70x12 .f32) (harg2 : arg2.IsWhole) (arg3 : Memref sig .tc .vmem S128x8960 .fp8e4m3) (harg3 : arg3.IsWhole) (arg4 : Memref sig .tc .vmem S128x70 .f32) (harg4 : arg4.IsWhole) (arg5 : Memref sig .tc .vmem S128x1536 .bf16) (harg5 : arg5.IsWhole) (arg6 : Memref sig .tc .vmem S8960x1536 .fp8e4m3) (harg6 : arg6.IsWhole) (arg7 : Memref sig .tc .vmem S1x1536 .f32) (harg7 : arg7.IsWhole) (arg8 : Memref sig .tc .vmem S1x1536 .f32) (harg8 : arg8.IsWhole) (arg9 : Memref sig .tc .vmem S1x1536 .f32) (harg9 : arg9.IsWhole) (arg10 : Memref sig .tc .vmem S128x1536 .f32) (harg10 : arg10.IsWhole) (arg11 : Memref sig .tc .vmem S20x1536 .f32) (harg11 : arg11.IsWhole) (arg12 : Memref sig .tc .vmem S20x1536 .i8) (harg12 : arg12.IsWhole) (arg13 : Memref sig .tc .vmem S20x1 .f32) (harg13 : arg13.IsWhole) (arg14 : Memref sig .tc .vmem S8960x1536 .bf16) (harg14 : arg14.IsWhole) (arg15 : Memref sig .tc .vmem S128x8960 .bf16) (harg15 : arg15.IsWhole) (arg16 : Memref sig .tc .vmem S20x1536 .f32) (harg16 : arg16.IsWhole) (q : PosShare TreeShare) (x1 : S21.Idx → Elt F .i32) (x2 : S70x12.Idx → Elt F .f32) (x3 : S128x8960.Idx → Elt F .fp8e4m3) (x4 : S128x70.Idx → Elt F .f32) (x5 : S128x1536.Idx → Elt F .bf16) (x6 : S8960x1536.Idx → Elt F .fp8e4m3) (x7 : S1x1536.Idx → Elt F .f32) (x8 : S1x1536.Idx → Elt F .f32) (x9 : S1x1536.Idx → Elt F .f32) (x10 : S128x1536.Idx → Elt F .f32) (x11 : S20x1536.Idx → Elt F .f32) (x12 : S20x1536.Idx → Elt F .i8) (x13 : S20x1.Idx → Elt F .f32) (x14 : S8960x1536.Idx → Elt F .bf16) (x16 : S20x1536.Idx → Elt F .f32)
    (h1 : ¬ k0_cond1 i = 1#1) (h2' : ¬ k0_cond2 i (cuAt (F := F) x1 20) = 1#1)
    (h3' : k0_cond3 i (cuAt (F := F) x1 20) = 1#1) (h5 : k0_cond5 i = 1#1) :
    Held c arg1 arg2 arg3 arg4 arg5 arg6 arg7 arg8 arg9 arg10 arg11 arg12 arg13 arg14 arg15 arg16 q x1 x2 x3 x4 x5 x6 x7 x8 x9 x10 x11 x12 x13 x14 x16
      ⊢ wp frame (wpE (defs₀ (F := F)) Variants.none (c : Thread nD τ) none) Set.univ (cc0_ffn_down_ln_pool (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => Held c arg1 arg2 arg3 arg4 arg5 arg6 arg7 arg8 arg9 arg10 arg11 arg12 arg13 arg14 arg15 arg16 q x1 x2 x3 x4 x5 x6 x7 x8 x9 (zLive i x1 (HB x3 x4) x14 x5 x7 x8 x9) (mVal x1 (sumNew i (rowWord i) x1 (zLive i x1 (HB x3 x4) x14 x5 x7 x8 x9) x16)) (codesVal x1 (sumNew i (rowWord i) x1 (zLive i x1 (HB x3 x4) x14 x5 x7 x8 x9) x16)) (scaleVal x1 (sumNew i (rowWord i) x1 (zLive i x1 (HB x3 x4) x14 x5 x7 x8 x9) x16)) x14 (sumNew i (rowWord i) x1 (zLive i x1 (HB x3 x4) x14 x5 x7 x8 x9) x16)) := by
  simp only [Gen.cc0_ffn_down_ln_pool_eq_skeleton]
  unfold Gen.cc0_ffn_down_ln_pool_skel
  simp only [Gen.k0_part4_eq_skeleton, Gen.k0_part5_eq_skeleton, Gen.k0_part6_eq_skeleton, Gen.k0_part7_eq_skeleton, Gen.k0_part8_eq_skeleton, Gen.k0_part9_eq_skeleton, Gen.k0_part10_eq_skeleton, Gen.k0_part11_eq_skeleton, Gen.k0_part12_eq_skeleton, Gen.k0_part13_eq_skeleton, Gen.k0_part14_eq_skeleton, Gen.k0_part15_eq_skeleton, Gen.k0_part16_eq_skeleton, Gen.k0_part17_eq_skeleton, Gen.k0_part18_eq_skeleton, Gen.k0_part19_eq_skeleton, Gen.k0_part20_eq_skeleton, Gen.k0_part21_eq_skeleton, Gen.k0_part22_eq_skeleton, Gen.k0_part23_eq_skeleton, Gen.k0_part24_eq_skeleton]
  unfold Held owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f16, %hf16, H16⟩, ⟨%y15, %f15, %hf15, H15⟩⟩
  have hw : ∀ h, arg1.view.readAt (Elt F) (Rect.unit (s := S21) ![20] S1.size Gen.inb_S21_S1_20).toLoadRect f1 (Shape.Idx.first h)
      = cuAt (F := F) x1 20 := fun h => by rw [cu_at, hf1]
  have h2 : ∀ h, ¬ k0_cond2 i (arg1.view.readAt (Elt F) (Rect.unit (s := S21) ![20] S1.size Gen.inb_S21_S1_20).toLoadRect f1 (Shape.Idx.first h)) = 1#1 :=
    fun h => by rw [hw h]; exact h2'
  have h3 : ∀ h, k0_cond3 i (arg1.view.readAt (Elt F) (Rect.unit (s := S21) ![20] S1.size Gen.inb_S21_S1_20).toLoadRect f1 (Shape.Idx.first h)) = 1#1 :=
    fun h => by rw [hw h]; exact h3'
  have h2 := h2 (by show 0 < S1.numel; decide)
  have h3 := h3 (by show 0 < S1.numel; decide)
  sl_exec
  sl_step
  isplitl [H1]
  · iexists f1; isplitr; swap; · iexact H1
    ipureintro
    exact hf1
  isplitl [H2]
  · iexists f2; isplitr; swap; · iexact H2
    ipureintro
    exact hf2
  isplitl [H3]
  · iexists f3; isplitr; swap; · iexact H3
    ipureintro
    exact hf3
  isplitl [H4]
  · iexists f4; isplitr; swap; · iexact H4
    ipureintro
    exact hf4
  isplitl [H5]
  · iexists f5; isplitr; swap; · iexact H5
    ipureintro
    exact hf5
  isplitl [H6]
  · iexists f6; isplitr; swap; · iexact H6
    ipureintro
    exact hf6
  isplitl [H7]
  · iexists f7; isplitr; swap; · iexact H7
    ipureintro
    exact hf7
  isplitl [H8]
  · iexists f8; isplitr; swap; · iexact H8
    ipureintro
    exact hf8
  isplitl [H9]
  · iexists f9; isplitr; swap; · iexact H9
    ipureintro
    exact hf9
  isplitl [H10]
  · iexists _; isplitr; swap; · iexact H10
    ipureintro
    sl_unfold_run_names
    rw [read_zero]
    refine zLive_congr (hw _) ?_ ?_ ?_ ?_ ?_ ?_
    · exact (hb_cov _ _ _ _ _).trans (by rw [hf3, hf4])
    · exact (readAt_zero _ _ _).trans hf14
    · exact (readAt_zero _ _ _).trans hf5
    · exact (readAt_zero _ _ _).trans hf7
    · exact (readAt_zero _ _ _).trans hf8
    · exact (readAt_zero _ _ _).trans hf9
  isplitl [H11]
  · iexists _; isplitr; swap; · iexact H11
    ipureintro
    sl_unfold_run_names
    rw [read_zero]
    have hc0 : ∀ inb h, arg1.view.readAt (Elt F) (Rect.unit (s := S21) ![0] S1.size inb).toLoadRect f1 (Shape.Idx.first h) = cuAt (F := F) x1 0 := fun inb h => (cu_at _ _ 0 (by decide) inb h).trans (by rw [hf1])
    have hc1 : ∀ inb h, arg1.view.readAt (Elt F) (Rect.unit (s := S21) ![1] S1.size inb).toLoadRect f1 (Shape.Idx.first h) = cuAt (F := F) x1 1 := fun inb h => (cu_at _ _ 1 (by decide) inb h).trans (by rw [hf1])
    have hc2 : ∀ inb h, arg1.view.readAt (Elt F) (Rect.unit (s := S21) ![2] S1.size inb).toLoadRect f1 (Shape.Idx.first h) = cuAt (F := F) x1 2 := fun inb h => (cu_at _ _ 2 (by decide) inb h).trans (by rw [hf1])
    have hc3 : ∀ inb h, arg1.view.readAt (Elt F) (Rect.unit (s := S21) ![3] S1.size inb).toLoadRect f1 (Shape.Idx.first h) = cuAt (F := F) x1 3 := fun inb h => (cu_at _ _ 3 (by decide) inb h).trans (by rw [hf1])
    have hc4 : ∀ inb h, arg1.view.readAt (Elt F) (Rect.unit (s := S21) ![4] S1.size inb).toLoadRect f1 (Shape.Idx.first h) = cuAt (F := F) x1 4 := fun inb h => (cu_at _ _ 4 (by decide) inb h).trans (by rw [hf1])
    have hc5 : ∀ inb h, arg1.view.readAt (Elt F) (Rect.unit (s := S21) ![5] S1.size inb).toLoadRect f1 (Shape.Idx.first h) = cuAt (F := F) x1 5 := fun inb h => (cu_at _ _ 5 (by decide) inb h).trans (by rw [hf1])
    have hc6 : ∀ inb h, arg1.view.readAt (Elt F) (Rect.unit (s := S21) ![6] S1.size inb).toLoadRect f1 (Shape.Idx.first h) = cuAt (F := F) x1 6 := fun inb h => (cu_at _ _ 6 (by decide) inb h).trans (by rw [hf1])
    have hc7 : ∀ inb h, arg1.view.readAt (Elt F) (Rect.unit (s := S21) ![7] S1.size inb).toLoadRect f1 (Shape.Idx.first h) = cuAt (F := F) x1 7 := fun inb h => (cu_at _ _ 7 (by decide) inb h).trans (by rw [hf1])
    have hc8 : ∀ inb h, arg1.view.readAt (Elt F) (Rect.unit (s := S21) ![8] S1.size inb).toLoadRect f1 (Shape.Idx.first h) = cuAt (F := F) x1 8 := fun inb h => (cu_at _ _ 8 (by decide) inb h).trans (by rw [hf1])
    have hc9 : ∀ inb h, arg1.view.readAt (Elt F) (Rect.unit (s := S21) ![9] S1.size inb).toLoadRect f1 (Shape.Idx.first h) = cuAt (F := F) x1 9 := fun inb h => (cu_at _ _ 9 (by decide) inb h).trans (by rw [hf1])
    have hc10 : ∀ inb h, arg1.view.readAt (Elt F) (Rect.unit (s := S21) ![10] S1.size inb).toLoadRect f1 (Shape.Idx.first h) = cuAt (F := F) x1 10 := fun inb h => (cu_at _ _ 10 (by decide) inb h).trans (by rw [hf1])
    have hc11 : ∀ inb h, arg1.view.readAt (Elt F) (Rect.unit (s := S21) ![11] S1.size inb).toLoadRect f1 (Shape.Idx.first h) = cuAt (F := F) x1 11 := fun inb h => (cu_at _ _ 11 (by decide) inb h).trans (by rw [hf1])
    have hc12 : ∀ inb h, arg1.view.readAt (Elt F) (Rect.unit (s := S21) ![12] S1.size inb).toLoadRect f1 (Shape.Idx.first h) = cuAt (F := F) x1 12 := fun inb h => (cu_at _ _ 12 (by decide) inb h).trans (by rw [hf1])
    have hc13 : ∀ inb h, arg1.view.readAt (Elt F) (Rect.unit (s := S21) ![13] S1.size inb).toLoadRect f1 (Shape.Idx.first h) = cuAt (F := F) x1 13 := fun inb h => (cu_at _ _ 13 (by decide) inb h).trans (by rw [hf1])
    have hc14 : ∀ inb h, arg1.view.readAt (Elt F) (Rect.unit (s := S21) ![14] S1.size inb).toLoadRect f1 (Shape.Idx.first h) = cuAt (F := F) x1 14 := fun inb h => (cu_at _ _ 14 (by decide) inb h).trans (by rw [hf1])
    have hc15 : ∀ inb h, arg1.view.readAt (Elt F) (Rect.unit (s := S21) ![15] S1.size inb).toLoadRect f1 (Shape.Idx.first h) = cuAt (F := F) x1 15 := fun inb h => (cu_at _ _ 15 (by decide) inb h).trans (by rw [hf1])
    have hc16 : ∀ inb h, arg1.view.readAt (Elt F) (Rect.unit (s := S21) ![16] S1.size inb).toLoadRect f1 (Shape.Idx.first h) = cuAt (F := F) x1 16 := fun inb h => (cu_at _ _ 16 (by decide) inb h).trans (by rw [hf1])
    have hc17 : ∀ inb h, arg1.view.readAt (Elt F) (Rect.unit (s := S21) ![17] S1.size inb).toLoadRect f1 (Shape.Idx.first h) = cuAt (F := F) x1 17 := fun inb h => (cu_at _ _ 17 (by decide) inb h).trans (by rw [hf1])
    have hc18 : ∀ inb h, arg1.view.readAt (Elt F) (Rect.unit (s := S21) ![18] S1.size inb).toLoadRect f1 (Shape.Idx.first h) = cuAt (F := F) x1 18 := fun inb h => (cu_at _ _ 18 (by decide) inb h).trans (by rw [hf1])
    have hc19 : ∀ inb h, arg1.view.readAt (Elt F) (Rect.unit (s := S21) ![19] S1.size inb).toLoadRect f1 (Shape.Idx.first h) = cuAt (F := F) x1 19 := fun inb h => (cu_at _ _ 19 (by decide) inb h).trans (by rw [hf1])
    have hc20 : ∀ inb h, arg1.view.readAt (Elt F) (Rect.unit (s := S21) ![20] S1.size inb).toLoadRect f1 (Shape.Idx.first h) = cuAt (F := F) x1 20 := fun inb h => (cu_at _ _ 20 (by decide) inb h).trans (by rw [hf1])
    refine mVal_congr _ _ (hc1 _ _) (hc0 _ _) (hc2 _ _) (hc1 _ _) (hc3 _ _) (hc2 _ _) (hc4 _ _) (hc3 _ _) (hc5 _ _) (hc4 _ _) (hc6 _ _) (hc5 _ _) (hc7 _ _) (hc6 _ _) (hc8 _ _) (hc7 _ _) (hc9 _ _) (hc8 _ _) (hc10 _ _) (hc9 _ _) (hc11 _ _) (hc10 _ _) (hc12 _ _) (hc11 _ _) (hc13 _ _) (hc12 _ _) (hc14 _ _) (hc13 _ _) (hc15 _ _) (hc14 _ _) (hc16 _ _) (hc15 _ _) (hc17 _ _) (hc16 _ _) (hc18 _ _) (hc17 _ _) (hc19 _ _) (hc18 _ _) (hc20 _ _) (hc19 _ _) ?_
    refine (readAt_zero _ _ _).trans ?_
    refine hL3.trans ((sumTo_all _ _ _ _ _ _ rfl).trans ?_)
    refine sumNew_congr _ _ hf1 ?_ ?_
    · sl_unfold_run_names
      rw [read_zero]
      refine zLive_congr (hw _) ?_ ?_ ?_ ?_ ?_ ?_
      · exact (hb_cov _ _ _ _ _).trans (by rw [hf3, hf4])
      · exact (readAt_zero _ _ _).trans hf14
      · exact (readAt_zero _ _ _).trans hf5
      · exact (readAt_zero _ _ _).trans hf7
      · exact (readAt_zero _ _ _).trans hf8
      · exact (readAt_zero _ _ _).trans hf9
    · exact hf16
  isplitl [H12]
  · iexists _; isplitr; swap; · iexact H12
    ipureintro
    sl_unfold_run_names
    rw [read_zero]
    have hc0 : ∀ inb h, arg1.view.readAt (Elt F) (Rect.unit (s := S21) ![0] S1.size inb).toLoadRect f1 (Shape.Idx.first h) = cuAt (F := F) x1 0 := fun inb h => (cu_at _ _ 0 (by decide) inb h).trans (by rw [hf1])
    have hc1 : ∀ inb h, arg1.view.readAt (Elt F) (Rect.unit (s := S21) ![1] S1.size inb).toLoadRect f1 (Shape.Idx.first h) = cuAt (F := F) x1 1 := fun inb h => (cu_at _ _ 1 (by decide) inb h).trans (by rw [hf1])
    have hc2 : ∀ inb h, arg1.view.readAt (Elt F) (Rect.unit (s := S21) ![2] S1.size inb).toLoadRect f1 (Shape.Idx.first h) = cuAt (F := F) x1 2 := fun inb h => (cu_at _ _ 2 (by decide) inb h).trans (by rw [hf1])
    have hc3 : ∀ inb h, arg1.view.readAt (Elt F) (Rect.unit (s := S21) ![3] S1.size inb).toLoadRect f1 (Shape.Idx.first h) = cuAt (F := F) x1 3 := fun inb h => (cu_at _ _ 3 (by decide) inb h).trans (by rw [hf1])
    have hc4 : ∀ inb h, arg1.view.readAt (Elt F) (Rect.unit (s := S21) ![4] S1.size inb).toLoadRect f1 (Shape.Idx.first h) = cuAt (F := F) x1 4 := fun inb h => (cu_at _ _ 4 (by decide) inb h).trans (by rw [hf1])
    have hc5 : ∀ inb h, arg1.view.readAt (Elt F) (Rect.unit (s := S21) ![5] S1.size inb).toLoadRect f1 (Shape.Idx.first h) = cuAt (F := F) x1 5 := fun inb h => (cu_at _ _ 5 (by decide) inb h).trans (by rw [hf1])
    have hc6 : ∀ inb h, arg1.view.readAt (Elt F) (Rect.unit (s := S21) ![6] S1.size inb).toLoadRect f1 (Shape.Idx.first h) = cuAt (F := F) x1 6 := fun inb h => (cu_at _ _ 6 (by decide) inb h).trans (by rw [hf1])
    have hc7 : ∀ inb h, arg1.view.readAt (Elt F) (Rect.unit (s := S21) ![7] S1.size inb).toLoadRect f1 (Shape.Idx.first h) = cuAt (F := F) x1 7 := fun inb h => (cu_at _ _ 7 (by decide) inb h).trans (by rw [hf1])
    have hc8 : ∀ inb h, arg1.view.readAt (Elt F) (Rect.unit (s := S21) ![8] S1.size inb).toLoadRect f1 (Shape.Idx.first h) = cuAt (F := F) x1 8 := fun inb h => (cu_at _ _ 8 (by decide) inb h).trans (by rw [hf1])
    have hc9 : ∀ inb h, arg1.view.readAt (Elt F) (Rect.unit (s := S21) ![9] S1.size inb).toLoadRect f1 (Shape.Idx.first h) = cuAt (F := F) x1 9 := fun inb h => (cu_at _ _ 9 (by decide) inb h).trans (by rw [hf1])
    have hc10 : ∀ inb h, arg1.view.readAt (Elt F) (Rect.unit (s := S21) ![10] S1.size inb).toLoadRect f1 (Shape.Idx.first h) = cuAt (F := F) x1 10 := fun inb h => (cu_at _ _ 10 (by decide) inb h).trans (by rw [hf1])
    have hc11 : ∀ inb h, arg1.view.readAt (Elt F) (Rect.unit (s := S21) ![11] S1.size inb).toLoadRect f1 (Shape.Idx.first h) = cuAt (F := F) x1 11 := fun inb h => (cu_at _ _ 11 (by decide) inb h).trans (by rw [hf1])
    have hc12 : ∀ inb h, arg1.view.readAt (Elt F) (Rect.unit (s := S21) ![12] S1.size inb).toLoadRect f1 (Shape.Idx.first h) = cuAt (F := F) x1 12 := fun inb h => (cu_at _ _ 12 (by decide) inb h).trans (by rw [hf1])
    have hc13 : ∀ inb h, arg1.view.readAt (Elt F) (Rect.unit (s := S21) ![13] S1.size inb).toLoadRect f1 (Shape.Idx.first h) = cuAt (F := F) x1 13 := fun inb h => (cu_at _ _ 13 (by decide) inb h).trans (by rw [hf1])
    have hc14 : ∀ inb h, arg1.view.readAt (Elt F) (Rect.unit (s := S21) ![14] S1.size inb).toLoadRect f1 (Shape.Idx.first h) = cuAt (F := F) x1 14 := fun inb h => (cu_at _ _ 14 (by decide) inb h).trans (by rw [hf1])
    have hc15 : ∀ inb h, arg1.view.readAt (Elt F) (Rect.unit (s := S21) ![15] S1.size inb).toLoadRect f1 (Shape.Idx.first h) = cuAt (F := F) x1 15 := fun inb h => (cu_at _ _ 15 (by decide) inb h).trans (by rw [hf1])
    have hc16 : ∀ inb h, arg1.view.readAt (Elt F) (Rect.unit (s := S21) ![16] S1.size inb).toLoadRect f1 (Shape.Idx.first h) = cuAt (F := F) x1 16 := fun inb h => (cu_at _ _ 16 (by decide) inb h).trans (by rw [hf1])
    have hc17 : ∀ inb h, arg1.view.readAt (Elt F) (Rect.unit (s := S21) ![17] S1.size inb).toLoadRect f1 (Shape.Idx.first h) = cuAt (F := F) x1 17 := fun inb h => (cu_at _ _ 17 (by decide) inb h).trans (by rw [hf1])
    have hc18 : ∀ inb h, arg1.view.readAt (Elt F) (Rect.unit (s := S21) ![18] S1.size inb).toLoadRect f1 (Shape.Idx.first h) = cuAt (F := F) x1 18 := fun inb h => (cu_at _ _ 18 (by decide) inb h).trans (by rw [hf1])
    have hc19 : ∀ inb h, arg1.view.readAt (Elt F) (Rect.unit (s := S21) ![19] S1.size inb).toLoadRect f1 (Shape.Idx.first h) = cuAt (F := F) x1 19 := fun inb h => (cu_at _ _ 19 (by decide) inb h).trans (by rw [hf1])
    have hc20 : ∀ inb h, arg1.view.readAt (Elt F) (Rect.unit (s := S21) ![20] S1.size inb).toLoadRect f1 (Shape.Idx.first h) = cuAt (F := F) x1 20 := fun inb h => (cu_at _ _ 20 (by decide) inb h).trans (by rw [hf1])
    refine codesVal_congr _ _ (hc1 _ _) (hc0 _ _) (hc2 _ _) (hc1 _ _) (hc3 _ _) (hc2 _ _) (hc4 _ _) (hc3 _ _) (hc5 _ _) (hc4 _ _) (hc6 _ _) (hc5 _ _) (hc7 _ _) (hc6 _ _) (hc8 _ _) (hc7 _ _) (hc9 _ _) (hc8 _ _) (hc10 _ _) (hc9 _ _) (hc11 _ _) (hc10 _ _) (hc12 _ _) (hc11 _ _) (hc13 _ _) (hc12 _ _) (hc14 _ _) (hc13 _ _) (hc15 _ _) (hc14 _ _) (hc16 _ _) (hc15 _ _) (hc17 _ _) (hc16 _ _) (hc18 _ _) (hc17 _ _) (hc19 _ _) (hc18 _ _) (hc20 _ _) (hc19 _ _) ?_
    refine (readAt_zero _ _ _).trans ?_
    refine hL3.trans ((sumTo_all _ _ _ _ _ _ rfl).trans ?_)
    refine sumNew_congr _ _ hf1 ?_ ?_
    · sl_unfold_run_names
      rw [read_zero]
      refine zLive_congr (hw _) ?_ ?_ ?_ ?_ ?_ ?_
      · exact (hb_cov _ _ _ _ _).trans (by rw [hf3, hf4])
      · exact (readAt_zero _ _ _).trans hf14
      · exact (readAt_zero _ _ _).trans hf5
      · exact (readAt_zero _ _ _).trans hf7
      · exact (readAt_zero _ _ _).trans hf8
      · exact (readAt_zero _ _ _).trans hf9
    · exact hf16
  isplitl [H13]
  · iexists _; isplitr; swap; · iexact H13
    ipureintro
    sl_unfold_run_names
    rw [read_zero]
    have hc0 : ∀ inb h, arg1.view.readAt (Elt F) (Rect.unit (s := S21) ![0] S1.size inb).toLoadRect f1 (Shape.Idx.first h) = cuAt (F := F) x1 0 := fun inb h => (cu_at _ _ 0 (by decide) inb h).trans (by rw [hf1])
    have hc1 : ∀ inb h, arg1.view.readAt (Elt F) (Rect.unit (s := S21) ![1] S1.size inb).toLoadRect f1 (Shape.Idx.first h) = cuAt (F := F) x1 1 := fun inb h => (cu_at _ _ 1 (by decide) inb h).trans (by rw [hf1])
    have hc2 : ∀ inb h, arg1.view.readAt (Elt F) (Rect.unit (s := S21) ![2] S1.size inb).toLoadRect f1 (Shape.Idx.first h) = cuAt (F := F) x1 2 := fun inb h => (cu_at _ _ 2 (by decide) inb h).trans (by rw [hf1])
    have hc3 : ∀ inb h, arg1.view.readAt (Elt F) (Rect.unit (s := S21) ![3] S1.size inb).toLoadRect f1 (Shape.Idx.first h) = cuAt (F := F) x1 3 := fun inb h => (cu_at _ _ 3 (by decide) inb h).trans (by rw [hf1])
    have hc4 : ∀ inb h, arg1.view.readAt (Elt F) (Rect.unit (s := S21) ![4] S1.size inb).toLoadRect f1 (Shape.Idx.first h) = cuAt (F := F) x1 4 := fun inb h => (cu_at _ _ 4 (by decide) inb h).trans (by rw [hf1])
    have hc5 : ∀ inb h, arg1.view.readAt (Elt F) (Rect.unit (s := S21) ![5] S1.size inb).toLoadRect f1 (Shape.Idx.first h) = cuAt (F := F) x1 5 := fun inb h => (cu_at _ _ 5 (by decide) inb h).trans (by rw [hf1])
    have hc6 : ∀ inb h, arg1.view.readAt (Elt F) (Rect.unit (s := S21) ![6] S1.size inb).toLoadRect f1 (Shape.Idx.first h) = cuAt (F := F) x1 6 := fun inb h => (cu_at _ _ 6 (by decide) inb h).trans (by rw [hf1])
    have hc7 : ∀ inb h, arg1.view.readAt (Elt F) (Rect.unit (s := S21) ![7] S1.size inb).toLoadRect f1 (Shape.Idx.first h) = cuAt (F := F) x1 7 := fun inb h => (cu_at _ _ 7 (by decide) inb h).trans (by rw [hf1])
    have hc8 : ∀ inb h, arg1.view.readAt (Elt F) (Rect.unit (s := S21) ![8] S1.size inb).toLoadRect f1 (Shape.Idx.first h) = cuAt (F := F) x1 8 := fun inb h => (cu_at _ _ 8 (by decide) inb h).trans (by rw [hf1])
    have hc9 : ∀ inb h, arg1.view.readAt (Elt F) (Rect.unit (s := S21) ![9] S1.size inb).toLoadRect f1 (Shape.Idx.first h) = cuAt (F := F) x1 9 := fun inb h => (cu_at _ _ 9 (by decide) inb h).trans (by rw [hf1])
    have hc10 : ∀ inb h, arg1.view.readAt (Elt F) (Rect.unit (s := S21) ![10] S1.size inb).toLoadRect f1 (Shape.Idx.first h) = cuAt (F := F) x1 10 := fun inb h => (cu_at _ _ 10 (by decide) inb h).trans (by rw [hf1])
    have hc11 : ∀ inb h, arg1.view.readAt (Elt F) (Rect.unit (s := S21) ![11] S1.size inb).toLoadRect f1 (Shape.Idx.first h) = cuAt (F := F) x1 11 := fun inb h => (cu_at _ _ 11 (by decide) inb h).trans (by rw [hf1])
    have hc12 : ∀ inb h, arg1.view.readAt (Elt F) (Rect.unit (s := S21) ![12] S1.size inb).toLoadRect f1 (Shape.Idx.first h) = cuAt (F := F) x1 12 := fun inb h => (cu_at _ _ 12 (by decide) inb h).trans (by rw [hf1])
    have hc13 : ∀ inb h, arg1.view.readAt (Elt F) (Rect.unit (s := S21) ![13] S1.size inb).toLoadRect f1 (Shape.Idx.first h) = cuAt (F := F) x1 13 := fun inb h => (cu_at _ _ 13 (by decide) inb h).trans (by rw [hf1])
    have hc14 : ∀ inb h, arg1.view.readAt (Elt F) (Rect.unit (s := S21) ![14] S1.size inb).toLoadRect f1 (Shape.Idx.first h) = cuAt (F := F) x1 14 := fun inb h => (cu_at _ _ 14 (by decide) inb h).trans (by rw [hf1])
    have hc15 : ∀ inb h, arg1.view.readAt (Elt F) (Rect.unit (s := S21) ![15] S1.size inb).toLoadRect f1 (Shape.Idx.first h) = cuAt (F := F) x1 15 := fun inb h => (cu_at _ _ 15 (by decide) inb h).trans (by rw [hf1])
    have hc16 : ∀ inb h, arg1.view.readAt (Elt F) (Rect.unit (s := S21) ![16] S1.size inb).toLoadRect f1 (Shape.Idx.first h) = cuAt (F := F) x1 16 := fun inb h => (cu_at _ _ 16 (by decide) inb h).trans (by rw [hf1])
    have hc17 : ∀ inb h, arg1.view.readAt (Elt F) (Rect.unit (s := S21) ![17] S1.size inb).toLoadRect f1 (Shape.Idx.first h) = cuAt (F := F) x1 17 := fun inb h => (cu_at _ _ 17 (by decide) inb h).trans (by rw [hf1])
    have hc18 : ∀ inb h, arg1.view.readAt (Elt F) (Rect.unit (s := S21) ![18] S1.size inb).toLoadRect f1 (Shape.Idx.first h) = cuAt (F := F) x1 18 := fun inb h => (cu_at _ _ 18 (by decide) inb h).trans (by rw [hf1])
    have hc19 : ∀ inb h, arg1.view.readAt (Elt F) (Rect.unit (s := S21) ![19] S1.size inb).toLoadRect f1 (Shape.Idx.first h) = cuAt (F := F) x1 19 := fun inb h => (cu_at _ _ 19 (by decide) inb h).trans (by rw [hf1])
    have hc20 : ∀ inb h, arg1.view.readAt (Elt F) (Rect.unit (s := S21) ![20] S1.size inb).toLoadRect f1 (Shape.Idx.first h) = cuAt (F := F) x1 20 := fun inb h => (cu_at _ _ 20 (by decide) inb h).trans (by rw [hf1])
    refine scaleVal_congr _ _ (hc1 _ _) (hc0 _ _) (hc2 _ _) (hc1 _ _) (hc3 _ _) (hc2 _ _) (hc4 _ _) (hc3 _ _) (hc5 _ _) (hc4 _ _) (hc6 _ _) (hc5 _ _) (hc7 _ _) (hc6 _ _) (hc8 _ _) (hc7 _ _) (hc9 _ _) (hc8 _ _) (hc10 _ _) (hc9 _ _) (hc11 _ _) (hc10 _ _) (hc12 _ _) (hc11 _ _) (hc13 _ _) (hc12 _ _) (hc14 _ _) (hc13 _ _) (hc15 _ _) (hc14 _ _) (hc16 _ _) (hc15 _ _) (hc17 _ _) (hc16 _ _) (hc18 _ _) (hc17 _ _) (hc19 _ _) (hc18 _ _) (hc20 _ _) (hc19 _ _) ?_
    refine (readAt_zero _ _ _).trans ?_
    refine hL3.trans ((sumTo_all _ _ _ _ _ _ rfl).trans ?_)
    refine sumNew_congr _ _ hf1 ?_ ?_
    · sl_unfold_run_names
      rw [read_zero]
      refine zLive_congr (hw _) ?_ ?_ ?_ ?_ ?_ ?_
      · exact (hb_cov _ _ _ _ _).trans (by rw [hf3, hf4])
      · exact (readAt_zero _ _ _).trans hf14
      · exact (readAt_zero _ _ _).trans hf5
      · exact (readAt_zero _ _ _).trans hf7
      · exact (readAt_zero _ _ _).trans hf8
      · exact (readAt_zero _ _ _).trans hf9
    · exact hf16
  isplitl [H14]
  · iexists _; isplitr; swap; · iexact H14
    ipureintro
    sl_unfold_run_names
    exact hf14
  isplitl [H16]
  · iexists _; isplitr; swap; · iexact H16
    ipureintro
    sl_unfold_run_names
    refine hL3.trans ((sumTo_all _ _ _ _ _ _ rfl).trans ?_)
    refine sumNew_congr _ _ hf1 ?_ ?_
    · sl_unfold_run_names
      rw [read_zero]
      refine zLive_congr (hw _) ?_ ?_ ?_ ?_ ?_ ?_
      · exact (hb_cov _ _ _ _ _).trans (by rw [hf3, hf4])
      · exact (readAt_zero _ _ _).trans hf14
      · exact (readAt_zero _ _ _).trans hf5
      · exact (readAt_zero _ _ _).trans hf7
      · exact (readAt_zero _ _ _).trans hf8
      · exact (readAt_zero _ _ _).trans hf9
    · exact hf16
  iexists _; iexists _; isplitr; swap; · iexact H15
  ipureintro; rfl

set_option maxHeartbeats 20000000 in
theorem body_L_dead (c : Dev nD) (i : grid0.Coords) (arg1 : Memref sig .tc .smem S21 .i32) (harg1 : arg1.IsWhole) (arg2 : Memref sig .tc .smem S70x12 .f32) (harg2 : arg2.IsWhole) (arg3 : Memref sig .tc .vmem S128x8960 .fp8e4m3) (harg3 : arg3.IsWhole) (arg4 : Memref sig .tc .vmem S128x70 .f32) (harg4 : arg4.IsWhole) (arg5 : Memref sig .tc .vmem S128x1536 .bf16) (harg5 : arg5.IsWhole) (arg6 : Memref sig .tc .vmem S8960x1536 .fp8e4m3) (harg6 : arg6.IsWhole) (arg7 : Memref sig .tc .vmem S1x1536 .f32) (harg7 : arg7.IsWhole) (arg8 : Memref sig .tc .vmem S1x1536 .f32) (harg8 : arg8.IsWhole) (arg9 : Memref sig .tc .vmem S1x1536 .f32) (harg9 : arg9.IsWhole) (arg10 : Memref sig .tc .vmem S128x1536 .f32) (harg10 : arg10.IsWhole) (arg11 : Memref sig .tc .vmem S20x1536 .f32) (harg11 : arg11.IsWhole) (arg12 : Memref sig .tc .vmem S20x1536 .i8) (harg12 : arg12.IsWhole) (arg13 : Memref sig .tc .vmem S20x1 .f32) (harg13 : arg13.IsWhole) (arg14 : Memref sig .tc .vmem S8960x1536 .bf16) (harg14 : arg14.IsWhole) (arg15 : Memref sig .tc .vmem S128x8960 .bf16) (harg15 : arg15.IsWhole) (arg16 : Memref sig .tc .vmem S20x1536 .f32) (harg16 : arg16.IsWhole) (q : PosShare TreeShare) (x1 : S21.Idx → Elt F .i32) (x2 : S70x12.Idx → Elt F .f32) (x3 : S128x8960.Idx → Elt F .fp8e4m3) (x4 : S128x70.Idx → Elt F .f32) (x5 : S128x1536.Idx → Elt F .bf16) (x6 : S8960x1536.Idx → Elt F .fp8e4m3) (x7 : S1x1536.Idx → Elt F .f32) (x8 : S1x1536.Idx → Elt F .f32) (x9 : S1x1536.Idx → Elt F .f32) (x10 : S128x1536.Idx → Elt F .f32) (x11 : S20x1536.Idx → Elt F .f32) (x12 : S20x1536.Idx → Elt F .i8) (x13 : S20x1.Idx → Elt F .f32) (x14 : S8960x1536.Idx → Elt F .bf16) (x16 : S20x1536.Idx → Elt F .f32)
    (h1 : ¬ k0_cond1 i = 1#1) (h2' : k0_cond2 i (cuAt (F := F) x1 20) = 1#1)
    (h3' : ¬ k0_cond3 i (cuAt (F := F) x1 20) = 1#1) (h5 : k0_cond5 i = 1#1) :
    Held c arg1 arg2 arg3 arg4 arg5 arg6 arg7 arg8 arg9 arg10 arg11 arg12 arg13 arg14 arg15 arg16 q x1 x2 x3 x4 x5 x6 x7 x8 x9 x10 x11 x12 x13 x14 x16
      ⊢ wp frame (wpE (defs₀ (F := F)) Variants.none (c : Thread nD τ) none) Set.univ (cc0_ffn_down_ln_pool (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => Held c arg1 arg2 arg3 arg4 arg5 arg6 arg7 arg8 arg9 arg10 arg11 arg12 arg13 arg14 arg15 arg16 q x1 x2 x3 x4 x5 x6 x7 x8 x9 Gen.k0_pay4 (mVal x1 x16) (codesVal x1 x16) (scaleVal x1 x16) x14 x16) := by
  simp only [Gen.cc0_ffn_down_ln_pool_eq_skeleton]
  unfold Gen.cc0_ffn_down_ln_pool_skel
  simp only [Gen.k0_part21_eq_skeleton, Gen.k0_part22_eq_skeleton, Gen.k0_part23_eq_skeleton, Gen.k0_part24_eq_skeleton]
  unfold Held owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f16, %hf16, H16⟩, ⟨%y15, %f15, %hf15, H15⟩⟩
  have hw : ∀ h, arg1.view.readAt (Elt F) (Rect.unit (s := S21) ![20] S1.size Gen.inb_S21_S1_20).toLoadRect f1 (Shape.Idx.first h)
      = cuAt (F := F) x1 20 := fun h => by rw [cu_at, hf1]
  have h2 : ∀ h, k0_cond2 i (arg1.view.readAt (Elt F) (Rect.unit (s := S21) ![20] S1.size Gen.inb_S21_S1_20).toLoadRect f1 (Shape.Idx.first h)) = 1#1 :=
    fun h => by rw [hw h]; exact h2'
  have h3 : ∀ h, ¬ k0_cond3 i (arg1.view.readAt (Elt F) (Rect.unit (s := S21) ![20] S1.size Gen.inb_S21_S1_20).toLoadRect f1 (Shape.Idx.first h)) = 1#1 :=
    fun h => by rw [hw h]; exact h3'
  have h2 := h2 (by show 0 < S1.numel; decide)
  have h3 := h3 (by show 0 < S1.numel; decide)
  sl_exec
  sl_step
  isplitl [H1]
  · iexists f1; isplitr; swap; · iexact H1
    ipureintro
    exact hf1
  isplitl [H2]
  · iexists f2; isplitr; swap; · iexact H2
    ipureintro
    exact hf2
  isplitl [H3]
  · iexists f3; isplitr; swap; · iexact H3
    ipureintro
    exact hf3
  isplitl [H4]
  · iexists f4; isplitr; swap; · iexact H4
    ipureintro
    exact hf4
  isplitl [H5]
  · iexists f5; isplitr; swap; · iexact H5
    ipureintro
    exact hf5
  isplitl [H6]
  · iexists f6; isplitr; swap; · iexact H6
    ipureintro
    exact hf6
  isplitl [H7]
  · iexists f7; isplitr; swap; · iexact H7
    ipureintro
    exact hf7
  isplitl [H8]
  · iexists f8; isplitr; swap; · iexact H8
    ipureintro
    exact hf8
  isplitl [H9]
  · iexists f9; isplitr; swap; · iexact H9
    ipureintro
    exact hf9
  isplitl [H10]
  · iexists _; isplitr; swap; · iexact H10
    ipureintro
    sl_unfold_run_names
    exact read_zero _ _ _ _ _
  isplitl [H11]
  · iexists _; isplitr; swap; · iexact H11
    ipureintro
    sl_unfold_run_names
    rw [read_zero]
    have hc0 : ∀ inb h, arg1.view.readAt (Elt F) (Rect.unit (s := S21) ![0] S1.size inb).toLoadRect f1 (Shape.Idx.first h) = cuAt (F := F) x1 0 := fun inb h => (cu_at _ _ 0 (by decide) inb h).trans (by rw [hf1])
    have hc1 : ∀ inb h, arg1.view.readAt (Elt F) (Rect.unit (s := S21) ![1] S1.size inb).toLoadRect f1 (Shape.Idx.first h) = cuAt (F := F) x1 1 := fun inb h => (cu_at _ _ 1 (by decide) inb h).trans (by rw [hf1])
    have hc2 : ∀ inb h, arg1.view.readAt (Elt F) (Rect.unit (s := S21) ![2] S1.size inb).toLoadRect f1 (Shape.Idx.first h) = cuAt (F := F) x1 2 := fun inb h => (cu_at _ _ 2 (by decide) inb h).trans (by rw [hf1])
    have hc3 : ∀ inb h, arg1.view.readAt (Elt F) (Rect.unit (s := S21) ![3] S1.size inb).toLoadRect f1 (Shape.Idx.first h) = cuAt (F := F) x1 3 := fun inb h => (cu_at _ _ 3 (by decide) inb h).trans (by rw [hf1])
    have hc4 : ∀ inb h, arg1.view.readAt (Elt F) (Rect.unit (s := S21) ![4] S1.size inb).toLoadRect f1 (Shape.Idx.first h) = cuAt (F := F) x1 4 := fun inb h => (cu_at _ _ 4 (by decide) inb h).trans (by rw [hf1])
    have hc5 : ∀ inb h, arg1.view.readAt (Elt F) (Rect.unit (s := S21) ![5] S1.size inb).toLoadRect f1 (Shape.Idx.first h) = cuAt (F := F) x1 5 := fun inb h => (cu_at _ _ 5 (by decide) inb h).trans (by rw [hf1])
    have hc6 : ∀ inb h, arg1.view.readAt (Elt F) (Rect.unit (s := S21) ![6] S1.size inb).toLoadRect f1 (Shape.Idx.first h) = cuAt (F := F) x1 6 := fun inb h => (cu_at _ _ 6 (by decide) inb h).trans (by rw [hf1])
    have hc7 : ∀ inb h, arg1.view.readAt (Elt F) (Rect.unit (s := S21) ![7] S1.size inb).toLoadRect f1 (Shape.Idx.first h) = cuAt (F := F) x1 7 := fun inb h => (cu_at _ _ 7 (by decide) inb h).trans (by rw [hf1])
    have hc8 : ∀ inb h, arg1.view.readAt (Elt F) (Rect.unit (s := S21) ![8] S1.size inb).toLoadRect f1 (Shape.Idx.first h) = cuAt (F := F) x1 8 := fun inb h => (cu_at _ _ 8 (by decide) inb h).trans (by rw [hf1])
    have hc9 : ∀ inb h, arg1.view.readAt (Elt F) (Rect.unit (s := S21) ![9] S1.size inb).toLoadRect f1 (Shape.Idx.first h) = cuAt (F := F) x1 9 := fun inb h => (cu_at _ _ 9 (by decide) inb h).trans (by rw [hf1])
    have hc10 : ∀ inb h, arg1.view.readAt (Elt F) (Rect.unit (s := S21) ![10] S1.size inb).toLoadRect f1 (Shape.Idx.first h) = cuAt (F := F) x1 10 := fun inb h => (cu_at _ _ 10 (by decide) inb h).trans (by rw [hf1])
    have hc11 : ∀ inb h, arg1.view.readAt (Elt F) (Rect.unit (s := S21) ![11] S1.size inb).toLoadRect f1 (Shape.Idx.first h) = cuAt (F := F) x1 11 := fun inb h => (cu_at _ _ 11 (by decide) inb h).trans (by rw [hf1])
    have hc12 : ∀ inb h, arg1.view.readAt (Elt F) (Rect.unit (s := S21) ![12] S1.size inb).toLoadRect f1 (Shape.Idx.first h) = cuAt (F := F) x1 12 := fun inb h => (cu_at _ _ 12 (by decide) inb h).trans (by rw [hf1])
    have hc13 : ∀ inb h, arg1.view.readAt (Elt F) (Rect.unit (s := S21) ![13] S1.size inb).toLoadRect f1 (Shape.Idx.first h) = cuAt (F := F) x1 13 := fun inb h => (cu_at _ _ 13 (by decide) inb h).trans (by rw [hf1])
    have hc14 : ∀ inb h, arg1.view.readAt (Elt F) (Rect.unit (s := S21) ![14] S1.size inb).toLoadRect f1 (Shape.Idx.first h) = cuAt (F := F) x1 14 := fun inb h => (cu_at _ _ 14 (by decide) inb h).trans (by rw [hf1])
    have hc15 : ∀ inb h, arg1.view.readAt (Elt F) (Rect.unit (s := S21) ![15] S1.size inb).toLoadRect f1 (Shape.Idx.first h) = cuAt (F := F) x1 15 := fun inb h => (cu_at _ _ 15 (by decide) inb h).trans (by rw [hf1])
    have hc16 : ∀ inb h, arg1.view.readAt (Elt F) (Rect.unit (s := S21) ![16] S1.size inb).toLoadRect f1 (Shape.Idx.first h) = cuAt (F := F) x1 16 := fun inb h => (cu_at _ _ 16 (by decide) inb h).trans (by rw [hf1])
    have hc17 : ∀ inb h, arg1.view.readAt (Elt F) (Rect.unit (s := S21) ![17] S1.size inb).toLoadRect f1 (Shape.Idx.first h) = cuAt (F := F) x1 17 := fun inb h => (cu_at _ _ 17 (by decide) inb h).trans (by rw [hf1])
    have hc18 : ∀ inb h, arg1.view.readAt (Elt F) (Rect.unit (s := S21) ![18] S1.size inb).toLoadRect f1 (Shape.Idx.first h) = cuAt (F := F) x1 18 := fun inb h => (cu_at _ _ 18 (by decide) inb h).trans (by rw [hf1])
    have hc19 : ∀ inb h, arg1.view.readAt (Elt F) (Rect.unit (s := S21) ![19] S1.size inb).toLoadRect f1 (Shape.Idx.first h) = cuAt (F := F) x1 19 := fun inb h => (cu_at _ _ 19 (by decide) inb h).trans (by rw [hf1])
    have hc20 : ∀ inb h, arg1.view.readAt (Elt F) (Rect.unit (s := S21) ![20] S1.size inb).toLoadRect f1 (Shape.Idx.first h) = cuAt (F := F) x1 20 := fun inb h => (cu_at _ _ 20 (by decide) inb h).trans (by rw [hf1])
    refine mVal_congr _ _ (hc1 _ _) (hc0 _ _) (hc2 _ _) (hc1 _ _) (hc3 _ _) (hc2 _ _) (hc4 _ _) (hc3 _ _) (hc5 _ _) (hc4 _ _) (hc6 _ _) (hc5 _ _) (hc7 _ _) (hc6 _ _) (hc8 _ _) (hc7 _ _) (hc9 _ _) (hc8 _ _) (hc10 _ _) (hc9 _ _) (hc11 _ _) (hc10 _ _) (hc12 _ _) (hc11 _ _) (hc13 _ _) (hc12 _ _) (hc14 _ _) (hc13 _ _) (hc15 _ _) (hc14 _ _) (hc16 _ _) (hc15 _ _) (hc17 _ _) (hc16 _ _) (hc18 _ _) (hc17 _ _) (hc19 _ _) (hc18 _ _) (hc20 _ _) (hc19 _ _) ?_
    exact (readAt_zero _ _ _).trans hf16
  isplitl [H12]
  · iexists _; isplitr; swap; · iexact H12
    ipureintro
    sl_unfold_run_names
    rw [read_zero]
    have hc0 : ∀ inb h, arg1.view.readAt (Elt F) (Rect.unit (s := S21) ![0] S1.size inb).toLoadRect f1 (Shape.Idx.first h) = cuAt (F := F) x1 0 := fun inb h => (cu_at _ _ 0 (by decide) inb h).trans (by rw [hf1])
    have hc1 : ∀ inb h, arg1.view.readAt (Elt F) (Rect.unit (s := S21) ![1] S1.size inb).toLoadRect f1 (Shape.Idx.first h) = cuAt (F := F) x1 1 := fun inb h => (cu_at _ _ 1 (by decide) inb h).trans (by rw [hf1])
    have hc2 : ∀ inb h, arg1.view.readAt (Elt F) (Rect.unit (s := S21) ![2] S1.size inb).toLoadRect f1 (Shape.Idx.first h) = cuAt (F := F) x1 2 := fun inb h => (cu_at _ _ 2 (by decide) inb h).trans (by rw [hf1])
    have hc3 : ∀ inb h, arg1.view.readAt (Elt F) (Rect.unit (s := S21) ![3] S1.size inb).toLoadRect f1 (Shape.Idx.first h) = cuAt (F := F) x1 3 := fun inb h => (cu_at _ _ 3 (by decide) inb h).trans (by rw [hf1])
    have hc4 : ∀ inb h, arg1.view.readAt (Elt F) (Rect.unit (s := S21) ![4] S1.size inb).toLoadRect f1 (Shape.Idx.first h) = cuAt (F := F) x1 4 := fun inb h => (cu_at _ _ 4 (by decide) inb h).trans (by rw [hf1])
    have hc5 : ∀ inb h, arg1.view.readAt (Elt F) (Rect.unit (s := S21) ![5] S1.size inb).toLoadRect f1 (Shape.Idx.first h) = cuAt (F := F) x1 5 := fun inb h => (cu_at _ _ 5 (by decide) inb h).trans (by rw [hf1])
    have hc6 : ∀ inb h, arg1.view.readAt (Elt F) (Rect.unit (s := S21) ![6] S1.size inb).toLoadRect f1 (Shape.Idx.first h) = cuAt (F := F) x1 6 := fun inb h => (cu_at _ _ 6 (by decide) inb h).trans (by rw [hf1])
    have hc7 : ∀ inb h, arg1.view.readAt (Elt F) (Rect.unit (s := S21) ![7] S1.size inb).toLoadRect f1 (Shape.Idx.first h) = cuAt (F := F) x1 7 := fun inb h => (cu_at _ _ 7 (by decide) inb h).trans (by rw [hf1])
    have hc8 : ∀ inb h, arg1.view.readAt (Elt F) (Rect.unit (s := S21) ![8] S1.size inb).toLoadRect f1 (Shape.Idx.first h) = cuAt (F := F) x1 8 := fun inb h => (cu_at _ _ 8 (by decide) inb h).trans (by rw [hf1])
    have hc9 : ∀ inb h, arg1.view.readAt (Elt F) (Rect.unit (s := S21) ![9] S1.size inb).toLoadRect f1 (Shape.Idx.first h) = cuAt (F := F) x1 9 := fun inb h => (cu_at _ _ 9 (by decide) inb h).trans (by rw [hf1])
    have hc10 : ∀ inb h, arg1.view.readAt (Elt F) (Rect.unit (s := S21) ![10] S1.size inb).toLoadRect f1 (Shape.Idx.first h) = cuAt (F := F) x1 10 := fun inb h => (cu_at _ _ 10 (by decide) inb h).trans (by rw [hf1])
    have hc11 : ∀ inb h, arg1.view.readAt (Elt F) (Rect.unit (s := S21) ![11] S1.size inb).toLoadRect f1 (Shape.Idx.first h) = cuAt (F := F) x1 11 := fun inb h => (cu_at _ _ 11 (by decide) inb h).trans (by rw [hf1])
    have hc12 : ∀ inb h, arg1.view.readAt (Elt F) (Rect.unit (s := S21) ![12] S1.size inb).toLoadRect f1 (Shape.Idx.first h) = cuAt (F := F) x1 12 := fun inb h => (cu_at _ _ 12 (by decide) inb h).trans (by rw [hf1])
    have hc13 : ∀ inb h, arg1.view.readAt (Elt F) (Rect.unit (s := S21) ![13] S1.size inb).toLoadRect f1 (Shape.Idx.first h) = cuAt (F := F) x1 13 := fun inb h => (cu_at _ _ 13 (by decide) inb h).trans (by rw [hf1])
    have hc14 : ∀ inb h, arg1.view.readAt (Elt F) (Rect.unit (s := S21) ![14] S1.size inb).toLoadRect f1 (Shape.Idx.first h) = cuAt (F := F) x1 14 := fun inb h => (cu_at _ _ 14 (by decide) inb h).trans (by rw [hf1])
    have hc15 : ∀ inb h, arg1.view.readAt (Elt F) (Rect.unit (s := S21) ![15] S1.size inb).toLoadRect f1 (Shape.Idx.first h) = cuAt (F := F) x1 15 := fun inb h => (cu_at _ _ 15 (by decide) inb h).trans (by rw [hf1])
    have hc16 : ∀ inb h, arg1.view.readAt (Elt F) (Rect.unit (s := S21) ![16] S1.size inb).toLoadRect f1 (Shape.Idx.first h) = cuAt (F := F) x1 16 := fun inb h => (cu_at _ _ 16 (by decide) inb h).trans (by rw [hf1])
    have hc17 : ∀ inb h, arg1.view.readAt (Elt F) (Rect.unit (s := S21) ![17] S1.size inb).toLoadRect f1 (Shape.Idx.first h) = cuAt (F := F) x1 17 := fun inb h => (cu_at _ _ 17 (by decide) inb h).trans (by rw [hf1])
    have hc18 : ∀ inb h, arg1.view.readAt (Elt F) (Rect.unit (s := S21) ![18] S1.size inb).toLoadRect f1 (Shape.Idx.first h) = cuAt (F := F) x1 18 := fun inb h => (cu_at _ _ 18 (by decide) inb h).trans (by rw [hf1])
    have hc19 : ∀ inb h, arg1.view.readAt (Elt F) (Rect.unit (s := S21) ![19] S1.size inb).toLoadRect f1 (Shape.Idx.first h) = cuAt (F := F) x1 19 := fun inb h => (cu_at _ _ 19 (by decide) inb h).trans (by rw [hf1])
    have hc20 : ∀ inb h, arg1.view.readAt (Elt F) (Rect.unit (s := S21) ![20] S1.size inb).toLoadRect f1 (Shape.Idx.first h) = cuAt (F := F) x1 20 := fun inb h => (cu_at _ _ 20 (by decide) inb h).trans (by rw [hf1])
    refine codesVal_congr _ _ (hc1 _ _) (hc0 _ _) (hc2 _ _) (hc1 _ _) (hc3 _ _) (hc2 _ _) (hc4 _ _) (hc3 _ _) (hc5 _ _) (hc4 _ _) (hc6 _ _) (hc5 _ _) (hc7 _ _) (hc6 _ _) (hc8 _ _) (hc7 _ _) (hc9 _ _) (hc8 _ _) (hc10 _ _) (hc9 _ _) (hc11 _ _) (hc10 _ _) (hc12 _ _) (hc11 _ _) (hc13 _ _) (hc12 _ _) (hc14 _ _) (hc13 _ _) (hc15 _ _) (hc14 _ _) (hc16 _ _) (hc15 _ _) (hc17 _ _) (hc16 _ _) (hc18 _ _) (hc17 _ _) (hc19 _ _) (hc18 _ _) (hc20 _ _) (hc19 _ _) ?_
    exact (readAt_zero _ _ _).trans hf16
  isplitl [H13]
  · iexists _; isplitr; swap; · iexact H13
    ipureintro
    sl_unfold_run_names
    rw [read_zero]
    have hc0 : ∀ inb h, arg1.view.readAt (Elt F) (Rect.unit (s := S21) ![0] S1.size inb).toLoadRect f1 (Shape.Idx.first h) = cuAt (F := F) x1 0 := fun inb h => (cu_at _ _ 0 (by decide) inb h).trans (by rw [hf1])
    have hc1 : ∀ inb h, arg1.view.readAt (Elt F) (Rect.unit (s := S21) ![1] S1.size inb).toLoadRect f1 (Shape.Idx.first h) = cuAt (F := F) x1 1 := fun inb h => (cu_at _ _ 1 (by decide) inb h).trans (by rw [hf1])
    have hc2 : ∀ inb h, arg1.view.readAt (Elt F) (Rect.unit (s := S21) ![2] S1.size inb).toLoadRect f1 (Shape.Idx.first h) = cuAt (F := F) x1 2 := fun inb h => (cu_at _ _ 2 (by decide) inb h).trans (by rw [hf1])
    have hc3 : ∀ inb h, arg1.view.readAt (Elt F) (Rect.unit (s := S21) ![3] S1.size inb).toLoadRect f1 (Shape.Idx.first h) = cuAt (F := F) x1 3 := fun inb h => (cu_at _ _ 3 (by decide) inb h).trans (by rw [hf1])
    have hc4 : ∀ inb h, arg1.view.readAt (Elt F) (Rect.unit (s := S21) ![4] S1.size inb).toLoadRect f1 (Shape.Idx.first h) = cuAt (F := F) x1 4 := fun inb h => (cu_at _ _ 4 (by decide) inb h).trans (by rw [hf1])
    have hc5 : ∀ inb h, arg1.view.readAt (Elt F) (Rect.unit (s := S21) ![5] S1.size inb).toLoadRect f1 (Shape.Idx.first h) = cuAt (F := F) x1 5 := fun inb h => (cu_at _ _ 5 (by decide) inb h).trans (by rw [hf1])
    have hc6 : ∀ inb h, arg1.view.readAt (Elt F) (Rect.unit (s := S21) ![6] S1.size inb).toLoadRect f1 (Shape.Idx.first h) = cuAt (F := F) x1 6 := fun inb h => (cu_at _ _ 6 (by decide) inb h).trans (by rw [hf1])
    have hc7 : ∀ inb h, arg1.view.readAt (Elt F) (Rect.unit (s := S21) ![7] S1.size inb).toLoadRect f1 (Shape.Idx.first h) = cuAt (F := F) x1 7 := fun inb h => (cu_at _ _ 7 (by decide) inb h).trans (by rw [hf1])
    have hc8 : ∀ inb h, arg1.view.readAt (Elt F) (Rect.unit (s := S21) ![8] S1.size inb).toLoadRect f1 (Shape.Idx.first h) = cuAt (F := F) x1 8 := fun inb h => (cu_at _ _ 8 (by decide) inb h).trans (by rw [hf1])
    have hc9 : ∀ inb h, arg1.view.readAt (Elt F) (Rect.unit (s := S21) ![9] S1.size inb).toLoadRect f1 (Shape.Idx.first h) = cuAt (F := F) x1 9 := fun inb h => (cu_at _ _ 9 (by decide) inb h).trans (by rw [hf1])
    have hc10 : ∀ inb h, arg1.view.readAt (Elt F) (Rect.unit (s := S21) ![10] S1.size inb).toLoadRect f1 (Shape.Idx.first h) = cuAt (F := F) x1 10 := fun inb h => (cu_at _ _ 10 (by decide) inb h).trans (by rw [hf1])
    have hc11 : ∀ inb h, arg1.view.readAt (Elt F) (Rect.unit (s := S21) ![11] S1.size inb).toLoadRect f1 (Shape.Idx.first h) = cuAt (F := F) x1 11 := fun inb h => (cu_at _ _ 11 (by decide) inb h).trans (by rw [hf1])
    have hc12 : ∀ inb h, arg1.view.readAt (Elt F) (Rect.unit (s := S21) ![12] S1.size inb).toLoadRect f1 (Shape.Idx.first h) = cuAt (F := F) x1 12 := fun inb h => (cu_at _ _ 12 (by decide) inb h).trans (by rw [hf1])
    have hc13 : ∀ inb h, arg1.view.readAt (Elt F) (Rect.unit (s := S21) ![13] S1.size inb).toLoadRect f1 (Shape.Idx.first h) = cuAt (F := F) x1 13 := fun inb h => (cu_at _ _ 13 (by decide) inb h).trans (by rw [hf1])
    have hc14 : ∀ inb h, arg1.view.readAt (Elt F) (Rect.unit (s := S21) ![14] S1.size inb).toLoadRect f1 (Shape.Idx.first h) = cuAt (F := F) x1 14 := fun inb h => (cu_at _ _ 14 (by decide) inb h).trans (by rw [hf1])
    have hc15 : ∀ inb h, arg1.view.readAt (Elt F) (Rect.unit (s := S21) ![15] S1.size inb).toLoadRect f1 (Shape.Idx.first h) = cuAt (F := F) x1 15 := fun inb h => (cu_at _ _ 15 (by decide) inb h).trans (by rw [hf1])
    have hc16 : ∀ inb h, arg1.view.readAt (Elt F) (Rect.unit (s := S21) ![16] S1.size inb).toLoadRect f1 (Shape.Idx.first h) = cuAt (F := F) x1 16 := fun inb h => (cu_at _ _ 16 (by decide) inb h).trans (by rw [hf1])
    have hc17 : ∀ inb h, arg1.view.readAt (Elt F) (Rect.unit (s := S21) ![17] S1.size inb).toLoadRect f1 (Shape.Idx.first h) = cuAt (F := F) x1 17 := fun inb h => (cu_at _ _ 17 (by decide) inb h).trans (by rw [hf1])
    have hc18 : ∀ inb h, arg1.view.readAt (Elt F) (Rect.unit (s := S21) ![18] S1.size inb).toLoadRect f1 (Shape.Idx.first h) = cuAt (F := F) x1 18 := fun inb h => (cu_at _ _ 18 (by decide) inb h).trans (by rw [hf1])
    have hc19 : ∀ inb h, arg1.view.readAt (Elt F) (Rect.unit (s := S21) ![19] S1.size inb).toLoadRect f1 (Shape.Idx.first h) = cuAt (F := F) x1 19 := fun inb h => (cu_at _ _ 19 (by decide) inb h).trans (by rw [hf1])
    have hc20 : ∀ inb h, arg1.view.readAt (Elt F) (Rect.unit (s := S21) ![20] S1.size inb).toLoadRect f1 (Shape.Idx.first h) = cuAt (F := F) x1 20 := fun inb h => (cu_at _ _ 20 (by decide) inb h).trans (by rw [hf1])
    refine scaleVal_congr _ _ (hc1 _ _) (hc0 _ _) (hc2 _ _) (hc1 _ _) (hc3 _ _) (hc2 _ _) (hc4 _ _) (hc3 _ _) (hc5 _ _) (hc4 _ _) (hc6 _ _) (hc5 _ _) (hc7 _ _) (hc6 _ _) (hc8 _ _) (hc7 _ _) (hc9 _ _) (hc8 _ _) (hc10 _ _) (hc9 _ _) (hc11 _ _) (hc10 _ _) (hc12 _ _) (hc11 _ _) (hc13 _ _) (hc12 _ _) (hc14 _ _) (hc13 _ _) (hc15 _ _) (hc14 _ _) (hc16 _ _) (hc15 _ _) (hc17 _ _) (hc16 _ _) (hc18 _ _) (hc17 _ _) (hc19 _ _) (hc18 _ _) (hc20 _ _) (hc19 _ _) ?_
    exact (readAt_zero _ _ _).trans hf16
  isplitl [H14]
  · iexists _; isplitr; swap; · iexact H14
    ipureintro
    sl_unfold_run_names
    exact hf14
  isplitl [H16]
  · iexists _; isplitr; swap; · iexact H16
    ipureintro
    sl_unfold_run_names
    exact hf16
  iexists _; iexists _; isplitr; swap; · iexact H15
  ipureintro; rfl
end Cert.Proof.Kernel
end
end
-- ==== Proof.Kern.Tab.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Kern.BodyF
public import proofs.«01_k».proof.Proof.Kern.BodyM
public import proofs.«01_k».proof.Proof.Kern.BodyL
public import Idealize.ShloMosaic.Lib.Claim
public import Idealize.ShloMosaic.Lib.Pipeline.Frame
public import Idealize.ShloMosaic.Lib.Pipeline.FrameBody
public import Idealize.ShloMosaic.Lib.Pipeline.Kit
public import Idealize.ShloMosaic.Adequacy
public import Idealize.ShloMosaic.Init
public import Idealize.ShloMosaic.Lib.WritesUnit
public import Idealize.ShloMosaic.Lib.VecWindow
public import Idealize.ShloMosaic.Lib.Pointwise

@[expose] public section

set_option maxRecDepth 16384
set_option maxHeartbeats 4000000

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Pipeline (Dat Cfg Window)

local notation "𝕄" => MT nD τ sig Unit (Elt F) ℕ (UR sig nD τ) ℕ

/-! ## The words the kernel decides by -/

theorem cond1_iff : ∀ t : Fin grid0.N, k0_cond1 (grid0.coords t) = 1#1 ↔ t.val = 0 := by decide +kernel

theorem cond5_iff : ∀ t : Fin grid0.N, k0_cond5 (grid0.coords t) = 1#1 ↔ t.val = 179 := by decide +kernel

theorem ne_extui (b : BitVec 1) : Scalar.cmpi .ne (Scalar.extui b : BitVec 32) 0#32 = b := by
  revert b; decide

/-- A tile is either live or not: the two conditions are each other's negation. -/
theorem cond2_iff (i : grid0.Coords) (v : BitVec 32) : k0_cond2 i v = 1#1 ↔ ¬ k0_cond3 i v = 1#1 := by
  simp only [k0_cond2, k0_cond3, ne_extui, Scalar.cmpi, IntOp.cmpi]
  generalize (Scalar.muli (BitVec.ofNat 32 (i 0).val) 128#32) = a
  have h : v.sle a = !(a.slt v) := by
    rw [BitVec.sle_eq_not_slt]
  rw [h]
  cases a.slt v <;> decide

/-- The block index of the row windows is at most 179. -/
theorem min_max_le (n : ℕ) (hn : n < 180) (x : BitVec 32) :
    (Scalar.minsi (BitVec.ofNat 32 n) (Scalar.maxsi x 0#32)).toNat ≤ 179 := by
  have e : (BitVec.ofNat 32 n).toNat = n := by rw [BitVec.toNat_ofNat]; omega
  have hy : ¬ (Scalar.maxsi x 0#32).slt 0#32 = true := by
    unfold Scalar.maxsi IntOp.maxsi
    split
    · rename_i h
      simp only [BitVec.slt_iff_toInt_lt] at h ⊢
      omega
    · decide
  revert hy
  generalize Scalar.maxsi x 0#32 = y
  intro hy
  unfold Scalar.minsi IntOp.minsi
  split
  · omega
  · rename_i h
    simp only [BitVec.slt_iff_toInt_lt, not_lt, BitVec.toInt_eq_toNat_cond, e] at h hy
    simp at h hy
    split at h <;> split at hy <;> omega

theorem row_map1 (pf : pre0.Contents (Elt F)) (i : grid0.Coords) : ∃ n, n ≤ 179 ∧ cc0_transform_1 Gen.inb_S21_S1_20 Gen.numel1_S1 pf i = ![n, 0] :=
  ⟨_, min_max_le _ (i 0).isLt _, rfl⟩
theorem row_map2 (pf : pre0.Contents (Elt F)) (i : grid0.Coords) : ∃ n, n ≤ 179 ∧ cc0_transform_2 Gen.inb_S21_S1_20 Gen.numel1_S1 pf i = ![n, 0] :=
  ⟨_, min_max_le _ (i 0).isLt _, rfl⟩
theorem row_map3 (pf : pre0.Contents (Elt F)) (i : grid0.Coords) : ∃ n, n ≤ 179 ∧ cc0_transform_3 Gen.inb_S21_S1_20 Gen.numel1_S1 pf i = ![n, 0] :=
  ⟨_, min_max_le _ (i 0).isLt _, rfl⟩

/-- Whatever the prefix sums hold, every block lies inside its array. -/
theorem ok_all (pf : pre0.Contents (Elt F)) : ok0 pf := by
  refine ⟨fun i => ⟨?_, .inr (Affine.block_words_dvd (of_decide_eq_true rfl) (by decide))⟩,
    fun i => ⟨?_, .inl rfl⟩, fun i => ⟨?_, .inr (Affine.block_words_dvd (of_decide_eq_true rfl) (by decide))⟩⟩
  · obtain ⟨n, hn, e⟩ := row_map1 pf i
    rw [e]; intro a
    match a with
    | ⟨0, _⟩ => show (n + 1) * 128 ≤ 23040; omega
    | ⟨1, _⟩ => show (0 + 1) * 8960 ≤ 8960; omega
  · obtain ⟨n, hn, e⟩ := row_map2 pf i
    rw [e]; intro a
    match a with
    | ⟨0, _⟩ => show (n + 1) * 128 ≤ 23040; omega
    | ⟨1, _⟩ => show (0 + 1) * 70 ≤ 70; omega
  · obtain ⟨n, hn, e⟩ := row_map3 pf i
    rw [e]; intro a
    match a with
    | ⟨0, _⟩ => show (n + 1) * 128 ≤ 23040; omega
    | ⟨1, _⟩ => show (0 + 1) * 1536 ≤ 1536; omega

/-! ## What the pallas_call finds -/

variable (m : (ℓ : Loc nD τ sig) → Buf (Elt F) ℓ)

/-- Core `c`'s buffers when the pallas_call starts. -/
abbrev V (c : Dev nD) (b : Ref sig .tc) : Buf (Elt F) ((c : Thread nD τ).loc b) := StableHlo.after Gen.hostOps0 (fun b => m (c, b)) b

theorem hostOps0_fresh : (Gen.hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main Gen.hostOps0 Gen.hostOps0_sub hostOps0_fresh Gen.main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [Gen.hostOps0, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [Gen.hostOps0, List.Forall, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [Gen.hostOps0, List.Forall, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [Gen.hostOps0, List.Forall, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [Gen.hostOps0, List.Forall, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [Gen.hostOps0, List.Forall, StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [Gen.hostOps0, List.Forall, StableHlo.reshape_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [Gen.hostOps0, List.Forall, StableHlo.reshape_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [Gen.hostOps0, List.Forall, StableHlo.reshape_writes, Finset.mem_singleton]
    repeat' apply And.intro
    all_goals exact StableHlo.devRef_ne_of_ne (by decide)))

/-- The prefetched table. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev adm : (pcfg0 (F := F)).Adm := ⟨tbl m, ok_all _⟩
abbrev cfgM : Pipeline.Cfg sig Λ₀ := cfg0 (adm m)
/-- The prefix sums of the lengths, as the table holds them. -/
def cuTab : S21.Idx → Elt F .i32 := tbl m 0

abbrev tbM : Memref sig .tc .smem S21 .i32 := Memref.whole main_arg8

theorem PhiT_eq (c : Dev nD) : (Pipeline.ΦT pre0 (tbl m) c : sProp 𝕄) = owns (c : Thread nD τ) tbM fullShare.right (cuTab m) := by
  rw [owns_whole]
  unfold Pipeline.ΦT Pipeline.prefHeld
  rw [show (Finset.univ : Finset (Fin 1)) = {(0 : Fin 1)} from by decide, bigSep_singleton]
  rfl

abbrev sc0 : Memref sig .tc .vmem S8960x1536 .bf16 := Memref.whole cc0_scratch0
abbrev sc1 : Memref sig .tc .vmem S128x8960 .bf16 := Memref.whole cc0_scratch1
abbrev sc2 : Memref sig .tc .vmem S20x1536 .f32 := Memref.whole cc0_scratch2

theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [Gen.scopedRest0_eq]; simp only [sc0, sc1, sc2, owns_whole]; try rfl

/-- Window `w`'s block at point `t`. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

theorem before_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ (cfgM m) c) (hA : dat.A 4 = V m c (Pipeline.arrRef spec0 4))
    (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ (cfgM m) c) (hA : dat.A 5 = V m c (Pipeline.arrRef spec0 5))
    (hafter : ∀ t, dat.after 5 t = iblk m c 5 t) (t : Fin (cfgM m).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ (cfgM m) c) (hA : dat.A 6 = V m c (Pipeline.arrRef spec0 6))
    (hafter : ∀ t, dat.after 6 t = iblk m c 6 t) (t : Fin (cfgM m).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ (cfgM m) c) (hA : dat.A 7 = V m c (Pipeline.arrRef spec0 7))
    (hafter : ∀ t, dat.after 7 t = iblk m c 7 t) (t : Fin (cfgM m).N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem flush_9 : ∀ t : Fin (cfgM m).N, ((cfgM m).win 9).flush t = true ↔ t.val % 180 = 179 :=
  (fun t => Pipeline.Window.flushOf_const cc0_transform_9 (fun _ _ => rfl) (n := 180) (by decide) rfl t : ∀ t : Fin grid0.N, Pipeline.Window.flushOf grid0 true cc0_transform_9 t = true ↔ t.val % 180 = 179)
theorem flush_10 : ∀ t : Fin (cfgM m).N, ((cfgM m).win 10).flush t = true ↔ t.val % 180 = 179 :=
  (fun t => Pipeline.Window.flushOf_const cc0_transform_10 (fun _ _ => rfl) (n := 180) (by decide) rfl t : ∀ t : Fin grid0.N, Pipeline.Window.flushOf grid0 true cc0_transform_10 t = true ↔ t.val % 180 = 179)
theorem flush_11 : ∀ t : Fin (cfgM m).N, ((cfgM m).win 11).flush t = true ↔ t.val % 180 = 179 :=
  (fun t => Pipeline.Window.flushOf_const cc0_transform_11 (fun _ _ => rfl) (n := 180) (by decide) rfl t : ∀ t : Fin grid0.N, Pipeline.Window.flushOf grid0 true cc0_transform_11 t = true ↔ t.val % 180 = 179)

end Cert.Proof.Kernel
end
end
-- ==== Proof.Kern.Run.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Kern.Tab
public import Idealize.ShloMosaic.Adequacy
public import Idealize.ShloMosaic.Init
public import Idealize.ShloMosaic.Lib.WritesUnit
public import Idealize.ShloMosaic.Lib.VecWindow
public import Idealize.ShloMosaic.Lib.Pointwise

@[expose] public section

set_option maxRecDepth 16384
set_option maxHeartbeats 4000000

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Pipeline (Dat Cfg Window BodyObligation)

local notation "𝕄" => MT nD τ sig Unit (Elt F) ℕ (UR sig nD τ) ℕ

variable (m : (ℓ : Loc nD τ sig) → Buf (Elt F) ℓ) (ρ : Dev nD → PrngReg)

abbrev ms0 (t : Fin (cfgM m).N) : Memref sig .tc .smem S70x12 .f32 := spec0_0.stage ((cfgM m).slots t 0)
abbrev hs0 (t : Fin (cfgM m).N) : (ms0 m t).IsWhole := Gen.hstage0_0 (((cfgM m).slots t 0).cast Gen.nbuf0_0)
abbrev ms1 (t : Fin (cfgM m).N) : Memref sig .tc .vmem S128x8960 .fp8e4m3 := spec0_1.stage ((cfgM m).slots t 1)
abbrev hs1 (t : Fin (cfgM m).N) : (ms1 m t).IsWhole := Gen.hstage0_1 (((cfgM m).slots t 1).cast Gen.nbuf0_1)
abbrev ms2 (t : Fin (cfgM m).N) : Memref sig .tc .vmem S128x70 .f32 := spec0_2.stage ((cfgM m).slots t 2)
abbrev hs2 (t : Fin (cfgM m).N) : (ms2 m t).IsWhole := Gen.hstage0_2 (((cfgM m).slots t 2).cast Gen.nbuf0_2)
abbrev ms3 (t : Fin (cfgM m).N) : Memref sig .tc .vmem S128x1536 .bf16 := spec0_3.stage ((cfgM m).slots t 3)
abbrev hs3 (t : Fin (cfgM m).N) : (ms3 m t).IsWhole := Gen.hstage0_3 (((cfgM m).slots t 3).cast Gen.nbuf0_3)
abbrev ms4 (t : Fin (cfgM m).N) : Memref sig .tc .vmem S8960x1536 .fp8e4m3 := spec0_4.stage ((cfgM m).slots t 4)
abbrev hs4 (t : Fin (cfgM m).N) : (ms4 m t).IsWhole := Gen.hstage0_4 (((cfgM m).slots t 4).cast Gen.nbuf0_4)
abbrev ms5 (t : Fin (cfgM m).N) : Memref sig .tc .vmem S1x1536 .f32 := spec0_5.stage ((cfgM m).slots t 5)
abbrev hs5 (t : Fin (cfgM m).N) : (ms5 m t).IsWhole := Gen.hstage0_5 (((cfgM m).slots t 5).cast Gen.nbuf0_5)
abbrev ms6 (t : Fin (cfgM m).N) : Memref sig .tc .vmem S1x1536 .f32 := spec0_6.stage ((cfgM m).slots t 6)
abbrev hs6 (t : Fin (cfgM m).N) : (ms6 m t).IsWhole := Gen.hstage0_6 (((cfgM m).slots t 6).cast Gen.nbuf0_6)
abbrev ms7 (t : Fin (cfgM m).N) : Memref sig .tc .vmem S1x1536 .f32 := spec0_7.stage ((cfgM m).slots t 7)
abbrev hs7 (t : Fin (cfgM m).N) : (ms7 m t).IsWhole := Gen.hstage0_7 (((cfgM m).slots t 7).cast Gen.nbuf0_7)
abbrev ms8 (t : Fin (cfgM m).N) : Memref sig .tc .vmem S128x1536 .f32 := spec0_8.stage ((cfgM m).slots t 8)
abbrev hs8 (t : Fin (cfgM m).N) : (ms8 m t).IsWhole := Gen.hstage0_8 (((cfgM m).slots t 8).cast Gen.nbuf0_8)
abbrev ms9 (t : Fin (cfgM m).N) : Memref sig .tc .vmem S20x1536 .f32 := spec0_9.stage ((cfgM m).slots t 9)
abbrev hs9 (t : Fin (cfgM m).N) : (ms9 m t).IsWhole := Gen.hstage0_9 (((cfgM m).slots t 9).cast Gen.nbuf0_9)
abbrev ms10 (t : Fin (cfgM m).N) : Memref sig .tc .vmem S20x1536 .i8 := spec0_10.stage ((cfgM m).slots t 10)
abbrev hs10 (t : Fin (cfgM m).N) : (ms10 m t).IsWhole := Gen.hstage0_10 (((cfgM m).slots t 10).cast Gen.nbuf0_10)
abbrev ms11 (t : Fin (cfgM m).N) : Memref sig .tc .vmem S20x1 .f32 := spec0_11.stage ((cfgM m).slots t 11)
abbrev hs11 (t : Fin (cfgM m).N) : (ms11 m t).IsWhole := Gen.hstage0_11 (((cfgM m).slots t 11).cast Gen.nbuf0_11)

/-- The kernel body at point `t`. -/
abbrev bodyAt (t : Fin (cfgM m).N) : Prog (TpuEff nD τ sig (Elt F) Λ₀ .tc) PUnit :=
  cc0_ffn_down_ln_pool (grid0.coords t) tbM (Memref.isWhole_whole _) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) (ms10 m t) (hs10 m t) (ms11 m t) (hs11 m t) sc0 (Memref.isWhole_whole _) sc1 (Memref.isWhole_whole _) sc2 (Memref.isWhole_whole _)

theorem defs₀_row (t : Fin (cfgM m).N) :
    defs₀ (F := F) .tc (cfgM m).body ((cfgM m).bodyArgs t ((cfgM m).slots t)) = bodyAt m t := by
  unfold defs₀; rw [Defs.onTc_tc]

/-! ## What the buffers hold -/

/-- The first point. -/
abbrev t₀ : Fin (cfgM m).N := ⟨0, by rw [show (cfgM m).N = 180 from Gen.N_0]; decide⟩

/-- The dequantised weights. -/
def wAt (c : Dev nD) : S8960x1536.Idx → Elt F .bf16 := WB (iblk m c 0 (t₀ m)) (iblk m c 4 (t₀ m))

theorem wAt_eq (c : Dev nD) (t : Fin (cfgM m).N) : WB (iblk m c 0 t) (iblk m c 4 t) = wAt m c := rfl

/-- The normalised rows of tile `t`. -/
def zAt (c : Dev nD) (t : Fin (cfgM m).N) : S128x1536.Idx → Elt F .f32 :=
  zBlk (grid0.coords t) (cuTab m) (iblk m c 1 t) (iblk m c 2 t) (wAt m c) (iblk m c 3 t) (iblk m c 5 t) (iblk m c 6 t) (iblk m c 7 t)

/-- The running sums before tile `n`. -/
def sAt (c : Dev nD) : ℕ → S20x1536.Idx → Elt F .f32
  | 0 => Gen.k0_pay1
  | n + 1 => if h : n < (cfgM m).N then sumStep (grid0.coords ⟨n, h⟩) (cuTab m) (zAt m c ⟨n, h⟩) (sAt c n) else sAt c n

theorem sAt_succ (c : Dev nD) (t : Fin (cfgM m).N) : sAt m c (t.val + 1) = sumStep (grid0.coords t) (cuTab m) (zAt m c t) (sAt m c t.val) := by
  rw [sAt, dif_pos t.isLt]

/-- What holds before point `n`. -/
def Phi (c : Dev nD) : ℕ → sProp 𝕄
  | 0 => iprop(Pipeline.ΦA spec0 c ∗ Pipeline.ΦT pre0 (tbl m) c)
  | n + 1 => iprop(iprop(iprop(owns (c : Thread nD τ) sc0 fullShare (wAt m c) ∗ (∃ d, owns (c : Thread nD τ) sc1 fullShare d) ∗ owns (c : Thread nD τ) sc2 fullShare (sAt m c (n + 1))) ∗ (∃ r, prngReg c r)) ∗ Pipeline.ΦT pre0 (tbl m) c)

theorem Phi_pos (c : Dev nD) (n : ℕ) (hz : n ≠ 0) :
    Phi m c n = iprop(iprop(iprop(owns (c : Thread nD τ) sc0 fullShare (wAt m c) ∗ (∃ d, owns (c : Thread nD τ) sc1 fullShare d) ∗ owns (c : Thread nD τ) sc2 fullShare (sAt m c n)) ∗ (∃ r, prngReg c r)) ∗ Pipeline.ΦT pre0 (tbl m) c) := by
  cases n with
  | zero => exact absurd rfl hz
  | succ n => rfl

/-- The pipeline's data on core `c`. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => zAt m c t
    | ⟨9, _⟩ => mVal (cuTab m) (sAt m c 180)
    | ⟨10, _⟩ => codesVal (cuTab m) (sAt m c 180)
    | ⟨11, _⟩ => scaleVal (cuTab m) (sAt m c 180)
  Φ t := Phi m c t.val
  q _ := fullShare
  owed _ := 0

theorem A_eq (c : Dev nD) (w : Fin (cfgM m).W) : (dats m 0 c).A w = V m c (Pipeline.arrRef spec0 w) := by
  dsimp only [dats]

theorem after_0 (c : Dev nD) (t : Fin (cfgM m).N) : (dats m 0 c).after 0 t = iblk m c 0 t := by dsimp only [dats]; try rfl
theorem after_1 (c : Dev nD) (t : Fin (cfgM m).N) : (dats m 0 c).after 1 t = iblk m c 1 t := by dsimp only [dats]; try rfl
theorem after_2 (c : Dev nD) (t : Fin (cfgM m).N) : (dats m 0 c).after 2 t = iblk m c 2 t := by dsimp only [dats]; try rfl
theorem after_3 (c : Dev nD) (t : Fin (cfgM m).N) : (dats m 0 c).after 3 t = iblk m c 3 t := by dsimp only [dats]; try rfl
theorem after_4 (c : Dev nD) (t : Fin (cfgM m).N) : (dats m 0 c).after 4 t = iblk m c 4 t := by dsimp only [dats]; try rfl
theorem after_5 (c : Dev nD) (t : Fin (cfgM m).N) : (dats m 0 c).after 5 t = iblk m c 5 t := by dsimp only [dats]; try rfl
theorem after_6 (c : Dev nD) (t : Fin (cfgM m).N) : (dats m 0 c).after 6 t = iblk m c 6 t := by dsimp only [dats]; try rfl
theorem after_7 (c : Dev nD) (t : Fin (cfgM m).N) : (dats m 0 c).after 7 t = iblk m c 7 t := by dsimp only [dats]; try rfl
theorem after_8 (c : Dev nD) (t : Fin (cfgM m).N) : (dats m 0 c).after 8 t = zAt m c t := by dsimp only [dats]; try rfl
theorem after_9 (c : Dev nD) (t : Fin (cfgM m).N) : (dats m 0 c).after 9 t = mVal (cuTab m) (sAt m c 180) := by dsimp only [dats]; try rfl
theorem after_10 (c : Dev nD) (t : Fin (cfgM m).N) : (dats m 0 c).after 10 t = codesVal (cuTab m) (sAt m c 180) := by dsimp only [dats]; try rfl
theorem after_11 (c : Dev nD) (t : Fin (cfgM m).N) : (dats m 0 c).after 11 t = scaleVal (cuTab m) (sAt m c 180) := by dsimp only [dats]; try rfl

theorem before_0 (c : Dev nD) (t : Fin (cfgM m).N) (d) : (dats m 0 c).before 0 t d = iblk m c 0 t :=
  before_0_of m (dats m 0 c) (A_eq m c 0) (after_0 m c) t d
theorem before_1 (c : Dev nD) (t : Fin (cfgM m).N) (d) : (dats m 0 c).before 1 t d = iblk m c 1 t :=
  before_1_of m (dats m 0 c) (A_eq m c 1) (after_1 m c) t d
theorem before_2 (c : Dev nD) (t : Fin (cfgM m).N) (d) : (dats m 0 c).before 2 t d = iblk m c 2 t :=
  before_2_of m (dats m 0 c) (A_eq m c 2) (after_2 m c) t d
theorem before_3 (c : Dev nD) (t : Fin (cfgM m).N) (d) : (dats m 0 c).before 3 t d = iblk m c 3 t :=
  before_3_of m (dats m 0 c) (A_eq m c 3) (after_3 m c) t d
theorem before_4 (c : Dev nD) (t : Fin (cfgM m).N) (d) : (dats m 0 c).before 4 t d = iblk m c 4 t :=
  before_4_of m (dats m 0 c) (A_eq m c 4) (after_4 m c) t d
theorem before_5 (c : Dev nD) (t : Fin (cfgM m).N) (d) : (dats m 0 c).before 5 t d = iblk m c 5 t :=
  before_5_of m (dats m 0 c) (A_eq m c 5) (after_5 m c) t d
theorem before_6 (c : Dev nD) (t : Fin (cfgM m).N) (d) : (dats m 0 c).before 6 t d = iblk m c 6 t :=
  before_6_of m (dats m 0 c) (A_eq m c 6) (after_6 m c) t d
theorem before_7 (c : Dev nD) (t : Fin (cfgM m).N) (d) : (dats m 0 c).before 7 t d = iblk m c 7 t :=
  before_7_of m (dats m 0 c) (A_eq m c 7) (after_7 m c) t d

/-! ## The body at any point -/

theorem idle_8 (t : Fin (cfgM m).N) : (cfgM m).idle 8 (grid0.coords t) = false := by
  show idle0 (tbl m) 8 (grid0.coords t) = false
  dsimp only [idle0]
  generalize (tbl m).atD 0 ![20] = v
  by_cases h : k0_cond3 (grid0.coords t) v = 1#1
  · rw [h]; simp
  · rw [(cond2_iff _ _).2 h]; simp

theorem idle_9 (t : Fin (cfgM m).N) (h : ¬ k0_cond5 (grid0.coords t) = 1#1) : (cfgM m).idle 9 (grid0.coords t) = true := by
  show (!(k0_cond5 (grid0.coords t) == 1#1)) = true
  simp [h]
theorem live_9 (t : Fin (cfgM m).N) (h : k0_cond5 (grid0.coords t) = 1#1) : (cfgM m).idle 9 (grid0.coords t) = false := by
  show (!(k0_cond5 (grid0.coords t) == 1#1)) = false
  simp [h]
theorem noflush_9 (t : Fin (cfgM m).N) (h : ¬ k0_cond5 (grid0.coords t) = 1#1) : ((cfgM m).win 9).flush t = false := by
  have hN : t.val < 180 := lt_of_lt_of_eq t.isLt (show (cfgM m).N = 180 from Gen.N_0)
  rw [Bool.eq_false_iff]
  exact fun hf => h ((cond5_iff t).2 (by have := (flush_9 m t).1 hf; omega))
theorem idle_10 (t : Fin (cfgM m).N) (h : ¬ k0_cond5 (grid0.coords t) = 1#1) : (cfgM m).idle 10 (grid0.coords t) = true := by
  show (!(k0_cond5 (grid0.coords t) == 1#1)) = true
  simp [h]
theorem live_10 (t : Fin (cfgM m).N) (h : k0_cond5 (grid0.coords t) = 1#1) : (cfgM m).idle 10 (grid0.coords t) = false := by
  show (!(k0_cond5 (grid0.coords t) == 1#1)) = false
  simp [h]
theorem noflush_10 (t : Fin (cfgM m).N) (h : ¬ k0_cond5 (grid0.coords t) = 1#1) : ((cfgM m).win 10).flush t = false := by
  have hN : t.val < 180 := lt_of_lt_of_eq t.isLt (show (cfgM m).N = 180 from Gen.N_0)
  rw [Bool.eq_false_iff]
  exact fun hf => h ((cond5_iff t).2 (by have := (flush_10 m t).1 hf; omega))
theorem idle_11 (t : Fin (cfgM m).N) (h : ¬ k0_cond5 (grid0.coords t) = 1#1) : (cfgM m).idle 11 (grid0.coords t) = true := by
  show (!(k0_cond5 (grid0.coords t) == 1#1)) = true
  simp [h]
theorem live_11 (t : Fin (cfgM m).N) (h : k0_cond5 (grid0.coords t) = 1#1) : (cfgM m).idle 11 (grid0.coords t) = false := by
  show (!(k0_cond5 (grid0.coords t) == 1#1)) = false
  simp [h]
theorem noflush_11 (t : Fin (cfgM m).N) (h : ¬ k0_cond5 (grid0.coords t) = 1#1) : ((cfgM m).win 11).flush t = false := by
  have hN : t.val < 180 := lt_of_lt_of_eq t.isLt (show (cfgM m).N = 180 from Gen.N_0)
  rw [Bool.eq_false_iff]
  exact fun hf => h ((cond5_iff t).2 (by have := (flush_11 m t).1 hf; omega))

theorem leaves_live {c : Dev nD} (w : Fin (cfgM m).W) (t : Fin (cfgM m).N) (h : (cfgM m).idle w (grid0.coords t) = false) :
    (dats m 0 c).leavesExact w t = (owns (c : Thread nD τ) (((cfgM m).win w).stage ((cfgM m).slots t w)) fullShare ((dats m 0 c).after w t) : sProp 𝕄) := by
  have h' : (cfgM m).idle w ((cfgM m).grid.coords t) = false := h
  unfold Dat.leavesExact; rw [h']

def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d))
    ∗ (∃ d, owns (c : Thread nD τ) (ms5 m t) fullShare ((dats m 0 c).before 5 t d))
    ∗ (∃ d, owns (c : Thread nD τ) (ms6 m t) fullShare ((dats m 0 c).before 6 t d))
    ∗ (∃ d, owns (c : Thread nD τ) (ms7 m t) fullShare ((dats m 0 c).before 7 t d))
    ∗ (∃ d, owns (c : Thread nD τ) (ms8 m t) fullShare ((dats m 0 c).before 8 t d))
    ∗ (∃ d, owns (c : Thread nD τ) (ms9 m t) fullShare ((dats m 0 c).before 9 t d))
    ∗ (∃ d, owns (c : Thread nD τ) (ms10 m t) fullShare ((dats m 0 c).before 10 t d))
    ∗ (∃ d, owns (c : Thread nD τ) (ms11 m t) fullShare ((dats m 0 c).before 11 t d)))

def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t)
    ∗ owns (c : Thread nD τ) (ms4 m t) fullShare ((dats m 0 c).after 4 t)
    ∗ owns (c : Thread nD τ) (ms5 m t) fullShare ((dats m 0 c).after 5 t)
    ∗ owns (c : Thread nD τ) (ms6 m t) fullShare ((dats m 0 c).after 6 t)
    ∗ owns (c : Thread nD τ) (ms7 m t) fullShare ((dats m 0 c).after 7 t)
    ∗ (dats m 0 c).leavesExact 8 t
    ∗ (dats m 0 c).leavesExact 9 t
    ∗ (dats m 0 c).leavesExact 10 t
    ∗ (dats m 0 c).leavesExact 11 t)

abbrev Rest (c : Dev nD) (t : Fin (cfgM m).N) : sProp 𝕄 :=
  iprop((∃ r, prngReg c r) ∗ (dats m 0 c).owesAt () t.castSucc)

/-- A run from held buffers to held buffers is a run of the point. -/
theorem run_point {P Q : sProp 𝕄} (c : Dev nD) (t : Fin (cfgM m).N)
    (h : P ⊢ wp frame (wpE (defs₀ (F := F)) Variants.none (c : Thread nD τ) none) Set.univ (bodyAt m t) (fun _ => Q))
    (hP : bodyPre m c t ⊢ iprop(P ∗ Rest m c t)) (hQ : iprop(Q ∗ Rest m c t) ⊢ bodyPost m c t) :
    bodyPre m c t ⊢ wp frame (wpE (defs₀ (F := F)) Variants.none (c : Thread nD τ) none) Set.univ (bodyAt m t) (fun _ => bodyPost m c t) :=
  hP.trans ((sep_mono h .rfl).trans ((wp_frame_r _ _ _).trans (wp_mono _ _ _ fun _ => hQ)))

theorem pre_first (c : Dev nD) (t : Fin (cfgM m).N) (hz : t.val = 0) :
    bodyPre m c t ⊢ iprop(∃ d9 d10 d11 x10, ∃ x14 x16, Held c tbM (ms0 m t) (ms1 m t) (ms2 m t) (ms3 m t) (ms4 m t) (ms5 m t) (ms6 m t) (ms7 m t) (ms8 m t) (ms9 m t) (ms10 m t) (ms11 m t) sc0 sc1 sc2 fullShare.right (cuTab m) (iblk m c 0 t) (iblk m c 1 t) (iblk m c 2 t) (iblk m c 3 t) (iblk m c 4 t) (iblk m c 5 t) (iblk m c 6 t) (iblk m c 7 t) x10 ((dats m 0 c).before 9 t d9) ((dats m 0 c).before 10 t d10) ((dats m 0 c).before 11 t d11) x14 x16 ∗ Rest m c t) := by
  unfold bodyPre
  simp only [before_0, before_1, before_2, before_3, before_4, before_5, before_6, before_7]
  rw [show (dats m 0 c).Φ t.castSucc = Phi m c t.val from rfl, hz, show Phi m c 0 = iprop(Pipeline.ΦA spec0 c ∗ Pipeline.ΦT pre0 (tbl m) c) from rfl, PhiA_eq, PhiT_eq]
  iintro ⟨⟨⟨⟨⟨%x14, S0⟩, S1, ⟨%x16, S2⟩⟩, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iexists d9; iexists d10; iexists d11; iexists _; iexists x14; iexists x16
  unfold Held Rest
  isplitr [Hg Ho]
  · isplitl [HT]; · iexact HT
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S2]; · iexact S2
    iexact S1
  isplitl [Hg]; · iexact Hg
  iexact Ho

theorem pre_later (c : Dev nD) (t : Fin (cfgM m).N) (hz : t.val ≠ 0) :
    bodyPre m c t ⊢ iprop(∃ d9 d10 d11 x10, Held c tbM (ms0 m t) (ms1 m t) (ms2 m t) (ms3 m t) (ms4 m t) (ms5 m t) (ms6 m t) (ms7 m t) (ms8 m t) (ms9 m t) (ms10 m t) (ms11 m t) sc0 sc1 sc2 fullShare.right (cuTab m) (iblk m c 0 t) (iblk m c 1 t) (iblk m c 2 t) (iblk m c 3 t) (iblk m c 4 t) (iblk m c 5 t) (iblk m c 6 t) (iblk m c 7 t) x10 ((dats m 0 c).before 9 t d9) ((dats m 0 c).before 10 t d10) ((dats m 0 c).before 11 t d11) (wAt m c) (sAt m c t.val) ∗ Rest m c t) := by
  unfold bodyPre
  simp only [before_0, before_1, before_2, before_3, before_4, before_5, before_6, before_7]
  rw [show (dats m 0 c).Φ t.castSucc = Phi m c t.val from rfl, Phi_pos m c _ hz, PhiT_eq]
  iintro ⟨⟨⟨⟨S0, S1, S2⟩, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iexists d9; iexists d10; iexists d11; iexists _
  unfold Held Rest
  isplitr [Hg Ho]
  · isplitl [HT]; · iexact HT
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S2]; · iexact S2
    iexact S1
  isplitl [Hg]; · iexact Hg
  iexact Ho

theorem post_last (c : Dev nD) (t : Fin (cfgM m).N) (h5 : k0_cond5 (grid0.coords t) = 1#1) :
    iprop(Held c tbM (ms0 m t) (ms1 m t) (ms2 m t) (ms3 m t) (ms4 m t) (ms5 m t) (ms6 m t) (ms7 m t) (ms8 m t) (ms9 m t) (ms10 m t) (ms11 m t) sc0 sc1 sc2 fullShare.right (cuTab m) (iblk m c 0 t) (iblk m c 1 t) (iblk m c 2 t) (iblk m c 3 t) (iblk m c 4 t) (iblk m c 5 t) (iblk m c 6 t) (iblk m c 7 t) (zAt m c t) (mVal (cuTab m) (sAt m c 180)) (codesVal (cuTab m) (sAt m c 180)) (scaleVal (cuTab m) (sAt m c 180)) (wAt m c) (sAt m c (t.val + 1)) ∗ Rest m c t) ⊢ bodyPost m c t := by
  unfold bodyPost
  rw [show (dats m 0 c).owesAt () t.succ = (dats m 0 c).owesAt () t.castSucc from rfl,
    leaves_live m 8 t (idle_8 m t), after_0, after_1, after_2, after_3, after_4, after_5, after_6, after_7, after_8]
  rw [show (dats m 0 c).Φ t.succ = Phi m c (t.val + 1) from rfl, Phi_pos m c _ (Nat.succ_ne_zero _), PhiT_eq]
  rw [leaves_live m 9 t (live_9 m t h5), leaves_live m 10 t (live_10 m t h5), leaves_live m 11 t (live_11 m t h5), after_9, after_10, after_11]
  unfold Held Rest
  iintro ⟨⟨HT, H0, H1, H2, H3, H4, H5, H6, H7, H8, H9, H10, H11, S0, S2, S1⟩, Hg, Ho⟩
  isplitl [HT Hg S0 S1 S2]
  · isplitr [HT]
    · isplitr [Hg]
      · isplitl [S0]; · iexact S0
        isplitl [S1]; · iexact S1
        iexact S2
      iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem post_notlast (c : Dev nD) (t : Fin (cfgM m).N) (h5 : ¬ k0_cond5 (grid0.coords t) = 1#1) (d9 d10 d11) :
    iprop(Held c tbM (ms0 m t) (ms1 m t) (ms2 m t) (ms3 m t) (ms4 m t) (ms5 m t) (ms6 m t) (ms7 m t) (ms8 m t) (ms9 m t) (ms10 m t) (ms11 m t) sc0 sc1 sc2 fullShare.right (cuTab m) (iblk m c 0 t) (iblk m c 1 t) (iblk m c 2 t) (iblk m c 3 t) (iblk m c 4 t) (iblk m c 5 t) (iblk m c 6 t) (iblk m c 7 t) (zAt m c t) ((dats m 0 c).before 9 t d9) ((dats m 0 c).before 10 t d10) ((dats m 0 c).before 11 t d11) (wAt m c) (sAt m c (t.val + 1)) ∗ Rest m c t) ⊢ bodyPost m c t := by
  unfold bodyPost
  rw [show (dats m 0 c).owesAt () t.succ = (dats m 0 c).owesAt () t.castSucc from rfl,
    leaves_live m 8 t (idle_8 m t), after_0, after_1, after_2, after_3, after_4, after_5, after_6, after_7, after_8]
  rw [show (dats m 0 c).Φ t.succ = Phi m c (t.val + 1) from rfl, Phi_pos m c _ (Nat.succ_ne_zero _), PhiT_eq]
  rw [Dat.leavesExact_idle _ 9 t (idle_9 m t h5) (noflush_9 m t h5), Dat.leavesExact_idle _ 10 t (idle_10 m t h5) (noflush_10 m t h5), Dat.leavesExact_idle _ 11 t (idle_11 m t h5) (noflush_11 m t h5)]
  unfold Held Rest
  iintro ⟨⟨HT, H0, H1, H2, H3, H4, H5, H6, H7, H8, H9, H10, H11, S0, S2, S1⟩, Hg, Ho⟩
  isplitl [HT Hg S0 S1 S2]
  · isplitr [HT]
    · isplitr [Hg]
      · isplitl [S0]; · iexact S0
        isplitl [S1]; · iexact S1
        iexact S2
      iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iexists _; iexact H11

theorem zAt_live (c : Dev nD) (t : Fin (cfgM m).N) (h : k0_cond3 (grid0.coords t) (cuAt (F := F) (cuTab m) 20) = 1#1) :
    zAt m c t = zLive (grid0.coords t) (cuTab m) (HB (iblk m c 1 t) (iblk m c 2 t)) (wAt m c) (iblk m c 3 t) (iblk m c 5 t) (iblk m c 6 t) (iblk m c 7 t) := if_pos h
theorem zAt_dead (c : Dev nD) (t : Fin (cfgM m).N) (h : ¬ k0_cond3 (grid0.coords t) (cuAt (F := F) (cuTab m) 20) = 1#1) :
    zAt m c t = Gen.k0_pay4 := if_neg h
theorem sAt_live (c : Dev nD) (t : Fin (cfgM m).N) (h : k0_cond3 (grid0.coords t) (cuAt (F := F) (cuTab m) 20) = 1#1) :
    sAt m c (t.val + 1) = sumNew (grid0.coords t) (rowWord (grid0.coords t)) (cuTab m) (zAt m c t) (sAt m c t.val) :=
  (sAt_succ m c t).trans (if_pos h)
theorem sAt_dead (c : Dev nD) (t : Fin (cfgM m).N) (h : ¬ k0_cond3 (grid0.coords t) (cuAt (F := F) (cuTab m) 20) = 1#1) :
    sAt m c (t.val + 1) = sAt m c t.val :=
  (sAt_succ m c t).trans (if_neg h)

theorem ex_elim {α : Type} {P : α → sProp 𝕄} {Q : sProp 𝕄} (h : ∀ a, P a ⊢ Q) : iprop(∃ a, P a) ⊢ Q := by
  iintro ⟨%a, HP⟩
  iapply (h a)
  iexact HP

theorem frame_wp {c : Dev nD} {t : Fin (cfgM m).N} {P Q : sProp 𝕄}
    (h : P ⊢ wp frame (wpE (defs₀ (F := F)) Variants.none (c : Thread nD τ) none) Set.univ (bodyAt m t) (fun _ => Q))
    (hQ : iprop(Q ∗ Rest m c t) ⊢ bodyPost m c t) :
    iprop(P ∗ Rest m c t) ⊢ wp frame (wpE (defs₀ (F := F)) Variants.none (c : Thread nD τ) none) Set.univ (bodyAt m t) (fun _ => bodyPost m c t) :=
  (sep_mono h .rfl).trans ((wp_frame_r _ _ _).trans (wp_mono _ _ _ fun _ => hQ))

set_option maxHeartbeats 8000000 in
/-- The body at any point. -/
theorem sound_body (c : Dev nD) (t : Fin (cfgM m).N) :
    bodyPre m c t ⊢ wp frame (wpE (defs₀ (F := F)) Variants.none (c : Thread nD τ) none) Set.univ (bodyAt m t) (fun _ => bodyPost m c t) := by
  have hN : t.val < 180 := lt_of_lt_of_eq t.isLt (show (cfgM m).N = 180 from Gen.N_0)
  by_cases hz : t.val = 0
  · have h1 := (cond1_iff t).2 hz
    have h5 : ¬ k0_cond5 (grid0.coords t) = 1#1 := fun h => by have := (cond5_iff t).1 h; omega
    refine (pre_first m c t hz).trans (ex_elim fun d9 => ex_elim fun d10 => ex_elim fun d11 => ex_elim fun x10 => ex_elim fun x14 => ex_elim fun x16 => ?_)
    by_cases hl : k0_cond3 (grid0.coords t) (cuAt (F := F) (cuTab m) 20) = 1#1
    · refine frame_wp m (body_F_live c _ _ _ _ _ _ _ _ _ _ _ _ _ _ _ _ _ _ _ _ _ _ _ _ _ _ _ _ _ _ _ _ _ _ _ _ _ _ _ _ _ _ _ _ _ _ _ _ _ h1 (fun h => (cond2_iff _ _).1 h hl) hl h5) ?_
      have e := sAt_live m c t hl
      rw [hz] at e
      have p := post_notlast m c t h5 d9 d10 d11
      rw [hz] at p
      rw [e, zAt_live m c t hl] at p
      exact p
    · refine frame_wp m (body_F_dead c _ _ _ _ _ _ _ _ _ _ _ _ _ _ _ _ _ _ _ _ _ _ _ _ _ _ _ _ _ _ _ _ _ _ _ _ _ _ _ _ _ _ _ _ _ _ _ _ _ h1 ((cond2_iff _ _).2 hl) hl h5) ?_
      have e := sAt_dead m c t hl
      rw [hz] at e
      have p := post_notlast m c t h5 d9 d10 d11
      rw [hz] at p
      rw [e, zAt_dead m c t hl] at p
      exact p
  · have h1 : ¬ k0_cond1 (grid0.coords t) = 1#1 := fun h => hz ((cond1_iff t).1 h)
    refine (pre_later m c t hz).trans (ex_elim fun d9 => ex_elim fun d10 => ex_elim fun d11 => ex_elim fun x10 => ?_)
    by_cases h5 : k0_cond5 (grid0.coords t) = 1#1
    · have h179 := (cond5_iff t).1 h5
      by_cases hl : k0_cond3 (grid0.coords t) (cuAt (F := F) (cuTab m) 20) = 1#1
      · refine frame_wp m (body_L_live c _ _ _ _ _ _ _ _ _ _ _ _ _ _ _ _ _ _ _ _ _ _ _ _ _ _ _ _ _ _ _ _ _ _ _ _ _ _ _ _ _ _ _ _ _ _ _ _ _ h1 (fun h => (cond2_iff _ _).1 h hl) hl h5) ?_
        have e := sAt_live m c t hl
        have e9 : sAt m c 180 = sAt m c (t.val + 1) := by rw [h179]
        have p := post_last m c t h5
        rw [e9] at p
        rw [e, zAt_live m c t hl] at p
        exact p
      · refine frame_wp m (body_L_dead c _ _ _ _ _ _ _ _ _ _ _ _ _ _ _ _ _ _ _ _ _ _ _ _ _ _ _ _ _ _ _ _ _ _ _ _ _ _ _ _ _ _ _ _ _ _ _ _ _ h1 ((cond2_iff _ _).2 hl) hl h5) ?_
        have e := sAt_dead m c t hl
        have e9 : sAt m c 180 = sAt m c (t.val + 1) := by rw [h179]
        have p := post_last m c t h5
        rw [e9] at p
        rw [e, zAt_dead m c t hl] at p
        exact p
    · by_cases hl : k0_cond3 (grid0.coords t) (cuAt (F := F) (cuTab m) 20) = 1#1
      · refine frame_wp m (body_M_live c _ _ _ _ _ _ _ _ _ _ _ _ _ _ _ _ _ _ _ _ _ _ _ _ _ _ _ _ _ _ _ _ _ _ _ _ _ _ _ _ _ _ _ _ _ _ _ _ _ h1 (fun h => (cond2_iff _ _).1 h hl) hl h5) ?_
        have e := sAt_live m c t hl
        have p := post_notlast m c t h5 d9 d10 d11
        rw [e, zAt_live m c t hl] at p
        exact p
      · refine frame_wp m (body_M_dead c _ _ _ _ _ _ _ _ _ _ _ _ _ _ _ _ _ _ _ _ _ _ _ _ _ _ _ _ _ _ _ _ _ _ _ _ _ _ _ _ _ _ _ _ _ _ _ _ _ h1 ((cond2_iff _ _).2 hl) hl h5) ?_
        have e := sAt_dead m c t hl
        have p := post_notlast m c t h5 d9 d10 d11
        rw [e, zAt_dead m c t hl] at p
        exact p

end Cert.Proof.Kernel
end
end
-- ==== Proof.Kern.Frame.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Kern.Run
public import Idealize.ShloMosaic.Adequacy
public import Idealize.ShloMosaic.Init
public import Idealize.ShloMosaic.Lib.WritesUnit
public import Idealize.ShloMosaic.Lib.VecWindow
public import Idealize.ShloMosaic.Lib.Pointwise

@[expose] public section

set_option maxRecDepth 16384
set_option maxHeartbeats 4000000

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Pipeline (Dat Cfg Window BodyObligation)

local notation "𝕄" => MT nD τ sig Unit (Elt F) ℕ (UR sig nD τ) ℕ

variable (m : (ℓ : Loc nD τ sig) → Buf (Elt F) ℓ) (ρ : Dev nD → PrngReg)

theorem body_obligation (c : Dev nD) : BodyObligation (dats (F := F) m 0 c) (defs₀ (F := F)) Variants.none () Set.univ := fun t => by
  rw [Gen.bigSep_W0, Gen.bigSep_W0, defs₀_row m]
  exact triple_restated (sound_body m c t) rfl .rfl fun _ => .rfl

theorem hin (c : Dev nD) : iprop(Pipeline.ΦA spec0 c ∗ Pipeline.ΦT pre0 (tbl m) c) ⊢ (dats m 0 c).Φ 0 := .rfl

theorem hout (c : Dev nD) : (dats m 0 c).Φ (Fin.last (cfgM m).N) ⊢ Pipeline.ΦA spec0 c := by
  rw [show (dats m 0 c).Φ (Fin.last (cfgM m).N) = Phi m c (cfgM m).N from rfl, Phi_pos m c _ (by rw [show (cfgM m).N = 180 from Gen.N_0]; decide), PhiA_eq]
  iintro ⟨⟨⟨S0, S1, S2⟩, Hg⟩, -⟩
  isplitr [Hg]
  · isplitl [S0]; · iexists _; iexact S0
    isplitl [S1]; · iexact S1
    iexists _; iexact S2
  iexact Hg

/-! ## The run and the frame -/

set_option backward.isDefEq.respectTransparency.types false in
set_option maxHeartbeats 800000 in
/-- The run: every array at what the pipeline leaves in it, every counter at zero. -/
theorem run_main : θ_run defs (onTc (τ := τ) (main (F := F))) (s₀ m ρ)
    (fun r => Pipeline.FramePost (Pipeline.pin pcfgs fun _ => adm m) (dats m) 0 (V m) r ∧ r.2.sem = fun _ => 0) :=
  Pipeline.θ_run_frameP_track (Q' := _) pcfgs (fun _ => adm m) (dats m) (0 : Fin 1) Gen.launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m) (hin := hin m) (hout := hout m)
    (hQ' := fun _ h => h)

/-- What the run leaves in the nine argument arrays: nothing changes. -/
theorem unchanged (r) (h : Pipeline.FramePost (Pipeline.pin pcfgs fun _ => adm m) (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8) :=
  ⟨((h c).1 3).trans (((dats m 0 c).arrAt_in 3 rfl _).trans ((A_eq m c 3).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 4).trans (((dats m 0 c).arrAt_in 4 rfl _).trans ((A_eq m c 4).trans (V_main_arg3 m c))),
    ((h c).1 0).trans (((dats m 0 c).arrAt_in 0 rfl _).trans ((A_eq m c 0).trans (V_main_arg4 m c))),
    ((h c).2 main_arg5 (by decide : main_arg5 ∈ Pipeline.restRefs sig spec0)).trans (V_main_arg5 m c),
    ((h c).2 main_arg6 (by decide : main_arg6 ∈ Pipeline.restRefs sig spec0)).trans (V_main_arg6 m c),
    ((h c).2 main_arg7 (by decide : main_arg7 ∈ Pipeline.restRefs sig spec0)).trans (V_main_arg7 m c),
    ((h c).2 main_arg8 (by decide : main_arg8 ∈ Pipeline.restRefs sig spec0)).trans (V_main_arg8 m c)⟩

/-- The kernel's frame: it runs, its nine arguments end unchanged, every counter ends at zero. -/
theorem frame : θ_run defs (onTc (τ := τ) (main (F := F))) (s₀ m ρ)
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => unchanged m r h.1 c, h.2⟩) (run_main m ρ)

end Cert.Proof.Kernel
end
end
-- ==== Proof.KernI.Loop1.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import Idealize.ShloMosaic.Adequacy
public import Idealize.ShloMosaic.Init
public import Idealize.ShloMosaic.Lib.WritesUnit
public import Idealize.ShloMosaic.Lib.VecWindow
public import Idealize.ShloMosaic.Lib.Pointwise

@[expose] public section

set_option maxRecDepth 16384
set_option maxHeartbeats 4000000

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The weights, dequantised into the scratch at the first point -/

/-- One weight: the code widened, times its block's scale rounded to bf16. -/
def wbElt (s : F .f32) (w : F .fp8e4m3) : F .bf16 :=
  FloatOps.mulf (FloatOps.extf .bf16 (by decide) w) (FloatOps.truncf .bf16 (by decide) s)

/-- The dequantised weights: the block of row `r` and column `n` is `(r / 128, n / 128)`. -/
def WB (x2 : S70x12.Idx → Elt F .f32) (x6 : S8960x1536.Idx → Elt F .fp8e4m3) (y : S8960x1536.Idx) : Elt F .bf16 :=
  wbElt (x2 (ix2 ⟨(y 0).val / 128, by have h : (y 0).val < 8960 := (y 0).isLt; omega⟩
    ⟨(y 1).val / 128, by have h : (y 1).val < 1536 := (y 1).isLt; omega⟩)) (x6 y)

theorem unit_emb_val {s : Shape} (off size : Fin s.rank → ℕ) (inb) (x : (Rect.unit (s := s) off size inb).shape.Idx) (a : Fin s.rank) :
    ((Rect.unit off size inb).emb x a).val = off a + (x a).val := by
  show off a + 1 * (x a).val = _
  omega

/-- A load of a whole buffer reads its contents. -/
theorem readAt_zero {κ : Kind} {sp : Space} {e : EltTy} {d : Fin 2 → ℕ} (v : View sig κ sp (⟨2, d⟩ : Shape) e) (f : v.ty.Contents (Elt F))
    (inb : ∀ a, (![0, 0] : Fin 2 → ℕ) a + (⟨2, d⟩ : Shape).size a ≤ (⟨2, d⟩ : Shape).size a) :
    v.readAt (Elt F) (Rect.unit (s := ⟨2, d⟩) ![0, 0] (⟨2, d⟩ : Shape).size inb).toLoadRect f = v.read (Elt F) f := by
  funext x
  show v.read (Elt F) f ((Rect.unit (s := ⟨2, d⟩) ![0, 0] (⟨2, d⟩ : Shape).size inb).emb x) = _
  congr 1
  funext a
  apply Fin.ext
  rw [unit_emb_val]
  match a with
  | 0 => exact Nat.zero_add _
  | 1 => exact Nat.zero_add _

theorem wb_piece (x2 : S70x12.Idx → Elt F .f32) (x6 : S8960x1536.Idx → Elt F .fp8e4m3) (k j : ℕ)
    (off1 : Fin 2 → ℕ) (off2 : Fin 2 → ℕ) (h1 : off1 = ![k, j]) (h2 : off2 = ![128 * k, 128 * j]) (inb1) (inb2) (h)
    (w : S128x128.Idx → Elt F .bf16)
    (hw : ∀ x : S128x128.Idx, w x = wbElt (x2 ((Rect.unit (s := S70x12) off1 S1x1.size inb1).emb (Shape.Idx.first h)))
      (x6 ((Rect.unit (s := S8960x1536) off2 S128x128.size inb2).emb x))) :
    ∀ x : (Rect.unit (s := S8960x1536) off2 S128x128.size inb2).shape.Idx, w x
      = WB x2 x6 ((Rect.unit (s := S8960x1536) off2 S128x128.size inb2).emb x) := by
  intro x
  refine (hw x).trans ?_
  unfold WB
  congr 2
  subst h1 h2
  have hx0 : (x 0).val < 128 := (x 0).isLt
  have hx1 : (x 1).val < 128 := (x 1).isLt
  have e0 := unit_emb_val (s := S8960x1536) ![128 * k, 128 * j] S128x128.size inb2 x 0
  have e1 := unit_emb_val (s := S8960x1536) ![128 * k, 128 * j] S128x128.size inb2 x 1
  simp only [Matrix.cons_val_zero, Matrix.cons_val_one] at e0 e1
  funext a
  apply Fin.ext
  rw [unit_emb_val]
  match a with
  | 0 =>
    show k + (Shape.Idx.first h 0).val = ((Rect.unit (s := S8960x1536) ![128 * k, 128 * j] S128x128.size inb2).emb x 0).val / 128
    have : (Shape.Idx.first h 0).val < 1 := (Shape.Idx.first h 0).isLt
    rw [e0]; omega
  | 1 =>
    show j + (Shape.Idx.first h 1).val = ((Rect.unit (s := S8960x1536) ![128 * k, 128 * j] S128x128.size inb2).emb x 1).val / 128
    have : (Shape.Idx.first h 1).val < 1 := (Shape.Idx.first h 1).isLt
    rw [e1]; omega

theorem mem_block {s2 : Fin 2 → ℕ} (off2 : Fin 2 → ℕ) (inb2) (y : (⟨2, s2⟩ : Shape).Idx) (a b : ℕ)
    (h2 : off2 = ![a, b]) (h0 : a ≤ (y 0).val ∧ (y 0).val < a + 128) (h1 : b ≤ (y 1).val ∧ (y 1).val < b + 128) :
    y ∈ (Rect.unit (s := ⟨2, s2⟩) off2 S128x128.size inb2).set := by
  subst h2
  rw [Rect.mem_set_unit]
  intro c
  match c with
  | 0 => exact h0
  | 1 => exact h1

theorem not_mem_block {s2 : Fin 2 → ℕ} (off2 : Fin 2 → ℕ) (inb2) (y : (⟨2, s2⟩ : Shape).Idx) (a b : ℕ)
    (h2 : off2 = ![a, b]) (h0 : ¬ (a ≤ (y 0).val ∧ (y 0).val < a + 128)) :
    y ∉ (Rect.unit (s := ⟨2, s2⟩) off2 S128x128.size inb2).set := by
  subst h2
  rw [Rect.mem_set_unit]
  intro hc
  exact h0 (hc 0)

/-- Before trip `k` of the weight loop: the rows of the trips before hold the dequantised weights. -/
def WBto (x2 : S70x12.Idx → Elt F .f32) (x6 : S8960x1536.Idx → Elt F .fp8e4m3) (g : S8960x1536.Idx → Elt F .bf16) (k : ℕ)
    (y : S8960x1536.Idx) : Elt F .bf16 :=
  if (y 0).val < 128 * k then WB x2 x6 y else g y

abbrev inv_t1 (c : Dev nD) (arg2 : Memref sig .tc .smem S70x12 .f32) (arg6 : Memref sig .tc .vmem S8960x1536 .fp8e4m3)
    (arg14 : Memref sig .tc .vmem S8960x1536 .bf16) (X2 : BufTy.Contents (Elt F) arg2.view.ty) (X6 : BufTy.Contents (Elt F) arg6.view.ty)
    (G : BufTy.Contents (Elt F) arg14.view.ty) (k : ℕ) (_ : Unit) : sProp (MT nD τ sig Unit (Elt F) ℕ (UR sig nD τ) ℕ) :=
  iprop((arg2.view.loc (c : Thread nD τ) ↦[arg2.view.set]{fullShare} X2) ∗ (arg6.view.loc (c : Thread nD τ) ↦[arg6.view.set]{fullShare} X6) ∗ (∃ f, (arg14.view.loc (c : Thread nD τ) ↦[arg14.view.set]{fullShare} f) ∗ ⌜arg14.view.read (Elt F) f = WBto (arg2.view.read (Elt F) X2) (arg6.view.read (Elt F) X6) (arg14.view.read (Elt F) G) k⌝))

set_option warn.classDefReducibility false in
/-- The weight loop by its invariant. -/
@[sl_loop] def loopInv_t1 (c : Dev nD) (i : grid0.Coords) (arg1 : Memref sig .tc .smem S21 .i32) (harg1 : arg1.IsWhole) (arg2 : Memref sig .tc .smem S70x12 .f32) (harg2 : arg2.IsWhole) (arg3 : Memref sig .tc .vmem S128x8960 .fp8e4m3) (harg3 : arg3.IsWhole) (arg4 : Memref sig .tc .vmem S128x70 .f32) (harg4 : arg4.IsWhole) (arg5 : Memref sig .tc .vmem S128x1536 .bf16) (harg5 : arg5.IsWhole) (arg6 : Memref sig .tc .vmem S8960x1536 .fp8e4m3) (harg6 : arg6.IsWhole) (arg7 : Memref sig .tc .vmem S1x1536 .f32) (harg7 : arg7.IsWhole) (arg8 : Memref sig .tc .vmem S1x1536 .f32) (harg8 : arg8.IsWhole) (arg9 : Memref sig .tc .vmem S1x1536 .f32) (harg9 : arg9.IsWhole) (arg10 : Memref sig .tc .vmem S128x1536 .f32) (harg10 : arg10.IsWhole) (arg11 : Memref sig .tc .vmem S20x1536 .f32) (harg11 : arg11.IsWhole) (arg12 : Memref sig .tc .vmem S20x1536 .i8) (harg12 : arg12.IsWhole) (arg13 : Memref sig .tc .vmem S20x1 .f32) (harg13 : arg13.IsWhole) (arg14 : Memref sig .tc .vmem S8960x1536 .bf16) (harg14 : arg14.IsWhole) (arg15 : Memref sig .tc .vmem S128x8960 .bf16) (harg15 : arg15.IsWhole) (arg16 : Memref sig .tc .vmem S20x1536 .f32) (harg16 : arg16.IsWhole) (k0_h1 : k0_cond1 i = 1#1)
    (X2 : BufTy.Contents (Elt F) arg2.view.ty) (X6 : BufTy.Contents (Elt F) arg6.view.ty) (G : BufTy.Contents (Elt F) arg14.view.ty) :
    Gen.LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 where
  inv := inv_t1 (F := F) c arg2 arg6 arg14 X2 X6 G
  step k acc := by
    have hk : k.val < 70 := Nat.lt_of_lt_of_le k.isLt Gen.k0_t1_abs.2.1
    unfold Gen.k0_t1_body
    iintro ⟨HR_arg2, HR_arg6, ⟨%f, HW_arg14, %hf⟩⟩
    sl_exec
    sl_step
    isplitl [HR_arg2]; · iexact HR_arg2
    isplitl [HR_arg6]; · iexact HR_arg6
    iexists _; isplitl [HW_arg14]; · iexact HW_arg14
    ipureintro
    sl_unfold_run_names
    funext y
    unfold WBto
    by_cases hy : (y 0).val < 128 * (k.val + 1)
    · rw [if_pos hy]
      by_cases hy' : (y 0).val < 128 * k.val
      · rw [View.read_writes_apply_of_forall_not_mem, hf]
        · exact if_pos hy'
        · simp only [List.forall_mem_cons, List.not_mem_nil, false_imp_iff, implies_true, and_true]
          refine ⟨?_, ?_, ?_, ?_, ?_, ?_, ?_, ?_, ?_, ?_, ?_, ?_⟩
          · exact not_mem_block _ _ y _ _ (Gen.k0_off24_eq k) (by omega)
          · exact not_mem_block _ _ y _ _ (Gen.k0_off22_eq k) (by omega)
          · exact not_mem_block _ _ y _ _ (Gen.k0_off20_eq k) (by omega)
          · exact not_mem_block _ _ y _ _ (Gen.k0_off18_eq k) (by omega)
          · exact not_mem_block _ _ y _ _ (Gen.k0_off16_eq k) (by omega)
          · exact not_mem_block _ _ y _ _ (Gen.k0_off14_eq k) (by omega)
          · exact not_mem_block _ _ y _ _ (Gen.k0_off12_eq k) (by omega)
          · exact not_mem_block _ _ y _ _ (Gen.k0_off10_eq k) (by omega)
          · exact not_mem_block _ _ y _ _ (Gen.k0_off8_eq k) (by omega)
          · exact not_mem_block _ _ y _ _ (Gen.k0_off6_eq k) (by omega)
          · exact not_mem_block _ _ y _ _ (Gen.k0_off4_eq k) (by omega)
          · exact not_mem_block _ _ y _ _ (Gen.k0_off2_eq k) (by omega)
      · refine View.read_writes_apply_of_pieces _ _ (WB (arg2.view.read (Elt F) X2) (arg6.view.read (Elt F) X6)) _ ?_ y ?_
        · simp only [List.forall_mem_cons, List.not_mem_nil, false_imp_iff, implies_true, and_true]
          refine ⟨?_, ?_, ?_, ?_, ?_, ?_, ?_, ?_, ?_, ?_, ?_, ?_⟩
          · exact wb_piece _ _ k.val 11 _ _ (Gen.k0_off23_eq k) (Gen.k0_off24_eq k) _ _ _ _ (fun x => by unfold Gen.k0_pay3; rw [shapeCast_id]; rfl)
          · exact wb_piece _ _ k.val 10 _ _ (Gen.k0_off21_eq k) (Gen.k0_off22_eq k) _ _ _ _ (fun x => by unfold Gen.k0_pay2 Gen.k0_pay22; rw [shapeCast_id]; rfl)
          · exact wb_piece _ _ k.val 9 _ _ (Gen.k0_off19_eq k) (Gen.k0_off20_eq k) _ _ _ _ (fun x => by unfold Gen.k0_pay21; rw [shapeCast_id]; rfl)
          · exact wb_piece _ _ k.val 8 _ _ (Gen.k0_off17_eq k) (Gen.k0_off18_eq k) _ _ _ _ (fun x => by unfold Gen.k0_pay20; rw [shapeCast_id]; rfl)
          · exact wb_piece _ _ k.val 7 _ _ (Gen.k0_off15_eq k) (Gen.k0_off16_eq k) _ _ _ _ (fun x => by unfold Gen.k0_pay19; rw [shapeCast_id]; rfl)
          · exact wb_piece _ _ k.val 6 _ _ (Gen.k0_off13_eq k) (Gen.k0_off14_eq k) _ _ _ _ (fun x => by unfold Gen.k0_pay18; rw [shapeCast_id]; rfl)
          · exact wb_piece _ _ k.val 5 _ _ (Gen.k0_off11_eq k) (Gen.k0_off12_eq k) _ _ _ _ (fun x => by unfold Gen.k0_pay17; rw [shapeCast_id]; rfl)
          · exact wb_piece _ _ k.val 4 _ _ (Gen.k0_off9_eq k) (Gen.k0_off10_eq k) _ _ _ _ (fun x => by unfold Gen.k0_pay16; rw [shapeCast_id]; rfl)
          · exact wb_piece _ _ k.val 3 _ _ (Gen.k0_off7_eq k) (Gen.k0_off8_eq k) _ _ _ _ (fun x => by unfold Gen.k0_pay15 Gen.k0_pay14; rw [shapeCast_id]; rfl)
          · exact wb_piece _ _ k.val 2 _ _ (Gen.k0_off5_eq k) (Gen.k0_off6_eq k) _ _ _ _ (fun x => by unfold Gen.k0_pay13; rw [shapeCast_id]; rfl)
          · exact wb_piece _ _ k.val 1 _ _ (Gen.k0_off3_eq k) (Gen.k0_off4_eq k) _ _ _ _ (fun x => by unfold Gen.k0_pay12; rw [shapeCast_id]; rfl)
          · exact wb_piece _ _ k.val 0 _ _ (Gen.k0_off1_eq k) (Gen.k0_off2_eq k) _ _ _ _ (fun x => by unfold Gen.k0_pay11; rw [shapeCast_id]; rfl)
        · have hy1 : (y 1).val < 1536 := (y 1).isLt
          simp only [List.exists_mem_cons_iff, List.not_mem_nil, false_and, exists_false, or_false]
          have hd : ∃ j, j < 12 ∧ (y 1).val / 128 = j := ⟨_, by omega, rfl⟩
          obtain ⟨j, hj, hd⟩ := hd
          interval_cases j
          · exact .inr (.inr (.inr (.inr (.inr (.inr (.inr (.inr (.inr (.inr (.inr ((mem_block _ _ y _ _ (Gen.k0_off2_eq k) (by omega) (by omega)))))))))))))
          · exact .inr (.inr (.inr (.inr (.inr (.inr (.inr (.inr (.inr (.inr (.inl (mem_block _ _ y _ _ (Gen.k0_off4_eq k) (by omega) (by omega))))))))))))
          · exact .inr (.inr (.inr (.inr (.inr (.inr (.inr (.inr (.inr (.inl (mem_block _ _ y _ _ (Gen.k0_off6_eq k) (by omega) (by omega)))))))))))
          · exact .inr (.inr (.inr (.inr (.inr (.inr (.inr (.inr (.inl (mem_block _ _ y _ _ (Gen.k0_off8_eq k) (by omega) (by omega))))))))))
          · exact .inr (.inr (.inr (.inr (.inr (.inr (.inr (.inl (mem_block _ _ y _ _ (Gen.k0_off10_eq k) (by omega) (by omega)))))))))
          · exact .inr (.inr (.inr (.inr (.inr (.inr (.inl (mem_block _ _ y _ _ (Gen.k0_off12_eq k) (by omega) (by omega))))))))
          · exact .inr (.inr (.inr (.inr (.inr (.inl (mem_block _ _ y _ _ (Gen.k0_off14_eq k) (by omega) (by omega)))))))
          · exact .inr (.inr (.inr (.inr (.inl (mem_block _ _ y _ _ (Gen.k0_off16_eq k) (by omega) (by omega))))))
          · exact .inr (.inr (.inr (.inl (mem_block _ _ y _ _ (Gen.k0_off18_eq k) (by omega) (by omega)))))
          · exact .inr (.inr (.inl (mem_block _ _ y _ _ (Gen.k0_off20_eq k) (by omega) (by omega))))
          · exact .inr (.inl (mem_block _ _ y _ _ (Gen.k0_off22_eq k) (by omega) (by omega)))
          · exact .inl (mem_block _ _ y _ _ (Gen.k0_off24_eq k) (by omega) (by omega))
    · rw [if_neg hy, View.read_writes_apply_of_forall_not_mem, hf]
      · exact if_neg (by omega)
      · simp only [List.forall_mem_cons, List.not_mem_nil, false_imp_iff, implies_true, and_true]
        refine ⟨?_, ?_, ?_, ?_, ?_, ?_, ?_, ?_, ?_, ?_, ?_, ?_⟩
        · exact not_mem_block _ _ y _ _ (Gen.k0_off24_eq k) (by omega)
        · exact not_mem_block _ _ y _ _ (Gen.k0_off22_eq k) (by omega)
        · exact not_mem_block _ _ y _ _ (Gen.k0_off20_eq k) (by omega)
        · exact not_mem_block _ _ y _ _ (Gen.k0_off18_eq k) (by omega)
        · exact not_mem_block _ _ y _ _ (Gen.k0_off16_eq k) (by omega)
        · exact not_mem_block _ _ y _ _ (Gen.k0_off14_eq k) (by omega)
        · exact not_mem_block _ _ y _ _ (Gen.k0_off12_eq k) (by omega)
        · exact not_mem_block _ _ y _ _ (Gen.k0_off10_eq k) (by omega)
        · exact not_mem_block _ _ y _ _ (Gen.k0_off8_eq k) (by omega)
        · exact not_mem_block _ _ y _ _ (Gen.k0_off6_eq k) (by omega)
        · exact not_mem_block _ _ y _ _ (Gen.k0_off4_eq k) (by omega)
        · exact not_mem_block _ _ y _ _ (Gen.k0_off2_eq k) (by omega)
end Cert.Proof.KernelIdeal
end
end
-- ==== Proof.KernI.Loop2.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.KernI.Loop1
public import Idealize.ShloMosaic.Adequacy
public import Idealize.ShloMosaic.Init
public import Idealize.ShloMosaic.Lib.WritesUnit
public import Idealize.ShloMosaic.Lib.VecWindow
public import Idealize.ShloMosaic.Lib.Pointwise

@[expose] public section

set_option maxRecDepth 16384
set_option maxHeartbeats 4000000

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The running sums, one row per sequence -/

/-- Whether the rows `[v1, v1 + 128)` meet the rows `[lo, hi)`, as the kernel tests it. -/
def meets (v1 lo hi : BitVec 32) : BitVec 1 :=
  let v697 : BitVec 32 := Scalar.addi v1 128#32
  let v698 : BitVec 1 := Scalar.cmpi .slt lo v697
  let v699 : BitVec 1 := Scalar.cmpi .sgt hi v1
  let v700 : BitVec 1 := Scalar.andi v698 v699
  let v701 : BitVec 32 := Scalar.extui v700
  Scalar.cmpi .ne v701 0#32

/-- Row `r` of the running sums. -/
def sumRow (s : S20x1536.Idx → Elt F .f32) (r : Fin 20) : S1x1536.Idx → Elt F .f32 := fun x => s (ix2 r (x 1))

/-- The bounds of sequence `r`. -/
def cuLo (cu : S21.Idx → Elt F .i32) (r : Fin 20) : Elt F .i32 := cu (ix1 ⟨r.val, by omega⟩)
def cuHi (cu : S21.Idx → Elt F .i32) (r : Fin 20) : Elt F .i32 := cu (ix1 ⟨r.val + 1, by omega⟩)

/-- The running sums after a tile of rows: the sequences whose rows the tile meets take its rows in. -/
def sumNew (i : grid0.Coords) (v1 : BitVec 32) (cu : S21.Idx → Elt F .i32) (z : S128x1536.Idx → Elt F .f32)
    (s : S20x1536.Idx → Elt F .f32) (y : S20x1536.Idx) : Elt F .f32 :=
  if meets v1 (cuLo (F := F) cu (y 0)) (cuHi (F := F) cu (y 0)) = 1#1 then
    Gen.k0_pay7 i (cuLo (F := F) cu (y 0)) (cuHi (F := F) cu (y 0)) z (sumRow s (y 0)) (ix2 0 (y 1))
  else s y

/-- The same after the first `k` sequences. -/
def sumTo (i : grid0.Coords) (v1 : BitVec 32) (cu : S21.Idx → Elt F .i32) (z : S128x1536.Idx → Elt F .f32)
    (s : S20x1536.Idx → Elt F .f32) (k : ℕ) (y : S20x1536.Idx) : Elt F .f32 :=
  if (y 0).val < k then sumNew i v1 cu z s y else s y

abbrev inv_t2 (c : Dev nD) (i : grid0.Coords) (arg1 : Memref sig .tc .smem S21 .i32) (arg10 : Memref sig .tc .vmem S128x1536 .f32)
    (arg16 : Memref sig .tc .vmem S20x1536 .f32) (v1 : BitVec 32) (q : PosShare TreeShare) (X1 : BufTy.Contents (Elt F) arg1.view.ty) (X10 : BufTy.Contents (Elt F) arg10.view.ty)
    (G : BufTy.Contents (Elt F) arg16.view.ty) (k : ℕ) (_ : Unit) : sProp (MT nD τ sig Unit (Elt F) ℕ (UR sig nD τ) ℕ) :=
  iprop((arg1.view.loc (c : Thread nD τ) ↦[arg1.view.set]{q} X1) ∗ (arg10.view.loc (c : Thread nD τ) ↦[arg10.view.set]{fullShare} X10) ∗ (∃ f, (arg16.view.loc (c : Thread nD τ) ↦[arg16.view.set]{fullShare} f) ∗ ⌜arg16.view.read (Elt F) f = sumTo i v1 (arg1.view.read (Elt F) X1) (arg10.view.read (Elt F) X10) (arg16.view.read (Elt F) G) k⌝))

theorem row_emb (off : Fin 2 → ℕ) (inb) (x : S1x1536.Idx) (k : ℕ) (h : off = ![k, 0]) (y : S20x1536.Idx)
    (h0 : (y 0).val = k) (h1 : (y 1).val = (x 1).val) :
    (Rect.unit (s := S20x1536) off S1x1536.size inb).emb x = y := by
  subst h
  have hx0 : (x 0).val < 1 := (x 0).isLt
  funext a
  apply Fin.ext
  rw [unit_emb_val]
  match a with
  | 0 => show k + (x 0).val = (y 0).val; omega
  | 1 => show 0 + (x 1).val = (y 1).val; omega

theorem cu_word (cu : S21.Idx → Elt F .i32) (off : Fin 1 → ℕ) (inb) (h) (k : ℕ) (hk : k < 21) (ho : off = ![k]) :
    cu ((Rect.unit (s := S21) off S1.size inb).emb (Shape.Idx.first h)) = cu (ix1 ⟨k, hk⟩) := by
  subst ho
  congr 1
  funext a
  apply Fin.ext
  rw [unit_emb_val]
  have : (Shape.Idx.first h a).val < 1 := by
    have := (Shape.Idx.first h a).isLt
    match a with
    | 0 => exact this
  match a with
  | 0 => show k + (Shape.Idx.first h 0).val = k; omega

set_option warn.classDefReducibility false in
/-- The sequence loop by its invariant. -/
@[sl_loop] def loopInv_t2 (c : Dev nD) (i : grid0.Coords) (arg1 : Memref sig .tc .smem S21 .i32) (harg1 : arg1.IsWhole) (arg2 : Memref sig .tc .smem S70x12 .f32) (harg2 : arg2.IsWhole) (arg3 : Memref sig .tc .vmem S128x8960 .fp8e4m3) (harg3 : arg3.IsWhole) (arg4 : Memref sig .tc .vmem S128x70 .f32) (harg4 : arg4.IsWhole) (arg5 : Memref sig .tc .vmem S128x1536 .bf16) (harg5 : arg5.IsWhole) (arg6 : Memref sig .tc .vmem S8960x1536 .fp8e4m3) (harg6 : arg6.IsWhole) (arg7 : Memref sig .tc .vmem S1x1536 .f32) (harg7 : arg7.IsWhole) (arg8 : Memref sig .tc .vmem S1x1536 .f32) (harg8 : arg8.IsWhole) (arg9 : Memref sig .tc .vmem S1x1536 .f32) (harg9 : arg9.IsWhole) (arg10 : Memref sig .tc .vmem S128x1536 .f32) (harg10 : arg10.IsWhole) (arg11 : Memref sig .tc .vmem S20x1536 .f32) (harg11 : arg11.IsWhole) (arg12 : Memref sig .tc .vmem S20x1536 .i8) (harg12 : arg12.IsWhole) (arg13 : Memref sig .tc .vmem S20x1 .f32) (harg13 : arg13.IsWhole) (arg14 : Memref sig .tc .vmem S8960x1536 .bf16) (harg14 : arg14.IsWhole) (arg15 : Memref sig .tc .vmem S128x8960 .bf16) (harg15 : arg15.IsWhole) (arg16 : Memref sig .tc .vmem S20x1536 .f32) (harg16 : arg16.IsWhole) (v1 : BitVec 32) (q : PosShare TreeShare)
    (X1 : BufTy.Contents (Elt F) arg1.view.ty) (X10 : BufTy.Contents (Elt F) arg10.view.ty) (G : BufTy.Contents (Elt F) arg16.view.ty) :
    Gen.LoopInvTy_k0_t2 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 where
  inv := inv_t2 (F := F) c i arg1 arg10 arg16 v1 q X1 X10 G
  step k acc := by
    have hk : k.val < 20 := Nat.lt_of_lt_of_le k.isLt Gen.k0_t2_abs.2.1
    unfold Gen.k0_t2_body
    iintro ⟨HR_arg1, HR_arg10, ⟨%f, HW_arg16, %hf⟩⟩
    sl_exec
    sl_step
    isplitl [HR_arg1]; · iexact HR_arg1
    isplitl [HR_arg10]; · iexact HR_arg10
    iexists _; isplitl [HW_arg16]; · iexact HW_arg16
    ipureintro
    sl_unfold_run_names
    have hlo : ∀ inb h, arg1.view.readAt (Elt F) (Rect.unit (s := S21) (k0_off25 k) S1.size inb).toLoadRect X1 (Shape.Idx.first h)
        = cuLo (F := F) (arg1.view.read (Elt F) X1) ⟨k.val, hk⟩ := fun inb h =>
      cu_word (arg1.view.read (Elt F) X1) _ inb h k.val (by omega) (Gen.k0_off25_eq k)
    have hhi : ∀ inb h, arg1.view.readAt (Elt F) (Rect.unit (s := S21) (k0_off26 k) S1.size inb).toLoadRect X1 (Shape.Idx.first h)
        = cuHi (F := F) (arg1.view.read (Elt F) X1) ⟨k.val, hk⟩ := fun inb h =>
      cu_word (arg1.view.read (Elt F) X1) _ inb h (k.val + 1) (by omega) (Gen.k0_off26_eq k)
    have hz : arg10.view.readAt (Elt F) (Rect.unit (s := S128x1536) ![0, 0] S128x1536.size Gen.inb_S128x1536_S128x1536_0_0).toLoadRect X10
        = arg10.view.read (Elt F) X10 := readAt_zero _ _ _
    have hs : ∀ inb, arg16.view.readAt (Elt F) (Rect.unit (s := S20x1536) (k0_off27 k) S1x1536.size inb).toLoadRect f
        = sumRow (arg16.view.read (Elt F) G) ⟨k.val, hk⟩ := by
      intro inb
      funext x
      show arg16.view.read (Elt F) f ((Rect.unit (s := S20x1536) (k0_off27 k) S1x1536.size inb).emb x) = _
      rw [row_emb (k0_off27 k) inb x k.val (Gen.k0_off27_eq k) (ix2 ⟨k.val, hk⟩ (x 1)) rfl rfl, hf]
      unfold sumTo
      exact if_neg (by show ¬ (k.val < k.val); omega)
    simp only [hlo, hhi, hz, hs]
    funext y
    unfold sumTo
    by_cases hm : meets v1 (cuLo (F := F) (arg1.view.read (Elt F) X1) ⟨k.val, hk⟩) (cuHi (F := F) (arg1.view.read (Elt F) X1) ⟨k.val, hk⟩) = 1#1
    · have hm' := hm
      unfold meets at hm'
      rw [dif_pos hm']
      by_cases hy : (y 0).val = k.val
      · have hy0 : (⟨k.val, hk⟩ : Fin 20) = y 0 := Fin.ext hy.symm
        rw [if_pos (by omega)]
        have he := row_emb (k0_off27 k) (Gen.k0_off27_inb k) (ix2 0 (y 1)) k.val (Gen.k0_off27_eq k) y hy rfl
        conv_lhs => rw [← he]
        rw [View.read_writes_cons_emb]
        unfold sumNew
        rw [← hy0, if_pos hm]
      · rw [View.read_writes_apply_of_forall_not_mem, hf]
        · unfold sumTo
          by_cases h1 : (y 0).val < k.val
          · rw [if_pos h1, if_pos (by omega)]
          · rw [if_neg h1, if_neg (by omega)]
        · simp only [List.forall_mem_cons, List.not_mem_nil, false_imp_iff, implies_true, _root_.and_true]
          intro hc
          rw [Rect.mem_set_unit] at hc
          have := hc 0
          rw [Gen.k0_off27_eq k] at this
          have hx0 : k.val ≤ (y 0).val ∧ (y 0).val < k.val + 1 := this
          omega
    · have hm' := hm
      unfold meets at hm'
      rw [dif_neg hm', hf]
      unfold sumTo
      by_cases h1 : (y 0).val < k.val
      · rw [if_pos h1, if_pos (by omega)]
      · rw [if_neg h1]
        by_cases h2 : (y 0).val < k.val + 1
        · have hy0 : (⟨k.val, hk⟩ : Fin 20) = y 0 := Fin.ext (by show k.val = (y 0).val; omega)
          rw [if_pos h2]
          unfold sumNew
          rw [← hy0, if_neg hm]
        · rw [if_neg h2]
end Cert.Proof.KernelIdeal
end
end
-- ==== Proof.KernI.Vals.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.KernI.Loop2
public import Idealize.ShloMosaic.Adequacy
public import Idealize.ShloMosaic.Init
public import Idealize.ShloMosaic.Lib.WritesUnit
public import Idealize.ShloMosaic.Lib.VecWindow
public import Idealize.ShloMosaic.Lib.Pointwise

@[expose] public section

set_option maxRecDepth 16384
set_option maxHeartbeats 4000000

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## What one grid point computes -/

/-- The first row of the tile at a grid point. -/
def rowWord (i : grid0.Coords) : BitVec 32 := Scalar.muli (BitVec.ofNat 32 (i 0).val) 128#32

/-- Entry `k` of the prefix sums of the lengths. -/
def cuAt (cu : S21.Idx → Elt F .i32) (k : ℕ) (hk : k < 21 := by decide) : Elt F .i32 := cu (ix1 ⟨k, hk⟩)

/-- The tile of activations, dequantised: column `n` lies in the group `n / 128`. -/
def HB (x3 : S128x8960.Idx → Elt F .fp8e4m3) (x4 : S128x70.Idx → Elt F .f32) (y : S128x8960.Idx) : Elt F .bf16 :=
  wbElt (x4 (ix2 (y 0) ⟨(y 1).val / 128, by have h : (y 1).val < 8960 := (y 1).isLt; omega⟩)) (x3 y)

/-- The tile of normalised rows of a live grid point. -/
def zLive (i : grid0.Coords) (x1 : S21.Idx → Elt F .i32) (hb : S128x8960.Idx → Elt F .bf16) (wb : S8960x1536.Idx → Elt F .bf16)
    (x5 : S128x1536.Idx → Elt F .bf16) (x7 x8 x9 : S1x1536.Idx → Elt F .f32) : S128x1536.Idx → Elt F .f32 :=
  Gen.k0_pay6 i (cuAt (F := F) x1 20) (Gen.k0_pay107 hb wb x5 x7) (Gen.k0_pay108 hb wb x5 x7) x8 x9

/-- The tile of normalised rows. -/
def zBlk (i : grid0.Coords) (x1 : S21.Idx → Elt F .i32) (x3 : S128x8960.Idx → Elt F .fp8e4m3) (x4 : S128x70.Idx → Elt F .f32)
    (wb : S8960x1536.Idx → Elt F .bf16)
    (x5 : S128x1536.Idx → Elt F .bf16) (x7 x8 x9 : S1x1536.Idx → Elt F .f32) : S128x1536.Idx → Elt F .f32 :=
  if k0_cond3 i (cuAt (F := F) x1 20) = 1#1 then zLive i x1 (HB x3 x4) wb x5 x7 x8 x9 else Gen.k0_pay4

/-- The running sums after a grid point. -/
def sumStep (i : grid0.Coords) (x1 : S21.Idx → Elt F .i32) (z : S128x1536.Idx → Elt F .f32) (s : S20x1536.Idx → Elt F .f32) :
    S20x1536.Idx → Elt F .f32 :=
  if k0_cond3 i (cuAt (F := F) x1 20) = 1#1 then sumNew i (rowWord i) x1 z s else s

/-- The row numbers `0 … 19` of the lengths. -/
def iotaW : IVec S20x1 32 := iota .tc S20x1 32 [0] Gen.iota_S20x1_d0_w32
/-- The lengths, as the last point gathers them, in four steps. -/
def lens1 (x1 : S21.Idx → Elt F .i32) : FVec F S20x1 .f32 :=
  Gen.k0_pay109 (cuAt (F := F) x1 1) (cuAt (F := F) x1 0) (cuAt (F := F) x1 2) (cuAt (F := F) x1 1) (cuAt (F := F) x1 3) (cuAt (F := F) x1 2)
    (cuAt (F := F) x1 4) (cuAt (F := F) x1 3) (cuAt (F := F) x1 5) (cuAt (F := F) x1 4)
def lens2 (x1 : S21.Idx → Elt F .i32) : FVec F S20x1 .f32 :=
  Gen.k0_pay110 iotaW (lens1 x1) (cuAt (F := F) x1 6) (cuAt (F := F) x1 5) (cuAt (F := F) x1 7) (cuAt (F := F) x1 6) (cuAt (F := F) x1 8) (cuAt (F := F) x1 7)
    (cuAt (F := F) x1 9) (cuAt (F := F) x1 8) (cuAt (F := F) x1 10) (cuAt (F := F) x1 9)
def lens3 (x1 : S21.Idx → Elt F .i32) : FVec F S20x1 .f32 :=
  Gen.k0_pay112 iotaW (lens2 x1) (Gen.k0_pay111 (cuAt (F := F) x1 11) (cuAt (F := F) x1 10)) 10#32
    (cuAt (F := F) x1 12) (cuAt (F := F) x1 11) (cuAt (F := F) x1 13) (cuAt (F := F) x1 12) (cuAt (F := F) x1 14) (cuAt (F := F) x1 13)
    (cuAt (F := F) x1 15) (cuAt (F := F) x1 14) (cuAt (F := F) x1 16) (cuAt (F := F) x1 15)
/-- The means of the sequences' rows. -/
def mVal (x1 : S21.Idx → Elt F .i32) (s : S20x1536.Idx → Elt F .f32) : FVec F S20x1536 .f32 :=
  Gen.k0_pay113 iotaW (lens3 x1) (cuAt (F := F) x1 17) (cuAt (F := F) x1 16) (cuAt (F := F) x1 18) (cuAt (F := F) x1 17)
    (cuAt (F := F) x1 19) (cuAt (F := F) x1 18) (cuAt (F := F) x1 20) (cuAt (F := F) x1 19) s
/-- Their squares. -/
def sqVal (x1 : S21.Idx → Elt F .i32) (s : S20x1536.Idx → Elt F .f32) : FVec F S20x1536 .f32 :=
  Gen.k0_pay114 iotaW (lens3 x1) (cuAt (F := F) x1 17) (cuAt (F := F) x1 16) (cuAt (F := F) x1 18) (cuAt (F := F) x1 17)
    (cuAt (F := F) x1 19) (cuAt (F := F) x1 18) (cuAt (F := F) x1 20) (cuAt (F := F) x1 19) s
/-- The codes and the scales of the normalised means. -/
def codesVal (x1 : S21.Idx → Elt F .i32) (s : S20x1536.Idx → Elt F .f32) : IVec S20x1536 8 := Gen.k0_pay10 (mVal x1 s) (sqVal x1 s)
def scaleVal (x1 : S21.Idx → Elt F .i32) (s : S20x1536.Idx → Elt F .f32) : FVec F S20x1 .f32 := Gen.k0_pay9 (mVal x1 s) (sqVal x1 s)

/-! ## Pieces and words -/

theorem cu_at {κ : Kind} {sp : Space} (v : View sig κ sp S21 .i32) (f : v.ty.Contents (Elt F)) (k : ℕ) (hk : k < 21) (inb) (h) :
    v.readAt (Elt F) (Rect.unit (s := S21) ![k] S1.size inb).toLoadRect f (Shape.Idx.first h) = cuAt (F := F) (v.read (Elt F) f) k hk :=
  cu_word (v.read (Elt F) f) ![k] inb h k hk rfl

theorem hbpay (v : S128x70.Idx → F .f32) (w : S128x128.Idx → F .fp8e4m3) (j : ℕ) (hj : j < 70) (h1) (h2) (hs) (hb) (x : S128x128.Idx) :
    mulf (F := F) (extf .bf16 w h1) (broadcastTo S128x128 (truncf .bf16 (extractStridedSlice S128x1 ![0, j] v hs) h2) hb) x
      = wbElt (v (ix2 (x 0) ⟨j, hj⟩)) (w x) := by
  show wbElt (v _) (w x) = _
  congr 2
  funext a
  apply Fin.ext
  match a with
  | 0 => exact Nat.zero_add _
  | 1 => rfl

theorem hb_piece (x3 : S128x8960.Idx → Elt F .fp8e4m3) (x4 : S128x70.Idx → Elt F .f32) (j : ℕ) (hj : j < 70) (c : ℕ) (hc : c = 128 * j) (inb)
    (w : S128x128.Idx → Elt F .bf16)
    (hw : ∀ x : S128x128.Idx, w x = wbElt (x4 (ix2 (x 0) ⟨j, hj⟩)) (x3 ((Rect.unit (s := S128x8960) ![0, c] S128x128.size inb).emb x))) :
    ∀ x : (Rect.unit (s := S128x8960) ![0, c] S128x128.size inb).shape.Idx, w x
      = HB x3 x4 ((Rect.unit (s := S128x8960) ![0, c] S128x128.size inb).emb x) := by
  intro x
  refine (hw x).trans ?_
  unfold HB
  congr 2
  subst hc
  have hx1 : (x 1).val < 128 := (x 1).isLt
  have e0 := unit_emb_val (s := S128x8960) ![0, 128 * j] S128x128.size inb x 0
  have e1 := unit_emb_val (s := S128x8960) ![0, 128 * j] S128x128.size inb x 1
  simp only [Matrix.cons_val_zero, Matrix.cons_val_one] at e0 e1
  funext a
  apply Fin.ext
  match a with
  | 0 =>
    show (x 0).val = ((Rect.unit (s := S128x8960) ![0, 128 * j] S128x128.size inb).emb x 0).val
    rw [e0]; omega
  | 1 =>
    show j = ((Rect.unit (s := S128x8960) ![0, 128 * j] S128x128.size inb).emb x 1).val / 128
    rw [e1]; omega

/-- A store of a whole buffer leaves what it stored. -/
theorem read_zero {κ : Kind} {sp : Space} {e : EltTy} {d : Fin 2 → ℕ} (v : View sig κ sp (⟨2, d⟩ : Shape) e) (f : v.ty.Contents (Elt F))
    (inb : ∀ a, (![0, 0] : Fin 2 → ℕ) a + (⟨2, d⟩ : Shape).size a ≤ (⟨2, d⟩ : Shape).size a) (w : (⟨2, d⟩ : Shape).Idx → Elt F e) (L) :
    v.read (Elt F) (v.writes (Elt F) f (⟨Rect.unit (s := ⟨2, d⟩) ![0, 0] (⟨2, d⟩ : Shape).size inb, w⟩ :: L)) = w := by
  funext y
  have he : (Rect.unit (s := ⟨2, d⟩) ![0, 0] (⟨2, d⟩ : Shape).size inb).emb y = y := by
    funext a
    apply Fin.ext
    rw [unit_emb_val]
    match a with
    | 0 => exact Nat.zero_add _
    | 1 => exact Nat.zero_add _
  conv_lhs => rw [← he]
  exact View.read_writes_cons_emb ..

theorem trips1 : k0_t1_loop.trips = 70 := by decide +kernel
theorem trips2 : k0_t2_loop.trips = 20 := by decide +kernel

theorem WBto_all (x2 : S70x12.Idx → Elt F .f32) (x6 : S8960x1536.Idx → Elt F .fp8e4m3) (g) (n : ℕ) (hn : n = k0_t1_loop.trips) :
    WBto x2 x6 g n = WB x2 x6 := by
  subst hn
  funext y
  have h : (y 0).val < 8960 := (y 0).isLt
  unfold WBto
  rw [trips1]
  exact if_pos (by omega)

theorem sumTo_all (i : grid0.Coords) (v1 : BitVec 32) (cu : S21.Idx → Elt F .i32) (z : S128x1536.Idx → Elt F .f32)
    (s : S20x1536.Idx → Elt F .f32) (n : ℕ) (hn : n = k0_t2_loop.trips) : sumTo i v1 cu z s n = sumNew i v1 cu z s := by
  subst hn
  funext y
  have h : (y 0).val < 20 := (y 0).isLt
  unfold sumTo
  rw [trips2]
  exact if_pos h

end Cert.Proof.KernelIdeal
end
end
-- ==== Proof.KernI.Hb.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.KernI.Vals
public import Idealize.ShloMosaic.Adequacy
public import Idealize.ShloMosaic.Init
public import Idealize.ShloMosaic.Lib.WritesUnit
public import Idealize.ShloMosaic.Lib.VecWindow
public import Idealize.ShloMosaic.Lib.Ring
public import Idealize.ShloMosaic.Lib.Pointwise

@[expose] public section

set_option maxRecDepth 16384
set_option maxHeartbeats 4000000

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Reading the whole tile back after its seventy column stores. -/
theorem hb_cov {k3 k4 k15 : Kind} {p3 p4 p15 : Space} (v15 : View sig k15 p15 S128x8960 .bf16) (v3 : View sig k3 p3 S128x8960 .fp8e4m3) (f3 : v3.ty.Contents (Elt F))
    (v4 : View sig k4 p4 S128x70 .f32) (f4 : v4.ty.Contents (Elt F)) :
    View.readCov v15 [
      ⟨Rect.unit (s := S128x8960) ![0, 8832] S128x128.size Gen.inb_S128x8960_S128x128_0_8832, Gen.k0_pay106 (v4.readAt (Elt F) (Rect.unit (s := S128x70) ![0, 0] S128x70.size Gen.inb_S128x70_S128x70_0_0).toLoadRect f4) (v3.readAt (Elt F) (Rect.unit (s := S128x8960) ![0, 8832] S128x128.size Gen.inb_S128x8960_S128x128_0_8832).toLoadRect f3)⟩,
      ⟨Rect.unit (s := S128x8960) ![0, 8704] S128x128.size Gen.inb_S128x8960_S128x128_0_8704, Gen.k0_pay105 (Gen.k0_pay103 (v3.readAt (Elt F) (Rect.unit (s := S128x8960) ![0, 8704] S128x128.size Gen.inb_S128x8960_S128x128_0_8704).toLoadRect f3)) (Gen.k0_pay104 (v4.readAt (Elt F) (Rect.unit (s := S128x70) ![0, 0] S128x70.size Gen.inb_S128x70_S128x70_0_0).toLoadRect f4))⟩,
      ⟨Rect.unit (s := S128x8960) ![0, 8576] S128x128.size Gen.inb_S128x8960_S128x128_0_8576, Gen.k0_pay102 (v4.readAt (Elt F) (Rect.unit (s := S128x70) ![0, 0] S128x70.size Gen.inb_S128x70_S128x70_0_0).toLoadRect f4) (v3.readAt (Elt F) (Rect.unit (s := S128x8960) ![0, 8576] S128x128.size Gen.inb_S128x8960_S128x128_0_8576).toLoadRect f3)⟩,
      ⟨Rect.unit (s := S128x8960) ![0, 8448] S128x128.size Gen.inb_S128x8960_S128x128_0_8448, Gen.k0_pay101 (v4.readAt (Elt F) (Rect.unit (s := S128x70) ![0, 0] S128x70.size Gen.inb_S128x70_S128x70_0_0).toLoadRect f4) (v3.readAt (Elt F) (Rect.unit (s := S128x8960) ![0, 8448] S128x128.size Gen.inb_S128x8960_S128x128_0_8448).toLoadRect f3)⟩,
      ⟨Rect.unit (s := S128x8960) ![0, 8320] S128x128.size Gen.inb_S128x8960_S128x128_0_8320, Gen.k0_pay100 (v4.readAt (Elt F) (Rect.unit (s := S128x70) ![0, 0] S128x70.size Gen.inb_S128x70_S128x70_0_0).toLoadRect f4) (v3.readAt (Elt F) (Rect.unit (s := S128x8960) ![0, 8320] S128x128.size Gen.inb_S128x8960_S128x128_0_8320).toLoadRect f3)⟩,
      ⟨Rect.unit (s := S128x8960) ![0, 8192] S128x128.size Gen.inb_S128x8960_S128x128_0_8192, Gen.k0_pay99 (v4.readAt (Elt F) (Rect.unit (s := S128x70) ![0, 0] S128x70.size Gen.inb_S128x70_S128x70_0_0).toLoadRect f4) (v3.readAt (Elt F) (Rect.unit (s := S128x8960) ![0, 8192] S128x128.size Gen.inb_S128x8960_S128x128_0_8192).toLoadRect f3)⟩,
      ⟨Rect.unit (s := S128x8960) ![0, 8064] S128x128.size Gen.inb_S128x8960_S128x128_0_8064, Gen.k0_pay98 (v4.readAt (Elt F) (Rect.unit (s := S128x70) ![0, 0] S128x70.size Gen.inb_S128x70_S128x70_0_0).toLoadRect f4) (v3.readAt (Elt F) (Rect.unit (s := S128x8960) ![0, 8064] S128x128.size Gen.inb_S128x8960_S128x128_0_8064).toLoadRect f3)⟩,
      ⟨Rect.unit (s := S128x8960) ![0, 7936] S128x128.size Gen.inb_S128x8960_S128x128_0_7936, Gen.k0_pay97 (v4.readAt (Elt F) (Rect.unit (s := S128x70) ![0, 0] S128x70.size Gen.inb_S128x70_S128x70_0_0).toLoadRect f4) (v3.readAt (Elt F) (Rect.unit (s := S128x8960) ![0, 7936] S128x128.size Gen.inb_S128x8960_S128x128_0_7936).toLoadRect f3)⟩,
      ⟨Rect.unit (s := S128x8960) ![0, 7808] S128x128.size Gen.inb_S128x8960_S128x128_0_7808, Gen.k0_pay96 (v4.readAt (Elt F) (Rect.unit (s := S128x70) ![0, 0] S128x70.size Gen.inb_S128x70_S128x70_0_0).toLoadRect f4) (v3.readAt (Elt F) (Rect.unit (s := S128x8960) ![0, 7808] S128x128.size Gen.inb_S128x8960_S128x128_0_7808).toLoadRect f3)⟩,
      ⟨Rect.unit (s := S128x8960) ![0, 7680] S128x128.size Gen.inb_S128x8960_S128x128_0_7680, Gen.k0_pay95 (v4.readAt (Elt F) (Rect.unit (s := S128x70) ![0, 0] S128x70.size Gen.inb_S128x70_S128x70_0_0).toLoadRect f4) (v3.readAt (Elt F) (Rect.unit (s := S128x8960) ![0, 7680] S128x128.size Gen.inb_S128x8960_S128x128_0_7680).toLoadRect f3)⟩,
      ⟨Rect.unit (s := S128x8960) ![0, 7552] S128x128.size Gen.inb_S128x8960_S128x128_0_7552, Gen.k0_pay94 (Gen.k0_pay93 (v4.readAt (Elt F) (Rect.unit (s := S128x70) ![0, 0] S128x70.size Gen.inb_S128x70_S128x70_0_0).toLoadRect f4) (v3.readAt (Elt F) (Rect.unit (s := S128x8960) ![0, 7552] S128x128.size Gen.inb_S128x8960_S128x128_0_7552).toLoadRect f3))⟩,
      ⟨Rect.unit (s := S128x8960) ![0, 7424] S128x128.size Gen.inb_S128x8960_S128x128_0_7424, Gen.k0_pay92 (v4.readAt (Elt F) (Rect.unit (s := S128x70) ![0, 0] S128x70.size Gen.inb_S128x70_S128x70_0_0).toLoadRect f4) (v3.readAt (Elt F) (Rect.unit (s := S128x8960) ![0, 7424] S128x128.size Gen.inb_S128x8960_S128x128_0_7424).toLoadRect f3)⟩,
      ⟨Rect.unit (s := S128x8960) ![0, 7296] S128x128.size Gen.inb_S128x8960_S128x128_0_7296, Gen.k0_pay91 (v4.readAt (Elt F) (Rect.unit (s := S128x70) ![0, 0] S128x70.size Gen.inb_S128x70_S128x70_0_0).toLoadRect f4) (v3.readAt (Elt F) (Rect.unit (s := S128x8960) ![0, 7296] S128x128.size Gen.inb_S128x8960_S128x128_0_7296).toLoadRect f3)⟩,
      ⟨Rect.unit (s := S128x8960) ![0, 7168] S128x128.size Gen.inb_S128x8960_S128x128_0_7168, Gen.k0_pay90 (v4.readAt (Elt F) (Rect.unit (s := S128x70) ![0, 0] S128x70.size Gen.inb_S128x70_S128x70_0_0).toLoadRect f4) (v3.readAt (Elt F) (Rect.unit (s := S128x8960) ![0, 7168] S128x128.size Gen.inb_S128x8960_S128x128_0_7168).toLoadRect f3)⟩,
      ⟨Rect.unit (s := S128x8960) ![0, 7040] S128x128.size Gen.inb_S128x8960_S128x128_0_7040, Gen.k0_pay89 (Gen.k0_pay87 (v3.readAt (Elt F) (Rect.unit (s := S128x8960) ![0, 7040] S128x128.size Gen.inb_S128x8960_S128x128_0_7040).toLoadRect f3)) (Gen.k0_pay88 (v4.readAt (Elt F) (Rect.unit (s := S128x70) ![0, 0] S128x70.size Gen.inb_S128x70_S128x70_0_0).toLoadRect f4))⟩,
      ⟨Rect.unit (s := S128x8960) ![0, 6912] S128x128.size Gen.inb_S128x8960_S128x128_0_6912, Gen.k0_pay86 (v4.readAt (Elt F) (Rect.unit (s := S128x70) ![0, 0] S128x70.size Gen.inb_S128x70_S128x70_0_0).toLoadRect f4) (v3.readAt (Elt F) (Rect.unit (s := S128x8960) ![0, 6912] S128x128.size Gen.inb_S128x8960_S128x128_0_6912).toLoadRect f3)⟩,
      ⟨Rect.unit (s := S128x8960) ![0, 6784] S128x128.size Gen.inb_S128x8960_S128x128_0_6784, Gen.k0_pay85 (v4.readAt (Elt F) (Rect.unit (s := S128x70) ![0, 0] S128x70.size Gen.inb_S128x70_S128x70_0_0).toLoadRect f4) (v3.readAt (Elt F) (Rect.unit (s := S128x8960) ![0, 6784] S128x128.size Gen.inb_S128x8960_S128x128_0_6784).toLoadRect f3)⟩,
      ⟨Rect.unit (s := S128x8960) ![0, 6656] S128x128.size Gen.inb_S128x8960_S128x128_0_6656, Gen.k0_pay84 (v4.readAt (Elt F) (Rect.unit (s := S128x70) ![0, 0] S128x70.size Gen.inb_S128x70_S128x70_0_0).toLoadRect f4) (v3.readAt (Elt F) (Rect.unit (s := S128x8960) ![0, 6656] S128x128.size Gen.inb_S128x8960_S128x128_0_6656).toLoadRect f3)⟩,
      ⟨Rect.unit (s := S128x8960) ![0, 6528] S128x128.size Gen.inb_S128x8960_S128x128_0_6528, Gen.k0_pay83 (v4.readAt (Elt F) (Rect.unit (s := S128x70) ![0, 0] S128x70.size Gen.inb_S128x70_S128x70_0_0).toLoadRect f4) (v3.readAt (Elt F) (Rect.unit (s := S128x8960) ![0, 6528] S128x128.size Gen.inb_S128x8960_S128x128_0_6528).toLoadRect f3)⟩,
      ⟨Rect.unit (s := S128x8960) ![0, 6400] S128x128.size Gen.inb_S128x8960_S128x128_0_6400, Gen.k0_pay82 (v4.readAt (Elt F) (Rect.unit (s := S128x70) ![0, 0] S128x70.size Gen.inb_S128x70_S128x70_0_0).toLoadRect f4) (v3.readAt (Elt F) (Rect.unit (s := S128x8960) ![0, 6400] S128x128.size Gen.inb_S128x8960_S128x128_0_6400).toLoadRect f3)⟩,
      ⟨Rect.unit (s := S128x8960) ![0, 6272] S128x128.size Gen.inb_S128x8960_S128x128_0_6272, Gen.k0_pay81 (v4.readAt (Elt F) (Rect.unit (s := S128x70) ![0, 0] S128x70.size Gen.inb_S128x70_S128x70_0_0).toLoadRect f4) (v3.readAt (Elt F) (Rect.unit (s := S128x8960) ![0, 6272] S128x128.size Gen.inb_S128x8960_S128x128_0_6272).toLoadRect f3)⟩,
      ⟨Rect.unit (s := S128x8960) ![0, 6144] S128x128.size Gen.inb_S128x8960_S128x128_0_6144, Gen.k0_pay80 (v4.readAt (Elt F) (Rect.unit (s := S128x70) ![0, 0] S128x70.size Gen.inb_S128x70_S128x70_0_0).toLoadRect f4) (v3.readAt (Elt F) (Rect.unit (s := S128x8960) ![0, 6144] S128x128.size Gen.inb_S128x8960_S128x128_0_6144).toLoadRect f3)⟩,
      ⟨Rect.unit (s := S128x8960) ![0, 6016] S128x128.size Gen.inb_S128x8960_S128x128_0_6016, Gen.k0_pay79 (v4.readAt (Elt F) (Rect.unit (s := S128x70) ![0, 0] S128x70.size Gen.inb_S128x70_S128x70_0_0).toLoadRect f4) (v3.readAt (Elt F) (Rect.unit (s := S128x8960) ![0, 6016] S128x128.size Gen.inb_S128x8960_S128x128_0_6016).toLoadRect f3)⟩,
      ⟨Rect.unit (s := S128x8960) ![0, 5888] S128x128.size Gen.inb_S128x8960_S128x128_0_5888, Gen.k0_pay78 (v4.readAt (Elt F) (Rect.unit (s := S128x70) ![0, 0] S128x70.size Gen.inb_S128x70_S128x70_0_0).toLoadRect f4) (v3.readAt (Elt F) (Rect.unit (s := S128x8960) ![0, 5888] S128x128.size Gen.inb_S128x8960_S128x128_0_5888).toLoadRect f3)⟩,
      ⟨Rect.unit (s := S128x8960) ![0, 5760] S128x128.size Gen.inb_S128x8960_S128x128_0_5760, Gen.k0_pay77 (v4.readAt (Elt F) (Rect.unit (s := S128x70) ![0, 0] S128x70.size Gen.inb_S128x70_S128x70_0_0).toLoadRect f4) (v3.readAt (Elt F) (Rect.unit (s := S128x8960) ![0, 5760] S128x128.size Gen.inb_S128x8960_S128x128_0_5760).toLoadRect f3)⟩,
      ⟨Rect.unit (s := S128x8960) ![0, 5632] S128x128.size Gen.inb_S128x8960_S128x128_0_5632, Gen.k0_pay76 (v4.readAt (Elt F) (Rect.unit (s := S128x70) ![0, 0] S128x70.size Gen.inb_S128x70_S128x70_0_0).toLoadRect f4) (v3.readAt (Elt F) (Rect.unit (s := S128x8960) ![0, 5632] S128x128.size Gen.inb_S128x8960_S128x128_0_5632).toLoadRect f3)⟩,
      ⟨Rect.unit (s := S128x8960) ![0, 5504] S128x128.size Gen.inb_S128x8960_S128x128_0_5504, Gen.k0_pay75 (v4.readAt (Elt F) (Rect.unit (s := S128x70) ![0, 0] S128x70.size Gen.inb_S128x70_S128x70_0_0).toLoadRect f4) (v3.readAt (Elt F) (Rect.unit (s := S128x8960) ![0, 5504] S128x128.size Gen.inb_S128x8960_S128x128_0_5504).toLoadRect f3)⟩,
      ⟨Rect.unit (s := S128x8960) ![0, 5376] S128x128.size Gen.inb_S128x8960_S128x128_0_5376, Gen.k0_pay74 (Gen.k0_pay73 (v4.readAt (Elt F) (Rect.unit (s := S128x70) ![0, 0] S128x70.size Gen.inb_S128x70_S128x70_0_0).toLoadRect f4) (v3.readAt (Elt F) (Rect.unit (s := S128x8960) ![0, 5376] S128x128.size Gen.inb_S128x8960_S128x128_0_5376).toLoadRect f3))⟩,
      ⟨Rect.unit (s := S128x8960) ![0, 5248] S128x128.size Gen.inb_S128x8960_S128x128_0_5248, Gen.k0_pay72 (v4.readAt (Elt F) (Rect.unit (s := S128x70) ![0, 0] S128x70.size Gen.inb_S128x70_S128x70_0_0).toLoadRect f4) (v3.readAt (Elt F) (Rect.unit (s := S128x8960) ![0, 5248] S128x128.size Gen.inb_S128x8960_S128x128_0_5248).toLoadRect f3)⟩,
      ⟨Rect.unit (s := S128x8960) ![0, 5120] S128x128.size Gen.inb_S128x8960_S128x128_0_5120, Gen.k0_pay71 (v4.readAt (Elt F) (Rect.unit (s := S128x70) ![0, 0] S128x70.size Gen.inb_S128x70_S128x70_0_0).toLoadRect f4) (v3.readAt (Elt F) (Rect.unit (s := S128x8960) ![0, 5120] S128x128.size Gen.inb_S128x8960_S128x128_0_5120).toLoadRect f3)⟩,
      ⟨Rect.unit (s := S128x8960) ![0, 4992] S128x128.size Gen.inb_S128x8960_S128x128_0_4992, Gen.k0_pay70 (v4.readAt (Elt F) (Rect.unit (s := S128x70) ![0, 0] S128x70.size Gen.inb_S128x70_S128x70_0_0).toLoadRect f4) (v3.readAt (Elt F) (Rect.unit (s := S128x8960) ![0, 4992] S128x128.size Gen.inb_S128x8960_S128x128_0_4992).toLoadRect f3)⟩,
      ⟨Rect.unit (s := S128x8960) ![0, 4864] S128x128.size Gen.inb_S128x8960_S128x128_0_4864, Gen.k0_pay69 (Gen.k0_pay67 (v3.readAt (Elt F) (Rect.unit (s := S128x8960) ![0, 4864] S128x128.size Gen.inb_S128x8960_S128x128_0_4864).toLoadRect f3)) (Gen.k0_pay68 (v4.readAt (Elt F) (Rect.unit (s := S128x70) ![0, 0] S128x70.size Gen.inb_S128x70_S128x70_0_0).toLoadRect f4))⟩,
      ⟨Rect.unit (s := S128x8960) ![0, 4736] S128x128.size Gen.inb_S128x8960_S128x128_0_4736, Gen.k0_pay66 (v4.readAt (Elt F) (Rect.unit (s := S128x70) ![0, 0] S128x70.size Gen.inb_S128x70_S128x70_0_0).toLoadRect f4) (v3.readAt (Elt F) (Rect.unit (s := S128x8960) ![0, 4736] S128x128.size Gen.inb_S128x8960_S128x128_0_4736).toLoadRect f3)⟩,
      ⟨Rect.unit (s := S128x8960) ![0, 4608] S128x128.size Gen.inb_S128x8960_S128x128_0_4608, Gen.k0_pay65 (v4.readAt (Elt F) (Rect.unit (s := S128x70) ![0, 0] S128x70.size Gen.inb_S128x70_S128x70_0_0).toLoadRect f4) (v3.readAt (Elt F) (Rect.unit (s := S128x8960) ![0, 4608] S128x128.size Gen.inb_S128x8960_S128x128_0_4608).toLoadRect f3)⟩,
      ⟨Rect.unit (s := S128x8960) ![0, 4480] S128x128.size Gen.inb_S128x8960_S128x128_0_4480, Gen.k0_pay64 (v4.readAt (Elt F) (Rect.unit (s := S128x70) ![0, 0] S128x70.size Gen.inb_S128x70_S128x70_0_0).toLoadRect f4) (v3.readAt (Elt F) (Rect.unit (s := S128x8960) ![0, 4480] S128x128.size Gen.inb_S128x8960_S128x128_0_4480).toLoadRect f3)⟩,
      ⟨Rect.unit (s := S128x8960) ![0, 4352] S128x128.size Gen.inb_S128x8960_S128x128_0_4352, Gen.k0_pay63 (v4.readAt (Elt F) (Rect.unit (s := S128x70) ![0, 0] S128x70.size Gen.inb_S128x70_S128x70_0_0).toLoadRect f4) (v3.readAt (Elt F) (Rect.unit (s := S128x8960) ![0, 4352] S128x128.size Gen.inb_S128x8960_S128x128_0_4352).toLoadRect f3)⟩,
      ⟨Rect.unit (s := S128x8960) ![0, 4224] S128x128.size Gen.inb_S128x8960_S128x128_0_4224, Gen.k0_pay62 (v4.readAt (Elt F) (Rect.unit (s := S128x70) ![0, 0] S128x70.size Gen.inb_S128x70_S128x70_0_0).toLoadRect f4) (v3.readAt (Elt F) (Rect.unit (s := S128x8960) ![0, 4224] S128x128.size Gen.inb_S128x8960_S128x128_0_4224).toLoadRect f3)⟩,
      ⟨Rect.unit (s := S128x8960) ![0, 4096] S128x128.size Gen.inb_S128x8960_S128x128_0_4096, Gen.k0_pay61 (v4.readAt (Elt F) (Rect.unit (s := S128x70) ![0, 0] S128x70.size Gen.inb_S128x70_S128x70_0_0).toLoadRect f4) (v3.readAt (Elt F) (Rect.unit (s := S128x8960) ![0, 4096] S128x128.size Gen.inb_S128x8960_S128x128_0_4096).toLoadRect f3)⟩,
      ⟨Rect.unit (s := S128x8960) ![0, 3968] S128x128.size Gen.inb_S128x8960_S128x128_0_3968, Gen.k0_pay60 (v4.readAt (Elt F) (Rect.unit (s := S128x70) ![0, 0] S128x70.size Gen.inb_S128x70_S128x70_0_0).toLoadRect f4) (v3.readAt (Elt F) (Rect.unit (s := S128x8960) ![0, 3968] S128x128.size Gen.inb_S128x8960_S128x128_0_3968).toLoadRect f3)⟩,
      ⟨Rect.unit (s := S128x8960) ![0, 3840] S128x128.size Gen.inb_S128x8960_S128x128_0_3840, Gen.k0_pay59 (v4.readAt (Elt F) (Rect.unit (s := S128x70) ![0, 0] S128x70.size Gen.inb_S128x70_S128x70_0_0).toLoadRect f4) (v3.readAt (Elt F) (Rect.unit (s := S128x8960) ![0, 3840] S128x128.size Gen.inb_S128x8960_S128x128_0_3840).toLoadRect f3)⟩,
      ⟨Rect.unit (s := S128x8960) ![0, 3712] S128x128.size Gen.inb_S128x8960_S128x128_0_3712, Gen.k0_pay58 (Gen.k0_pay57 (v4.readAt (Elt F) (Rect.unit (s := S128x70) ![0, 0] S128x70.size Gen.inb_S128x70_S128x70_0_0).toLoadRect f4) (v3.readAt (Elt F) (Rect.unit (s := S128x8960) ![0, 3712] S128x128.size Gen.inb_S128x8960_S128x128_0_3712).toLoadRect f3))⟩,
      ⟨Rect.unit (s := S128x8960) ![0, 3584] S128x128.size Gen.inb_S128x8960_S128x128_0_3584, Gen.k0_pay56 (v4.readAt (Elt F) (Rect.unit (s := S128x70) ![0, 0] S128x70.size Gen.inb_S128x70_S128x70_0_0).toLoadRect f4) (v3.readAt (Elt F) (Rect.unit (s := S128x8960) ![0, 3584] S128x128.size Gen.inb_S128x8960_S128x128_0_3584).toLoadRect f3)⟩,
      ⟨Rect.unit (s := S128x8960) ![0, 3456] S128x128.size Gen.inb_S128x8960_S128x128_0_3456, Gen.k0_pay55 (v4.readAt (Elt F) (Rect.unit (s := S128x70) ![0, 0] S128x70.size Gen.inb_S128x70_S128x70_0_0).toLoadRect f4) (v3.readAt (Elt F) (Rect.unit (s := S128x8960) ![0, 3456] S128x128.size Gen.inb_S128x8960_S128x128_0_3456).toLoadRect f3)⟩,
      ⟨Rect.unit (s := S128x8960) ![0, 3328] S128x128.size Gen.inb_S128x8960_S128x128_0_3328, Gen.k0_pay54 (v4.readAt (Elt F) (Rect.unit (s := S128x70) ![0, 0] S128x70.size Gen.inb_S128x70_S128x70_0_0).toLoadRect f4) (v3.readAt (Elt F) (Rect.unit (s := S128x8960) ![0, 3328] S128x128.size Gen.inb_S128x8960_S128x128_0_3328).toLoadRect f3)⟩,
      ⟨Rect.unit (s := S128x8960) ![0, 3200] S128x128.size Gen.inb_S128x8960_S128x128_0_3200, Gen.k0_pay53 (Gen.k0_pay51 (v3.readAt (Elt F) (Rect.unit (s := S128x8960) ![0, 3200] S128x128.size Gen.inb_S128x8960_S128x128_0_3200).toLoadRect f3)) (Gen.k0_pay52 (v4.readAt (Elt F) (Rect.unit (s := S128x70) ![0, 0] S128x70.size Gen.inb_S128x70_S128x70_0_0).toLoadRect f4))⟩,
      ⟨Rect.unit (s := S128x8960) ![0, 3072] S128x128.size Gen.inb_S128x8960_S128x128_0_3072, Gen.k0_pay50 (v4.readAt (Elt F) (Rect.unit (s := S128x70) ![0, 0] S128x70.size Gen.inb_S128x70_S128x70_0_0).toLoadRect f4) (v3.readAt (Elt F) (Rect.unit (s := S128x8960) ![0, 3072] S128x128.size Gen.inb_S128x8960_S128x128_0_3072).toLoadRect f3)⟩,
      ⟨Rect.unit (s := S128x8960) ![0, 2944] S128x128.size Gen.inb_S128x8960_S128x128_0_2944, Gen.k0_pay49 (v4.readAt (Elt F) (Rect.unit (s := S128x70) ![0, 0] S128x70.size Gen.inb_S128x70_S128x70_0_0).toLoadRect f4) (v3.readAt (Elt F) (Rect.unit (s := S128x8960) ![0, 2944] S128x128.size Gen.inb_S128x8960_S128x128_0_2944).toLoadRect f3)⟩,
      ⟨Rect.unit (s := S128x8960) ![0, 2816] S128x128.size Gen.inb_S128x8960_S128x128_0_2816, Gen.k0_pay48 (v4.readAt (Elt F) (Rect.unit (s := S128x70) ![0, 0] S128x70.size Gen.inb_S128x70_S128x70_0_0).toLoadRect f4) (v3.readAt (Elt F) (Rect.unit (s := S128x8960) ![0, 2816] S128x128.size Gen.inb_S128x8960_S128x128_0_2816).toLoadRect f3)⟩,
      ⟨Rect.unit (s := S128x8960) ![0, 2688] S128x128.size Gen.inb_S128x8960_S128x128_0_2688, Gen.k0_pay47 (v4.readAt (Elt F) (Rect.unit (s := S128x70) ![0, 0] S128x70.size Gen.inb_S128x70_S128x70_0_0).toLoadRect f4) (v3.readAt (Elt F) (Rect.unit (s := S128x8960) ![0, 2688] S128x128.size Gen.inb_S128x8960_S128x128_0_2688).toLoadRect f3)⟩,
      ⟨Rect.unit (s := S128x8960) ![0, 2560] S128x128.size Gen.inb_S128x8960_S128x128_0_2560, Gen.k0_pay46 (v4.readAt (Elt F) (Rect.unit (s := S128x70) ![0, 0] S128x70.size Gen.inb_S128x70_S128x70_0_0).toLoadRect f4) (v3.readAt (Elt F) (Rect.unit (s := S128x8960) ![0, 2560] S128x128.size Gen.inb_S128x8960_S128x128_0_2560).toLoadRect f3)⟩,
      ⟨Rect.unit (s := S128x8960) ![0, 2432] S128x128.size Gen.inb_S128x8960_S128x128_0_2432, Gen.k0_pay45 (v4.readAt (Elt F) (Rect.unit (s := S128x70) ![0, 0] S128x70.size Gen.inb_S128x70_S128x70_0_0).toLoadRect f4) (v3.readAt (Elt F) (Rect.unit (s := S128x8960) ![0, 2432] S128x128.size Gen.inb_S128x8960_S128x128_0_2432).toLoadRect f3)⟩,
      ⟨Rect.unit (s := S128x8960) ![0, 2304] S128x128.size Gen.inb_S128x8960_S128x128_0_2304, Gen.k0_pay44 (v4.readAt (Elt F) (Rect.unit (s := S128x70) ![0, 0] S128x70.size Gen.inb_S128x70_S128x70_0_0).toLoadRect f4) (v3.readAt (Elt F) (Rect.unit (s := S128x8960) ![0, 2304] S128x128.size Gen.inb_S128x8960_S128x128_0_2304).toLoadRect f3)⟩,
      ⟨Rect.unit (s := S128x8960) ![0, 2176] S128x128.size Gen.inb_S128x8960_S128x128_0_2176, Gen.k0_pay43 (v4.readAt (Elt F) (Rect.unit (s := S128x70) ![0, 0] S128x70.size Gen.inb_S128x70_S128x70_0_0).toLoadRect f4) (v3.readAt (Elt F) (Rect.unit (s := S128x8960) ![0, 2176] S128x128.size Gen.inb_S128x8960_S128x128_0_2176).toLoadRect f3)⟩,
      ⟨Rect.unit (s := S128x8960) ![0, 2048] S128x128.size Gen.inb_S128x8960_S128x128_0_2048, Gen.k0_pay42 (v4.readAt (Elt F) (Rect.unit (s := S128x70) ![0, 0] S128x70.size Gen.inb_S128x70_S128x70_0_0).toLoadRect f4) (v3.readAt (Elt F) (Rect.unit (s := S128x8960) ![0, 2048] S128x128.size Gen.inb_S128x8960_S128x128_0_2048).toLoadRect f3)⟩,
      ⟨Rect.unit (s := S128x8960) ![0, 1920] S128x128.size Gen.inb_S128x8960_S128x128_0_1920, Gen.k0_pay41 (v4.readAt (Elt F) (Rect.unit (s := S128x70) ![0, 0] S128x70.size Gen.inb_S128x70_S128x70_0_0).toLoadRect f4) (v3.readAt (Elt F) (Rect.unit (s := S128x8960) ![0, 1920] S128x128.size Gen.inb_S128x8960_S128x128_0_1920).toLoadRect f3)⟩,
      ⟨Rect.unit (s := S128x8960) ![0, 1792] S128x128.size Gen.inb_S128x8960_S128x128_0_1792, Gen.k0_pay40 (v4.readAt (Elt F) (Rect.unit (s := S128x70) ![0, 0] S128x70.size Gen.inb_S128x70_S128x70_0_0).toLoadRect f4) (v3.readAt (Elt F) (Rect.unit (s := S128x8960) ![0, 1792] S128x128.size Gen.inb_S128x8960_S128x128_0_1792).toLoadRect f3)⟩,
      ⟨Rect.unit (s := S128x8960) ![0, 1664] S128x128.size Gen.inb_S128x8960_S128x128_0_1664, Gen.k0_pay39 (v4.readAt (Elt F) (Rect.unit (s := S128x70) ![0, 0] S128x70.size Gen.inb_S128x70_S128x70_0_0).toLoadRect f4) (v3.readAt (Elt F) (Rect.unit (s := S128x8960) ![0, 1664] S128x128.size Gen.inb_S128x8960_S128x128_0_1664).toLoadRect f3)⟩,
      ⟨Rect.unit (s := S128x8960) ![0, 1536] S128x128.size Gen.inb_S128x8960_S128x128_0_1536, Gen.k0_pay38 (Gen.k0_pay37 (v4.readAt (Elt F) (Rect.unit (s := S128x70) ![0, 0] S128x70.size Gen.inb_S128x70_S128x70_0_0).toLoadRect f4) (v3.readAt (Elt F) (Rect.unit (s := S128x8960) ![0, 1536] S128x128.size Gen.inb_S128x8960_S128x128_0_1536).toLoadRect f3))⟩,
      ⟨Rect.unit (s := S128x8960) ![0, 1408] S128x128.size Gen.inb_S128x8960_S128x128_0_1408, Gen.k0_pay36 (v4.readAt (Elt F) (Rect.unit (s := S128x70) ![0, 0] S128x70.size Gen.inb_S128x70_S128x70_0_0).toLoadRect f4) (v3.readAt (Elt F) (Rect.unit (s := S128x8960) ![0, 1408] S128x128.size Gen.inb_S128x8960_S128x128_0_1408).toLoadRect f3)⟩,
      ⟨Rect.unit (s := S128x8960) ![0, 1280] S128x128.size Gen.inb_S128x8960_S128x128_0_1280, Gen.k0_pay35 (v4.readAt (Elt F) (Rect.unit (s := S128x70) ![0, 0] S128x70.size Gen.inb_S128x70_S128x70_0_0).toLoadRect f4) (v3.readAt (Elt F) (Rect.unit (s := S128x8960) ![0, 1280] S128x128.size Gen.inb_S128x8960_S128x128_0_1280).toLoadRect f3)⟩,
      ⟨Rect.unit (s := S128x8960) ![0, 1152] S128x128.size Gen.inb_S128x8960_S128x128_0_1152, Gen.k0_pay34 (v4.readAt (Elt F) (Rect.unit (s := S128x70) ![0, 0] S128x70.size Gen.inb_S128x70_S128x70_0_0).toLoadRect f4) (v3.readAt (Elt F) (Rect.unit (s := S128x8960) ![0, 1152] S128x128.size Gen.inb_S128x8960_S128x128_0_1152).toLoadRect f3)⟩,
      ⟨Rect.unit (s := S128x8960) ![0, 1024] S128x128.size Gen.inb_S128x8960_S128x128_0_1024, Gen.k0_pay33 (Gen.k0_pay31 (v3.readAt (Elt F) (Rect.unit (s := S128x8960) ![0, 1024] S128x128.size Gen.inb_S128x8960_S128x128_0_1024).toLoadRect f3)) (Gen.k0_pay32 (v4.readAt (Elt F) (Rect.unit (s := S128x70) ![0, 0] S128x70.size Gen.inb_S128x70_S128x70_0_0).toLoadRect f4))⟩,
      ⟨Rect.unit (s := S128x8960) ![0, 896] S128x128.size Gen.inb_S128x8960_S128x128_0_896, Gen.k0_pay30 (v4.readAt (Elt F) (Rect.unit (s := S128x70) ![0, 0] S128x70.size Gen.inb_S128x70_S128x70_0_0).toLoadRect f4) (v3.readAt (Elt F) (Rect.unit (s := S128x8960) ![0, 896] S128x128.size Gen.inb_S128x8960_S128x128_0_896).toLoadRect f3)⟩,
      ⟨Rect.unit (s := S128x8960) ![0, 768] S128x128.size Gen.inb_S128x8960_S128x128_0_768, Gen.k0_pay29 (v4.readAt (Elt F) (Rect.unit (s := S128x70) ![0, 0] S128x70.size Gen.inb_S128x70_S128x70_0_0).toLoadRect f4) (v3.readAt (Elt F) (Rect.unit (s := S128x8960) ![0, 768] S128x128.size Gen.inb_S128x8960_S128x128_0_768).toLoadRect f3)⟩,
      ⟨Rect.unit (s := S128x8960) ![0, 640] S128x128.size Gen.inb_S128x8960_S128x128_0_640, Gen.k0_pay28 (v4.readAt (Elt F) (Rect.unit (s := S128x70) ![0, 0] S128x70.size Gen.inb_S128x70_S128x70_0_0).toLoadRect f4) (v3.readAt (Elt F) (Rect.unit (s := S128x8960) ![0, 640] S128x128.size Gen.inb_S128x8960_S128x128_0_640).toLoadRect f3)⟩,
      ⟨Rect.unit (s := S128x8960) ![0, 512] S128x128.size Gen.inb_S128x8960_S128x128_0_512, Gen.k0_pay27 (v4.readAt (Elt F) (Rect.unit (s := S128x70) ![0, 0] S128x70.size Gen.inb_S128x70_S128x70_0_0).toLoadRect f4) (v3.readAt (Elt F) (Rect.unit (s := S128x8960) ![0, 512] S128x128.size Gen.inb_S128x8960_S128x128_0_512).toLoadRect f3)⟩,
      ⟨Rect.unit (s := S128x8960) ![0, 384] S128x128.size Gen.inb_S128x8960_S128x128_0_384, Gen.k0_pay26 (v4.readAt (Elt F) (Rect.unit (s := S128x70) ![0, 0] S128x70.size Gen.inb_S128x70_S128x70_0_0).toLoadRect f4) (v3.readAt (Elt F) (Rect.unit (s := S128x8960) ![0, 384] S128x128.size Gen.inb_S128x8960_S128x128_0_384).toLoadRect f3)⟩,
      ⟨Rect.unit (s := S128x8960) ![0, 256] S128x128.size Gen.inb_S128x8960_S128x128_0_256, Gen.k0_pay25 (v4.readAt (Elt F) (Rect.unit (s := S128x70) ![0, 0] S128x70.size Gen.inb_S128x70_S128x70_0_0).toLoadRect f4) (v3.readAt (Elt F) (Rect.unit (s := S128x8960) ![0, 256] S128x128.size Gen.inb_S128x8960_S128x128_0_256).toLoadRect f3)⟩,
      ⟨Rect.unit (s := S128x8960) ![0, 128] S128x128.size Gen.inb_S128x8960_S128x128_0_128, Gen.k0_pay24 (v4.readAt (Elt F) (Rect.unit (s := S128x70) ![0, 0] S128x70.size Gen.inb_S128x70_S128x70_0_0).toLoadRect f4) (v3.readAt (Elt F) (Rect.unit (s := S128x8960) ![0, 128] S128x128.size Gen.inb_S128x8960_S128x128_0_128).toLoadRect f3)⟩,
      ⟨Rect.unit (s := S128x8960) ![0, 0] S128x128.size Gen.inb_S128x8960_S128x128_0_0, Gen.k0_pay23 (v4.readAt (Elt F) (Rect.unit (s := S128x70) ![0, 0] S128x70.size Gen.inb_S128x70_S128x70_0_0).toLoadRect f4) (v3.readAt (Elt F) (Rect.unit (s := S128x8960) ![0, 0] S128x128.size Gen.inb_S128x8960_S128x128_0_0).toLoadRect f3)⟩] (Rect.unit (s := S128x8960) ![0, 0] S128x8960.size Gen.inb_S128x8960_S128x8960_0_0).toLoadRect
      = HB (v3.read (Elt F) f3) (v4.read (Elt F) f4) := by
  rw [show v4.readAt (Elt F) (Rect.unit (s := S128x70) ![0, 0] S128x70.size Gen.inb_S128x70_S128x70_0_0).toLoadRect f4 = v4.read (Elt F) f4 from readAt_zero _ _ _]
  unfold View.readCov
  rw [readAt_zero]
  funext y
  refine View.read_writes_apply_of_pieces _ _ (HB (v3.read (Elt F) f3) (v4.read (Elt F) f4)) _ ?_ y
    (View.cover_of_tiledL _ ![128, 128] (by sl_kernel_rfl) y)
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩
  · exact hb_piece _ _ 69 (by decide) 8832 rfl _ _ (fun x => by (try dsimp only); unfold Gen.k0_pay106; (try dsimp only); rw [shapeCast_id]; exact hbpay _ _ 69 _ _ _ _ _ x)
  · exact hb_piece _ _ 68 (by decide) 8704 rfl _ _ (fun x => by (try dsimp only); unfold Gen.k0_pay105 Gen.k0_pay104 Gen.k0_pay103; (try dsimp only); rw [shapeCast_id]; exact hbpay _ _ 68 _ _ _ _ _ x)
  · exact hb_piece _ _ 67 (by decide) 8576 rfl _ _ (fun x => by (try dsimp only); unfold Gen.k0_pay102; (try dsimp only); rw [shapeCast_id]; exact hbpay _ _ 67 _ _ _ _ _ x)
  · exact hb_piece _ _ 66 (by decide) 8448 rfl _ _ (fun x => by (try dsimp only); unfold Gen.k0_pay101; (try dsimp only); rw [shapeCast_id]; exact hbpay _ _ 66 _ _ _ _ _ x)
  · exact hb_piece _ _ 65 (by decide) 8320 rfl _ _ (fun x => by (try dsimp only); unfold Gen.k0_pay100; (try dsimp only); rw [shapeCast_id]; exact hbpay _ _ 65 _ _ _ _ _ x)
  · exact hb_piece _ _ 64 (by decide) 8192 rfl _ _ (fun x => by (try dsimp only); unfold Gen.k0_pay99; (try dsimp only); rw [shapeCast_id]; exact hbpay _ _ 64 _ _ _ _ _ x)
  · exact hb_piece _ _ 63 (by decide) 8064 rfl _ _ (fun x => by (try dsimp only); unfold Gen.k0_pay98; (try dsimp only); rw [shapeCast_id]; exact hbpay _ _ 63 _ _ _ _ _ x)
  · exact hb_piece _ _ 62 (by decide) 7936 rfl _ _ (fun x => by (try dsimp only); unfold Gen.k0_pay97; (try dsimp only); rw [shapeCast_id]; exact hbpay _ _ 62 _ _ _ _ _ x)
  · exact hb_piece _ _ 61 (by decide) 7808 rfl _ _ (fun x => by (try dsimp only); unfold Gen.k0_pay96; (try dsimp only); rw [shapeCast_id]; exact hbpay _ _ 61 _ _ _ _ _ x)
  · exact hb_piece _ _ 60 (by decide) 7680 rfl _ _ (fun x => by (try dsimp only); unfold Gen.k0_pay95; (try dsimp only); rw [shapeCast_id]; exact hbpay _ _ 60 _ _ _ _ _ x)
  · exact hb_piece _ _ 59 (by decide) 7552 rfl _ _ (fun x => by (try dsimp only); unfold Gen.k0_pay94 Gen.k0_pay93; (try dsimp only); rw [shapeCast_id]; exact hbpay _ _ 59 _ _ _ _ _ x)
  · exact hb_piece _ _ 58 (by decide) 7424 rfl _ _ (fun x => by (try dsimp only); unfold Gen.k0_pay92; (try dsimp only); rw [shapeCast_id]; exact hbpay _ _ 58 _ _ _ _ _ x)
  · exact hb_piece _ _ 57 (by decide) 7296 rfl _ _ (fun x => by (try dsimp only); unfold Gen.k0_pay91; (try dsimp only); rw [shapeCast_id]; exact hbpay _ _ 57 _ _ _ _ _ x)
  · exact hb_piece _ _ 56 (by decide) 7168 rfl _ _ (fun x => by (try dsimp only); unfold Gen.k0_pay90; (try dsimp only); rw [shapeCast_id]; exact hbpay _ _ 56 _ _ _ _ _ x)
  · exact hb_piece _ _ 55 (by decide) 7040 rfl _ _ (fun x => by (try dsimp only); unfold Gen.k0_pay89 Gen.k0_pay88 Gen.k0_pay87; (try dsimp only); rw [shapeCast_id]; exact hbpay _ _ 55 _ _ _ _ _ x)
  · exact hb_piece _ _ 54 (by decide) 6912 rfl _ _ (fun x => by (try dsimp only); unfold Gen.k0_pay86; (try dsimp only); rw [shapeCast_id]; exact hbpay _ _ 54 _ _ _ _ _ x)
  · exact hb_piece _ _ 53 (by decide) 6784 rfl _ _ (fun x => by (try dsimp only); unfold Gen.k0_pay85; (try dsimp only); rw [shapeCast_id]; exact hbpay _ _ 53 _ _ _ _ _ x)
  · exact hb_piece _ _ 52 (by decide) 6656 rfl _ _ (fun x => by (try dsimp only); unfold Gen.k0_pay84; (try dsimp only); rw [shapeCast_id]; exact hbpay _ _ 52 _ _ _ _ _ x)
  · exact hb_piece _ _ 51 (by decide) 6528 rfl _ _ (fun x => by (try dsimp only); unfold Gen.k0_pay83; (try dsimp only); rw [shapeCast_id]; exact hbpay _ _ 51 _ _ _ _ _ x)
  · exact hb_piece _ _ 50 (by decide) 6400 rfl _ _ (fun x => by (try dsimp only); unfold Gen.k0_pay82; (try dsimp only); rw [shapeCast_id]; exact hbpay _ _ 50 _ _ _ _ _ x)
  · exact hb_piece _ _ 49 (by decide) 6272 rfl _ _ (fun x => by (try dsimp only); unfold Gen.k0_pay81; (try dsimp only); rw [shapeCast_id]; exact hbpay _ _ 49 _ _ _ _ _ x)
  · exact hb_piece _ _ 48 (by decide) 6144 rfl _ _ (fun x => by (try dsimp only); unfold Gen.k0_pay80; (try dsimp only); rw [shapeCast_id]; exact hbpay _ _ 48 _ _ _ _ _ x)
  · exact hb_piece _ _ 47 (by decide) 6016 rfl _ _ (fun x => by (try dsimp only); unfold Gen.k0_pay79; (try dsimp only); rw [shapeCast_id]; exact hbpay _ _ 47 _ _ _ _ _ x)
  · exact hb_piece _ _ 46 (by decide) 5888 rfl _ _ (fun x => by (try dsimp only); unfold Gen.k0_pay78; (try dsimp only); rw [shapeCast_id]; exact hbpay _ _ 46 _ _ _ _ _ x)
  · exact hb_piece _ _ 45 (by decide) 5760 rfl _ _ (fun x => by (try dsimp only); unfold Gen.k0_pay77; (try dsimp only); rw [shapeCast_id]; exact hbpay _ _ 45 _ _ _ _ _ x)
  · exact hb_piece _ _ 44 (by decide) 5632 rfl _ _ (fun x => by (try dsimp only); unfold Gen.k0_pay76; (try dsimp only); rw [shapeCast_id]; exact hbpay _ _ 44 _ _ _ _ _ x)
  · exact hb_piece _ _ 43 (by decide) 5504 rfl _ _ (fun x => by (try dsimp only); unfold Gen.k0_pay75; (try dsimp only); rw [shapeCast_id]; exact hbpay _ _ 43 _ _ _ _ _ x)
  · exact hb_piece _ _ 42 (by decide) 5376 rfl _ _ (fun x => by (try dsimp only); unfold Gen.k0_pay74 Gen.k0_pay73; (try dsimp only); rw [shapeCast_id]; exact hbpay _ _ 42 _ _ _ _ _ x)
  · exact hb_piece _ _ 41 (by decide) 5248 rfl _ _ (fun x => by (try dsimp only); unfold Gen.k0_pay72; (try dsimp only); rw [shapeCast_id]; exact hbpay _ _ 41 _ _ _ _ _ x)
  · exact hb_piece _ _ 40 (by decide) 5120 rfl _ _ (fun x => by (try dsimp only); unfold Gen.k0_pay71; (try dsimp only); rw [shapeCast_id]; exact hbpay _ _ 40 _ _ _ _ _ x)
  · exact hb_piece _ _ 39 (by decide) 4992 rfl _ _ (fun x => by (try dsimp only); unfold Gen.k0_pay70; (try dsimp only); rw [shapeCast_id]; exact hbpay _ _ 39 _ _ _ _ _ x)
  · exact hb_piece _ _ 38 (by decide) 4864 rfl _ _ (fun x => by (try dsimp only); unfold Gen.k0_pay69 Gen.k0_pay68 Gen.k0_pay67; (try dsimp only); rw [shapeCast_id]; exact hbpay _ _ 38 _ _ _ _ _ x)
  · exact hb_piece _ _ 37 (by decide) 4736 rfl _ _ (fun x => by (try dsimp only); unfold Gen.k0_pay66; (try dsimp only); rw [shapeCast_id]; exact hbpay _ _ 37 _ _ _ _ _ x)
  · exact hb_piece _ _ 36 (by decide) 4608 rfl _ _ (fun x => by (try dsimp only); unfold Gen.k0_pay65; (try dsimp only); rw [shapeCast_id]; exact hbpay _ _ 36 _ _ _ _ _ x)
  · exact hb_piece _ _ 35 (by decide) 4480 rfl _ _ (fun x => by (try dsimp only); unfold Gen.k0_pay64; (try dsimp only); rw [shapeCast_id]; exact hbpay _ _ 35 _ _ _ _ _ x)
  · exact hb_piece _ _ 34 (by decide) 4352 rfl _ _ (fun x => by (try dsimp only); unfold Gen.k0_pay63; (try dsimp only); rw [shapeCast_id]; exact hbpay _ _ 34 _ _ _ _ _ x)
  · exact hb_piece _ _ 33 (by decide) 4224 rfl _ _ (fun x => by (try dsimp only); unfold Gen.k0_pay62; (try dsimp only); rw [shapeCast_id]; exact hbpay _ _ 33 _ _ _ _ _ x)
  · exact hb_piece _ _ 32 (by decide) 4096 rfl _ _ (fun x => by (try dsimp only); unfold Gen.k0_pay61; (try dsimp only); rw [shapeCast_id]; exact hbpay _ _ 32 _ _ _ _ _ x)
  · exact hb_piece _ _ 31 (by decide) 3968 rfl _ _ (fun x => by (try dsimp only); unfold Gen.k0_pay60; (try dsimp only); rw [shapeCast_id]; exact hbpay _ _ 31 _ _ _ _ _ x)
  · exact hb_piece _ _ 30 (by decide) 3840 rfl _ _ (fun x => by (try dsimp only); unfold Gen.k0_pay59; (try dsimp only); rw [shapeCast_id]; exact hbpay _ _ 30 _ _ _ _ _ x)
  · exact hb_piece _ _ 29 (by decide) 3712 rfl _ _ (fun x => by (try dsimp only); unfold Gen.k0_pay58 Gen.k0_pay57; (try dsimp only); rw [shapeCast_id]; exact hbpay _ _ 29 _ _ _ _ _ x)
  · exact hb_piece _ _ 28 (by decide) 3584 rfl _ _ (fun x => by (try dsimp only); unfold Gen.k0_pay56; (try dsimp only); rw [shapeCast_id]; exact hbpay _ _ 28 _ _ _ _ _ x)
  · exact hb_piece _ _ 27 (by decide) 3456 rfl _ _ (fun x => by (try dsimp only); unfold Gen.k0_pay55; (try dsimp only); rw [shapeCast_id]; exact hbpay _ _ 27 _ _ _ _ _ x)
  · exact hb_piece _ _ 26 (by decide) 3328 rfl _ _ (fun x => by (try dsimp only); unfold Gen.k0_pay54; (try dsimp only); rw [shapeCast_id]; exact hbpay _ _ 26 _ _ _ _ _ x)
  · exact hb_piece _ _ 25 (by decide) 3200 rfl _ _ (fun x => by (try dsimp only); unfold Gen.k0_pay53 Gen.k0_pay52 Gen.k0_pay51; (try dsimp only); rw [shapeCast_id]; exact hbpay _ _ 25 _ _ _ _ _ x)
  · exact hb_piece _ _ 24 (by decide) 3072 rfl _ _ (fun x => by (try dsimp only); unfold Gen.k0_pay50; (try dsimp only); rw [shapeCast_id]; exact hbpay _ _ 24 _ _ _ _ _ x)
  · exact hb_piece _ _ 23 (by decide) 2944 rfl _ _ (fun x => by (try dsimp only); unfold Gen.k0_pay49; (try dsimp only); rw [shapeCast_id]; exact hbpay _ _ 23 _ _ _ _ _ x)
  · exact hb_piece _ _ 22 (by decide) 2816 rfl _ _ (fun x => by (try dsimp only); unfold Gen.k0_pay48; (try dsimp only); rw [shapeCast_id]; exact hbpay _ _ 22 _ _ _ _ _ x)
  · exact hb_piece _ _ 21 (by decide) 2688 rfl _ _ (fun x => by (try dsimp only); unfold Gen.k0_pay47; (try dsimp only); rw [shapeCast_id]; exact hbpay _ _ 21 _ _ _ _ _ x)
  · exact hb_piece _ _ 20 (by decide) 2560 rfl _ _ (fun x => by (try dsimp only); unfold Gen.k0_pay46; (try dsimp only); rw [shapeCast_id]; exact hbpay _ _ 20 _ _ _ _ _ x)
  · exact hb_piece _ _ 19 (by decide) 2432 rfl _ _ (fun x => by (try dsimp only); unfold Gen.k0_pay45; (try dsimp only); rw [shapeCast_id]; exact hbpay _ _ 19 _ _ _ _ _ x)
  · exact hb_piece _ _ 18 (by decide) 2304 rfl _ _ (fun x => by (try dsimp only); unfold Gen.k0_pay44; (try dsimp only); rw [shapeCast_id]; exact hbpay _ _ 18 _ _ _ _ _ x)
  · exact hb_piece _ _ 17 (by decide) 2176 rfl _ _ (fun x => by (try dsimp only); unfold Gen.k0_pay43; (try dsimp only); rw [shapeCast_id]; exact hbpay _ _ 17 _ _ _ _ _ x)
  · exact hb_piece _ _ 16 (by decide) 2048 rfl _ _ (fun x => by (try dsimp only); unfold Gen.k0_pay42; (try dsimp only); rw [shapeCast_id]; exact hbpay _ _ 16 _ _ _ _ _ x)
  · exact hb_piece _ _ 15 (by decide) 1920 rfl _ _ (fun x => by (try dsimp only); unfold Gen.k0_pay41; (try dsimp only); rw [shapeCast_id]; exact hbpay _ _ 15 _ _ _ _ _ x)
  · exact hb_piece _ _ 14 (by decide) 1792 rfl _ _ (fun x => by (try dsimp only); unfold Gen.k0_pay40; (try dsimp only); rw [shapeCast_id]; exact hbpay _ _ 14 _ _ _ _ _ x)
  · exact hb_piece _ _ 13 (by decide) 1664 rfl _ _ (fun x => by (try dsimp only); unfold Gen.k0_pay39; (try dsimp only); rw [shapeCast_id]; exact hbpay _ _ 13 _ _ _ _ _ x)
  · exact hb_piece _ _ 12 (by decide) 1536 rfl _ _ (fun x => by (try dsimp only); unfold Gen.k0_pay38 Gen.k0_pay37; (try dsimp only); rw [shapeCast_id]; exact hbpay _ _ 12 _ _ _ _ _ x)
  · exact hb_piece _ _ 11 (by decide) 1408 rfl _ _ (fun x => by (try dsimp only); unfold Gen.k0_pay36; (try dsimp only); rw [shapeCast_id]; exact hbpay _ _ 11 _ _ _ _ _ x)
  · exact hb_piece _ _ 10 (by decide) 1280 rfl _ _ (fun x => by (try dsimp only); unfold Gen.k0_pay35; (try dsimp only); rw [shapeCast_id]; exact hbpay _ _ 10 _ _ _ _ _ x)
  · exact hb_piece _ _ 9 (by decide) 1152 rfl _ _ (fun x => by (try dsimp only); unfold Gen.k0_pay34; (try dsimp only); rw [shapeCast_id]; exact hbpay _ _ 9 _ _ _ _ _ x)
  · exact hb_piece _ _ 8 (by decide) 1024 rfl _ _ (fun x => by (try dsimp only); unfold Gen.k0_pay33 Gen.k0_pay32 Gen.k0_pay31; (try dsimp only); rw [shapeCast_id]; exact hbpay _ _ 8 _ _ _ _ _ x)
  · exact hb_piece _ _ 7 (by decide) 896 rfl _ _ (fun x => by (try dsimp only); unfold Gen.k0_pay30; (try dsimp only); rw [shapeCast_id]; exact hbpay _ _ 7 _ _ _ _ _ x)
  · exact hb_piece _ _ 6 (by decide) 768 rfl _ _ (fun x => by (try dsimp only); unfold Gen.k0_pay29; (try dsimp only); rw [shapeCast_id]; exact hbpay _ _ 6 _ _ _ _ _ x)
  · exact hb_piece _ _ 5 (by decide) 640 rfl _ _ (fun x => by (try dsimp only); unfold Gen.k0_pay28; (try dsimp only); rw [shapeCast_id]; exact hbpay _ _ 5 _ _ _ _ _ x)
  · exact hb_piece _ _ 4 (by decide) 512 rfl _ _ (fun x => by (try dsimp only); unfold Gen.k0_pay27; (try dsimp only); rw [shapeCast_id]; exact hbpay _ _ 4 _ _ _ _ _ x)
  · exact hb_piece _ _ 3 (by decide) 384 rfl _ _ (fun x => by (try dsimp only); unfold Gen.k0_pay26; (try dsimp only); rw [shapeCast_id]; exact hbpay _ _ 3 _ _ _ _ _ x)
  · exact hb_piece _ _ 2 (by decide) 256 rfl _ _ (fun x => by (try dsimp only); unfold Gen.k0_pay25; (try dsimp only); rw [shapeCast_id]; exact hbpay _ _ 2 _ _ _ _ _ x)
  · exact hb_piece _ _ 1 (by decide) 128 rfl _ _ (fun x => by (try dsimp only); unfold Gen.k0_pay24; (try dsimp only); rw [shapeCast_id]; exact hbpay _ _ 1 _ _ _ _ _ x)
  · exact hb_piece _ _ 0 (by decide) 0 rfl _ _ (fun x => by (try dsimp only); unfold Gen.k0_pay23; (try dsimp only); rw [shapeCast_id]; exact hbpay _ _ 0 _ _ _ _ _ x)

theorem zLive_congr {i : grid0.Coords} {w : Elt F .i32} {x1 : S21.Idx → Elt F .i32} {hb hb' : S128x8960.Idx → Elt F .bf16} {wb wb' : S8960x1536.Idx → Elt F .bf16}
    {x5 x5' : S128x1536.Idx → Elt F .bf16} {x7 x8 x9 x7' x8' x9' : S1x1536.Idx → Elt F .f32} (hw : w = cuAt (F := F) x1 20)
    (h : hb = hb') (h' : wb = wb') (h5 : x5 = x5') (h7 : x7 = x7') (h8 : x8 = x8') (h9 : x9 = x9') :
    Gen.k0_pay6 i w (Gen.k0_pay107 hb wb x5 x7) (Gen.k0_pay108 hb wb x5 x7) x8 x9 = zLive i x1 hb' wb' x5' x7' x8' x9' := by
  subst hw h h' h5 h7 h8 h9; rfl

theorem sumNew_congr (i : grid0.Coords) (v : BitVec 32) {x1 x1' : S21.Idx → Elt F .i32} {z z' : S128x1536.Idx → Elt F .f32} {s s' : S20x1536.Idx → Elt F .f32}
    (h1 : x1 = x1') (hz : z = z') (hs : s = s') : sumNew i v x1 z s = sumNew i v x1' z' s' := by
  subst h1 hz hs; rfl

theorem mVal_congr (x1 : S21.Idx → Elt F .i32) (s' : S20x1536.Idx → Elt F .f32) {w0 w1 w2 w3 w4 w5 w6 w7 w8 w9 w10 w11 w12 w13 w14 w15 w16 w17 w18 w19 w20 w21 w22 w23 w24 w25 w26 w27 w28 w29 w30 w31 w32 w33 w34 w35 w36 w37 w38 w39 : Elt F .i32} {s : S20x1536.Idx → Elt F .f32} (h0 : w0 = cuAt (F := F) x1 1) (h1 : w1 = cuAt (F := F) x1 0) (h2 : w2 = cuAt (F := F) x1 2) (h3 : w3 = cuAt (F := F) x1 1) (h4 : w4 = cuAt (F := F) x1 3) (h5 : w5 = cuAt (F := F) x1 2) (h6 : w6 = cuAt (F := F) x1 4) (h7 : w7 = cuAt (F := F) x1 3) (h8 : w8 = cuAt (F := F) x1 5) (h9 : w9 = cuAt (F := F) x1 4) (h10 : w10 = cuAt (F := F) x1 6) (h11 : w11 = cuAt (F := F) x1 5) (h12 : w12 = cuAt (F := F) x1 7) (h13 : w13 = cuAt (F := F) x1 6) (h14 : w14 = cuAt (F := F) x1 8) (h15 : w15 = cuAt (F := F) x1 7) (h16 : w16 = cuAt (F := F) x1 9) (h17 : w17 = cuAt (F := F) x1 8) (h18 : w18 = cuAt (F := F) x1 10) (h19 : w19 = cuAt (F := F) x1 9) (h20 : w20 = cuAt (F := F) x1 11) (h21 : w21 = cuAt (F := F) x1 10) (h22 : w22 = cuAt (F := F) x1 12) (h23 : w23 = cuAt (F := F) x1 11) (h24 : w24 = cuAt (F := F) x1 13) (h25 : w25 = cuAt (F := F) x1 12) (h26 : w26 = cuAt (F := F) x1 14) (h27 : w27 = cuAt (F := F) x1 13) (h28 : w28 = cuAt (F := F) x1 15) (h29 : w29 = cuAt (F := F) x1 14) (h30 : w30 = cuAt (F := F) x1 16) (h31 : w31 = cuAt (F := F) x1 15) (h32 : w32 = cuAt (F := F) x1 17) (h33 : w33 = cuAt (F := F) x1 16) (h34 : w34 = cuAt (F := F) x1 18) (h35 : w35 = cuAt (F := F) x1 17) (h36 : w36 = cuAt (F := F) x1 19) (h37 : w37 = cuAt (F := F) x1 18) (h38 : w38 = cuAt (F := F) x1 20) (h39 : w39 = cuAt (F := F) x1 19) (hs : s = s') :
    (Gen.k0_pay113 iotaW (Gen.k0_pay112 iotaW (Gen.k0_pay110 iotaW (Gen.k0_pay109 w0 w1 w2 w3 w4 w5 w6 w7 w8 w9) w10 w11 w12 w13 w14 w15 w16 w17 w18 w19) (Gen.k0_pay111 w20 w21) 10#32 w22 w23 w24 w25 w26 w27 w28 w29 w30 w31) w32 w33 w34 w35 w36 w37 w38 w39 s) = mVal x1 s' := by
  subst h0 h1 h2 h3 h4 h5 h6 h7 h8 h9 h10 h11 h12 h13 h14 h15 h16 h17 h18 h19 h20 h21 h22 h23 h24 h25 h26 h27 h28 h29 h30 h31 h32 h33 h34 h35 h36 h37 h38 h39 hs; rfl

theorem codesVal_congr (x1 : S21.Idx → Elt F .i32) (s' : S20x1536.Idx → Elt F .f32) {w0 w1 w2 w3 w4 w5 w6 w7 w8 w9 w10 w11 w12 w13 w14 w15 w16 w17 w18 w19 w20 w21 w22 w23 w24 w25 w26 w27 w28 w29 w30 w31 w32 w33 w34 w35 w36 w37 w38 w39 : Elt F .i32} {s : S20x1536.Idx → Elt F .f32} (h0 : w0 = cuAt (F := F) x1 1) (h1 : w1 = cuAt (F := F) x1 0) (h2 : w2 = cuAt (F := F) x1 2) (h3 : w3 = cuAt (F := F) x1 1) (h4 : w4 = cuAt (F := F) x1 3) (h5 : w5 = cuAt (F := F) x1 2) (h6 : w6 = cuAt (F := F) x1 4) (h7 : w7 = cuAt (F := F) x1 3) (h8 : w8 = cuAt (F := F) x1 5) (h9 : w9 = cuAt (F := F) x1 4) (h10 : w10 = cuAt (F := F) x1 6) (h11 : w11 = cuAt (F := F) x1 5) (h12 : w12 = cuAt (F := F) x1 7) (h13 : w13 = cuAt (F := F) x1 6) (h14 : w14 = cuAt (F := F) x1 8) (h15 : w15 = cuAt (F := F) x1 7) (h16 : w16 = cuAt (F := F) x1 9) (h17 : w17 = cuAt (F := F) x1 8) (h18 : w18 = cuAt (F := F) x1 10) (h19 : w19 = cuAt (F := F) x1 9) (h20 : w20 = cuAt (F := F) x1 11) (h21 : w21 = cuAt (F := F) x1 10) (h22 : w22 = cuAt (F := F) x1 12) (h23 : w23 = cuAt (F := F) x1 11) (h24 : w24 = cuAt (F := F) x1 13) (h25 : w25 = cuAt (F := F) x1 12) (h26 : w26 = cuAt (F := F) x1 14) (h27 : w27 = cuAt (F := F) x1 13) (h28 : w28 = cuAt (F := F) x1 15) (h29 : w29 = cuAt (F := F) x1 14) (h30 : w30 = cuAt (F := F) x1 16) (h31 : w31 = cuAt (F := F) x1 15) (h32 : w32 = cuAt (F := F) x1 17) (h33 : w33 = cuAt (F := F) x1 16) (h34 : w34 = cuAt (F := F) x1 18) (h35 : w35 = cuAt (F := F) x1 17) (h36 : w36 = cuAt (F := F) x1 19) (h37 : w37 = cuAt (F := F) x1 18) (h38 : w38 = cuAt (F := F) x1 20) (h39 : w39 = cuAt (F := F) x1 19) (hs : s = s') :
    Gen.k0_pay10 (Gen.k0_pay113 iotaW (Gen.k0_pay112 iotaW (Gen.k0_pay110 iotaW (Gen.k0_pay109 w0 w1 w2 w3 w4 w5 w6 w7 w8 w9) w10 w11 w12 w13 w14 w15 w16 w17 w18 w19) (Gen.k0_pay111 w20 w21) 10#32 w22 w23 w24 w25 w26 w27 w28 w29 w30 w31) w32 w33 w34 w35 w36 w37 w38 w39 s) (Gen.k0_pay114 iotaW (Gen.k0_pay112 iotaW (Gen.k0_pay110 iotaW (Gen.k0_pay109 w0 w1 w2 w3 w4 w5 w6 w7 w8 w9) w10 w11 w12 w13 w14 w15 w16 w17 w18 w19) (Gen.k0_pay111 w20 w21) 10#32 w22 w23 w24 w25 w26 w27 w28 w29 w30 w31) w32 w33 w34 w35 w36 w37 w38 w39 s) = codesVal x1 s' := by
  subst h0 h1 h2 h3 h4 h5 h6 h7 h8 h9 h10 h11 h12 h13 h14 h15 h16 h17 h18 h19 h20 h21 h22 h23 h24 h25 h26 h27 h28 h29 h30 h31 h32 h33 h34 h35 h36 h37 h38 h39 hs; rfl

theorem scaleVal_congr (x1 : S21.Idx → Elt F .i32) (s' : S20x1536.Idx → Elt F .f32) {w0 w1 w2 w3 w4 w5 w6 w7 w8 w9 w10 w11 w12 w13 w14 w15 w16 w17 w18 w19 w20 w21 w22 w23 w24 w25 w26 w27 w28 w29 w30 w31 w32 w33 w34 w35 w36 w37 w38 w39 : Elt F .i32} {s : S20x1536.Idx → Elt F .f32} (h0 : w0 = cuAt (F := F) x1 1) (h1 : w1 = cuAt (F := F) x1 0) (h2 : w2 = cuAt (F := F) x1 2) (h3 : w3 = cuAt (F := F) x1 1) (h4 : w4 = cuAt (F := F) x1 3) (h5 : w5 = cuAt (F := F) x1 2) (h6 : w6 = cuAt (F := F) x1 4) (h7 : w7 = cuAt (F := F) x1 3) (h8 : w8 = cuAt (F := F) x1 5) (h9 : w9 = cuAt (F := F) x1 4) (h10 : w10 = cuAt (F := F) x1 6) (h11 : w11 = cuAt (F := F) x1 5) (h12 : w12 = cuAt (F := F) x1 7) (h13 : w13 = cuAt (F := F) x1 6) (h14 : w14 = cuAt (F := F) x1 8) (h15 : w15 = cuAt (F := F) x1 7) (h16 : w16 = cuAt (F := F) x1 9) (h17 : w17 = cuAt (F := F) x1 8) (h18 : w18 = cuAt (F := F) x1 10) (h19 : w19 = cuAt (F := F) x1 9) (h20 : w20 = cuAt (F := F) x1 11) (h21 : w21 = cuAt (F := F) x1 10) (h22 : w22 = cuAt (F := F) x1 12) (h23 : w23 = cuAt (F := F) x1 11) (h24 : w24 = cuAt (F := F) x1 13) (h25 : w25 = cuAt (F := F) x1 12) (h26 : w26 = cuAt (F := F) x1 14) (h27 : w27 = cuAt (F := F) x1 13) (h28 : w28 = cuAt (F := F) x1 15) (h29 : w29 = cuAt (F := F) x1 14) (h30 : w30 = cuAt (F := F) x1 16) (h31 : w31 = cuAt (F := F) x1 15) (h32 : w32 = cuAt (F := F) x1 17) (h33 : w33 = cuAt (F := F) x1 16) (h34 : w34 = cuAt (F := F) x1 18) (h35 : w35 = cuAt (F := F) x1 17) (h36 : w36 = cuAt (F := F) x1 19) (h37 : w37 = cuAt (F := F) x1 18) (h38 : w38 = cuAt (F := F) x1 20) (h39 : w39 = cuAt (F := F) x1 19) (hs : s = s') :
    Gen.k0_pay9 (Gen.k0_pay113 iotaW (Gen.k0_pay112 iotaW (Gen.k0_pay110 iotaW (Gen.k0_pay109 w0 w1 w2 w3 w4 w5 w6 w7 w8 w9) w10 w11 w12 w13 w14 w15 w16 w17 w18 w19) (Gen.k0_pay111 w20 w21) 10#32 w22 w23 w24 w25 w26 w27 w28 w29 w30 w31) w32 w33 w34 w35 w36 w37 w38 w39 s) (Gen.k0_pay114 iotaW (Gen.k0_pay112 iotaW (Gen.k0_pay110 iotaW (Gen.k0_pay109 w0 w1 w2 w3 w4 w5 w6 w7 w8 w9) w10 w11 w12 w13 w14 w15 w16 w17 w18 w19) (Gen.k0_pay111 w20 w21) 10#32 w22 w23 w24 w25 w26 w27 w28 w29 w30 w31) w32 w33 w34 w35 w36 w37 w38 w39 s) = scaleVal x1 s' := by
  subst h0 h1 h2 h3 h4 h5 h6 h7 h8 h9 h10 h11 h12 h13 h14 h15 h16 h17 h18 h19 h20 h21 h22 h23 h24 h25 h26 h27 h28 h29 h30 h31 h32 h33 h34 h35 h36 h37 h38 h39 hs; rfl

/-- What the kernel's function holds at a grid point: every buffer at its contents (the tile of activations at any). -/
abbrev Held (c : Dev nD) (arg1 : Memref sig .tc .smem S21 .i32) (arg2 : Memref sig .tc .smem S70x12 .f32) (arg3 : Memref sig .tc .vmem S128x8960 .fp8e4m3) (arg4 : Memref sig .tc .vmem S128x70 .f32) (arg5 : Memref sig .tc .vmem S128x1536 .bf16) (arg6 : Memref sig .tc .vmem S8960x1536 .fp8e4m3) (arg7 : Memref sig .tc .vmem S1x1536 .f32) (arg8 : Memref sig .tc .vmem S1x1536 .f32) (arg9 : Memref sig .tc .vmem S1x1536 .f32) (arg10 : Memref sig .tc .vmem S128x1536 .f32) (arg11 : Memref sig .tc .vmem S20x1536 .f32) (arg12 : Memref sig .tc .vmem S20x1536 .i8) (arg13 : Memref sig .tc .vmem S20x1 .f32) (arg14 : Memref sig .tc .vmem S8960x1536 .bf16) (arg15 : Memref sig .tc .vmem S128x8960 .bf16) (arg16 : Memref sig .tc .vmem S20x1536 .f32) (q : PosShare TreeShare) (x1 : S21.Idx → Elt F .i32) (x2 : S70x12.Idx → Elt F .f32) (x3 : S128x8960.Idx → Elt F .fp8e4m3) (x4 : S128x70.Idx → Elt F .f32) (x5 : S128x1536.Idx → Elt F .bf16) (x6 : S8960x1536.Idx → Elt F .fp8e4m3) (x7 : S1x1536.Idx → Elt F .f32) (x8 : S1x1536.Idx → Elt F .f32) (x9 : S1x1536.Idx → Elt F .f32) (x10 : S128x1536.Idx → Elt F .f32) (x11 : S20x1536.Idx → Elt F .f32) (x12 : S20x1536.Idx → Elt F .i8) (x13 : S20x1.Idx → Elt F .f32) (x14 : S8960x1536.Idx → Elt F .bf16) (x16 : S20x1536.Idx → Elt F .f32) : sProp (MT nD τ sig Unit (Elt F) ℕ (UR sig nD τ) ℕ) :=
  iprop(owns (c : Thread nD τ) arg1 q x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg16 fullShare x16 ∗ (∃ y, owns (c : Thread nD τ) arg15 fullShare y))
end Cert.Proof.KernelIdeal
end
end
-- ==== Proof.KernI.BodyF.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.KernI.Hb
public import Idealize.ShloMosaic.Adequacy
public import Idealize.ShloMosaic.Init
public import Idealize.ShloMosaic.Lib.WritesUnit
public import Idealize.ShloMosaic.Lib.VecWindow
public import Idealize.ShloMosaic.Lib.Pointwise

@[expose] public section

set_option maxRecDepth 16384
set_option maxHeartbeats 4000000

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 20000000 in
theorem body_F_live (c : Dev nD) (i : grid0.Coords) (arg1 : Memref sig .tc .smem S21 .i32) (harg1 : arg1.IsWhole) (arg2 : Memref sig .tc .smem S70x12 .f32) (harg2 : arg2.IsWhole) (arg3 : Memref sig .tc .vmem S128x8960 .fp8e4m3) (harg3 : arg3.IsWhole) (arg4 : Memref sig .tc .vmem S128x70 .f32) (harg4 : arg4.IsWhole) (arg5 : Memref sig .tc .vmem S128x1536 .bf16) (harg5 : arg5.IsWhole) (arg6 : Memref sig .tc .vmem S8960x1536 .fp8e4m3) (harg6 : arg6.IsWhole) (arg7 : Memref sig .tc .vmem S1x1536 .f32) (harg7 : arg7.IsWhole) (arg8 : Memref sig .tc .vmem S1x1536 .f32) (harg8 : arg8.IsWhole) (arg9 : Memref sig .tc .vmem S1x1536 .f32) (harg9 : arg9.IsWhole) (arg10 : Memref sig .tc .vmem S128x1536 .f32) (harg10 : arg10.IsWhole) (arg11 : Memref sig .tc .vmem S20x1536 .f32) (harg11 : arg11.IsWhole) (arg12 : Memref sig .tc .vmem S20x1536 .i8) (harg12 : arg12.IsWhole) (arg13 : Memref sig .tc .vmem S20x1 .f32) (harg13 : arg13.IsWhole) (arg14 : Memref sig .tc .vmem S8960x1536 .bf16) (harg14 : arg14.IsWhole) (arg15 : Memref sig .tc .vmem S128x8960 .bf16) (harg15 : arg15.IsWhole) (arg16 : Memref sig .tc .vmem S20x1536 .f32) (harg16 : arg16.IsWhole) (q : PosShare TreeShare) (x1 : S21.Idx → Elt F .i32) (x2 : S70x12.Idx → Elt F .f32) (x3 : S128x8960.Idx → Elt F .fp8e4m3) (x4 : S128x70.Idx → Elt F .f32) (x5 : S128x1536.Idx → Elt F .bf16) (x6 : S8960x1536.Idx → Elt F .fp8e4m3) (x7 : S1x1536.Idx → Elt F .f32) (x8 : S1x1536.Idx → Elt F .f32) (x9 : S1x1536.Idx → Elt F .f32) (x10 : S128x1536.Idx → Elt F .f32) (x11 : S20x1536.Idx → Elt F .f32) (x12 : S20x1536.Idx → Elt F .i8) (x13 : S20x1.Idx → Elt F .f32) (x14 : S8960x1536.Idx → Elt F .bf16) (x16 : S20x1536.Idx → Elt F .f32)
    (h1 : k0_cond1 i = 1#1) (h2' : ¬ k0_cond2 i (cuAt (F := F) x1 20) = 1#1)
    (h3' : k0_cond3 i (cuAt (F := F) x1 20) = 1#1) (h5 : ¬ k0_cond5 i = 1#1) :
    Held c arg1 arg2 arg3 arg4 arg5 arg6 arg7 arg8 arg9 arg10 arg11 arg12 arg13 arg14 arg15 arg16 q x1 x2 x3 x4 x5 x6 x7 x8 x9 x10 x11 x12 x13 x14 x16
      ⊢ wp frame (wpE (defs₀ (F := F)) Variants.none (c : Thread nD τ) none) Set.univ (cc0_ffn_down_ln_pool (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => Held c arg1 arg2 arg3 arg4 arg5 arg6 arg7 arg8 arg9 arg10 arg11 arg12 arg13 arg14 arg15 arg16 q x1 x2 x3 x4 x5 x6 x7 x8 x9 (zLive i x1 (HB x3 x4) (WB x2 x6) x5 x7 x8 x9) x11 x12 x13 (WB x2 x6) (sumNew i (rowWord i) x1 (zLive i x1 (HB x3 x4) (WB x2 x6) x5 x7 x8 x9) Gen.k0_pay1)) := by
  simp only [Gen.cc0_ffn_down_ln_pool_eq_skeleton]
  unfold Gen.cc0_ffn_down_ln_pool_skel
  simp only [Gen.k0_part4_eq_skeleton, Gen.k0_part5_eq_skeleton, Gen.k0_part6_eq_skeleton, Gen.k0_part7_eq_skeleton, Gen.k0_part8_eq_skeleton, Gen.k0_part9_eq_skeleton, Gen.k0_part10_eq_skeleton, Gen.k0_part11_eq_skeleton, Gen.k0_part12_eq_skeleton, Gen.k0_part13_eq_skeleton, Gen.k0_part14_eq_skeleton, Gen.k0_part15_eq_skeleton, Gen.k0_part16_eq_skeleton, Gen.k0_part17_eq_skeleton, Gen.k0_part18_eq_skeleton, Gen.k0_part19_eq_skeleton, Gen.k0_part20_eq_skeleton]
  unfold Held owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f16, %hf16, H16⟩, ⟨%y15, %f15, %hf15, H15⟩⟩
  have hw : ∀ h, arg1.view.readAt (Elt F) (Rect.unit (s := S21) ![20] S1.size Gen.inb_S21_S1_20).toLoadRect f1 (Shape.Idx.first h)
      = cuAt (F := F) x1 20 := fun h => by rw [cu_at, hf1]
  have h2 : ∀ h, ¬ k0_cond2 i (arg1.view.readAt (Elt F) (Rect.unit (s := S21) ![20] S1.size Gen.inb_S21_S1_20).toLoadRect f1 (Shape.Idx.first h)) = 1#1 :=
    fun h => by rw [hw h]; exact h2'
  have h3 : ∀ h, k0_cond3 i (arg1.view.readAt (Elt F) (Rect.unit (s := S21) ![20] S1.size Gen.inb_S21_S1_20).toLoadRect f1 (Shape.Idx.first h)) = 1#1 :=
    fun h => by rw [hw h]; exact h3'
  have h2 := h2 (by show 0 < S1.numel; decide)
  have h3 := h3 (by show 0 < S1.numel; decide)
  sl_exec
  sl_step
  isplitl [H1]
  · iexists f1; isplitr; swap; · iexact H1
    ipureintro
    exact hf1
  isplitl [H2]
  · iexists f2; isplitr; swap; · iexact H2
    ipureintro
    exact hf2
  isplitl [H3]
  · iexists f3; isplitr; swap; · iexact H3
    ipureintro
    exact hf3
  isplitl [H4]
  · iexists f4; isplitr; swap; · iexact H4
    ipureintro
    exact hf4
  isplitl [H5]
  · iexists f5; isplitr; swap; · iexact H5
    ipureintro
    exact hf5
  isplitl [H6]
  · iexists f6; isplitr; swap; · iexact H6
    ipureintro
    exact hf6
  isplitl [H7]
  · iexists f7; isplitr; swap; · iexact H7
    ipureintro
    exact hf7
  isplitl [H8]
  · iexists f8; isplitr; swap; · iexact H8
    ipureintro
    exact hf8
  isplitl [H9]
  · iexists f9; isplitr; swap; · iexact H9
    ipureintro
    exact hf9
  isplitl [H10]
  · iexists _; isplitr; swap; · iexact H10
    ipureintro
    sl_unfold_run_names
    rw [read_zero]
    refine zLive_congr (hw _) ?_ ?_ ?_ ?_ ?_ ?_
    · exact (hb_cov _ _ _ _ _).trans (by rw [hf3, hf4])
    · exact (readAt_zero _ _ _).trans (hL3.trans ((WBto_all _ _ _ _ rfl).trans (by rw [hf2, hf6])))
    · exact (readAt_zero _ _ _).trans hf5
    · exact (readAt_zero _ _ _).trans hf7
    · exact (readAt_zero _ _ _).trans hf8
    · exact (readAt_zero _ _ _).trans hf9
  isplitl [H11]
  · iexists f11; isplitr; swap; · iexact H11
    ipureintro
    exact hf11
  isplitl [H12]
  · iexists f12; isplitr; swap; · iexact H12
    ipureintro
    exact hf12
  isplitl [H13]
  · iexists f13; isplitr; swap; · iexact H13
    ipureintro
    exact hf13
  isplitl [H14]
  · iexists _; isplitr; swap; · iexact H14
    ipureintro
    sl_unfold_run_names
    exact (hL3.trans ((WBto_all _ _ _ _ rfl).trans (by rw [hf2, hf6])))
  isplitl [H16]
  · iexists _; isplitr; swap; · iexact H16
    ipureintro
    sl_unfold_run_names
    refine hL7.trans ((sumTo_all _ _ _ _ _ _ rfl).trans ?_)
    refine sumNew_congr _ _ hf1 ?_ ?_
    · sl_unfold_run_names
      rw [read_zero]
      refine zLive_congr (hw _) ?_ ?_ ?_ ?_ ?_ ?_
      · exact (hb_cov _ _ _ _ _).trans (by rw [hf3, hf4])
      · exact (readAt_zero _ _ _).trans (hL3.trans ((WBto_all _ _ _ _ rfl).trans (by rw [hf2, hf6])))
      · exact (readAt_zero _ _ _).trans hf5
      · exact (readAt_zero _ _ _).trans hf7
      · exact (readAt_zero _ _ _).trans hf8
      · exact (readAt_zero _ _ _).trans hf9
    · sl_unfold_run_names
      exact read_zero _ _ _ _ _
  iexists _; iexists _; isplitr; swap; · iexact H15
  ipureintro; rfl

set_option maxHeartbeats 20000000 in
theorem body_F_dead (c : Dev nD) (i : grid0.Coords) (arg1 : Memref sig .tc .smem S21 .i32) (harg1 : arg1.IsWhole) (arg2 : Memref sig .tc .smem S70x12 .f32) (harg2 : arg2.IsWhole) (arg3 : Memref sig .tc .vmem S128x8960 .fp8e4m3) (harg3 : arg3.IsWhole) (arg4 : Memref sig .tc .vmem S128x70 .f32) (harg4 : arg4.IsWhole) (arg5 : Memref sig .tc .vmem S128x1536 .bf16) (harg5 : arg5.IsWhole) (arg6 : Memref sig .tc .vmem S8960x1536 .fp8e4m3) (harg6 : arg6.IsWhole) (arg7 : Memref sig .tc .vmem S1x1536 .f32) (harg7 : arg7.IsWhole) (arg8 : Memref sig .tc .vmem S1x1536 .f32) (harg8 : arg8.IsWhole) (arg9 : Memref sig .tc .vmem S1x1536 .f32) (harg9 : arg9.IsWhole) (arg10 : Memref sig .tc .vmem S128x1536 .f32) (harg10 : arg10.IsWhole) (arg11 : Memref sig .tc .vmem S20x1536 .f32) (harg11 : arg11.IsWhole) (arg12 : Memref sig .tc .vmem S20x1536 .i8) (harg12 : arg12.IsWhole) (arg13 : Memref sig .tc .vmem S20x1 .f32) (harg13 : arg13.IsWhole) (arg14 : Memref sig .tc .vmem S8960x1536 .bf16) (harg14 : arg14.IsWhole) (arg15 : Memref sig .tc .vmem S128x8960 .bf16) (harg15 : arg15.IsWhole) (arg16 : Memref sig .tc .vmem S20x1536 .f32) (harg16 : arg16.IsWhole) (q : PosShare TreeShare) (x1 : S21.Idx → Elt F .i32) (x2 : S70x12.Idx → Elt F .f32) (x3 : S128x8960.Idx → Elt F .fp8e4m3) (x4 : S128x70.Idx → Elt F .f32) (x5 : S128x1536.Idx → Elt F .bf16) (x6 : S8960x1536.Idx → Elt F .fp8e4m3) (x7 : S1x1536.Idx → Elt F .f32) (x8 : S1x1536.Idx → Elt F .f32) (x9 : S1x1536.Idx → Elt F .f32) (x10 : S128x1536.Idx → Elt F .f32) (x11 : S20x1536.Idx → Elt F .f32) (x12 : S20x1536.Idx → Elt F .i8) (x13 : S20x1.Idx → Elt F .f32) (x14 : S8960x1536.Idx → Elt F .bf16) (x16 : S20x1536.Idx → Elt F .f32)
    (h1 : k0_cond1 i = 1#1) (h2' : k0_cond2 i (cuAt (F := F) x1 20) = 1#1)
    (h3' : ¬ k0_cond3 i (cuAt (F := F) x1 20) = 1#1) (h5 : ¬ k0_cond5 i = 1#1) :
    Held c arg1 arg2 arg3 arg4 arg5 arg6 arg7 arg8 arg9 arg10 arg11 arg12 arg13 arg14 arg15 arg16 q x1 x2 x3 x4 x5 x6 x7 x8 x9 x10 x11 x12 x13 x14 x16
      ⊢ wp frame (wpE (defs₀ (F := F)) Variants.none (c : Thread nD τ) none) Set.univ (cc0_ffn_down_ln_pool (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => Held c arg1 arg2 arg3 arg4 arg5 arg6 arg7 arg8 arg9 arg10 arg11 arg12 arg13 arg14 arg15 arg16 q x1 x2 x3 x4 x5 x6 x7 x8 x9 Gen.k0_pay4 x11 x12 x13 (WB x2 x6) Gen.k0_pay1) := by
  simp only [Gen.cc0_ffn_down_ln_pool_eq_skeleton]
  unfold Gen.cc0_ffn_down_ln_pool_skel
  unfold Held owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f16, %hf16, H16⟩, ⟨%y15, %f15, %hf15, H15⟩⟩
  have hw : ∀ h, arg1.view.readAt (Elt F) (Rect.unit (s := S21) ![20] S1.size Gen.inb_S21_S1_20).toLoadRect f1 (Shape.Idx.first h)
      = cuAt (F := F) x1 20 := fun h => by rw [cu_at, hf1]
  have h2 : ∀ h, k0_cond2 i (arg1.view.readAt (Elt F) (Rect.unit (s := S21) ![20] S1.size Gen.inb_S21_S1_20).toLoadRect f1 (Shape.Idx.first h)) = 1#1 :=
    fun h => by rw [hw h]; exact h2'
  have h3 : ∀ h, ¬ k0_cond3 i (arg1.view.readAt (Elt F) (Rect.unit (s := S21) ![20] S1.size Gen.inb_S21_S1_20).toLoadRect f1 (Shape.Idx.first h)) = 1#1 :=
    fun h => by rw [hw h]; exact h3'
  have h2 := h2 (by show 0 < S1.numel; decide)
  have h3 := h3 (by show 0 < S1.numel; decide)
  sl_exec
  sl_step
  isplitl [H1]
  · iexists f1; isplitr; swap; · iexact H1
    ipureintro
    exact hf1
  isplitl [H2]
  · iexists f2; isplitr; swap; · iexact H2
    ipureintro
    exact hf2
  isplitl [H3]
  · iexists f3; isplitr; swap; · iexact H3
    ipureintro
    exact hf3
  isplitl [H4]
  · iexists f4; isplitr; swap; · iexact H4
    ipureintro
    exact hf4
  isplitl [H5]
  · iexists f5; isplitr; swap; · iexact H5
    ipureintro
    exact hf5
  isplitl [H6]
  · iexists f6; isplitr; swap; · iexact H6
    ipureintro
    exact hf6
  isplitl [H7]
  · iexists f7; isplitr; swap; · iexact H7
    ipureintro
    exact hf7
  isplitl [H8]
  · iexists f8; isplitr; swap; · iexact H8
    ipureintro
    exact hf8
  isplitl [H9]
  · iexists f9; isplitr; swap; · iexact H9
    ipureintro
    exact hf9
  isplitl [H10]
  · iexists _; isplitr; swap; · iexact H10
    ipureintro
    sl_unfold_run_names
    exact read_zero _ _ _ _ _
  isplitl [H11]
  · iexists f11; isplitr; swap; · iexact H11
    ipureintro
    exact hf11
  isplitl [H12]
  · iexists f12; isplitr; swap; · iexact H12
    ipureintro
    exact hf12
  isplitl [H13]
  · iexists f13; isplitr; swap; · iexact H13
    ipureintro
    exact hf13
  isplitl [H14]
  · iexists _; isplitr; swap; · iexact H14
    ipureintro
    sl_unfold_run_names
    exact (hL3.trans ((WBto_all _ _ _ _ rfl).trans (by rw [hf2, hf6])))
  isplitl [H16]
  · iexists _; isplitr; swap; · iexact H16
    ipureintro
    sl_unfold_run_names
    exact read_zero _ _ _ _ _
  iexists _; iexists _; isplitr; swap; · iexact H15
  ipureintro; rfl
end Cert.Proof.KernelIdeal
end
end
-- ==== Proof.KernI.BodyM.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.KernI.Hb
public import Idealize.ShloMosaic.Adequacy
public import Idealize.ShloMosaic.Init
public import Idealize.ShloMosaic.Lib.WritesUnit
public import Idealize.ShloMosaic.Lib.VecWindow
public import Idealize.ShloMosaic.Lib.Pointwise

@[expose] public section

set_option maxRecDepth 16384
set_option maxHeartbeats 4000000

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 20000000 in
theorem body_M_live (c : Dev nD) (i : grid0.Coords) (arg1 : Memref sig .tc .smem S21 .i32) (harg1 : arg1.IsWhole) (arg2 : Memref sig .tc .smem S70x12 .f32) (harg2 : arg2.IsWhole) (arg3 : Memref sig .tc .vmem S128x8960 .fp8e4m3) (harg3 : arg3.IsWhole) (arg4 : Memref sig .tc .vmem S128x70 .f32) (harg4 : arg4.IsWhole) (arg5 : Memref sig .tc .vmem S128x1536 .bf16) (harg5 : arg5.IsWhole) (arg6 : Memref sig .tc .vmem S8960x1536 .fp8e4m3) (harg6 : arg6.IsWhole) (arg7 : Memref sig .tc .vmem S1x1536 .f32) (harg7 : arg7.IsWhole) (arg8 : Memref sig .tc .vmem S1x1536 .f32) (harg8 : arg8.IsWhole) (arg9 : Memref sig .tc .vmem S1x1536 .f32) (harg9 : arg9.IsWhole) (arg10 : Memref sig .tc .vmem S128x1536 .f32) (harg10 : arg10.IsWhole) (arg11 : Memref sig .tc .vmem S20x1536 .f32) (harg11 : arg11.IsWhole) (arg12 : Memref sig .tc .vmem S20x1536 .i8) (harg12 : arg12.IsWhole) (arg13 : Memref sig .tc .vmem S20x1 .f32) (harg13 : arg13.IsWhole) (arg14 : Memref sig .tc .vmem S8960x1536 .bf16) (harg14 : arg14.IsWhole) (arg15 : Memref sig .tc .vmem S128x8960 .bf16) (harg15 : arg15.IsWhole) (arg16 : Memref sig .tc .vmem S20x1536 .f32) (harg16 : arg16.IsWhole) (q : PosShare TreeShare) (x1 : S21.Idx → Elt F .i32) (x2 : S70x12.Idx → Elt F .f32) (x3 : S128x8960.Idx → Elt F .fp8e4m3) (x4 : S128x70.Idx → Elt F .f32) (x5 : S128x1536.Idx → Elt F .bf16) (x6 : S8960x1536.Idx → Elt F .fp8e4m3) (x7 : S1x1536.Idx → Elt F .f32) (x8 : S1x1536.Idx → Elt F .f32) (x9 : S1x1536.Idx → Elt F .f32) (x10 : S128x1536.Idx → Elt F .f32) (x11 : S20x1536.Idx → Elt F .f32) (x12 : S20x1536.Idx → Elt F .i8) (x13 : S20x1.Idx → Elt F .f32) (x14 : S8960x1536.Idx → Elt F .bf16) (x16 : S20x1536.Idx → Elt F .f32)
    (h1 : ¬ k0_cond1 i = 1#1) (h2' : ¬ k0_cond2 i (cuAt (F := F) x1 20) = 1#1)
    (h3' : k0_cond3 i (cuAt (F := F) x1 20) = 1#1) (h5 : ¬ k0_cond5 i = 1#1) :
    Held c arg1 arg2 arg3 arg4 arg5 arg6 arg7 arg8 arg9 arg10 arg11 arg12 arg13 arg14 arg15 arg16 q x1 x2 x3 x4 x5 x6 x7 x8 x9 x10 x11 x12 x13 x14 x16
      ⊢ wp frame (wpE (defs₀ (F := F)) Variants.none (c : Thread nD τ) none) Set.univ (cc0_ffn_down_ln_pool (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => Held c arg1 arg2 arg3 arg4 arg5 arg6 arg7 arg8 arg9 arg10 arg11 arg12 arg13 arg14 arg15 arg16 q x1 x2 x3 x4 x5 x6 x7 x8 x9 (zLive i x1 (HB x3 x4) x14 x5 x7 x8 x9) x11 x12 x13 x14 (sumNew i (rowWord i) x1 (zLive i x1 (HB x3 x4) x14 x5 x7 x8 x9) x16)) := by
  simp only [Gen.cc0_ffn_down_ln_pool_eq_skeleton]
  unfold Gen.cc0_ffn_down_ln_pool_skel
  simp only [Gen.k0_part4_eq_skeleton, Gen.k0_part5_eq_skeleton, Gen.k0_part6_eq_skeleton, Gen.k0_part7_eq_skeleton, Gen.k0_part8_eq_skeleton, Gen.k0_part9_eq_skeleton, Gen.k0_part10_eq_skeleton, Gen.k0_part11_eq_skeleton, Gen.k0_part12_eq_skeleton, Gen.k0_part13_eq_skeleton, Gen.k0_part14_eq_skeleton, Gen.k0_part15_eq_skeleton, Gen.k0_part16_eq_skeleton, Gen.k0_part17_eq_skeleton, Gen.k0_part18_eq_skeleton, Gen.k0_part19_eq_skeleton, Gen.k0_part20_eq_skeleton]
  unfold Held owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f16, %hf16, H16⟩, ⟨%y15, %f15, %hf15, H15⟩⟩
  have hw : ∀ h, arg1.view.readAt (Elt F) (Rect.unit (s := S21) ![20] S1.size Gen.inb_S21_S1_20).toLoadRect f1 (Shape.Idx.first h)
      = cuAt (F := F) x1 20 := fun h => by rw [cu_at, hf1]
  have h2 : ∀ h, ¬ k0_cond2 i (arg1.view.readAt (Elt F) (Rect.unit (s := S21) ![20] S1.size Gen.inb_S21_S1_20).toLoadRect f1 (Shape.Idx.first h)) = 1#1 :=
    fun h => by rw [hw h]; exact h2'
  have h3 : ∀ h, k0_cond3 i (arg1.view.readAt (Elt F) (Rect.unit (s := S21) ![20] S1.size Gen.inb_S21_S1_20).toLoadRect f1 (Shape.Idx.first h)) = 1#1 :=
    fun h => by rw [hw h]; exact h3'
  have h2 := h2 (by show 0 < S1.numel; decide)
  have h3 := h3 (by show 0 < S1.numel; decide)
  sl_exec
  sl_step
  isplitl [H1]
  · iexists f1; isplitr; swap; · iexact H1
    ipureintro
    exact hf1
  isplitl [H2]
  · iexists f2; isplitr; swap; · iexact H2
    ipureintro
    exact hf2
  isplitl [H3]
  · iexists f3; isplitr; swap; · iexact H3
    ipureintro
    exact hf3
  isplitl [H4]
  · iexists f4; isplitr; swap; · iexact H4
    ipureintro
    exact hf4
  isplitl [H5]
  · iexists f5; isplitr; swap; · iexact H5
    ipureintro
    exact hf5
  isplitl [H6]
  · iexists f6; isplitr; swap; · iexact H6
    ipureintro
    exact hf6
  isplitl [H7]
  · iexists f7; isplitr; swap; · iexact H7
    ipureintro
    exact hf7
  isplitl [H8]
  · iexists f8; isplitr; swap; · iexact H8
    ipureintro
    exact hf8
  isplitl [H9]
  · iexists f9; isplitr; swap; · iexact H9
    ipureintro
    exact hf9
  isplitl [H10]
  · iexists _; isplitr; swap; · iexact H10
    ipureintro
    sl_unfold_run_names
    rw [read_zero]
    refine zLive_congr (hw _) ?_ ?_ ?_ ?_ ?_ ?_
    · exact (hb_cov _ _ _ _ _).trans (by rw [hf3, hf4])
    · exact (readAt_zero _ _ _).trans hf14
    · exact (readAt_zero _ _ _).trans hf5
    · exact (readAt_zero _ _ _).trans hf7
    · exact (readAt_zero _ _ _).trans hf8
    · exact (readAt_zero _ _ _).trans hf9
  isplitl [H11]
  · iexists f11; isplitr; swap; · iexact H11
    ipureintro
    exact hf11
  isplitl [H12]
  · iexists f12; isplitr; swap; · iexact H12
    ipureintro
    exact hf12
  isplitl [H13]
  · iexists f13; isplitr; swap; · iexact H13
    ipureintro
    exact hf13
  isplitl [H14]
  · iexists _; isplitr; swap; · iexact H14
    ipureintro
    sl_unfold_run_names
    exact hf14
  isplitl [H16]
  · iexists _; isplitr; swap; · iexact H16
    ipureintro
    sl_unfold_run_names
    refine hL3.trans ((sumTo_all _ _ _ _ _ _ rfl).trans ?_)
    refine sumNew_congr _ _ hf1 ?_ ?_
    · sl_unfold_run_names
      rw [read_zero]
      refine zLive_congr (hw _) ?_ ?_ ?_ ?_ ?_ ?_
      · exact (hb_cov _ _ _ _ _).trans (by rw [hf3, hf4])
      · exact (readAt_zero _ _ _).trans hf14
      · exact (readAt_zero _ _ _).trans hf5
      · exact (readAt_zero _ _ _).trans hf7
      · exact (readAt_zero _ _ _).trans hf8
      · exact (readAt_zero _ _ _).trans hf9
    · exact hf16
  iexists _; iexists _; isplitr; swap; · iexact H15
  ipureintro; rfl

set_option maxHeartbeats 20000000 in
theorem body_M_dead (c : Dev nD) (i : grid0.Coords) (arg1 : Memref sig .tc .smem S21 .i32) (harg1 : arg1.IsWhole) (arg2 : Memref sig .tc .smem S70x12 .f32) (harg2 : arg2.IsWhole) (arg3 : Memref sig .tc .vmem S128x8960 .fp8e4m3) (harg3 : arg3.IsWhole) (arg4 : Memref sig .tc .vmem S128x70 .f32) (harg4 : arg4.IsWhole) (arg5 : Memref sig .tc .vmem S128x1536 .bf16) (harg5 : arg5.IsWhole) (arg6 : Memref sig .tc .vmem S8960x1536 .fp8e4m3) (harg6 : arg6.IsWhole) (arg7 : Memref sig .tc .vmem S1x1536 .f32) (harg7 : arg7.IsWhole) (arg8 : Memref sig .tc .vmem S1x1536 .f32) (harg8 : arg8.IsWhole) (arg9 : Memref sig .tc .vmem S1x1536 .f32) (harg9 : arg9.IsWhole) (arg10 : Memref sig .tc .vmem S128x1536 .f32) (harg10 : arg10.IsWhole) (arg11 : Memref sig .tc .vmem S20x1536 .f32) (harg11 : arg11.IsWhole) (arg12 : Memref sig .tc .vmem S20x1536 .i8) (harg12 : arg12.IsWhole) (arg13 : Memref sig .tc .vmem S20x1 .f32) (harg13 : arg13.IsWhole) (arg14 : Memref sig .tc .vmem S8960x1536 .bf16) (harg14 : arg14.IsWhole) (arg15 : Memref sig .tc .vmem S128x8960 .bf16) (harg15 : arg15.IsWhole) (arg16 : Memref sig .tc .vmem S20x1536 .f32) (harg16 : arg16.IsWhole) (q : PosShare TreeShare) (x1 : S21.Idx → Elt F .i32) (x2 : S70x12.Idx → Elt F .f32) (x3 : S128x8960.Idx → Elt F .fp8e4m3) (x4 : S128x70.Idx → Elt F .f32) (x5 : S128x1536.Idx → Elt F .bf16) (x6 : S8960x1536.Idx → Elt F .fp8e4m3) (x7 : S1x1536.Idx → Elt F .f32) (x8 : S1x1536.Idx → Elt F .f32) (x9 : S1x1536.Idx → Elt F .f32) (x10 : S128x1536.Idx → Elt F .f32) (x11 : S20x1536.Idx → Elt F .f32) (x12 : S20x1536.Idx → Elt F .i8) (x13 : S20x1.Idx → Elt F .f32) (x14 : S8960x1536.Idx → Elt F .bf16) (x16 : S20x1536.Idx → Elt F .f32)
    (h1 : ¬ k0_cond1 i = 1#1) (h2' : k0_cond2 i (cuAt (F := F) x1 20) = 1#1)
    (h3' : ¬ k0_cond3 i (cuAt (F := F) x1 20) = 1#1) (h5 : ¬ k0_cond5 i = 1#1) :
    Held c arg1 arg2 arg3 arg4 arg5 arg6 arg7 arg8 arg9 arg10 arg11 arg12 arg13 arg14 arg15 arg16 q x1 x2 x3 x4 x5 x6 x7 x8 x9 x10 x11 x12 x13 x14 x16
      ⊢ wp frame (wpE (defs₀ (F := F)) Variants.none (c : Thread nD τ) none) Set.univ (cc0_ffn_down_ln_pool (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => Held c arg1 arg2 arg3 arg4 arg5 arg6 arg7 arg8 arg9 arg10 arg11 arg12 arg13 arg14 arg15 arg16 q x1 x2 x3 x4 x5 x6 x7 x8 x9 Gen.k0_pay4 x11 x12 x13 x14 x16) := by
  simp only [Gen.cc0_ffn_down_ln_pool_eq_skeleton]
  unfold Gen.cc0_ffn_down_ln_pool_skel
  unfold Held owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f16, %hf16, H16⟩, ⟨%y15, %f15, %hf15, H15⟩⟩
  have hw : ∀ h, arg1.view.readAt (Elt F) (Rect.unit (s := S21) ![20] S1.size Gen.inb_S21_S1_20).toLoadRect f1 (Shape.Idx.first h)
      = cuAt (F := F) x1 20 := fun h => by rw [cu_at, hf1]
  have h2 : ∀ h, k0_cond2 i (arg1.view.readAt (Elt F) (Rect.unit (s := S21) ![20] S1.size Gen.inb_S21_S1_20).toLoadRect f1 (Shape.Idx.first h)) = 1#1 :=
    fun h => by rw [hw h]; exact h2'
  have h3 : ∀ h, ¬ k0_cond3 i (arg1.view.readAt (Elt F) (Rect.unit (s := S21) ![20] S1.size Gen.inb_S21_S1_20).toLoadRect f1 (Shape.Idx.first h)) = 1#1 :=
    fun h => by rw [hw h]; exact h3'
  have h2 := h2 (by show 0 < S1.numel; decide)
  have h3 := h3 (by show 0 < S1.numel; decide)
  sl_exec
  sl_step
  isplitl [H1]
  · iexists f1; isplitr; swap; · iexact H1
    ipureintro
    exact hf1
  isplitl [H2]
  · iexists f2; isplitr; swap; · iexact H2
    ipureintro
    exact hf2
  isplitl [H3]
  · iexists f3; isplitr; swap; · iexact H3
    ipureintro
    exact hf3
  isplitl [H4]
  · iexists f4; isplitr; swap; · iexact H4
    ipureintro
    exact hf4
  isplitl [H5]
  · iexists f5; isplitr; swap; · iexact H5
    ipureintro
    exact hf5
  isplitl [H6]
  · iexists f6; isplitr; swap; · iexact H6
    ipureintro
    exact hf6
  isplitl [H7]
  · iexists f7; isplitr; swap; · iexact H7
    ipureintro
    exact hf7
  isplitl [H8]
  · iexists f8; isplitr; swap; · iexact H8
    ipureintro
    exact hf8
  isplitl [H9]
  · iexists f9; isplitr; swap; · iexact H9
    ipureintro
    exact hf9
  isplitl [H10]
  · iexists _; isplitr; swap; · iexact H10
    ipureintro
    sl_unfold_run_names
    exact read_zero _ _ _ _ _
  isplitl [H11]
  · iexists f11; isplitr; swap; · iexact H11
    ipureintro
    exact hf11
  isplitl [H12]
  · iexists f12; isplitr; swap; · iexact H12
    ipureintro
    exact hf12
  isplitl [H13]
  · iexists f13; isplitr; swap; · iexact H13
    ipureintro
    exact hf13
  isplitl [H14]
  · iexists _; isplitr; swap; · iexact H14
    ipureintro
    sl_unfold_run_names
    exact hf14
  isplitl [H16]
  · iexists _; isplitr; swap; · iexact H16
    ipureintro
    sl_unfold_run_names
    exact hf16
  iexists _; iexists _; isplitr; swap; · iexact H15
  ipureintro; rfl
end Cert.Proof.KernelIdeal
end
end
-- ==== Proof.KernI.BodyL.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.KernI.Hb
public import Idealize.ShloMosaic.Adequacy
public import Idealize.ShloMosaic.Init
public import Idealize.ShloMosaic.Lib.WritesUnit
public import Idealize.ShloMosaic.Lib.VecWindow
public import Idealize.ShloMosaic.Lib.Pointwise

@[expose] public section

set_option maxRecDepth 16384
set_option maxHeartbeats 4000000

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 20000000 in
theorem body_L_live (c : Dev nD) (i : grid0.Coords) (arg1 : Memref sig .tc .smem S21 .i32) (harg1 : arg1.IsWhole) (arg2 : Memref sig .tc .smem S70x12 .f32) (harg2 : arg2.IsWhole) (arg3 : Memref sig .tc .vmem S128x8960 .fp8e4m3) (harg3 : arg3.IsWhole) (arg4 : Memref sig .tc .vmem S128x70 .f32) (harg4 : arg4.IsWhole) (arg5 : Memref sig .tc .vmem S128x1536 .bf16) (harg5 : arg5.IsWhole) (arg6 : Memref sig .tc .vmem S8960x1536 .fp8e4m3) (harg6 : arg6.IsWhole) (arg7 : Memref sig .tc .vmem S1x1536 .f32) (harg7 : arg7.IsWhole) (arg8 : Memref sig .tc .vmem S1x1536 .f32) (harg8 : arg8.IsWhole) (arg9 : Memref sig .tc .vmem S1x1536 .f32) (harg9 : arg9.IsWhole) (arg10 : Memref sig .tc .vmem S128x1536 .f32) (harg10 : arg10.IsWhole) (arg11 : Memref sig .tc .vmem S20x1536 .f32) (harg11 : arg11.IsWhole) (arg12 : Memref sig .tc .vmem S20x1536 .i8) (harg12 : arg12.IsWhole) (arg13 : Memref sig .tc .vmem S20x1 .f32) (harg13 : arg13.IsWhole) (arg14 : Memref sig .tc .vmem S8960x1536 .bf16) (harg14 : arg14.IsWhole) (arg15 : Memref sig .tc .vmem S128x8960 .bf16) (harg15 : arg15.IsWhole) (arg16 : Memref sig .tc .vmem S20x1536 .f32) (harg16 : arg16.IsWhole) (q : PosShare TreeShare) (x1 : S21.Idx → Elt F .i32) (x2 : S70x12.Idx → Elt F .f32) (x3 : S128x8960.Idx → Elt F .fp8e4m3) (x4 : S128x70.Idx → Elt F .f32) (x5 : S128x1536.Idx → Elt F .bf16) (x6 : S8960x1536.Idx → Elt F .fp8e4m3) (x7 : S1x1536.Idx → Elt F .f32) (x8 : S1x1536.Idx → Elt F .f32) (x9 : S1x1536.Idx → Elt F .f32) (x10 : S128x1536.Idx → Elt F .f32) (x11 : S20x1536.Idx → Elt F .f32) (x12 : S20x1536.Idx → Elt F .i8) (x13 : S20x1.Idx → Elt F .f32) (x14 : S8960x1536.Idx → Elt F .bf16) (x16 : S20x1536.Idx → Elt F .f32)
    (h1 : ¬ k0_cond1 i = 1#1) (h2' : ¬ k0_cond2 i (cuAt (F := F) x1 20) = 1#1)
    (h3' : k0_cond3 i (cuAt (F := F) x1 20) = 1#1) (h5 : k0_cond5 i = 1#1) :
    Held c arg1 arg2 arg3 arg4 arg5 arg6 arg7 arg8 arg9 arg10 arg11 arg12 arg13 arg14 arg15 arg16 q x1 x2 x3 x4 x5 x6 x7 x8 x9 x10 x11 x12 x13 x14 x16
      ⊢ wp frame (wpE (defs₀ (F := F)) Variants.none (c : Thread nD τ) none) Set.univ (cc0_ffn_down_ln_pool (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => Held c arg1 arg2 arg3 arg4 arg5 arg6 arg7 arg8 arg9 arg10 arg11 arg12 arg13 arg14 arg15 arg16 q x1 x2 x3 x4 x5 x6 x7 x8 x9 (zLive i x1 (HB x3 x4) x14 x5 x7 x8 x9) (mVal x1 (sumNew i (rowWord i) x1 (zLive i x1 (HB x3 x4) x14 x5 x7 x8 x9) x16)) (codesVal x1 (sumNew i (rowWord i) x1 (zLive i x1 (HB x3 x4) x14 x5 x7 x8 x9) x16)) (scaleVal x1 (sumNew i (rowWord i) x1 (zLive i x1 (HB x3 x4) x14 x5 x7 x8 x9) x16)) x14 (sumNew i (rowWord i) x1 (zLive i x1 (HB x3 x4) x14 x5 x7 x8 x9) x16)) := by
  simp only [Gen.cc0_ffn_down_ln_pool_eq_skeleton]
  unfold Gen.cc0_ffn_down_ln_pool_skel
  simp only [Gen.k0_part4_eq_skeleton, Gen.k0_part5_eq_skeleton, Gen.k0_part6_eq_skeleton, Gen.k0_part7_eq_skeleton, Gen.k0_part8_eq_skeleton, Gen.k0_part9_eq_skeleton, Gen.k0_part10_eq_skeleton, Gen.k0_part11_eq_skeleton, Gen.k0_part12_eq_skeleton, Gen.k0_part13_eq_skeleton, Gen.k0_part14_eq_skeleton, Gen.k0_part15_eq_skeleton, Gen.k0_part16_eq_skeleton, Gen.k0_part17_eq_skeleton, Gen.k0_part18_eq_skeleton, Gen.k0_part19_eq_skeleton, Gen.k0_part20_eq_skeleton, Gen.k0_part21_eq_skeleton, Gen.k0_part22_eq_skeleton, Gen.k0_part23_eq_skeleton, Gen.k0_part24_eq_skeleton]
  unfold Held owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f16, %hf16, H16⟩, ⟨%y15, %f15, %hf15, H15⟩⟩
  have hw : ∀ h, arg1.view.readAt (Elt F) (Rect.unit (s := S21) ![20] S1.size Gen.inb_S21_S1_20).toLoadRect f1 (Shape.Idx.first h)
      = cuAt (F := F) x1 20 := fun h => by rw [cu_at, hf1]
  have h2 : ∀ h, ¬ k0_cond2 i (arg1.view.readAt (Elt F) (Rect.unit (s := S21) ![20] S1.size Gen.inb_S21_S1_20).toLoadRect f1 (Shape.Idx.first h)) = 1#1 :=
    fun h => by rw [hw h]; exact h2'
  have h3 : ∀ h, k0_cond3 i (arg1.view.readAt (Elt F) (Rect.unit (s := S21) ![20] S1.size Gen.inb_S21_S1_20).toLoadRect f1 (Shape.Idx.first h)) = 1#1 :=
    fun h => by rw [hw h]; exact h3'
  have h2 := h2 (by show 0 < S1.numel; decide)
  have h3 := h3 (by show 0 < S1.numel; decide)
  sl_exec
  sl_step
  isplitl [H1]
  · iexists f1; isplitr; swap; · iexact H1
    ipureintro
    exact hf1
  isplitl [H2]
  · iexists f2; isplitr; swap; · iexact H2
    ipureintro
    exact hf2
  isplitl [H3]
  · iexists f3; isplitr; swap; · iexact H3
    ipureintro
    exact hf3
  isplitl [H4]
  · iexists f4; isplitr; swap; · iexact H4
    ipureintro
    exact hf4
  isplitl [H5]
  · iexists f5; isplitr; swap; · iexact H5
    ipureintro
    exact hf5
  isplitl [H6]
  · iexists f6; isplitr; swap; · iexact H6
    ipureintro
    exact hf6
  isplitl [H7]
  · iexists f7; isplitr; swap; · iexact H7
    ipureintro
    exact hf7
  isplitl [H8]
  · iexists f8; isplitr; swap; · iexact H8
    ipureintro
    exact hf8
  isplitl [H9]
  · iexists f9; isplitr; swap; · iexact H9
    ipureintro
    exact hf9
  isplitl [H10]
  · iexists _; isplitr; swap; · iexact H10
    ipureintro
    sl_unfold_run_names
    rw [read_zero]
    refine zLive_congr (hw _) ?_ ?_ ?_ ?_ ?_ ?_
    · exact (hb_cov _ _ _ _ _).trans (by rw [hf3, hf4])
    · exact (readAt_zero _ _ _).trans hf14
    · exact (readAt_zero _ _ _).trans hf5
    · exact (readAt_zero _ _ _).trans hf7
    · exact (readAt_zero _ _ _).trans hf8
    · exact (readAt_zero _ _ _).trans hf9
  isplitl [H11]
  · iexists _; isplitr; swap; · iexact H11
    ipureintro
    sl_unfold_run_names
    rw [read_zero]
    have hc0 : ∀ inb h, arg1.view.readAt (Elt F) (Rect.unit (s := S21) ![0] S1.size inb).toLoadRect f1 (Shape.Idx.first h) = cuAt (F := F) x1 0 := fun inb h => (cu_at _ _ 0 (by decide) inb h).trans (by rw [hf1])
    have hc1 : ∀ inb h, arg1.view.readAt (Elt F) (Rect.unit (s := S21) ![1] S1.size inb).toLoadRect f1 (Shape.Idx.first h) = cuAt (F := F) x1 1 := fun inb h => (cu_at _ _ 1 (by decide) inb h).trans (by rw [hf1])
    have hc2 : ∀ inb h, arg1.view.readAt (Elt F) (Rect.unit (s := S21) ![2] S1.size inb).toLoadRect f1 (Shape.Idx.first h) = cuAt (F := F) x1 2 := fun inb h => (cu_at _ _ 2 (by decide) inb h).trans (by rw [hf1])
    have hc3 : ∀ inb h, arg1.view.readAt (Elt F) (Rect.unit (s := S21) ![3] S1.size inb).toLoadRect f1 (Shape.Idx.first h) = cuAt (F := F) x1 3 := fun inb h => (cu_at _ _ 3 (by decide) inb h).trans (by rw [hf1])
    have hc4 : ∀ inb h, arg1.view.readAt (Elt F) (Rect.unit (s := S21) ![4] S1.size inb).toLoadRect f1 (Shape.Idx.first h) = cuAt (F := F) x1 4 := fun inb h => (cu_at _ _ 4 (by decide) inb h).trans (by rw [hf1])
    have hc5 : ∀ inb h, arg1.view.readAt (Elt F) (Rect.unit (s := S21) ![5] S1.size inb).toLoadRect f1 (Shape.Idx.first h) = cuAt (F := F) x1 5 := fun inb h => (cu_at _ _ 5 (by decide) inb h).trans (by rw [hf1])
    have hc6 : ∀ inb h, arg1.view.readAt (Elt F) (Rect.unit (s := S21) ![6] S1.size inb).toLoadRect f1 (Shape.Idx.first h) = cuAt (F := F) x1 6 := fun inb h => (cu_at _ _ 6 (by decide) inb h).trans (by rw [hf1])
    have hc7 : ∀ inb h, arg1.view.readAt (Elt F) (Rect.unit (s := S21) ![7] S1.size inb).toLoadRect f1 (Shape.Idx.first h) = cuAt (F := F) x1 7 := fun inb h => (cu_at _ _ 7 (by decide) inb h).trans (by rw [hf1])
    have hc8 : ∀ inb h, arg1.view.readAt (Elt F) (Rect.unit (s := S21) ![8] S1.size inb).toLoadRect f1 (Shape.Idx.first h) = cuAt (F := F) x1 8 := fun inb h => (cu_at _ _ 8 (by decide) inb h).trans (by rw [hf1])
    have hc9 : ∀ inb h, arg1.view.readAt (Elt F) (Rect.unit (s := S21) ![9] S1.size inb).toLoadRect f1 (Shape.Idx.first h) = cuAt (F := F) x1 9 := fun inb h => (cu_at _ _ 9 (by decide) inb h).trans (by rw [hf1])
    have hc10 : ∀ inb h, arg1.view.readAt (Elt F) (Rect.unit (s := S21) ![10] S1.size inb).toLoadRect f1 (Shape.Idx.first h) = cuAt (F := F) x1 10 := fun inb h => (cu_at _ _ 10 (by decide) inb h).trans (by rw [hf1])
    have hc11 : ∀ inb h, arg1.view.readAt (Elt F) (Rect.unit (s := S21) ![11] S1.size inb).toLoadRect f1 (Shape.Idx.first h) = cuAt (F := F) x1 11 := fun inb h => (cu_at _ _ 11 (by decide) inb h).trans (by rw [hf1])
    have hc12 : ∀ inb h, arg1.view.readAt (Elt F) (Rect.unit (s := S21) ![12] S1.size inb).toLoadRect f1 (Shape.Idx.first h) = cuAt (F := F) x1 12 := fun inb h => (cu_at _ _ 12 (by decide) inb h).trans (by rw [hf1])
    have hc13 : ∀ inb h, arg1.view.readAt (Elt F) (Rect.unit (s := S21) ![13] S1.size inb).toLoadRect f1 (Shape.Idx.first h) = cuAt (F := F) x1 13 := fun inb h => (cu_at _ _ 13 (by decide) inb h).trans (by rw [hf1])
    have hc14 : ∀ inb h, arg1.view.readAt (Elt F) (Rect.unit (s := S21) ![14] S1.size inb).toLoadRect f1 (Shape.Idx.first h) = cuAt (F := F) x1 14 := fun inb h => (cu_at _ _ 14 (by decide) inb h).trans (by rw [hf1])
    have hc15 : ∀ inb h, arg1.view.readAt (Elt F) (Rect.unit (s := S21) ![15] S1.size inb).toLoadRect f1 (Shape.Idx.first h) = cuAt (F := F) x1 15 := fun inb h => (cu_at _ _ 15 (by decide) inb h).trans (by rw [hf1])
    have hc16 : ∀ inb h, arg1.view.readAt (Elt F) (Rect.unit (s := S21) ![16] S1.size inb).toLoadRect f1 (Shape.Idx.first h) = cuAt (F := F) x1 16 := fun inb h => (cu_at _ _ 16 (by decide) inb h).trans (by rw [hf1])
    have hc17 : ∀ inb h, arg1.view.readAt (Elt F) (Rect.unit (s := S21) ![17] S1.size inb).toLoadRect f1 (Shape.Idx.first h) = cuAt (F := F) x1 17 := fun inb h => (cu_at _ _ 17 (by decide) inb h).trans (by rw [hf1])
    have hc18 : ∀ inb h, arg1.view.readAt (Elt F) (Rect.unit (s := S21) ![18] S1.size inb).toLoadRect f1 (Shape.Idx.first h) = cuAt (F := F) x1 18 := fun inb h => (cu_at _ _ 18 (by decide) inb h).trans (by rw [hf1])
    have hc19 : ∀ inb h, arg1.view.readAt (Elt F) (Rect.unit (s := S21) ![19] S1.size inb).toLoadRect f1 (Shape.Idx.first h) = cuAt (F := F) x1 19 := fun inb h => (cu_at _ _ 19 (by decide) inb h).trans (by rw [hf1])
    have hc20 : ∀ inb h, arg1.view.readAt (Elt F) (Rect.unit (s := S21) ![20] S1.size inb).toLoadRect f1 (Shape.Idx.first h) = cuAt (F := F) x1 20 := fun inb h => (cu_at _ _ 20 (by decide) inb h).trans (by rw [hf1])
    refine mVal_congr _ _ (hc1 _ _) (hc0 _ _) (hc2 _ _) (hc1 _ _) (hc3 _ _) (hc2 _ _) (hc4 _ _) (hc3 _ _) (hc5 _ _) (hc4 _ _) (hc6 _ _) (hc5 _ _) (hc7 _ _) (hc6 _ _) (hc8 _ _) (hc7 _ _) (hc9 _ _) (hc8 _ _) (hc10 _ _) (hc9 _ _) (hc11 _ _) (hc10 _ _) (hc12 _ _) (hc11 _ _) (hc13 _ _) (hc12 _ _) (hc14 _ _) (hc13 _ _) (hc15 _ _) (hc14 _ _) (hc16 _ _) (hc15 _ _) (hc17 _ _) (hc16 _ _) (hc18 _ _) (hc17 _ _) (hc19 _ _) (hc18 _ _) (hc20 _ _) (hc19 _ _) ?_
    refine (readAt_zero _ _ _).trans ?_
    refine hL3.trans ((sumTo_all _ _ _ _ _ _ rfl).trans ?_)
    refine sumNew_congr _ _ hf1 ?_ ?_
    · sl_unfold_run_names
      rw [read_zero]
      refine zLive_congr (hw _) ?_ ?_ ?_ ?_ ?_ ?_
      · exact (hb_cov _ _ _ _ _).trans (by rw [hf3, hf4])
      · exact (readAt_zero _ _ _).trans hf14
      · exact (readAt_zero _ _ _).trans hf5
      · exact (readAt_zero _ _ _).trans hf7
      · exact (readAt_zero _ _ _).trans hf8
      · exact (readAt_zero _ _ _).trans hf9
    · exact hf16
  isplitl [H12]
  · iexists _; isplitr; swap; · iexact H12
    ipureintro
    sl_unfold_run_names
    rw [read_zero]
    have hc0 : ∀ inb h, arg1.view.readAt (Elt F) (Rect.unit (s := S21) ![0] S1.size inb).toLoadRect f1 (Shape.Idx.first h) = cuAt (F := F) x1 0 := fun inb h => (cu_at _ _ 0 (by decide) inb h).trans (by rw [hf1])
    have hc1 : ∀ inb h, arg1.view.readAt (Elt F) (Rect.unit (s := S21) ![1] S1.size inb).toLoadRect f1 (Shape.Idx.first h) = cuAt (F := F) x1 1 := fun inb h => (cu_at _ _ 1 (by decide) inb h).trans (by rw [hf1])
    have hc2 : ∀ inb h, arg1.view.readAt (Elt F) (Rect.unit (s := S21) ![2] S1.size inb).toLoadRect f1 (Shape.Idx.first h) = cuAt (F := F) x1 2 := fun inb h => (cu_at _ _ 2 (by decide) inb h).trans (by rw [hf1])
    have hc3 : ∀ inb h, arg1.view.readAt (Elt F) (Rect.unit (s := S21) ![3] S1.size inb).toLoadRect f1 (Shape.Idx.first h) = cuAt (F := F) x1 3 := fun inb h => (cu_at _ _ 3 (by decide) inb h).trans (by rw [hf1])
    have hc4 : ∀ inb h, arg1.view.readAt (Elt F) (Rect.unit (s := S21) ![4] S1.size inb).toLoadRect f1 (Shape.Idx.first h) = cuAt (F := F) x1 4 := fun inb h => (cu_at _ _ 4 (by decide) inb h).trans (by rw [hf1])
    have hc5 : ∀ inb h, arg1.view.readAt (Elt F) (Rect.unit (s := S21) ![5] S1.size inb).toLoadRect f1 (Shape.Idx.first h) = cuAt (F := F) x1 5 := fun inb h => (cu_at _ _ 5 (by decide) inb h).trans (by rw [hf1])
    have hc6 : ∀ inb h, arg1.view.readAt (Elt F) (Rect.unit (s := S21) ![6] S1.size inb).toLoadRect f1 (Shape.Idx.first h) = cuAt (F := F) x1 6 := fun inb h => (cu_at _ _ 6 (by decide) inb h).trans (by rw [hf1])
    have hc7 : ∀ inb h, arg1.view.readAt (Elt F) (Rect.unit (s := S21) ![7] S1.size inb).toLoadRect f1 (Shape.Idx.first h) = cuAt (F := F) x1 7 := fun inb h => (cu_at _ _ 7 (by decide) inb h).trans (by rw [hf1])
    have hc8 : ∀ inb h, arg1.view.readAt (Elt F) (Rect.unit (s := S21) ![8] S1.size inb).toLoadRect f1 (Shape.Idx.first h) = cuAt (F := F) x1 8 := fun inb h => (cu_at _ _ 8 (by decide) inb h).trans (by rw [hf1])
    have hc9 : ∀ inb h, arg1.view.readAt (Elt F) (Rect.unit (s := S21) ![9] S1.size inb).toLoadRect f1 (Shape.Idx.first h) = cuAt (F := F) x1 9 := fun inb h => (cu_at _ _ 9 (by decide) inb h).trans (by rw [hf1])
    have hc10 : ∀ inb h, arg1.view.readAt (Elt F) (Rect.unit (s := S21) ![10] S1.size inb).toLoadRect f1 (Shape.Idx.first h) = cuAt (F := F) x1 10 := fun inb h => (cu_at _ _ 10 (by decide) inb h).trans (by rw [hf1])
    have hc11 : ∀ inb h, arg1.view.readAt (Elt F) (Rect.unit (s := S21) ![11] S1.size inb).toLoadRect f1 (Shape.Idx.first h) = cuAt (F := F) x1 11 := fun inb h => (cu_at _ _ 11 (by decide) inb h).trans (by rw [hf1])
    have hc12 : ∀ inb h, arg1.view.readAt (Elt F) (Rect.unit (s := S21) ![12] S1.size inb).toLoadRect f1 (Shape.Idx.first h) = cuAt (F := F) x1 12 := fun inb h => (cu_at _ _ 12 (by decide) inb h).trans (by rw [hf1])
    have hc13 : ∀ inb h, arg1.view.readAt (Elt F) (Rect.unit (s := S21) ![13] S1.size inb).toLoadRect f1 (Shape.Idx.first h) = cuAt (F := F) x1 13 := fun inb h => (cu_at _ _ 13 (by decide) inb h).trans (by rw [hf1])
    have hc14 : ∀ inb h, arg1.view.readAt (Elt F) (Rect.unit (s := S21) ![14] S1.size inb).toLoadRect f1 (Shape.Idx.first h) = cuAt (F := F) x1 14 := fun inb h => (cu_at _ _ 14 (by decide) inb h).trans (by rw [hf1])
    have hc15 : ∀ inb h, arg1.view.readAt (Elt F) (Rect.unit (s := S21) ![15] S1.size inb).toLoadRect f1 (Shape.Idx.first h) = cuAt (F := F) x1 15 := fun inb h => (cu_at _ _ 15 (by decide) inb h).trans (by rw [hf1])
    have hc16 : ∀ inb h, arg1.view.readAt (Elt F) (Rect.unit (s := S21) ![16] S1.size inb).toLoadRect f1 (Shape.Idx.first h) = cuAt (F := F) x1 16 := fun inb h => (cu_at _ _ 16 (by decide) inb h).trans (by rw [hf1])
    have hc17 : ∀ inb h, arg1.view.readAt (Elt F) (Rect.unit (s := S21) ![17] S1.size inb).toLoadRect f1 (Shape.Idx.first h) = cuAt (F := F) x1 17 := fun inb h => (cu_at _ _ 17 (by decide) inb h).trans (by rw [hf1])
    have hc18 : ∀ inb h, arg1.view.readAt (Elt F) (Rect.unit (s := S21) ![18] S1.size inb).toLoadRect f1 (Shape.Idx.first h) = cuAt (F := F) x1 18 := fun inb h => (cu_at _ _ 18 (by decide) inb h).trans (by rw [hf1])
    have hc19 : ∀ inb h, arg1.view.readAt (Elt F) (Rect.unit (s := S21) ![19] S1.size inb).toLoadRect f1 (Shape.Idx.first h) = cuAt (F := F) x1 19 := fun inb h => (cu_at _ _ 19 (by decide) inb h).trans (by rw [hf1])
    have hc20 : ∀ inb h, arg1.view.readAt (Elt F) (Rect.unit (s := S21) ![20] S1.size inb).toLoadRect f1 (Shape.Idx.first h) = cuAt (F := F) x1 20 := fun inb h => (cu_at _ _ 20 (by decide) inb h).trans (by rw [hf1])
    refine codesVal_congr _ _ (hc1 _ _) (hc0 _ _) (hc2 _ _) (hc1 _ _) (hc3 _ _) (hc2 _ _) (hc4 _ _) (hc3 _ _) (hc5 _ _) (hc4 _ _) (hc6 _ _) (hc5 _ _) (hc7 _ _) (hc6 _ _) (hc8 _ _) (hc7 _ _) (hc9 _ _) (hc8 _ _) (hc10 _ _) (hc9 _ _) (hc11 _ _) (hc10 _ _) (hc12 _ _) (hc11 _ _) (hc13 _ _) (hc12 _ _) (hc14 _ _) (hc13 _ _) (hc15 _ _) (hc14 _ _) (hc16 _ _) (hc15 _ _) (hc17 _ _) (hc16 _ _) (hc18 _ _) (hc17 _ _) (hc19 _ _) (hc18 _ _) (hc20 _ _) (hc19 _ _) ?_
    refine (readAt_zero _ _ _).trans ?_
    refine hL3.trans ((sumTo_all _ _ _ _ _ _ rfl).trans ?_)
    refine sumNew_congr _ _ hf1 ?_ ?_
    · sl_unfold_run_names
      rw [read_zero]
      refine zLive_congr (hw _) ?_ ?_ ?_ ?_ ?_ ?_
      · exact (hb_cov _ _ _ _ _).trans (by rw [hf3, hf4])
      · exact (readAt_zero _ _ _).trans hf14
      · exact (readAt_zero _ _ _).trans hf5
      · exact (readAt_zero _ _ _).trans hf7
      · exact (readAt_zero _ _ _).trans hf8
      · exact (readAt_zero _ _ _).trans hf9
    · exact hf16
  isplitl [H13]
  · iexists _; isplitr; swap; · iexact H13
    ipureintro
    sl_unfold_run_names
    rw [read_zero]
    have hc0 : ∀ inb h, arg1.view.readAt (Elt F) (Rect.unit (s := S21) ![0] S1.size inb).toLoadRect f1 (Shape.Idx.first h) = cuAt (F := F) x1 0 := fun inb h => (cu_at _ _ 0 (by decide) inb h).trans (by rw [hf1])
    have hc1 : ∀ inb h, arg1.view.readAt (Elt F) (Rect.unit (s := S21) ![1] S1.size inb).toLoadRect f1 (Shape.Idx.first h) = cuAt (F := F) x1 1 := fun inb h => (cu_at _ _ 1 (by decide) inb h).trans (by rw [hf1])
    have hc2 : ∀ inb h, arg1.view.readAt (Elt F) (Rect.unit (s := S21) ![2] S1.size inb).toLoadRect f1 (Shape.Idx.first h) = cuAt (F := F) x1 2 := fun inb h => (cu_at _ _ 2 (by decide) inb h).trans (by rw [hf1])
    have hc3 : ∀ inb h, arg1.view.readAt (Elt F) (Rect.unit (s := S21) ![3] S1.size inb).toLoadRect f1 (Shape.Idx.first h) = cuAt (F := F) x1 3 := fun inb h => (cu_at _ _ 3 (by decide) inb h).trans (by rw [hf1])
    have hc4 : ∀ inb h, arg1.view.readAt (Elt F) (Rect.unit (s := S21) ![4] S1.size inb).toLoadRect f1 (Shape.Idx.first h) = cuAt (F := F) x1 4 := fun inb h => (cu_at _ _ 4 (by decide) inb h).trans (by rw [hf1])
    have hc5 : ∀ inb h, arg1.view.readAt (Elt F) (Rect.unit (s := S21) ![5] S1.size inb).toLoadRect f1 (Shape.Idx.first h) = cuAt (F := F) x1 5 := fun inb h => (cu_at _ _ 5 (by decide) inb h).trans (by rw [hf1])
    have hc6 : ∀ inb h, arg1.view.readAt (Elt F) (Rect.unit (s := S21) ![6] S1.size inb).toLoadRect f1 (Shape.Idx.first h) = cuAt (F := F) x1 6 := fun inb h => (cu_at _ _ 6 (by decide) inb h).trans (by rw [hf1])
    have hc7 : ∀ inb h, arg1.view.readAt (Elt F) (Rect.unit (s := S21) ![7] S1.size inb).toLoadRect f1 (Shape.Idx.first h) = cuAt (F := F) x1 7 := fun inb h => (cu_at _ _ 7 (by decide) inb h).trans (by rw [hf1])
    have hc8 : ∀ inb h, arg1.view.readAt (Elt F) (Rect.unit (s := S21) ![8] S1.size inb).toLoadRect f1 (Shape.Idx.first h) = cuAt (F := F) x1 8 := fun inb h => (cu_at _ _ 8 (by decide) inb h).trans (by rw [hf1])
    have hc9 : ∀ inb h, arg1.view.readAt (Elt F) (Rect.unit (s := S21) ![9] S1.size inb).toLoadRect f1 (Shape.Idx.first h) = cuAt (F := F) x1 9 := fun inb h => (cu_at _ _ 9 (by decide) inb h).trans (by rw [hf1])
    have hc10 : ∀ inb h, arg1.view.readAt (Elt F) (Rect.unit (s := S21) ![10] S1.size inb).toLoadRect f1 (Shape.Idx.first h) = cuAt (F := F) x1 10 := fun inb h => (cu_at _ _ 10 (by decide) inb h).trans (by rw [hf1])
    have hc11 : ∀ inb h, arg1.view.readAt (Elt F) (Rect.unit (s := S21) ![11] S1.size inb).toLoadRect f1 (Shape.Idx.first h) = cuAt (F := F) x1 11 := fun inb h => (cu_at _ _ 11 (by decide) inb h).trans (by rw [hf1])
    have hc12 : ∀ inb h, arg1.view.readAt (Elt F) (Rect.unit (s := S21) ![12] S1.size inb).toLoadRect f1 (Shape.Idx.first h) = cuAt (F := F) x1 12 := fun inb h => (cu_at _ _ 12 (by decide) inb h).trans (by rw [hf1])
    have hc13 : ∀ inb h, arg1.view.readAt (Elt F) (Rect.unit (s := S21) ![13] S1.size inb).toLoadRect f1 (Shape.Idx.first h) = cuAt (F := F) x1 13 := fun inb h => (cu_at _ _ 13 (by decide) inb h).trans (by rw [hf1])
    have hc14 : ∀ inb h, arg1.view.readAt (Elt F) (Rect.unit (s := S21) ![14] S1.size inb).toLoadRect f1 (Shape.Idx.first h) = cuAt (F := F) x1 14 := fun inb h => (cu_at _ _ 14 (by decide) inb h).trans (by rw [hf1])
    have hc15 : ∀ inb h, arg1.view.readAt (Elt F) (Rect.unit (s := S21) ![15] S1.size inb).toLoadRect f1 (Shape.Idx.first h) = cuAt (F := F) x1 15 := fun inb h => (cu_at _ _ 15 (by decide) inb h).trans (by rw [hf1])
    have hc16 : ∀ inb h, arg1.view.readAt (Elt F) (Rect.unit (s := S21) ![16] S1.size inb).toLoadRect f1 (Shape.Idx.first h) = cuAt (F := F) x1 16 := fun inb h => (cu_at _ _ 16 (by decide) inb h).trans (by rw [hf1])
    have hc17 : ∀ inb h, arg1.view.readAt (Elt F) (Rect.unit (s := S21) ![17] S1.size inb).toLoadRect f1 (Shape.Idx.first h) = cuAt (F := F) x1 17 := fun inb h => (cu_at _ _ 17 (by decide) inb h).trans (by rw [hf1])
    have hc18 : ∀ inb h, arg1.view.readAt (Elt F) (Rect.unit (s := S21) ![18] S1.size inb).toLoadRect f1 (Shape.Idx.first h) = cuAt (F := F) x1 18 := fun inb h => (cu_at _ _ 18 (by decide) inb h).trans (by rw [hf1])
    have hc19 : ∀ inb h, arg1.view.readAt (Elt F) (Rect.unit (s := S21) ![19] S1.size inb).toLoadRect f1 (Shape.Idx.first h) = cuAt (F := F) x1 19 := fun inb h => (cu_at _ _ 19 (by decide) inb h).trans (by rw [hf1])
    have hc20 : ∀ inb h, arg1.view.readAt (Elt F) (Rect.unit (s := S21) ![20] S1.size inb).toLoadRect f1 (Shape.Idx.first h) = cuAt (F := F) x1 20 := fun inb h => (cu_at _ _ 20 (by decide) inb h).trans (by rw [hf1])
    refine scaleVal_congr _ _ (hc1 _ _) (hc0 _ _) (hc2 _ _) (hc1 _ _) (hc3 _ _) (hc2 _ _) (hc4 _ _) (hc3 _ _) (hc5 _ _) (hc4 _ _) (hc6 _ _) (hc5 _ _) (hc7 _ _) (hc6 _ _) (hc8 _ _) (hc7 _ _) (hc9 _ _) (hc8 _ _) (hc10 _ _) (hc9 _ _) (hc11 _ _) (hc10 _ _) (hc12 _ _) (hc11 _ _) (hc13 _ _) (hc12 _ _) (hc14 _ _) (hc13 _ _) (hc15 _ _) (hc14 _ _) (hc16 _ _) (hc15 _ _) (hc17 _ _) (hc16 _ _) (hc18 _ _) (hc17 _ _) (hc19 _ _) (hc18 _ _) (hc20 _ _) (hc19 _ _) ?_
    refine (readAt_zero _ _ _).trans ?_
    refine hL3.trans ((sumTo_all _ _ _ _ _ _ rfl).trans ?_)
    refine sumNew_congr _ _ hf1 ?_ ?_
    · sl_unfold_run_names
      rw [read_zero]
      refine zLive_congr (hw _) ?_ ?_ ?_ ?_ ?_ ?_
      · exact (hb_cov _ _ _ _ _).trans (by rw [hf3, hf4])
      · exact (readAt_zero _ _ _).trans hf14
      · exact (readAt_zero _ _ _).trans hf5
      · exact (readAt_zero _ _ _).trans hf7
      · exact (readAt_zero _ _ _).trans hf8
      · exact (readAt_zero _ _ _).trans hf9
    · exact hf16
  isplitl [H14]
  · iexists _; isplitr; swap; · iexact H14
    ipureintro
    sl_unfold_run_names
    exact hf14
  isplitl [H16]
  · iexists _; isplitr; swap; · iexact H16
    ipureintro
    sl_unfold_run_names
    refine hL3.trans ((sumTo_all _ _ _ _ _ _ rfl).trans ?_)
    refine sumNew_congr _ _ hf1 ?_ ?_
    · sl_unfold_run_names
      rw [read_zero]
      refine zLive_congr (hw _) ?_ ?_ ?_ ?_ ?_ ?_
      · exact (hb_cov _ _ _ _ _).trans (by rw [hf3, hf4])
      · exact (readAt_zero _ _ _).trans hf14
      · exact (readAt_zero _ _ _).trans hf5
      · exact (readAt_zero _ _ _).trans hf7
      · exact (readAt_zero _ _ _).trans hf8
      · exact (readAt_zero _ _ _).trans hf9
    · exact hf16
  iexists _; iexists _; isplitr; swap; · iexact H15
  ipureintro; rfl

set_option maxHeartbeats 20000000 in
theorem body_L_dead (c : Dev nD) (i : grid0.Coords) (arg1 : Memref sig .tc .smem S21 .i32) (harg1 : arg1.IsWhole) (arg2 : Memref sig .tc .smem S70x12 .f32) (harg2 : arg2.IsWhole) (arg3 : Memref sig .tc .vmem S128x8960 .fp8e4m3) (harg3 : arg3.IsWhole) (arg4 : Memref sig .tc .vmem S128x70 .f32) (harg4 : arg4.IsWhole) (arg5 : Memref sig .tc .vmem S128x1536 .bf16) (harg5 : arg5.IsWhole) (arg6 : Memref sig .tc .vmem S8960x1536 .fp8e4m3) (harg6 : arg6.IsWhole) (arg7 : Memref sig .tc .vmem S1x1536 .f32) (harg7 : arg7.IsWhole) (arg8 : Memref sig .tc .vmem S1x1536 .f32) (harg8 : arg8.IsWhole) (arg9 : Memref sig .tc .vmem S1x1536 .f32) (harg9 : arg9.IsWhole) (arg10 : Memref sig .tc .vmem S128x1536 .f32) (harg10 : arg10.IsWhole) (arg11 : Memref sig .tc .vmem S20x1536 .f32) (harg11 : arg11.IsWhole) (arg12 : Memref sig .tc .vmem S20x1536 .i8) (harg12 : arg12.IsWhole) (arg13 : Memref sig .tc .vmem S20x1 .f32) (harg13 : arg13.IsWhole) (arg14 : Memref sig .tc .vmem S8960x1536 .bf16) (harg14 : arg14.IsWhole) (arg15 : Memref sig .tc .vmem S128x8960 .bf16) (harg15 : arg15.IsWhole) (arg16 : Memref sig .tc .vmem S20x1536 .f32) (harg16 : arg16.IsWhole) (q : PosShare TreeShare) (x1 : S21.Idx → Elt F .i32) (x2 : S70x12.Idx → Elt F .f32) (x3 : S128x8960.Idx → Elt F .fp8e4m3) (x4 : S128x70.Idx → Elt F .f32) (x5 : S128x1536.Idx → Elt F .bf16) (x6 : S8960x1536.Idx → Elt F .fp8e4m3) (x7 : S1x1536.Idx → Elt F .f32) (x8 : S1x1536.Idx → Elt F .f32) (x9 : S1x1536.Idx → Elt F .f32) (x10 : S128x1536.Idx → Elt F .f32) (x11 : S20x1536.Idx → Elt F .f32) (x12 : S20x1536.Idx → Elt F .i8) (x13 : S20x1.Idx → Elt F .f32) (x14 : S8960x1536.Idx → Elt F .bf16) (x16 : S20x1536.Idx → Elt F .f32)
    (h1 : ¬ k0_cond1 i = 1#1) (h2' : k0_cond2 i (cuAt (F := F) x1 20) = 1#1)
    (h3' : ¬ k0_cond3 i (cuAt (F := F) x1 20) = 1#1) (h5 : k0_cond5 i = 1#1) :
    Held c arg1 arg2 arg3 arg4 arg5 arg6 arg7 arg8 arg9 arg10 arg11 arg12 arg13 arg14 arg15 arg16 q x1 x2 x3 x4 x5 x6 x7 x8 x9 x10 x11 x12 x13 x14 x16
      ⊢ wp frame (wpE (defs₀ (F := F)) Variants.none (c : Thread nD τ) none) Set.univ (cc0_ffn_down_ln_pool (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => Held c arg1 arg2 arg3 arg4 arg5 arg6 arg7 arg8 arg9 arg10 arg11 arg12 arg13 arg14 arg15 arg16 q x1 x2 x3 x4 x5 x6 x7 x8 x9 Gen.k0_pay4 (mVal x1 x16) (codesVal x1 x16) (scaleVal x1 x16) x14 x16) := by
  simp only [Gen.cc0_ffn_down_ln_pool_eq_skeleton]
  unfold Gen.cc0_ffn_down_ln_pool_skel
  simp only [Gen.k0_part21_eq_skeleton, Gen.k0_part22_eq_skeleton, Gen.k0_part23_eq_skeleton, Gen.k0_part24_eq_skeleton]
  unfold Held owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f16, %hf16, H16⟩, ⟨%y15, %f15, %hf15, H15⟩⟩
  have hw : ∀ h, arg1.view.readAt (Elt F) (Rect.unit (s := S21) ![20] S1.size Gen.inb_S21_S1_20).toLoadRect f1 (Shape.Idx.first h)
      = cuAt (F := F) x1 20 := fun h => by rw [cu_at, hf1]
  have h2 : ∀ h, k0_cond2 i (arg1.view.readAt (Elt F) (Rect.unit (s := S21) ![20] S1.size Gen.inb_S21_S1_20).toLoadRect f1 (Shape.Idx.first h)) = 1#1 :=
    fun h => by rw [hw h]; exact h2'
  have h3 : ∀ h, ¬ k0_cond3 i (arg1.view.readAt (Elt F) (Rect.unit (s := S21) ![20] S1.size Gen.inb_S21_S1_20).toLoadRect f1 (Shape.Idx.first h)) = 1#1 :=
    fun h => by rw [hw h]; exact h3'
  have h2 := h2 (by show 0 < S1.numel; decide)
  have h3 := h3 (by show 0 < S1.numel; decide)
  sl_exec
  sl_step
  isplitl [H1]
  · iexists f1; isplitr; swap; · iexact H1
    ipureintro
    exact hf1
  isplitl [H2]
  · iexists f2; isplitr; swap; · iexact H2
    ipureintro
    exact hf2
  isplitl [H3]
  · iexists f3; isplitr; swap; · iexact H3
    ipureintro
    exact hf3
  isplitl [H4]
  · iexists f4; isplitr; swap; · iexact H4
    ipureintro
    exact hf4
  isplitl [H5]
  · iexists f5; isplitr; swap; · iexact H5
    ipureintro
    exact hf5
  isplitl [H6]
  · iexists f6; isplitr; swap; · iexact H6
    ipureintro
    exact hf6
  isplitl [H7]
  · iexists f7; isplitr; swap; · iexact H7
    ipureintro
    exact hf7
  isplitl [H8]
  · iexists f8; isplitr; swap; · iexact H8
    ipureintro
    exact hf8
  isplitl [H9]
  · iexists f9; isplitr; swap; · iexact H9
    ipureintro
    exact hf9
  isplitl [H10]
  · iexists _; isplitr; swap; · iexact H10
    ipureintro
    sl_unfold_run_names
    exact read_zero _ _ _ _ _
  isplitl [H11]
  · iexists _; isplitr; swap; · iexact H11
    ipureintro
    sl_unfold_run_names
    rw [read_zero]
    have hc0 : ∀ inb h, arg1.view.readAt (Elt F) (Rect.unit (s := S21) ![0] S1.size inb).toLoadRect f1 (Shape.Idx.first h) = cuAt (F := F) x1 0 := fun inb h => (cu_at _ _ 0 (by decide) inb h).trans (by rw [hf1])
    have hc1 : ∀ inb h, arg1.view.readAt (Elt F) (Rect.unit (s := S21) ![1] S1.size inb).toLoadRect f1 (Shape.Idx.first h) = cuAt (F := F) x1 1 := fun inb h => (cu_at _ _ 1 (by decide) inb h).trans (by rw [hf1])
    have hc2 : ∀ inb h, arg1.view.readAt (Elt F) (Rect.unit (s := S21) ![2] S1.size inb).toLoadRect f1 (Shape.Idx.first h) = cuAt (F := F) x1 2 := fun inb h => (cu_at _ _ 2 (by decide) inb h).trans (by rw [hf1])
    have hc3 : ∀ inb h, arg1.view.readAt (Elt F) (Rect.unit (s := S21) ![3] S1.size inb).toLoadRect f1 (Shape.Idx.first h) = cuAt (F := F) x1 3 := fun inb h => (cu_at _ _ 3 (by decide) inb h).trans (by rw [hf1])
    have hc4 : ∀ inb h, arg1.view.readAt (Elt F) (Rect.unit (s := S21) ![4] S1.size inb).toLoadRect f1 (Shape.Idx.first h) = cuAt (F := F) x1 4 := fun inb h => (cu_at _ _ 4 (by decide) inb h).trans (by rw [hf1])
    have hc5 : ∀ inb h, arg1.view.readAt (Elt F) (Rect.unit (s := S21) ![5] S1.size inb).toLoadRect f1 (Shape.Idx.first h) = cuAt (F := F) x1 5 := fun inb h => (cu_at _ _ 5 (by decide) inb h).trans (by rw [hf1])
    have hc6 : ∀ inb h, arg1.view.readAt (Elt F) (Rect.unit (s := S21) ![6] S1.size inb).toLoadRect f1 (Shape.Idx.first h) = cuAt (F := F) x1 6 := fun inb h => (cu_at _ _ 6 (by decide) inb h).trans (by rw [hf1])
    have hc7 : ∀ inb h, arg1.view.readAt (Elt F) (Rect.unit (s := S21) ![7] S1.size inb).toLoadRect f1 (Shape.Idx.first h) = cuAt (F := F) x1 7 := fun inb h => (cu_at _ _ 7 (by decide) inb h).trans (by rw [hf1])
    have hc8 : ∀ inb h, arg1.view.readAt (Elt F) (Rect.unit (s := S21) ![8] S1.size inb).toLoadRect f1 (Shape.Idx.first h) = cuAt (F := F) x1 8 := fun inb h => (cu_at _ _ 8 (by decide) inb h).trans (by rw [hf1])
    have hc9 : ∀ inb h, arg1.view.readAt (Elt F) (Rect.unit (s := S21) ![9] S1.size inb).toLoadRect f1 (Shape.Idx.first h) = cuAt (F := F) x1 9 := fun inb h => (cu_at _ _ 9 (by decide) inb h).trans (by rw [hf1])
    have hc10 : ∀ inb h, arg1.view.readAt (Elt F) (Rect.unit (s := S21) ![10] S1.size inb).toLoadRect f1 (Shape.Idx.first h) = cuAt (F := F) x1 10 := fun inb h => (cu_at _ _ 10 (by decide) inb h).trans (by rw [hf1])
    have hc11 : ∀ inb h, arg1.view.readAt (Elt F) (Rect.unit (s := S21) ![11] S1.size inb).toLoadRect f1 (Shape.Idx.first h) = cuAt (F := F) x1 11 := fun inb h => (cu_at _ _ 11 (by decide) inb h).trans (by rw [hf1])
    have hc12 : ∀ inb h, arg1.view.readAt (Elt F) (Rect.unit (s := S21) ![12] S1.size inb).toLoadRect f1 (Shape.Idx.first h) = cuAt (F := F) x1 12 := fun inb h => (cu_at _ _ 12 (by decide) inb h).trans (by rw [hf1])
    have hc13 : ∀ inb h, arg1.view.readAt (Elt F) (Rect.unit (s := S21) ![13] S1.size inb).toLoadRect f1 (Shape.Idx.first h) = cuAt (F := F) x1 13 := fun inb h => (cu_at _ _ 13 (by decide) inb h).trans (by rw [hf1])
    have hc14 : ∀ inb h, arg1.view.readAt (Elt F) (Rect.unit (s := S21) ![14] S1.size inb).toLoadRect f1 (Shape.Idx.first h) = cuAt (F := F) x1 14 := fun inb h => (cu_at _ _ 14 (by decide) inb h).trans (by rw [hf1])
    have hc15 : ∀ inb h, arg1.view.readAt (Elt F) (Rect.unit (s := S21) ![15] S1.size inb).toLoadRect f1 (Shape.Idx.first h) = cuAt (F := F) x1 15 := fun inb h => (cu_at _ _ 15 (by decide) inb h).trans (by rw [hf1])
    have hc16 : ∀ inb h, arg1.view.readAt (Elt F) (Rect.unit (s := S21) ![16] S1.size inb).toLoadRect f1 (Shape.Idx.first h) = cuAt (F := F) x1 16 := fun inb h => (cu_at _ _ 16 (by decide) inb h).trans (by rw [hf1])
    have hc17 : ∀ inb h, arg1.view.readAt (Elt F) (Rect.unit (s := S21) ![17] S1.size inb).toLoadRect f1 (Shape.Idx.first h) = cuAt (F := F) x1 17 := fun inb h => (cu_at _ _ 17 (by decide) inb h).trans (by rw [hf1])
    have hc18 : ∀ inb h, arg1.view.readAt (Elt F) (Rect.unit (s := S21) ![18] S1.size inb).toLoadRect f1 (Shape.Idx.first h) = cuAt (F := F) x1 18 := fun inb h => (cu_at _ _ 18 (by decide) inb h).trans (by rw [hf1])
    have hc19 : ∀ inb h, arg1.view.readAt (Elt F) (Rect.unit (s := S21) ![19] S1.size inb).toLoadRect f1 (Shape.Idx.first h) = cuAt (F := F) x1 19 := fun inb h => (cu_at _ _ 19 (by decide) inb h).trans (by rw [hf1])
    have hc20 : ∀ inb h, arg1.view.readAt (Elt F) (Rect.unit (s := S21) ![20] S1.size inb).toLoadRect f1 (Shape.Idx.first h) = cuAt (F := F) x1 20 := fun inb h => (cu_at _ _ 20 (by decide) inb h).trans (by rw [hf1])
    refine mVal_congr _ _ (hc1 _ _) (hc0 _ _) (hc2 _ _) (hc1 _ _) (hc3 _ _) (hc2 _ _) (hc4 _ _) (hc3 _ _) (hc5 _ _) (hc4 _ _) (hc6 _ _) (hc5 _ _) (hc7 _ _) (hc6 _ _) (hc8 _ _) (hc7 _ _) (hc9 _ _) (hc8 _ _) (hc10 _ _) (hc9 _ _) (hc11 _ _) (hc10 _ _) (hc12 _ _) (hc11 _ _) (hc13 _ _) (hc12 _ _) (hc14 _ _) (hc13 _ _) (hc15 _ _) (hc14 _ _) (hc16 _ _) (hc15 _ _) (hc17 _ _) (hc16 _ _) (hc18 _ _) (hc17 _ _) (hc19 _ _) (hc18 _ _) (hc20 _ _) (hc19 _ _) ?_
    exact (readAt_zero _ _ _).trans hf16
  isplitl [H12]
  · iexists _; isplitr; swap; · iexact H12
    ipureintro
    sl_unfold_run_names
    rw [read_zero]
    have hc0 : ∀ inb h, arg1.view.readAt (Elt F) (Rect.unit (s := S21) ![0] S1.size inb).toLoadRect f1 (Shape.Idx.first h) = cuAt (F := F) x1 0 := fun inb h => (cu_at _ _ 0 (by decide) inb h).trans (by rw [hf1])
    have hc1 : ∀ inb h, arg1.view.readAt (Elt F) (Rect.unit (s := S21) ![1] S1.size inb).toLoadRect f1 (Shape.Idx.first h) = cuAt (F := F) x1 1 := fun inb h => (cu_at _ _ 1 (by decide) inb h).trans (by rw [hf1])
    have hc2 : ∀ inb h, arg1.view.readAt (Elt F) (Rect.unit (s := S21) ![2] S1.size inb).toLoadRect f1 (Shape.Idx.first h) = cuAt (F := F) x1 2 := fun inb h => (cu_at _ _ 2 (by decide) inb h).trans (by rw [hf1])
    have hc3 : ∀ inb h, arg1.view.readAt (Elt F) (Rect.unit (s := S21) ![3] S1.size inb).toLoadRect f1 (Shape.Idx.first h) = cuAt (F := F) x1 3 := fun inb h => (cu_at _ _ 3 (by decide) inb h).trans (by rw [hf1])
    have hc4 : ∀ inb h, arg1.view.readAt (Elt F) (Rect.unit (s := S21) ![4] S1.size inb).toLoadRect f1 (Shape.Idx.first h) = cuAt (F := F) x1 4 := fun inb h => (cu_at _ _ 4 (by decide) inb h).trans (by rw [hf1])
    have hc5 : ∀ inb h, arg1.view.readAt (Elt F) (Rect.unit (s := S21) ![5] S1.size inb).toLoadRect f1 (Shape.Idx.first h) = cuAt (F := F) x1 5 := fun inb h => (cu_at _ _ 5 (by decide) inb h).trans (by rw [hf1])
    have hc6 : ∀ inb h, arg1.view.readAt (Elt F) (Rect.unit (s := S21) ![6] S1.size inb).toLoadRect f1 (Shape.Idx.first h) = cuAt (F := F) x1 6 := fun inb h => (cu_at _ _ 6 (by decide) inb h).trans (by rw [hf1])
    have hc7 : ∀ inb h, arg1.view.readAt (Elt F) (Rect.unit (s := S21) ![7] S1.size inb).toLoadRect f1 (Shape.Idx.first h) = cuAt (F := F) x1 7 := fun inb h => (cu_at _ _ 7 (by decide) inb h).trans (by rw [hf1])
    have hc8 : ∀ inb h, arg1.view.readAt (Elt F) (Rect.unit (s := S21) ![8] S1.size inb).toLoadRect f1 (Shape.Idx.first h) = cuAt (F := F) x1 8 := fun inb h => (cu_at _ _ 8 (by decide) inb h).trans (by rw [hf1])
    have hc9 : ∀ inb h, arg1.view.readAt (Elt F) (Rect.unit (s := S21) ![9] S1.size inb).toLoadRect f1 (Shape.Idx.first h) = cuAt (F := F) x1 9 := fun inb h => (cu_at _ _ 9 (by decide) inb h).trans (by rw [hf1])
    have hc10 : ∀ inb h, arg1.view.readAt (Elt F) (Rect.unit (s := S21) ![10] S1.size inb).toLoadRect f1 (Shape.Idx.first h) = cuAt (F := F) x1 10 := fun inb h => (cu_at _ _ 10 (by decide) inb h).trans (by rw [hf1])
    have hc11 : ∀ inb h, arg1.view.readAt (Elt F) (Rect.unit (s := S21) ![11] S1.size inb).toLoadRect f1 (Shape.Idx.first h) = cuAt (F := F) x1 11 := fun inb h => (cu_at _ _ 11 (by decide) inb h).trans (by rw [hf1])
    have hc12 : ∀ inb h, arg1.view.readAt (Elt F) (Rect.unit (s := S21) ![12] S1.size inb).toLoadRect f1 (Shape.Idx.first h) = cuAt (F := F) x1 12 := fun inb h => (cu_at _ _ 12 (by decide) inb h).trans (by rw [hf1])
    have hc13 : ∀ inb h, arg1.view.readAt (Elt F) (Rect.unit (s := S21) ![13] S1.size inb).toLoadRect f1 (Shape.Idx.first h) = cuAt (F := F) x1 13 := fun inb h => (cu_at _ _ 13 (by decide) inb h).trans (by rw [hf1])
    have hc14 : ∀ inb h, arg1.view.readAt (Elt F) (Rect.unit (s := S21) ![14] S1.size inb).toLoadRect f1 (Shape.Idx.first h) = cuAt (F := F) x1 14 := fun inb h => (cu_at _ _ 14 (by decide) inb h).trans (by rw [hf1])
    have hc15 : ∀ inb h, arg1.view.readAt (Elt F) (Rect.unit (s := S21) ![15] S1.size inb).toLoadRect f1 (Shape.Idx.first h) = cuAt (F := F) x1 15 := fun inb h => (cu_at _ _ 15 (by decide) inb h).trans (by rw [hf1])
    have hc16 : ∀ inb h, arg1.view.readAt (Elt F) (Rect.unit (s := S21) ![16] S1.size inb).toLoadRect f1 (Shape.Idx.first h) = cuAt (F := F) x1 16 := fun inb h => (cu_at _ _ 16 (by decide) inb h).trans (by rw [hf1])
    have hc17 : ∀ inb h, arg1.view.readAt (Elt F) (Rect.unit (s := S21) ![17] S1.size inb).toLoadRect f1 (Shape.Idx.first h) = cuAt (F := F) x1 17 := fun inb h => (cu_at _ _ 17 (by decide) inb h).trans (by rw [hf1])
    have hc18 : ∀ inb h, arg1.view.readAt (Elt F) (Rect.unit (s := S21) ![18] S1.size inb).toLoadRect f1 (Shape.Idx.first h) = cuAt (F := F) x1 18 := fun inb h => (cu_at _ _ 18 (by decide) inb h).trans (by rw [hf1])
    have hc19 : ∀ inb h, arg1.view.readAt (Elt F) (Rect.unit (s := S21) ![19] S1.size inb).toLoadRect f1 (Shape.Idx.first h) = cuAt (F := F) x1 19 := fun inb h => (cu_at _ _ 19 (by decide) inb h).trans (by rw [hf1])
    have hc20 : ∀ inb h, arg1.view.readAt (Elt F) (Rect.unit (s := S21) ![20] S1.size inb).toLoadRect f1 (Shape.Idx.first h) = cuAt (F := F) x1 20 := fun inb h => (cu_at _ _ 20 (by decide) inb h).trans (by rw [hf1])
    refine codesVal_congr _ _ (hc1 _ _) (hc0 _ _) (hc2 _ _) (hc1 _ _) (hc3 _ _) (hc2 _ _) (hc4 _ _) (hc3 _ _) (hc5 _ _) (hc4 _ _) (hc6 _ _) (hc5 _ _) (hc7 _ _) (hc6 _ _) (hc8 _ _) (hc7 _ _) (hc9 _ _) (hc8 _ _) (hc10 _ _) (hc9 _ _) (hc11 _ _) (hc10 _ _) (hc12 _ _) (hc11 _ _) (hc13 _ _) (hc12 _ _) (hc14 _ _) (hc13 _ _) (hc15 _ _) (hc14 _ _) (hc16 _ _) (hc15 _ _) (hc17 _ _) (hc16 _ _) (hc18 _ _) (hc17 _ _) (hc19 _ _) (hc18 _ _) (hc20 _ _) (hc19 _ _) ?_
    exact (readAt_zero _ _ _).trans hf16
  isplitl [H13]
  · iexists _; isplitr; swap; · iexact H13
    ipureintro
    sl_unfold_run_names
    rw [read_zero]
    have hc0 : ∀ inb h, arg1.view.readAt (Elt F) (Rect.unit (s := S21) ![0] S1.size inb).toLoadRect f1 (Shape.Idx.first h) = cuAt (F := F) x1 0 := fun inb h => (cu_at _ _ 0 (by decide) inb h).trans (by rw [hf1])
    have hc1 : ∀ inb h, arg1.view.readAt (Elt F) (Rect.unit (s := S21) ![1] S1.size inb).toLoadRect f1 (Shape.Idx.first h) = cuAt (F := F) x1 1 := fun inb h => (cu_at _ _ 1 (by decide) inb h).trans (by rw [hf1])
    have hc2 : ∀ inb h, arg1.view.readAt (Elt F) (Rect.unit (s := S21) ![2] S1.size inb).toLoadRect f1 (Shape.Idx.first h) = cuAt (F := F) x1 2 := fun inb h => (cu_at _ _ 2 (by decide) inb h).trans (by rw [hf1])
    have hc3 : ∀ inb h, arg1.view.readAt (Elt F) (Rect.unit (s := S21) ![3] S1.size inb).toLoadRect f1 (Shape.Idx.first h) = cuAt (F := F) x1 3 := fun inb h => (cu_at _ _ 3 (by decide) inb h).trans (by rw [hf1])
    have hc4 : ∀ inb h, arg1.view.readAt (Elt F) (Rect.unit (s := S21) ![4] S1.size inb).toLoadRect f1 (Shape.Idx.first h) = cuAt (F := F) x1 4 := fun inb h => (cu_at _ _ 4 (by decide) inb h).trans (by rw [hf1])
    have hc5 : ∀ inb h, arg1.view.readAt (Elt F) (Rect.unit (s := S21) ![5] S1.size inb).toLoadRect f1 (Shape.Idx.first h) = cuAt (F := F) x1 5 := fun inb h => (cu_at _ _ 5 (by decide) inb h).trans (by rw [hf1])
    have hc6 : ∀ inb h, arg1.view.readAt (Elt F) (Rect.unit (s := S21) ![6] S1.size inb).toLoadRect f1 (Shape.Idx.first h) = cuAt (F := F) x1 6 := fun inb h => (cu_at _ _ 6 (by decide) inb h).trans (by rw [hf1])
    have hc7 : ∀ inb h, arg1.view.readAt (Elt F) (Rect.unit (s := S21) ![7] S1.size inb).toLoadRect f1 (Shape.Idx.first h) = cuAt (F := F) x1 7 := fun inb h => (cu_at _ _ 7 (by decide) inb h).trans (by rw [hf1])
    have hc8 : ∀ inb h, arg1.view.readAt (Elt F) (Rect.unit (s := S21) ![8] S1.size inb).toLoadRect f1 (Shape.Idx.first h) = cuAt (F := F) x1 8 := fun inb h => (cu_at _ _ 8 (by decide) inb h).trans (by rw [hf1])
    have hc9 : ∀ inb h, arg1.view.readAt (Elt F) (Rect.unit (s := S21) ![9] S1.size inb).toLoadRect f1 (Shape.Idx.first h) = cuAt (F := F) x1 9 := fun inb h => (cu_at _ _ 9 (by decide) inb h).trans (by rw [hf1])
    have hc10 : ∀ inb h, arg1.view.readAt (Elt F) (Rect.unit (s := S21) ![10] S1.size inb).toLoadRect f1 (Shape.Idx.first h) = cuAt (F := F) x1 10 := fun inb h => (cu_at _ _ 10 (by decide) inb h).trans (by rw [hf1])
    have hc11 : ∀ inb h, arg1.view.readAt (Elt F) (Rect.unit (s := S21) ![11] S1.size inb).toLoadRect f1 (Shape.Idx.first h) = cuAt (F := F) x1 11 := fun inb h => (cu_at _ _ 11 (by decide) inb h).trans (by rw [hf1])
    have hc12 : ∀ inb h, arg1.view.readAt (Elt F) (Rect.unit (s := S21) ![12] S1.size inb).toLoadRect f1 (Shape.Idx.first h) = cuAt (F := F) x1 12 := fun inb h => (cu_at _ _ 12 (by decide) inb h).trans (by rw [hf1])
    have hc13 : ∀ inb h, arg1.view.readAt (Elt F) (Rect.unit (s := S21) ![13] S1.size inb).toLoadRect f1 (Shape.Idx.first h) = cuAt (F := F) x1 13 := fun inb h => (cu_at _ _ 13 (by decide) inb h).trans (by rw [hf1])
    have hc14 : ∀ inb h, arg1.view.readAt (Elt F) (Rect.unit (s := S21) ![14] S1.size inb).toLoadRect f1 (Shape.Idx.first h) = cuAt (F := F) x1 14 := fun inb h => (cu_at _ _ 14 (by decide) inb h).trans (by rw [hf1])
    have hc15 : ∀ inb h, arg1.view.readAt (Elt F) (Rect.unit (s := S21) ![15] S1.size inb).toLoadRect f1 (Shape.Idx.first h) = cuAt (F := F) x1 15 := fun inb h => (cu_at _ _ 15 (by decide) inb h).trans (by rw [hf1])
    have hc16 : ∀ inb h, arg1.view.readAt (Elt F) (Rect.unit (s := S21) ![16] S1.size inb).toLoadRect f1 (Shape.Idx.first h) = cuAt (F := F) x1 16 := fun inb h => (cu_at _ _ 16 (by decide) inb h).trans (by rw [hf1])
    have hc17 : ∀ inb h, arg1.view.readAt (Elt F) (Rect.unit (s := S21) ![17] S1.size inb).toLoadRect f1 (Shape.Idx.first h) = cuAt (F := F) x1 17 := fun inb h => (cu_at _ _ 17 (by decide) inb h).trans (by rw [hf1])
    have hc18 : ∀ inb h, arg1.view.readAt (Elt F) (Rect.unit (s := S21) ![18] S1.size inb).toLoadRect f1 (Shape.Idx.first h) = cuAt (F := F) x1 18 := fun inb h => (cu_at _ _ 18 (by decide) inb h).trans (by rw [hf1])
    have hc19 : ∀ inb h, arg1.view.readAt (Elt F) (Rect.unit (s := S21) ![19] S1.size inb).toLoadRect f1 (Shape.Idx.first h) = cuAt (F := F) x1 19 := fun inb h => (cu_at _ _ 19 (by decide) inb h).trans (by rw [hf1])
    have hc20 : ∀ inb h, arg1.view.readAt (Elt F) (Rect.unit (s := S21) ![20] S1.size inb).toLoadRect f1 (Shape.Idx.first h) = cuAt (F := F) x1 20 := fun inb h => (cu_at _ _ 20 (by decide) inb h).trans (by rw [hf1])
    refine scaleVal_congr _ _ (hc1 _ _) (hc0 _ _) (hc2 _ _) (hc1 _ _) (hc3 _ _) (hc2 _ _) (hc4 _ _) (hc3 _ _) (hc5 _ _) (hc4 _ _) (hc6 _ _) (hc5 _ _) (hc7 _ _) (hc6 _ _) (hc8 _ _) (hc7 _ _) (hc9 _ _) (hc8 _ _) (hc10 _ _) (hc9 _ _) (hc11 _ _) (hc10 _ _) (hc12 _ _) (hc11 _ _) (hc13 _ _) (hc12 _ _) (hc14 _ _) (hc13 _ _) (hc15 _ _) (hc14 _ _) (hc16 _ _) (hc15 _ _) (hc17 _ _) (hc16 _ _) (hc18 _ _) (hc17 _ _) (hc19 _ _) (hc18 _ _) (hc20 _ _) (hc19 _ _) ?_
    exact (readAt_zero _ _ _).trans hf16
  isplitl [H14]
  · iexists _; isplitr; swap; · iexact H14
    ipureintro
    sl_unfold_run_names
    exact hf14
  isplitl [H16]
  · iexists _; isplitr; swap; · iexact H16
    ipureintro
    sl_unfold_run_names
    exact hf16
  iexists _; iexists _; isplitr; swap; · iexact H15
  ipureintro; rfl
end Cert.Proof.KernelIdeal
end
end
-- ==== Proof.KernI.Tab.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.KernI.BodyF
public import proofs.«01_k».proof.Proof.KernI.BodyM
public import proofs.«01_k».proof.Proof.KernI.BodyL
public import Idealize.ShloMosaic.Lib.Claim
public import Idealize.ShloMosaic.Lib.Pipeline.Frame
public import Idealize.ShloMosaic.Lib.Pipeline.FrameBody
public import Idealize.ShloMosaic.Lib.Pipeline.Kit
public import Idealize.ShloMosaic.Adequacy
public import Idealize.ShloMosaic.Init
public import Idealize.ShloMosaic.Lib.WritesUnit
public import Idealize.ShloMosaic.Lib.VecWindow
public import Idealize.ShloMosaic.Lib.Pointwise

@[expose] public section

set_option maxRecDepth 16384
set_option maxHeartbeats 4000000

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Pipeline (Dat Cfg Window)

local notation "𝕄" => MT nD τ sig Unit (Elt F) ℕ (UR sig nD τ) ℕ

/-! ## The words the kernel decides by -/

theorem cond1_iff : ∀ t : Fin grid0.N, k0_cond1 (grid0.coords t) = 1#1 ↔ t.val = 0 := by decide +kernel

theorem cond5_iff : ∀ t : Fin grid0.N, k0_cond5 (grid0.coords t) = 1#1 ↔ t.val = 179 := by decide +kernel

theorem ne_extui (b : BitVec 1) : Scalar.cmpi .ne (Scalar.extui b : BitVec 32) 0#32 = b := by
  revert b; decide

/-- A tile is either live or not: the two conditions are each other's negation. -/
theorem cond2_iff (i : grid0.Coords) (v : BitVec 32) : k0_cond2 i v = 1#1 ↔ ¬ k0_cond3 i v = 1#1 := by
  simp only [k0_cond2, k0_cond3, ne_extui, Scalar.cmpi, IntOp.cmpi]
  generalize (Scalar.muli (BitVec.ofNat 32 (i 0).val) 128#32) = a
  have h : v.sle a = !(a.slt v) := by
    rw [BitVec.sle_eq_not_slt]
  rw [h]
  cases a.slt v <;> decide

/-- The block index of the row windows is at most 179. -/
theorem min_max_le (n : ℕ) (hn : n < 180) (x : BitVec 32) :
    (Scalar.minsi (BitVec.ofNat 32 n) (Scalar.maxsi x 0#32)).toNat ≤ 179 := by
  have e : (BitVec.ofNat 32 n).toNat = n := by rw [BitVec.toNat_ofNat]; omega
  have hy : ¬ (Scalar.maxsi x 0#32).slt 0#32 = true := by
    unfold Scalar.maxsi IntOp.maxsi
    split
    · rename_i h
      simp only [BitVec.slt_iff_toInt_lt] at h ⊢
      omega
    · decide
  revert hy
  generalize Scalar.maxsi x 0#32 = y
  intro hy
  unfold Scalar.minsi IntOp.minsi
  split
  · omega
  · rename_i h
    simp only [BitVec.slt_iff_toInt_lt, not_lt, BitVec.toInt_eq_toNat_cond, e] at h hy
    simp at h hy
    split at h <;> split at hy <;> omega

theorem row_map1 (pf : pre0.Contents (Elt F)) (i : grid0.Coords) : ∃ n, n ≤ 179 ∧ cc0_transform_1 Gen.inb_S21_S1_20 Gen.numel1_S1 pf i = ![n, 0] :=
  ⟨_, min_max_le _ (i 0).isLt _, rfl⟩
theorem row_map2 (pf : pre0.Contents (Elt F)) (i : grid0.Coords) : ∃ n, n ≤ 179 ∧ cc0_transform_2 Gen.inb_S21_S1_20 Gen.numel1_S1 pf i = ![n, 0] :=
  ⟨_, min_max_le _ (i 0).isLt _, rfl⟩
theorem row_map3 (pf : pre0.Contents (Elt F)) (i : grid0.Coords) : ∃ n, n ≤ 179 ∧ cc0_transform_3 Gen.inb_S21_S1_20 Gen.numel1_S1 pf i = ![n, 0] :=
  ⟨_, min_max_le _ (i 0).isLt _, rfl⟩

/-- Whatever the prefix sums hold, every block lies inside its array. -/
theorem ok_all (pf : pre0.Contents (Elt F)) : ok0 pf := by
  refine ⟨fun i => ⟨?_, .inr (Affine.block_words_dvd (of_decide_eq_true rfl) (by decide))⟩,
    fun i => ⟨?_, .inl rfl⟩, fun i => ⟨?_, .inr (Affine.block_words_dvd (of_decide_eq_true rfl) (by decide))⟩⟩
  · obtain ⟨n, hn, e⟩ := row_map1 pf i
    rw [e]; intro a
    match a with
    | ⟨0, _⟩ => show (n + 1) * 128 ≤ 23040; omega
    | ⟨1, _⟩ => show (0 + 1) * 8960 ≤ 8960; omega
  · obtain ⟨n, hn, e⟩ := row_map2 pf i
    rw [e]; intro a
    match a with
    | ⟨0, _⟩ => show (n + 1) * 128 ≤ 23040; omega
    | ⟨1, _⟩ => show (0 + 1) * 70 ≤ 70; omega
  · obtain ⟨n, hn, e⟩ := row_map3 pf i
    rw [e]; intro a
    match a with
    | ⟨0, _⟩ => show (n + 1) * 128 ≤ 23040; omega
    | ⟨1, _⟩ => show (0 + 1) * 1536 ≤ 1536; omega

/-! ## What the pallas_call finds -/

variable (m : (ℓ : Loc nD τ sig) → Buf (Elt F) ℓ)

/-- Core `c`'s buffers when the pallas_call starts. -/
abbrev V (c : Dev nD) (b : Ref sig .tc) : Buf (Elt F) ((c : Thread nD τ).loc b) := StableHlo.after Gen.hostOps0 (fun b => m (c, b)) b

theorem hostOps0_fresh : (Gen.hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main Gen.hostOps0 Gen.hostOps0_sub hostOps0_fresh Gen.main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [Gen.hostOps0, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [Gen.hostOps0, List.Forall, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [Gen.hostOps0, List.Forall, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [Gen.hostOps0, List.Forall, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [Gen.hostOps0, List.Forall, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [Gen.hostOps0, List.Forall, StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [Gen.hostOps0, List.Forall, StableHlo.reshape_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [Gen.hostOps0, List.Forall, StableHlo.reshape_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [Gen.hostOps0, List.Forall, StableHlo.reshape_writes, Finset.mem_singleton]
    repeat' apply And.intro
    all_goals exact StableHlo.devRef_ne_of_ne (by decide)))

/-- The prefetched table. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev adm : (pcfg0 (F := F)).Adm := ⟨tbl m, ok_all _⟩
abbrev cfgM : Pipeline.Cfg sig Λ₀ := cfg0 (adm m)
/-- The prefix sums of the lengths, as the table holds them. -/
def cuTab : S21.Idx → Elt F .i32 := tbl m 0

abbrev tbM : Memref sig .tc .smem S21 .i32 := Memref.whole main_arg8

theorem PhiT_eq (c : Dev nD) : (Pipeline.ΦT pre0 (tbl m) c : sProp 𝕄) = owns (c : Thread nD τ) tbM fullShare.right (cuTab m) := by
  rw [owns_whole]
  unfold Pipeline.ΦT Pipeline.prefHeld
  rw [show (Finset.univ : Finset (Fin 1)) = {(0 : Fin 1)} from by decide, bigSep_singleton]
  rfl

abbrev sc0 : Memref sig .tc .vmem S8960x1536 .bf16 := Memref.whole cc0_scratch0
abbrev sc1 : Memref sig .tc .vmem S128x8960 .bf16 := Memref.whole cc0_scratch1
abbrev sc2 : Memref sig .tc .vmem S20x1536 .f32 := Memref.whole cc0_scratch2

theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [Gen.scopedRest0_eq]; simp only [sc0, sc1, sc2, owns_whole]; try rfl

/-- Window `w`'s block at point `t`. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

theorem before_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ (cfgM m) c) (hA : dat.A 4 = V m c (Pipeline.arrRef spec0 4))
    (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ (cfgM m) c) (hA : dat.A 5 = V m c (Pipeline.arrRef spec0 5))
    (hafter : ∀ t, dat.after 5 t = iblk m c 5 t) (t : Fin (cfgM m).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ (cfgM m) c) (hA : dat.A 6 = V m c (Pipeline.arrRef spec0 6))
    (hafter : ∀ t, dat.after 6 t = iblk m c 6 t) (t : Fin (cfgM m).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ (cfgM m) c) (hA : dat.A 7 = V m c (Pipeline.arrRef spec0 7))
    (hafter : ∀ t, dat.after 7 t = iblk m c 7 t) (t : Fin (cfgM m).N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem flush_9 : ∀ t : Fin (cfgM m).N, ((cfgM m).win 9).flush t = true ↔ t.val % 180 = 179 :=
  (fun t => Pipeline.Window.flushOf_const cc0_transform_9 (fun _ _ => rfl) (n := 180) (by decide) rfl t : ∀ t : Fin grid0.N, Pipeline.Window.flushOf grid0 true cc0_transform_9 t = true ↔ t.val % 180 = 179)
theorem flush_10 : ∀ t : Fin (cfgM m).N, ((cfgM m).win 10).flush t = true ↔ t.val % 180 = 179 :=
  (fun t => Pipeline.Window.flushOf_const cc0_transform_10 (fun _ _ => rfl) (n := 180) (by decide) rfl t : ∀ t : Fin grid0.N, Pipeline.Window.flushOf grid0 true cc0_transform_10 t = true ↔ t.val % 180 = 179)
theorem flush_11 : ∀ t : Fin (cfgM m).N, ((cfgM m).win 11).flush t = true ↔ t.val % 180 = 179 :=
  (fun t => Pipeline.Window.flushOf_const cc0_transform_11 (fun _ _ => rfl) (n := 180) (by decide) rfl t : ∀ t : Fin grid0.N, Pipeline.Window.flushOf grid0 true cc0_transform_11 t = true ↔ t.val % 180 = 179)

end Cert.Proof.KernelIdeal
end
end
-- ==== Proof.KernI.Run.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.KernI.Tab
public import Idealize.ShloMosaic.Adequacy
public import Idealize.ShloMosaic.Init
public import Idealize.ShloMosaic.Lib.WritesUnit
public import Idealize.ShloMosaic.Lib.VecWindow
public import Idealize.ShloMosaic.Lib.Pointwise

@[expose] public section

set_option maxRecDepth 16384
set_option maxHeartbeats 4000000

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Pipeline (Dat Cfg Window BodyObligation)

local notation "𝕄" => MT nD τ sig Unit (Elt F) ℕ (UR sig nD τ) ℕ

variable (m : (ℓ : Loc nD τ sig) → Buf (Elt F) ℓ) (ρ : Dev nD → PrngReg)

abbrev ms0 (t : Fin (cfgM m).N) : Memref sig .tc .smem S70x12 .f32 := spec0_0.stage ((cfgM m).slots t 0)
abbrev hs0 (t : Fin (cfgM m).N) : (ms0 m t).IsWhole := Gen.hstage0_0 (((cfgM m).slots t 0).cast Gen.nbuf0_0)
abbrev ms1 (t : Fin (cfgM m).N) : Memref sig .tc .vmem S128x8960 .fp8e4m3 := spec0_1.stage ((cfgM m).slots t 1)
abbrev hs1 (t : Fin (cfgM m).N) : (ms1 m t).IsWhole := Gen.hstage0_1 (((cfgM m).slots t 1).cast Gen.nbuf0_1)
abbrev ms2 (t : Fin (cfgM m).N) : Memref sig .tc .vmem S128x70 .f32 := spec0_2.stage ((cfgM m).slots t 2)
abbrev hs2 (t : Fin (cfgM m).N) : (ms2 m t).IsWhole := Gen.hstage0_2 (((cfgM m).slots t 2).cast Gen.nbuf0_2)
abbrev ms3 (t : Fin (cfgM m).N) : Memref sig .tc .vmem S128x1536 .bf16 := spec0_3.stage ((cfgM m).slots t 3)
abbrev hs3 (t : Fin (cfgM m).N) : (ms3 m t).IsWhole := Gen.hstage0_3 (((cfgM m).slots t 3).cast Gen.nbuf0_3)
abbrev ms4 (t : Fin (cfgM m).N) : Memref sig .tc .vmem S8960x1536 .fp8e4m3 := spec0_4.stage ((cfgM m).slots t 4)
abbrev hs4 (t : Fin (cfgM m).N) : (ms4 m t).IsWhole := Gen.hstage0_4 (((cfgM m).slots t 4).cast Gen.nbuf0_4)
abbrev ms5 (t : Fin (cfgM m).N) : Memref sig .tc .vmem S1x1536 .f32 := spec0_5.stage ((cfgM m).slots t 5)
abbrev hs5 (t : Fin (cfgM m).N) : (ms5 m t).IsWhole := Gen.hstage0_5 (((cfgM m).slots t 5).cast Gen.nbuf0_5)
abbrev ms6 (t : Fin (cfgM m).N) : Memref sig .tc .vmem S1x1536 .f32 := spec0_6.stage ((cfgM m).slots t 6)
abbrev hs6 (t : Fin (cfgM m).N) : (ms6 m t).IsWhole := Gen.hstage0_6 (((cfgM m).slots t 6).cast Gen.nbuf0_6)
abbrev ms7 (t : Fin (cfgM m).N) : Memref sig .tc .vmem S1x1536 .f32 := spec0_7.stage ((cfgM m).slots t 7)
abbrev hs7 (t : Fin (cfgM m).N) : (ms7 m t).IsWhole := Gen.hstage0_7 (((cfgM m).slots t 7).cast Gen.nbuf0_7)
abbrev ms8 (t : Fin (cfgM m).N) : Memref sig .tc .vmem S128x1536 .f32 := spec0_8.stage ((cfgM m).slots t 8)
abbrev hs8 (t : Fin (cfgM m).N) : (ms8 m t).IsWhole := Gen.hstage0_8 (((cfgM m).slots t 8).cast Gen.nbuf0_8)
abbrev ms9 (t : Fin (cfgM m).N) : Memref sig .tc .vmem S20x1536 .f32 := spec0_9.stage ((cfgM m).slots t 9)
abbrev hs9 (t : Fin (cfgM m).N) : (ms9 m t).IsWhole := Gen.hstage0_9 (((cfgM m).slots t 9).cast Gen.nbuf0_9)
abbrev ms10 (t : Fin (cfgM m).N) : Memref sig .tc .vmem S20x1536 .i8 := spec0_10.stage ((cfgM m).slots t 10)
abbrev hs10 (t : Fin (cfgM m).N) : (ms10 m t).IsWhole := Gen.hstage0_10 (((cfgM m).slots t 10).cast Gen.nbuf0_10)
abbrev ms11 (t : Fin (cfgM m).N) : Memref sig .tc .vmem S20x1 .f32 := spec0_11.stage ((cfgM m).slots t 11)
abbrev hs11 (t : Fin (cfgM m).N) : (ms11 m t).IsWhole := Gen.hstage0_11 (((cfgM m).slots t 11).cast Gen.nbuf0_11)

/-- The kernel body at point `t`. -/
abbrev bodyAt (t : Fin (cfgM m).N) : Prog (TpuEff nD τ sig (Elt F) Λ₀ .tc) PUnit :=
  cc0_ffn_down_ln_pool (grid0.coords t) tbM (Memref.isWhole_whole _) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) (ms10 m t) (hs10 m t) (ms11 m t) (hs11 m t) sc0 (Memref.isWhole_whole _) sc1 (Memref.isWhole_whole _) sc2 (Memref.isWhole_whole _)

theorem defs₀_row (t : Fin (cfgM m).N) :
    defs₀ (F := F) .tc (cfgM m).body ((cfgM m).bodyArgs t ((cfgM m).slots t)) = bodyAt m t := by
  unfold defs₀; rw [Defs.onTc_tc]

/-! ## What the buffers hold -/

/-- The first point. -/
abbrev t₀ : Fin (cfgM m).N := ⟨0, by rw [show (cfgM m).N = 180 from Gen.N_0]; decide⟩

/-- The dequantised weights. -/
def wAt (c : Dev nD) : S8960x1536.Idx → Elt F .bf16 := WB (iblk m c 0 (t₀ m)) (iblk m c 4 (t₀ m))

theorem wAt_eq (c : Dev nD) (t : Fin (cfgM m).N) : WB (iblk m c 0 t) (iblk m c 4 t) = wAt m c := rfl

/-- The normalised rows of tile `t`. -/
def zAt (c : Dev nD) (t : Fin (cfgM m).N) : S128x1536.Idx → Elt F .f32 :=
  zBlk (grid0.coords t) (cuTab m) (iblk m c 1 t) (iblk m c 2 t) (wAt m c) (iblk m c 3 t) (iblk m c 5 t) (iblk m c 6 t) (iblk m c 7 t)

/-- The running sums before tile `n`. -/
def sAt (c : Dev nD) : ℕ → S20x1536.Idx → Elt F .f32
  | 0 => Gen.k0_pay1
  | n + 1 => if h : n < (cfgM m).N then sumStep (grid0.coords ⟨n, h⟩) (cuTab m) (zAt m c ⟨n, h⟩) (sAt c n) else sAt c n

theorem sAt_succ (c : Dev nD) (t : Fin (cfgM m).N) : sAt m c (t.val + 1) = sumStep (grid0.coords t) (cuTab m) (zAt m c t) (sAt m c t.val) := by
  rw [sAt, dif_pos t.isLt]

/-- What holds before point `n`. -/
def Phi (c : Dev nD) : ℕ → sProp 𝕄
  | 0 => iprop(Pipeline.ΦA spec0 c ∗ Pipeline.ΦT pre0 (tbl m) c)
  | n + 1 => iprop(iprop(iprop(owns (c : Thread nD τ) sc0 fullShare (wAt m c) ∗ (∃ d, owns (c : Thread nD τ) sc1 fullShare d) ∗ owns (c : Thread nD τ) sc2 fullShare (sAt m c (n + 1))) ∗ (∃ r, prngReg c r)) ∗ Pipeline.ΦT pre0 (tbl m) c)

theorem Phi_pos (c : Dev nD) (n : ℕ) (hz : n ≠ 0) :
    Phi m c n = iprop(iprop(iprop(owns (c : Thread nD τ) sc0 fullShare (wAt m c) ∗ (∃ d, owns (c : Thread nD τ) sc1 fullShare d) ∗ owns (c : Thread nD τ) sc2 fullShare (sAt m c n)) ∗ (∃ r, prngReg c r)) ∗ Pipeline.ΦT pre0 (tbl m) c) := by
  cases n with
  | zero => exact absurd rfl hz
  | succ n => rfl

/-- The pipeline's data on core `c`. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => zAt m c t
    | ⟨9, _⟩ => mVal (cuTab m) (sAt m c 180)
    | ⟨10, _⟩ => codesVal (cuTab m) (sAt m c 180)
    | ⟨11, _⟩ => scaleVal (cuTab m) (sAt m c 180)
  Φ t := Phi m c t.val
  q _ := fullShare
  owed _ := 0

theorem A_eq (c : Dev nD) (w : Fin (cfgM m).W) : (dats m 0 c).A w = V m c (Pipeline.arrRef spec0 w) := by
  dsimp only [dats]

theorem after_0 (c : Dev nD) (t : Fin (cfgM m).N) : (dats m 0 c).after 0 t = iblk m c 0 t := by dsimp only [dats]; try rfl
theorem after_1 (c : Dev nD) (t : Fin (cfgM m).N) : (dats m 0 c).after 1 t = iblk m c 1 t := by dsimp only [dats]; try rfl
theorem after_2 (c : Dev nD) (t : Fin (cfgM m).N) : (dats m 0 c).after 2 t = iblk m c 2 t := by dsimp only [dats]; try rfl
theorem after_3 (c : Dev nD) (t : Fin (cfgM m).N) : (dats m 0 c).after 3 t = iblk m c 3 t := by dsimp only [dats]; try rfl
theorem after_4 (c : Dev nD) (t : Fin (cfgM m).N) : (dats m 0 c).after 4 t = iblk m c 4 t := by dsimp only [dats]; try rfl
theorem after_5 (c : Dev nD) (t : Fin (cfgM m).N) : (dats m 0 c).after 5 t = iblk m c 5 t := by dsimp only [dats]; try rfl
theorem after_6 (c : Dev nD) (t : Fin (cfgM m).N) : (dats m 0 c).after 6 t = iblk m c 6 t := by dsimp only [dats]; try rfl
theorem after_7 (c : Dev nD) (t : Fin (cfgM m).N) : (dats m 0 c).after 7 t = iblk m c 7 t := by dsimp only [dats]; try rfl
theorem after_8 (c : Dev nD) (t : Fin (cfgM m).N) : (dats m 0 c).after 8 t = zAt m c t := by dsimp only [dats]; try rfl
theorem after_9 (c : Dev nD) (t : Fin (cfgM m).N) : (dats m 0 c).after 9 t = mVal (cuTab m) (sAt m c 180) := by dsimp only [dats]; try rfl
theorem after_10 (c : Dev nD) (t : Fin (cfgM m).N) : (dats m 0 c).after 10 t = codesVal (cuTab m) (sAt m c 180) := by dsimp only [dats]; try rfl
theorem after_11 (c : Dev nD) (t : Fin (cfgM m).N) : (dats m 0 c).after 11 t = scaleVal (cuTab m) (sAt m c 180) := by dsimp only [dats]; try rfl

theorem before_0 (c : Dev nD) (t : Fin (cfgM m).N) (d) : (dats m 0 c).before 0 t d = iblk m c 0 t :=
  before_0_of m (dats m 0 c) (A_eq m c 0) (after_0 m c) t d
theorem before_1 (c : Dev nD) (t : Fin (cfgM m).N) (d) : (dats m 0 c).before 1 t d = iblk m c 1 t :=
  before_1_of m (dats m 0 c) (A_eq m c 1) (after_1 m c) t d
theorem before_2 (c : Dev nD) (t : Fin (cfgM m).N) (d) : (dats m 0 c).before 2 t d = iblk m c 2 t :=
  before_2_of m (dats m 0 c) (A_eq m c 2) (after_2 m c) t d
theorem before_3 (c : Dev nD) (t : Fin (cfgM m).N) (d) : (dats m 0 c).before 3 t d = iblk m c 3 t :=
  before_3_of m (dats m 0 c) (A_eq m c 3) (after_3 m c) t d
theorem before_4 (c : Dev nD) (t : Fin (cfgM m).N) (d) : (dats m 0 c).before 4 t d = iblk m c 4 t :=
  before_4_of m (dats m 0 c) (A_eq m c 4) (after_4 m c) t d
theorem before_5 (c : Dev nD) (t : Fin (cfgM m).N) (d) : (dats m 0 c).before 5 t d = iblk m c 5 t :=
  before_5_of m (dats m 0 c) (A_eq m c 5) (after_5 m c) t d
theorem before_6 (c : Dev nD) (t : Fin (cfgM m).N) (d) : (dats m 0 c).before 6 t d = iblk m c 6 t :=
  before_6_of m (dats m 0 c) (A_eq m c 6) (after_6 m c) t d
theorem before_7 (c : Dev nD) (t : Fin (cfgM m).N) (d) : (dats m 0 c).before 7 t d = iblk m c 7 t :=
  before_7_of m (dats m 0 c) (A_eq m c 7) (after_7 m c) t d

/-! ## The body at any point -/

theorem idle_8 (t : Fin (cfgM m).N) : (cfgM m).idle 8 (grid0.coords t) = false := by
  show idle0 (tbl m) 8 (grid0.coords t) = false
  dsimp only [idle0]
  generalize (tbl m).atD 0 ![20] = v
  by_cases h : k0_cond3 (grid0.coords t) v = 1#1
  · rw [h]; simp
  · rw [(cond2_iff _ _).2 h]; simp

theorem idle_9 (t : Fin (cfgM m).N) (h : ¬ k0_cond5 (grid0.coords t) = 1#1) : (cfgM m).idle 9 (grid0.coords t) = true := by
  show (!(k0_cond5 (grid0.coords t) == 1#1)) = true
  simp [h]
theorem live_9 (t : Fin (cfgM m).N) (h : k0_cond5 (grid0.coords t) = 1#1) : (cfgM m).idle 9 (grid0.coords t) = false := by
  show (!(k0_cond5 (grid0.coords t) == 1#1)) = false
  simp [h]
theorem noflush_9 (t : Fin (cfgM m).N) (h : ¬ k0_cond5 (grid0.coords t) = 1#1) : ((cfgM m).win 9).flush t = false := by
  have hN : t.val < 180 := lt_of_lt_of_eq t.isLt (show (cfgM m).N = 180 from Gen.N_0)
  rw [Bool.eq_false_iff]
  exact fun hf => h ((cond5_iff t).2 (by have := (flush_9 m t).1 hf; omega))
theorem idle_10 (t : Fin (cfgM m).N) (h : ¬ k0_cond5 (grid0.coords t) = 1#1) : (cfgM m).idle 10 (grid0.coords t) = true := by
  show (!(k0_cond5 (grid0.coords t) == 1#1)) = true
  simp [h]
theorem live_10 (t : Fin (cfgM m).N) (h : k0_cond5 (grid0.coords t) = 1#1) : (cfgM m).idle 10 (grid0.coords t) = false := by
  show (!(k0_cond5 (grid0.coords t) == 1#1)) = false
  simp [h]
theorem noflush_10 (t : Fin (cfgM m).N) (h : ¬ k0_cond5 (grid0.coords t) = 1#1) : ((cfgM m).win 10).flush t = false := by
  have hN : t.val < 180 := lt_of_lt_of_eq t.isLt (show (cfgM m).N = 180 from Gen.N_0)
  rw [Bool.eq_false_iff]
  exact fun hf => h ((cond5_iff t).2 (by have := (flush_10 m t).1 hf; omega))
theorem idle_11 (t : Fin (cfgM m).N) (h : ¬ k0_cond5 (grid0.coords t) = 1#1) : (cfgM m).idle 11 (grid0.coords t) = true := by
  show (!(k0_cond5 (grid0.coords t) == 1#1)) = true
  simp [h]
theorem live_11 (t : Fin (cfgM m).N) (h : k0_cond5 (grid0.coords t) = 1#1) : (cfgM m).idle 11 (grid0.coords t) = false := by
  show (!(k0_cond5 (grid0.coords t) == 1#1)) = false
  simp [h]
theorem noflush_11 (t : Fin (cfgM m).N) (h : ¬ k0_cond5 (grid0.coords t) = 1#1) : ((cfgM m).win 11).flush t = false := by
  have hN : t.val < 180 := lt_of_lt_of_eq t.isLt (show (cfgM m).N = 180 from Gen.N_0)
  rw [Bool.eq_false_iff]
  exact fun hf => h ((cond5_iff t).2 (by have := (flush_11 m t).1 hf; omega))

theorem leaves_live {c : Dev nD} (w : Fin (cfgM m).W) (t : Fin (cfgM m).N) (h : (cfgM m).idle w (grid0.coords t) = false) :
    (dats m 0 c).leavesExact w t = (owns (c : Thread nD τ) (((cfgM m).win w).stage ((cfgM m).slots t w)) fullShare ((dats m 0 c).after w t) : sProp 𝕄) := by
  have h' : (cfgM m).idle w ((cfgM m).grid.coords t) = false := h
  unfold Dat.leavesExact; rw [h']

def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d))
    ∗ (∃ d, owns (c : Thread nD τ) (ms5 m t) fullShare ((dats m 0 c).before 5 t d))
    ∗ (∃ d, owns (c : Thread nD τ) (ms6 m t) fullShare ((dats m 0 c).before 6 t d))
    ∗ (∃ d, owns (c : Thread nD τ) (ms7 m t) fullShare ((dats m 0 c).before 7 t d))
    ∗ (∃ d, owns (c : Thread nD τ) (ms8 m t) fullShare ((dats m 0 c).before 8 t d))
    ∗ (∃ d, owns (c : Thread nD τ) (ms9 m t) fullShare ((dats m 0 c).before 9 t d))
    ∗ (∃ d, owns (c : Thread nD τ) (ms10 m t) fullShare ((dats m 0 c).before 10 t d))
    ∗ (∃ d, owns (c : Thread nD τ) (ms11 m t) fullShare ((dats m 0 c).before 11 t d)))

def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t)
    ∗ owns (c : Thread nD τ) (ms4 m t) fullShare ((dats m 0 c).after 4 t)
    ∗ owns (c : Thread nD τ) (ms5 m t) fullShare ((dats m 0 c).after 5 t)
    ∗ owns (c : Thread nD τ) (ms6 m t) fullShare ((dats m 0 c).after 6 t)
    ∗ owns (c : Thread nD τ) (ms7 m t) fullShare ((dats m 0 c).after 7 t)
    ∗ (dats m 0 c).leavesExact 8 t
    ∗ (dats m 0 c).leavesExact 9 t
    ∗ (dats m 0 c).leavesExact 10 t
    ∗ (dats m 0 c).leavesExact 11 t)

abbrev Rest (c : Dev nD) (t : Fin (cfgM m).N) : sProp 𝕄 :=
  iprop((∃ r, prngReg c r) ∗ (dats m 0 c).owesAt () t.castSucc)

/-- A run from held buffers to held buffers is a run of the point. -/
theorem run_point {P Q : sProp 𝕄} (c : Dev nD) (t : Fin (cfgM m).N)
    (h : P ⊢ wp frame (wpE (defs₀ (F := F)) Variants.none (c : Thread nD τ) none) Set.univ (bodyAt m t) (fun _ => Q))
    (hP : bodyPre m c t ⊢ iprop(P ∗ Rest m c t)) (hQ : iprop(Q ∗ Rest m c t) ⊢ bodyPost m c t) :
    bodyPre m c t ⊢ wp frame (wpE (defs₀ (F := F)) Variants.none (c : Thread nD τ) none) Set.univ (bodyAt m t) (fun _ => bodyPost m c t) :=
  hP.trans ((sep_mono h .rfl).trans ((wp_frame_r _ _ _).trans (wp_mono _ _ _ fun _ => hQ)))

theorem pre_first (c : Dev nD) (t : Fin (cfgM m).N) (hz : t.val = 0) :
    bodyPre m c t ⊢ iprop(∃ d9 d10 d11 x10, ∃ x14 x16, Held c tbM (ms0 m t) (ms1 m t) (ms2 m t) (ms3 m t) (ms4 m t) (ms5 m t) (ms6 m t) (ms7 m t) (ms8 m t) (ms9 m t) (ms10 m t) (ms11 m t) sc0 sc1 sc2 fullShare.right (cuTab m) (iblk m c 0 t) (iblk m c 1 t) (iblk m c 2 t) (iblk m c 3 t) (iblk m c 4 t) (iblk m c 5 t) (iblk m c 6 t) (iblk m c 7 t) x10 ((dats m 0 c).before 9 t d9) ((dats m 0 c).before 10 t d10) ((dats m 0 c).before 11 t d11) x14 x16 ∗ Rest m c t) := by
  unfold bodyPre
  simp only [before_0, before_1, before_2, before_3, before_4, before_5, before_6, before_7]
  rw [show (dats m 0 c).Φ t.castSucc = Phi m c t.val from rfl, hz, show Phi m c 0 = iprop(Pipeline.ΦA spec0 c ∗ Pipeline.ΦT pre0 (tbl m) c) from rfl, PhiA_eq, PhiT_eq]
  iintro ⟨⟨⟨⟨⟨%x14, S0⟩, S1, ⟨%x16, S2⟩⟩, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iexists d9; iexists d10; iexists d11; iexists _; iexists x14; iexists x16
  unfold Held Rest
  isplitr [Hg Ho]
  · isplitl [HT]; · iexact HT
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S2]; · iexact S2
    iexact S1
  isplitl [Hg]; · iexact Hg
  iexact Ho

theorem pre_later (c : Dev nD) (t : Fin (cfgM m).N) (hz : t.val ≠ 0) :
    bodyPre m c t ⊢ iprop(∃ d9 d10 d11 x10, Held c tbM (ms0 m t) (ms1 m t) (ms2 m t) (ms3 m t) (ms4 m t) (ms5 m t) (ms6 m t) (ms7 m t) (ms8 m t) (ms9 m t) (ms10 m t) (ms11 m t) sc0 sc1 sc2 fullShare.right (cuTab m) (iblk m c 0 t) (iblk m c 1 t) (iblk m c 2 t) (iblk m c 3 t) (iblk m c 4 t) (iblk m c 5 t) (iblk m c 6 t) (iblk m c 7 t) x10 ((dats m 0 c).before 9 t d9) ((dats m 0 c).before 10 t d10) ((dats m 0 c).before 11 t d11) (wAt m c) (sAt m c t.val) ∗ Rest m c t) := by
  unfold bodyPre
  simp only [before_0, before_1, before_2, before_3, before_4, before_5, before_6, before_7]
  rw [show (dats m 0 c).Φ t.castSucc = Phi m c t.val from rfl, Phi_pos m c _ hz, PhiT_eq]
  iintro ⟨⟨⟨⟨S0, S1, S2⟩, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iexists d9; iexists d10; iexists d11; iexists _
  unfold Held Rest
  isplitr [Hg Ho]
  · isplitl [HT]; · iexact HT
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S2]; · iexact S2
    iexact S1
  isplitl [Hg]; · iexact Hg
  iexact Ho

theorem post_last (c : Dev nD) (t : Fin (cfgM m).N) (h5 : k0_cond5 (grid0.coords t) = 1#1) :
    iprop(Held c tbM (ms0 m t) (ms1 m t) (ms2 m t) (ms3 m t) (ms4 m t) (ms5 m t) (ms6 m t) (ms7 m t) (ms8 m t) (ms9 m t) (ms10 m t) (ms11 m t) sc0 sc1 sc2 fullShare.right (cuTab m) (iblk m c 0 t) (iblk m c 1 t) (iblk m c 2 t) (iblk m c 3 t) (iblk m c 4 t) (iblk m c 5 t) (iblk m c 6 t) (iblk m c 7 t) (zAt m c t) (mVal (cuTab m) (sAt m c 180)) (codesVal (cuTab m) (sAt m c 180)) (scaleVal (cuTab m) (sAt m c 180)) (wAt m c) (sAt m c (t.val + 1)) ∗ Rest m c t) ⊢ bodyPost m c t := by
  unfold bodyPost
  rw [show (dats m 0 c).owesAt () t.succ = (dats m 0 c).owesAt () t.castSucc from rfl,
    leaves_live m 8 t (idle_8 m t), after_0, after_1, after_2, after_3, after_4, after_5, after_6, after_7, after_8]
  rw [show (dats m 0 c).Φ t.succ = Phi m c (t.val + 1) from rfl, Phi_pos m c _ (Nat.succ_ne_zero _), PhiT_eq]
  rw [leaves_live m 9 t (live_9 m t h5), leaves_live m 10 t (live_10 m t h5), leaves_live m 11 t (live_11 m t h5), after_9, after_10, after_11]
  unfold Held Rest
  iintro ⟨⟨HT, H0, H1, H2, H3, H4, H5, H6, H7, H8, H9, H10, H11, S0, S2, S1⟩, Hg, Ho⟩
  isplitl [HT Hg S0 S1 S2]
  · isplitr [HT]
    · isplitr [Hg]
      · isplitl [S0]; · iexact S0
        isplitl [S1]; · iexact S1
        iexact S2
      iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem post_notlast (c : Dev nD) (t : Fin (cfgM m).N) (h5 : ¬ k0_cond5 (grid0.coords t) = 1#1) (d9 d10 d11) :
    iprop(Held c tbM (ms0 m t) (ms1 m t) (ms2 m t) (ms3 m t) (ms4 m t) (ms5 m t) (ms6 m t) (ms7 m t) (ms8 m t) (ms9 m t) (ms10 m t) (ms11 m t) sc0 sc1 sc2 fullShare.right (cuTab m) (iblk m c 0 t) (iblk m c 1 t) (iblk m c 2 t) (iblk m c 3 t) (iblk m c 4 t) (iblk m c 5 t) (iblk m c 6 t) (iblk m c 7 t) (zAt m c t) ((dats m 0 c).before 9 t d9) ((dats m 0 c).before 10 t d10) ((dats m 0 c).before 11 t d11) (wAt m c) (sAt m c (t.val + 1)) ∗ Rest m c t) ⊢ bodyPost m c t := by
  unfold bodyPost
  rw [show (dats m 0 c).owesAt () t.succ = (dats m 0 c).owesAt () t.castSucc from rfl,
    leaves_live m 8 t (idle_8 m t), after_0, after_1, after_2, after_3, after_4, after_5, after_6, after_7, after_8]
  rw [show (dats m 0 c).Φ t.succ = Phi m c (t.val + 1) from rfl, Phi_pos m c _ (Nat.succ_ne_zero _), PhiT_eq]
  rw [Dat.leavesExact_idle _ 9 t (idle_9 m t h5) (noflush_9 m t h5), Dat.leavesExact_idle _ 10 t (idle_10 m t h5) (noflush_10 m t h5), Dat.leavesExact_idle _ 11 t (idle_11 m t h5) (noflush_11 m t h5)]
  unfold Held Rest
  iintro ⟨⟨HT, H0, H1, H2, H3, H4, H5, H6, H7, H8, H9, H10, H11, S0, S2, S1⟩, Hg, Ho⟩
  isplitl [HT Hg S0 S1 S2]
  · isplitr [HT]
    · isplitr [Hg]
      · isplitl [S0]; · iexact S0
        isplitl [S1]; · iexact S1
        iexact S2
      iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iexists _; iexact H11

theorem zAt_live (c : Dev nD) (t : Fin (cfgM m).N) (h : k0_cond3 (grid0.coords t) (cuAt (F := F) (cuTab m) 20) = 1#1) :
    zAt m c t = zLive (grid0.coords t) (cuTab m) (HB (iblk m c 1 t) (iblk m c 2 t)) (wAt m c) (iblk m c 3 t) (iblk m c 5 t) (iblk m c 6 t) (iblk m c 7 t) := if_pos h
theorem zAt_dead (c : Dev nD) (t : Fin (cfgM m).N) (h : ¬ k0_cond3 (grid0.coords t) (cuAt (F := F) (cuTab m) 20) = 1#1) :
    zAt m c t = Gen.k0_pay4 := if_neg h
theorem sAt_live (c : Dev nD) (t : Fin (cfgM m).N) (h : k0_cond3 (grid0.coords t) (cuAt (F := F) (cuTab m) 20) = 1#1) :
    sAt m c (t.val + 1) = sumNew (grid0.coords t) (rowWord (grid0.coords t)) (cuTab m) (zAt m c t) (sAt m c t.val) :=
  (sAt_succ m c t).trans (if_pos h)
theorem sAt_dead (c : Dev nD) (t : Fin (cfgM m).N) (h : ¬ k0_cond3 (grid0.coords t) (cuAt (F := F) (cuTab m) 20) = 1#1) :
    sAt m c (t.val + 1) = sAt m c t.val :=
  (sAt_succ m c t).trans (if_neg h)

theorem ex_elim {α : Type} {P : α → sProp 𝕄} {Q : sProp 𝕄} (h : ∀ a, P a ⊢ Q) : iprop(∃ a, P a) ⊢ Q := by
  iintro ⟨%a, HP⟩
  iapply (h a)
  iexact HP

theorem frame_wp {c : Dev nD} {t : Fin (cfgM m).N} {P Q : sProp 𝕄}
    (h : P ⊢ wp frame (wpE (defs₀ (F := F)) Variants.none (c : Thread nD τ) none) Set.univ (bodyAt m t) (fun _ => Q))
    (hQ : iprop(Q ∗ Rest m c t) ⊢ bodyPost m c t) :
    iprop(P ∗ Rest m c t) ⊢ wp frame (wpE (defs₀ (F := F)) Variants.none (c : Thread nD τ) none) Set.univ (bodyAt m t) (fun _ => bodyPost m c t) :=
  (sep_mono h .rfl).trans ((wp_frame_r _ _ _).trans (wp_mono _ _ _ fun _ => hQ))

set_option maxHeartbeats 8000000 in
/-- The body at any point. -/
theorem sound_body (c : Dev nD) (t : Fin (cfgM m).N) :
    bodyPre m c t ⊢ wp frame (wpE (defs₀ (F := F)) Variants.none (c : Thread nD τ) none) Set.univ (bodyAt m t) (fun _ => bodyPost m c t) := by
  have hN : t.val < 180 := lt_of_lt_of_eq t.isLt (show (cfgM m).N = 180 from Gen.N_0)
  by_cases hz : t.val = 0
  · have h1 := (cond1_iff t).2 hz
    have h5 : ¬ k0_cond5 (grid0.coords t) = 1#1 := fun h => by have := (cond5_iff t).1 h; omega
    refine (pre_first m c t hz).trans (ex_elim fun d9 => ex_elim fun d10 => ex_elim fun d11 => ex_elim fun x10 => ex_elim fun x14 => ex_elim fun x16 => ?_)
    by_cases hl : k0_cond3 (grid0.coords t) (cuAt (F := F) (cuTab m) 20) = 1#1
    · refine frame_wp m (body_F_live c _ _ _ _ _ _ _ _ _ _ _ _ _ _ _ _ _ _ _ _ _ _ _ _ _ _ _ _ _ _ _ _ _ _ _ _ _ _ _ _ _ _ _ _ _ _ _ _ _ h1 (fun h => (cond2_iff _ _).1 h hl) hl h5) ?_
      have e := sAt_live m c t hl
      rw [hz] at e
      have p := post_notlast m c t h5 d9 d10 d11
      rw [hz] at p
      rw [e, zAt_live m c t hl] at p
      exact p
    · refine frame_wp m (body_F_dead c _ _ _ _ _ _ _ _ _ _ _ _ _ _ _ _ _ _ _ _ _ _ _ _ _ _ _ _ _ _ _ _ _ _ _ _ _ _ _ _ _ _ _ _ _ _ _ _ _ h1 ((cond2_iff _ _).2 hl) hl h5) ?_
      have e := sAt_dead m c t hl
      rw [hz] at e
      have p := post_notlast m c t h5 d9 d10 d11
      rw [hz] at p
      rw [e, zAt_dead m c t hl] at p
      exact p
  · have h1 : ¬ k0_cond1 (grid0.coords t) = 1#1 := fun h => hz ((cond1_iff t).1 h)
    refine (pre_later m c t hz).trans (ex_elim fun d9 => ex_elim fun d10 => ex_elim fun d11 => ex_elim fun x10 => ?_)
    by_cases h5 : k0_cond5 (grid0.coords t) = 1#1
    · have h179 := (cond5_iff t).1 h5
      by_cases hl : k0_cond3 (grid0.coords t) (cuAt (F := F) (cuTab m) 20) = 1#1
      · refine frame_wp m (body_L_live c _ _ _ _ _ _ _ _ _ _ _ _ _ _ _ _ _ _ _ _ _ _ _ _ _ _ _ _ _ _ _ _ _ _ _ _ _ _ _ _ _ _ _ _ _ _ _ _ _ h1 (fun h => (cond2_iff _ _).1 h hl) hl h5) ?_
        have e := sAt_live m c t hl
        have e9 : sAt m c 180 = sAt m c (t.val + 1) := by rw [h179]
        have p := post_last m c t h5
        rw [e9] at p
        rw [e, zAt_live m c t hl] at p
        exact p
      · refine frame_wp m (body_L_dead c _ _ _ _ _ _ _ _ _ _ _ _ _ _ _ _ _ _ _ _ _ _ _ _ _ _ _ _ _ _ _ _ _ _ _ _ _ _ _ _ _ _ _ _ _ _ _ _ _ h1 ((cond2_iff _ _).2 hl) hl h5) ?_
        have e := sAt_dead m c t hl
        have e9 : sAt m c 180 = sAt m c (t.val + 1) := by rw [h179]
        have p := post_last m c t h5
        rw [e9] at p
        rw [e, zAt_dead m c t hl] at p
        exact p
    · by_cases hl : k0_cond3 (grid0.coords t) (cuAt (F := F) (cuTab m) 20) = 1#1
      · refine frame_wp m (body_M_live c _ _ _ _ _ _ _ _ _ _ _ _ _ _ _ _ _ _ _ _ _ _ _ _ _ _ _ _ _ _ _ _ _ _ _ _ _ _ _ _ _ _ _ _ _ _ _ _ _ h1 (fun h => (cond2_iff _ _).1 h hl) hl h5) ?_
        have e := sAt_live m c t hl
        have p := post_notlast m c t h5 d9 d10 d11
        rw [e, zAt_live m c t hl] at p
        exact p
      · refine frame_wp m (body_M_dead c _ _ _ _ _ _ _ _ _ _ _ _ _ _ _ _ _ _ _ _ _ _ _ _ _ _ _ _ _ _ _ _ _ _ _ _ _ _ _ _ _ _ _ _ _ _ _ _ _ h1 ((cond2_iff _ _).2 hl) hl h5) ?_
        have e := sAt_dead m c t hl
        have p := post_notlast m c t h5 d9 d10 d11
        rw [e, zAt_dead m c t hl] at p
        exact p

end Cert.Proof.KernelIdeal
end
end
-- ==== Proof.KernI.Frame.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.KernI.Run
public import Idealize.ShloMosaic.Adequacy
public import Idealize.ShloMosaic.Init
public import Idealize.ShloMosaic.Lib.WritesUnit
public import Idealize.ShloMosaic.Lib.VecWindow
public import Idealize.ShloMosaic.Lib.Pointwise

@[expose] public section

set_option maxRecDepth 16384
set_option maxHeartbeats 4000000

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Pipeline (Dat Cfg Window BodyObligation)

local notation "𝕄" => MT nD τ sig Unit (Elt F) ℕ (UR sig nD τ) ℕ

variable (m : (ℓ : Loc nD τ sig) → Buf (Elt F) ℓ) (ρ : Dev nD → PrngReg)

theorem body_obligation (c : Dev nD) : BodyObligation (dats (F := F) m 0 c) (defs₀ (F := F)) Variants.none () Set.univ := fun t => by
  rw [Gen.bigSep_W0, Gen.bigSep_W0, defs₀_row m]
  exact triple_restated (sound_body m c t) rfl .rfl fun _ => .rfl

theorem hin (c : Dev nD) : iprop(Pipeline.ΦA spec0 c ∗ Pipeline.ΦT pre0 (tbl m) c) ⊢ (dats m 0 c).Φ 0 := .rfl

theorem hout (c : Dev nD) : (dats m 0 c).Φ (Fin.last (cfgM m).N) ⊢ Pipeline.ΦA spec0 c := by
  rw [show (dats m 0 c).Φ (Fin.last (cfgM m).N) = Phi m c (cfgM m).N from rfl, Phi_pos m c _ (by rw [show (cfgM m).N = 180 from Gen.N_0]; decide), PhiA_eq]
  iintro ⟨⟨⟨S0, S1, S2⟩, Hg⟩, -⟩
  isplitr [Hg]
  · isplitl [S0]; · iexists _; iexact S0
    isplitl [S1]; · iexact S1
    iexists _; iexact S2
  iexact Hg

/-! ## The run and the frame -/

set_option backward.isDefEq.respectTransparency.types false in
set_option maxHeartbeats 800000 in
/-- The run: every array at what the pipeline leaves in it, every counter at zero. -/
theorem run_main : θ_run defs (onTc (τ := τ) (main (F := F))) (s₀ m ρ)
    (fun r => Pipeline.FramePost (Pipeline.pin pcfgs fun _ => adm m) (dats m) 0 (V m) r ∧ r.2.sem = fun _ => 0) :=
  Pipeline.θ_run_frameP_track (Q' := _) pcfgs (fun _ => adm m) (dats m) (0 : Fin 1) Gen.launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m) (hin := hin m) (hout := hout m)
    (hQ' := fun _ h => h)

/-- What the run leaves in the nine argument arrays: nothing changes. -/
theorem unchanged (r) (h : Pipeline.FramePost (Pipeline.pin pcfgs fun _ => adm m) (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8) :=
  ⟨((h c).1 3).trans (((dats m 0 c).arrAt_in 3 rfl _).trans ((A_eq m c 3).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 4).trans (((dats m 0 c).arrAt_in 4 rfl _).trans ((A_eq m c 4).trans (V_main_arg3 m c))),
    ((h c).1 0).trans (((dats m 0 c).arrAt_in 0 rfl _).trans ((A_eq m c 0).trans (V_main_arg4 m c))),
    ((h c).2 main_arg5 (by decide : main_arg5 ∈ Pipeline.restRefs sig spec0)).trans (V_main_arg5 m c),
    ((h c).2 main_arg6 (by decide : main_arg6 ∈ Pipeline.restRefs sig spec0)).trans (V_main_arg6 m c),
    ((h c).2 main_arg7 (by decide : main_arg7 ∈ Pipeline.restRefs sig spec0)).trans (V_main_arg7 m c),
    ((h c).2 main_arg8 (by decide : main_arg8 ∈ Pipeline.restRefs sig spec0)).trans (V_main_arg8 m c)⟩

/-- The kernel's frame: it runs, its nine arguments end unchanged, every counter ends at zero. -/
theorem frame : θ_run defs (onTc (τ := τ) (main (F := F))) (s₀ m ρ)
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => unchanged m r h.1 c, h.2⟩) (run_main m ρ)

end Cert.Proof.KernelIdeal
end
end
-- ==== Proof.Val.Spec.lean ====
module

public import Idealize.ShloMosaic.PureOps.Ideal
public import Idealize.ShloMosaic.Lib.Pointwise

@[expose] public section

noncomputable section

namespace Cert.Proof.Spec

open Idealize.ShloMosaic

/-! ## The two programs' common mathematics, over the extended reals -/

/-- The width of a row, 1536, as the programs write it. -/
def width : EReal := Ideal.ofBits FTy.f32 1153433600#32
/-- The number added to a row's variance. -/
def eps : EReal := Ideal.ofBits FTy.f32 925353388#32

/-- The residual row: the input row, the product with the weights, the bias. -/
def pre (a : Fin 8960 → EReal) (w : Fin 8960 → Fin 1536 → EReal) (x b : Fin 1536 → EReal) (j : Fin 1536) : EReal :=
  x j + ∑ n, a n * w n j + b j

/-- A row less its mean. -/
def cen (p : Fin 1536 → EReal) (j : Fin 1536) : EReal := p j - Ideal.div (∑ k, p k) width

/-- The variance of a row, with the small number added. -/
def var (p : Fin 1536 → EReal) : EReal := Ideal.div (∑ k, cen p k * cen p k) width + eps

/-- The normalised row. -/
def zn (p g be : Fin 1536 → EReal) (j : Fin 1536) : EReal := cen p j * Ideal.rsqrt (var p) * g j + be j

/-- The eight arrays of numbers and the prefix sums of the lengths. -/
structure Args where
  x : Fin 23040 → Fin 1536 → EReal
  h : Fin 23040 → Fin 8960 → EReal
  hs : Fin 23040 → Fin 70 → EReal
  w : Fin 8960 → Fin 1536 → EReal
  ws : Fin 70 → Fin 12 → EReal
  b : Fin 1536 → EReal
  g : Fin 1536 → EReal
  be : Fin 1536 → EReal
  cu : Fin 21 → BitVec 32

/-- The dequantised activations and weights. -/
def hq (A : Args) (r : Fin 23040) (n : Fin 8960) : EReal := A.h r n * A.hs r ⟨n.val / 128, by omega⟩
def wq (A : Args) (n : Fin 8960) (j : Fin 1536) : EReal := A.w n j * A.ws ⟨n.val / 128, by omega⟩ ⟨j.val / 128, by omega⟩

/-- The row after the projection, the normalised row, and the row with the padding zeroed. -/
def row (A : Args) (r : Fin 23040) : Fin 1536 → EReal := pre (hq A r) (wq A) (A.x r) A.b
def zm (A : Args) (r : Fin 23040) (j : Fin 1536) : EReal :=
  if (r.val : ℤ) < (A.cu 20).toInt then zn (row A r) A.g A.be j else 0

/-- Row `r` lies in sequence `s`. -/
def inSeq (A : Args) (s : Fin 20) (r : ℕ) : Prop := (A.cu s.castSucc).toInt ≤ r ∧ (r : ℤ) < (A.cu s.succ).toInt

instance (A : Args) (s : Fin 20) (r : ℕ) : Decidable (inSeq A s r) := by unfold inSeq; infer_instance

/-- The sum of a sequence's rows. -/
def seg (A : Args) (s : Fin 20) (j : Fin 1536) : EReal := ∑ r : Fin 23040, if inSeq A s r.val then zm A r j else 0

/-- The length of a sequence, one for an empty one. -/
def len (A : Args) (s : Fin 20) : EReal := (((IntOp.subi (A.cu s.succ) (A.cu s.castSucc)).toInt : ℝ) : EReal)
def len1 (A : Args) (s : Fin 20) : EReal := if len A s = 0 then 1 else len A s

/-- The mean of a sequence's rows. -/
def mean (A : Args) (s : Fin 20) (j : Fin 1536) : EReal := Ideal.div (seg A s j) (len1 A s)

end Cert.Proof.Spec

end
-- ==== Proof.Val.KPure.lean ====
module

public import proofs.«01_k».proof.Proof.KernI.Vals
public import proofs.«01_k».proof.Proof.Val.Spec
public import Idealize.ShloMosaic.PureOps.Ideal
public import Idealize.ShloMosaic.Lib.Pointwise

@[expose] public section

set_option maxRecDepth 16384
set_option maxHeartbeats 4000000

noncomputable section

namespace Cert.Proof.KernelIdeal

open Cert.KernelIdeal
open Idealize.ShloMosaic Idealize.ShloMosaic.TcCoe Idealize.ShloMosaic.Tactic

theorem pre_at (hb : S128x8960.Idx → Elt Ideal .bf16) (wb : S8960x1536.Idx → Elt Ideal .bf16)
    (x5 : S128x1536.Idx → Elt Ideal .bf16) (x7 : S1x1536.Idx → Elt Ideal .f32) (r : Fin 128) (j : Fin 1536) :
    Gen.k0_pay107 (F := Ideal) hb wb x5 x7 (ix2 r j) = Spec.cen (Spec.pre (fun n => hb (ix2 r n)) (fun n j => wb (ix2 n j)) (fun j => x5 (ix2 r j)) (fun j => x7 (ix2 0 j))) j := by
  unfold Gen.k0_pay107
  pointwise
  rfl
theorem var_at (hb : S128x8960.Idx → Elt Ideal .bf16) (wb : S8960x1536.Idx → Elt Ideal .bf16)
    (x5 : S128x1536.Idx → Elt Ideal .bf16) (x7 : S1x1536.Idx → Elt Ideal .f32) (r : Fin 128) :
    Gen.k0_pay108 (F := Ideal) hb wb x5 x7 (ix2 r 0) = Spec.var (Spec.pre (fun n => hb (ix2 r n)) (fun n j => wb (ix2 n j)) (fun j => x5 (ix2 r j)) (fun j => x7 (ix2 0 j))) := by
  unfold Gen.k0_pay108
  pointwise
  simp only [pre_at]
  rfl
theorem zLive_at (i : grid0.Coords) (x1 : S21.Idx → Elt Ideal .i32) (hb : S128x8960.Idx → Elt Ideal .bf16) (wb : S8960x1536.Idx → Elt Ideal .bf16)
    (x5 : S128x1536.Idx → Elt Ideal .bf16) (x7 x8 x9 : S1x1536.Idx → Elt Ideal .f32) (r : Fin 128) (j : Fin 1536) :
    zLive (F := Ideal) i x1 hb wb x5 x7 x8 x9 (ix2 r j)
      = Scalar.select (IntOp.cmpi CmpIPredicate.slt (IntOp.addi (Scalar.muli (BitVec.ofNat 32 (i 0).val) 128#32) (BitVec.ofNat 32 r.val)) (x1 (ix1 20)))
        (Spec.zn (Spec.pre (fun n => hb (ix2 r n)) (fun n j => wb (ix2 n j)) (fun j => x5 (ix2 r j)) (fun j => x7 (ix2 0 j))) (fun j => x8 (ix2 0 j)) (fun j => x9 (ix2 0 j)) j) 0 := by
  unfold zLive Gen.k0_pay6 Gen.k0_pay5
  pointwise
  rw [pre_at, var_at]
  rfl
theorem row_at (i : grid0.Coords) (lo hi : Elt Ideal .i32) (z : FVec Ideal S128x1536 .f32) (s : Vec Ideal S1x1536 .f32) (j : Fin 1536) :
    Gen.k0_pay7 (F := Ideal) i lo hi z s (ix2 0 j) = s (ix2 0 j) + ∑ r : Fin 128,
      Scalar.select (IntOp.andi (IntOp.cmpi CmpIPredicate.sge (IntOp.addi (Scalar.muli (BitVec.ofNat 32 (i 0).val) 128#32) (BitVec.ofNat 32 r.val)) lo)
            (IntOp.cmpi CmpIPredicate.slt (IntOp.addi (Scalar.muli (BitVec.ofNat 32 (i 0).val) 128#32) (BitVec.ofNat 32 r.val)) hi)) (z (ix2 r j)) 0 := by
  unfold Gen.k0_pay7 Gen.k0_pay5
  pointwise
theorem HB_at (x3 : S128x8960.Idx → Elt Ideal .fp8e4m3) (x4 : S128x70.Idx → Elt Ideal .f32) (r : Fin 128) (n : Fin 8960) :
    HB (F := Ideal) x3 x4 (ix2 r n) = (x3 (ix2 r n) * x4 (ix2 r ⟨n.val / 128, by omega⟩) : EReal) := by
  unfold HB wbElt
  rfl
theorem WB_at (x2 : S70x12.Idx → Elt Ideal .f32) (x6 : S8960x1536.Idx → Elt Ideal .fp8e4m3) (n : Fin 8960) (j : Fin 1536) :
    WB (F := Ideal) x2 x6 (ix2 n j) = (x6 (ix2 n j) * x2 (ix2 ⟨n.val / 128, by omega⟩ ⟨j.val / 128, by omega⟩) : EReal) := by
  unfold WB wbElt
  rfl
theorem pay4_at (y : S128x1536.Idx) : Gen.k0_pay4 (F := Ideal) y = 0 := by
  unfold Gen.k0_pay4
  pointwise
theorem pay1_at (y : S20x1536.Idx) : Gen.k0_pay1 (F := Ideal) y = 0 := by
  unfold Gen.k0_pay1
  pointwise

/-- The lengths, chosen by the row's number. -/
def chain (f : Fin 20 → EReal) (k : Fin 20) : EReal := (Scalar.select (IntOp.cmpi CmpIPredicate.eq (BitVec.ofNat 32 k.val) 19#32) (f 19) (Scalar.select (IntOp.cmpi CmpIPredicate.eq (BitVec.ofNat 32 k.val) 18#32) (f 18) (Scalar.select (IntOp.cmpi CmpIPredicate.eq (BitVec.ofNat 32 k.val) 17#32) (f 17) (Scalar.select (IntOp.cmpi CmpIPredicate.eq (BitVec.ofNat 32 k.val) 16#32) (f 16) (Scalar.select (IntOp.cmpi CmpIPredicate.eq (BitVec.ofNat 32 k.val) 15#32) (f 15) (Scalar.select (IntOp.cmpi CmpIPredicate.eq (BitVec.ofNat 32 k.val) 14#32) (f 14) (Scalar.select (IntOp.cmpi CmpIPredicate.eq (BitVec.ofNat 32 k.val) 13#32) (f 13) (Scalar.select (IntOp.cmpi CmpIPredicate.eq (BitVec.ofNat 32 k.val) 12#32) (f 12) (Scalar.select (IntOp.cmpi CmpIPredicate.eq (BitVec.ofNat 32 k.val) 11#32) (f 11) (Scalar.select (IntOp.cmpi CmpIPredicate.eq (BitVec.ofNat 32 k.val) 10#32) (f 10) (Scalar.select (IntOp.cmpi CmpIPredicate.eq (BitVec.ofNat 32 k.val) 9#32) (f 9) (Scalar.select (IntOp.cmpi CmpIPredicate.eq (BitVec.ofNat 32 k.val) 8#32) (f 8) (Scalar.select (IntOp.cmpi CmpIPredicate.eq (BitVec.ofNat 32 k.val) 7#32) (f 7) (Scalar.select (IntOp.cmpi CmpIPredicate.eq (BitVec.ofNat 32 k.val) 6#32) (f 6) (Scalar.select (IntOp.cmpi CmpIPredicate.eq (BitVec.ofNat 32 k.val) 5#32) (f 5) (Scalar.select (IntOp.cmpi CmpIPredicate.eq (BitVec.ofNat 32 k.val) 4#32) (f 4) (Scalar.select (IntOp.cmpi CmpIPredicate.eq (BitVec.ofNat 32 k.val) 3#32) (f 3) (Scalar.select (IntOp.cmpi CmpIPredicate.eq (BitVec.ofNat 32 k.val) 2#32) (f 2) (Scalar.select (IntOp.cmpi CmpIPredicate.eq (BitVec.ofNat 32 k.val) 1#32) (f 1) (Scalar.select (IntOp.cmpi CmpIPredicate.eq (BitVec.ofNat 32 k.val) 0#32) (f 0) 1))))))))))))))))))))
theorem chain_at (f : Fin 20 → EReal) (k : Fin 20) : chain f k = f k := by
  fin_cases k <;> rfl
theorem mVal_at (x1 : S21.Idx → Elt Ideal .i32) (s : S20x1536.Idx → Elt Ideal .f32) (k : Fin 20) (j : Fin 1536) :
    mVal (F := Ideal) x1 s (ix2 k j) = Ideal.div (s (ix2 k j))
      (if chain (fun k => (((IntOp.subi (x1 (ix1 k.succ)) (x1 (ix1 k.castSucc))).toInt : ℝ) : EReal)) k = 0 then 1
        else chain (fun k => (((IntOp.subi (x1 (ix1 k.succ)) (x1 (ix1 k.castSucc))).toInt : ℝ) : EReal)) k) := by
  unfold mVal Gen.k0_pay113 lens3 Gen.k0_pay112 lens2 Gen.k0_pay110 lens1 Gen.k0_pay109 Gen.k0_pay111 iotaW
  pointwise
  rfl
end Cert.Proof.KernelIdeal
end
end
-- ==== Proof.Val.KBlk.lean ====
module

public import proofs.«01_k».proof.Proof.Val.KPure
public import proofs.«01_k».proof.Proof.KernI.Frame
public import proofs.«01_k».proof.Proof.Val.Spec
public import Idealize.ShloMosaic.PureOps.Ideal
public import Idealize.ShloMosaic.Lib.Pointwise

@[expose] public section

set_option maxRecDepth 16384
set_option maxHeartbeats 4000000

noncomputable section

namespace Cert.Proof.KernelIdeal

open Cert.KernelIdeal
open Idealize.ShloMosaic Idealize.ShloMosaic.TcCoe Idealize.ShloMosaic.Tactic

open Idealize.ShloMosaic.Pipeline (Dat Cfg Window)

/-! ## The words of a tile -/

theorem coord0 : ∀ t : Fin grid0.N, ((grid0.coords t) 0).val = t.val := by decide +kernel

theorem isInt_toInt {x : BitVec 32} {e : ℤ} (h : Affine.IsInt x e) : x.toInt = e := by
  unfold Affine.IsInt at h; exact h
theorem toInt_isInt {x : BitVec 32} {e : ℤ} (h : x.toInt = e) : Affine.IsInt x e := by
  unfold Affine.IsInt; exact h

theorem rowWord_int (i : grid0.Coords) : (rowWord i).toInt = 128 * ((i 0).val : ℤ) := by
  have hi : (i 0).val < 180 := (i 0).isLt
  refine isInt_toInt (Affine.muli (Affine.ofNat (e := ((i 0).val : ℤ)) _ ⟨rfl, by omega⟩) (Affine.ofNat (e := 128) 128 ⟨rfl, by omega⟩) ⟨by omega, by omega, by omega⟩)

theorem row_int (i : grid0.Coords) (r : Fin 128) :
    (IntOp.addi (Scalar.muli (BitVec.ofNat 32 (i 0).val) 128#32) (BitVec.ofNat 32 r.val)).toInt = 128 * ((i 0).val : ℤ) + r.val := by
  have hi : (i 0).val < 180 := (i 0).isLt
  refine isInt_toInt (Affine.addi (toInt_isInt (rowWord_int i)) (Affine.ofNat (e := (r.val : ℤ)) _ ⟨rfl, by omega⟩) ⟨by omega, by omega, by omega⟩)

theorem cond3_iff (i : grid0.Coords) (x : BitVec 32) : k0_cond3 i x = 1#1 ↔ 128 * ((i 0).val : ℤ) < x.toInt := by
  rw [← rowWord_int i]
  show Scalar.cmpi .ne (Scalar.extui (Scalar.cmpi .slt (rowWord i) x)) 0#32 = 1#1 ↔ _
  rw [ne_extui]
  exact IntOp.cmpi_slt

theorem slt_iff (x y : BitVec 32) : IntOp.cmpi CmpIPredicate.slt x y = 1#1 ↔ x.toInt < y.toInt := IntOp.cmpi_slt

theorem map_word (n : ℕ) (hn : n < 180) (x : BitVec 32) (h1 : 128 * (n : ℤ) < x.toInt) (h2 : x.toInt ≤ 2147483520) (p : BitVec 1)
    (hp : ¬ p = 1#1) :
    (Scalar.minsi (BitVec.ofNat 32 n) (Scalar.maxsi (Scalar.subi (Scalar.select p
      (Scalar.subi (Scalar.divsi (Scalar.subi (Scalar.addi x 128#32) 1#32) 128#32) 1#32)
      (Scalar.divsi (Scalar.subi (Scalar.addi x 128#32) 1#32) 128#32)) 1#32) 0#32)).toNat = n := by
  have c128 : Affine.IsInt 128#32 128 := Affine.ofNat 128 ⟨rfl, by omega⟩
  have c1 : Affine.IsInt 1#32 1 := Affine.ofNat 1 ⟨rfl, by omega⟩
  have c0 : Affine.IsInt 0#32 0 := Affine.ofNat 0 ⟨rfl, by omega⟩
  have cn : Affine.IsInt (BitVec.ofNat 32 n) (n : ℤ) := Affine.ofNat n ⟨rfl, by omega⟩
  have e127 : Scalar.subi (Scalar.addi x 128#32) 1#32 = Scalar.addi x 127#32 := by
    show x + 128#32 - 1#32 = x + 127#32
    bv_omega
  rw [e127]
  have h127 : Affine.IsInt (Scalar.addi x 127#32) (x.toInt + 127) :=
    Affine.addi (toInt_isInt rfl) (Affine.ofNat (e := 127) 127 ⟨rfl, by omega⟩) ⟨rfl, by omega, by omega⟩
  have hd : Affine.IsInt (Scalar.divsi (Scalar.addi x 127#32) 128#32) ((x.toInt + 127) / 128) := Affine.divsi h127 c128 ⟨rfl, by omega, by omega⟩
  have hd1 := Affine.subi (e := (x.toInt + 127) / 128 - 1) hd c1 ⟨rfl, by omega, by omega⟩
  have hs := Affine.select_fails (e := (x.toInt + 127) / 128) hp hd1 hd rfl
  have hs1 := Affine.subi (e := (x.toInt + 127) / 128 - 1) hs c1 ⟨rfl, by omega, by omega⟩
  have hm := Affine.maxsi (e := (x.toInt + 127) / 128 - 1) hs1 c0 (by omega)
  have hr := isInt_toInt (Affine.minsi (e := (n : ℤ)) cn hm (by omega))
  have hc := BitVec.toInt_eq_toNat_cond (Scalar.minsi (BitVec.ofNat 32 n) (Scalar.maxsi (Scalar.subi (Scalar.select p
      (Scalar.subi (Scalar.divsi (Scalar.addi x 127#32) 128#32) 1#32)
      (Scalar.divsi (Scalar.addi x 127#32) 128#32)) 1#32) 0#32))
  rw [hr] at hc
  have hl := BitVec.isLt (Scalar.minsi (BitVec.ofNat 32 n) (Scalar.maxsi (Scalar.subi (Scalar.select p
      (Scalar.subi (Scalar.divsi (Scalar.addi x 127#32) 128#32) 1#32)
      (Scalar.divsi (Scalar.addi x 127#32) 128#32)) 1#32) 0#32))
  split at hc <;> omega

/-- The quotient is rounded down already when the dividend is positive. -/
theorem no_fix (y q : BitVec 32) (hy : 0 < y.toInt) :
    ¬ Scalar.andi (Scalar.cmpi .ne (Scalar.subi (Scalar.extui (Scalar.cmpi .sgt y 0#32) : BitVec 32) (Scalar.extui (Scalar.cmpi .slt y 0#32)))
      (Scalar.subi (Scalar.extui (Scalar.cmpi .sgt 128#32 0#32) : BitVec 32) (Scalar.extui (Scalar.cmpi .slt 128#32 0#32)))) (Scalar.cmpi .ne q 0#32) = 1#1 := by
  have z0 : (0#32).toInt = 0 := by decide
  have e1 : Scalar.cmpi .sgt y 0#32 = 1#1 := IntOp.cmpi_sgt.mpr (by rw [z0]; exact hy)
  have e2 : Scalar.cmpi .slt y 0#32 = 0#1 := by
    have := (not_congr (IntOp.cmpi_slt (x := y) (y := 0#32))).mpr (by rw [z0]; omega)
    revert this
    show ¬ Scalar.cmpi .slt y 0#32 = 1#1 → _
    generalize Scalar.cmpi .slt y 0#32 = w
    revert w; decide
  rw [e1, e2]
  intro h
  exact absurd (IntOp.andi_eq_one.mp h).1 (by decide)

theorem map_pos (n : ℕ) (hn : n < 180) (x : BitVec 32) (h1 : 128 * (n : ℤ) < x.toInt) (h2 : x.toInt ≤ 2147483520) :
    (Scalar.minsi (BitVec.ofNat 32 n) (Scalar.maxsi (Scalar.subi (Scalar.select
      (Scalar.andi (Scalar.cmpi .ne (Scalar.subi (Scalar.extui (Scalar.cmpi .sgt (Scalar.subi (Scalar.addi x 128#32) 1#32) 0#32) : BitVec 32)
        (Scalar.extui (Scalar.cmpi .slt (Scalar.subi (Scalar.addi x 128#32) 1#32) 0#32)))
        (Scalar.subi (Scalar.extui (Scalar.cmpi .sgt 128#32 0#32) : BitVec 32) (Scalar.extui (Scalar.cmpi .slt 128#32 0#32))))
        (Scalar.cmpi .ne (Scalar.remsi (Scalar.subi (Scalar.addi x 128#32) 1#32) 128#32) 0#32))
      (Scalar.subi (Scalar.divsi (Scalar.subi (Scalar.addi x 128#32) 1#32) 128#32) 1#32)
      (Scalar.divsi (Scalar.subi (Scalar.addi x 128#32) 1#32) 128#32)) 1#32) 0#32)).toNat = n := by
  refine map_word n hn x h1 h2 _ (no_fix (Scalar.subi (Scalar.addi x 128#32) 1#32) (Scalar.remsi (Scalar.subi (Scalar.addi x 128#32) 1#32) 128#32) ?_)
  have e127 : Scalar.subi (Scalar.addi x 128#32) 1#32 = Scalar.addi x 127#32 := by
    show x + 128#32 - 1#32 = x + 127#32
    bv_omega
  rw [e127]
  have := isInt_toInt (Affine.addi (e := x.toInt + 127) (toInt_isInt (x := x) rfl) (Affine.ofNat (e := 127) 127 ⟨rfl, by omega⟩) ⟨rfl, by omega, by omega⟩)
  omega

section
variable {F : FTy → Type} [FloatOps F] (pf : pre0.Contents (Elt F)) (i : grid0.Coords)

theorem pf_at : pf.at 0 (Rect.unit (s := S21) ![20] S1.size Gen.inb_S21_S1_20) Gen.numel1_S1 = cuAt (F := F) (pf 0) 20 :=
  cu_word (F := F) (pf 0) ![20] _ _ 20 (by omega) rfl

variable (h1 : 128 * ((i 0).val : ℤ) < BitVec.toInt (cuAt (F := F) (pf 0) 20)) (h2 : BitVec.toInt (cuAt (F := F) (pf 0) 20) ≤ 2147483520)
include h1 h2

theorem tmap1 : cc0_transform_1 Gen.inb_S21_S1_20 Gen.numel1_S1 pf i = ![(i 0).val, 0] :=
  congrArg (fun n : ℕ => (![n, 0] : Fin 2 → ℕ)) (map_pos (i 0).val (i 0).isLt
    (pf.at 0 (Rect.unit (s := S21) ![20] S1.size Gen.inb_S21_S1_20) Gen.numel1_S1)
    (lt_of_lt_of_eq h1 (congrArg BitVec.toInt (pf_at pf).symm)) (le_of_eq_of_le (congrArg BitVec.toInt (pf_at pf)) h2))
theorem tmap2 : cc0_transform_2 Gen.inb_S21_S1_20 Gen.numel1_S1 pf i = ![(i 0).val, 0] := tmap1 pf i h1 h2
theorem tmap3 : cc0_transform_3 Gen.inb_S21_S1_20 Gen.numel1_S1 pf i = ![(i 0).val, 0] := tmap1 pf i h1 h2
end

/-! ## The windows' blocks -/

variable (m : (ℓ : Loc nD τ sig) → Buf (Elt Ideal) ℓ)

/-- The arrays, read off the arguments. -/
def argsOf (c : Dev nD) : Spec.Args where
  x r j := m ((c : Thread nD τ).loc main_arg0) (ix2 r j)
  h r n := m ((c : Thread nD τ).loc main_arg1) (ix2 r n)
  hs r k := m ((c : Thread nD τ).loc main_arg2) (ix2 r k)
  w n j := m ((c : Thread nD τ).loc main_arg3) (ix2 n j)
  ws k l := m ((c : Thread nD τ).loc main_arg4) (ix2 k l)
  b j := m ((c : Thread nD τ).loc main_arg5) (ix1 j)
  g j := m ((c : Thread nD τ).loc main_arg6) (ix1 j)
  be j := m ((c : Thread nD τ).loc main_arg7) (ix1 j)
  cu k := m ((c : Thread nD τ).loc main_arg8) (ix1 k)

theorem cu_arg (c : Dev nD) (k : Fin 21) : cuTab m (ix1 k) = (argsOf m c).cu k := by
  have h := V_pre m c 0
  show tbl m 0 (ix1 k) = _
  rw [← h]
  exact congrFun (V_main_arg8 m c) (ix1 k)

theorem iblk_1 (c : Dev nD) (t : Fin (cfgM m).N) (ht : cc0_transform_1 Gen.inb_S21_S1_20 Gen.numel1_S1 (tbl m) (grid0.coords t) = ![t.val, 0])
    (r : Fin 128) (n : Fin 8960) (hr : 128 * t.val + r.val < 23040) :
    iblk m c 1 t (ix2 r n) = (argsOf m c).h ⟨128 * t.val + r.val, hr⟩ n := by
  show V m c main_arg1 ((((cfgM m).win 1).rect t).emb (ix2 r n)) = m ((c : Thread nD τ).loc main_arg1) (ix2 ⟨128 * t.val + r.val, hr⟩ n)
  rw [V_main_arg1]
  congr 1
  funext a
  apply Fin.ext
  refine (Window.rect_emb_val ((cfgM m).win 1) t (ix2 r n) a).trans ?_
  match a with
  | ⟨0, _⟩ =>
    show cc0_transform_1 Gen.inb_S21_S1_20 Gen.numel1_S1 (tbl m) (grid0.coords t) 0 * 128 + r.val = 128 * t.val + r.val
    rw [ht]; show t.val * 128 + r.val = _; omega
  | ⟨1, _⟩ =>
    show cc0_transform_1 Gen.inb_S21_S1_20 Gen.numel1_S1 (tbl m) (grid0.coords t) 1 * 8960 + n.val = n.val
    rw [ht]; show 0 * 8960 + n.val = _; omega
theorem iblk_2 (c : Dev nD) (t : Fin (cfgM m).N) (ht : cc0_transform_2 Gen.inb_S21_S1_20 Gen.numel1_S1 (tbl m) (grid0.coords t) = ![t.val, 0])
    (r : Fin 128) (n : Fin 70) (hr : 128 * t.val + r.val < 23040) :
    iblk m c 2 t (ix2 r n) = (argsOf m c).hs ⟨128 * t.val + r.val, hr⟩ n := by
  show V m c main_arg2 ((((cfgM m).win 2).rect t).emb (ix2 r n)) = m ((c : Thread nD τ).loc main_arg2) (ix2 ⟨128 * t.val + r.val, hr⟩ n)
  rw [V_main_arg2]
  congr 1
  funext a
  apply Fin.ext
  refine (Window.rect_emb_val ((cfgM m).win 2) t (ix2 r n) a).trans ?_
  match a with
  | ⟨0, _⟩ =>
    show cc0_transform_2 Gen.inb_S21_S1_20 Gen.numel1_S1 (tbl m) (grid0.coords t) 0 * 128 + r.val = 128 * t.val + r.val
    rw [ht]; show t.val * 128 + r.val = _; omega
  | ⟨1, _⟩ =>
    show cc0_transform_2 Gen.inb_S21_S1_20 Gen.numel1_S1 (tbl m) (grid0.coords t) 1 * 70 + n.val = n.val
    rw [ht]; show 0 * 70 + n.val = _; omega
theorem iblk_3 (c : Dev nD) (t : Fin (cfgM m).N) (ht : cc0_transform_3 Gen.inb_S21_S1_20 Gen.numel1_S1 (tbl m) (grid0.coords t) = ![t.val, 0])
    (r : Fin 128) (n : Fin 1536) (hr : 128 * t.val + r.val < 23040) :
    iblk m c 3 t (ix2 r n) = (argsOf m c).x ⟨128 * t.val + r.val, hr⟩ n := by
  show V m c main_arg0 ((((cfgM m).win 3).rect t).emb (ix2 r n)) = m ((c : Thread nD τ).loc main_arg0) (ix2 ⟨128 * t.val + r.val, hr⟩ n)
  rw [V_main_arg0]
  congr 1
  funext a
  apply Fin.ext
  refine (Window.rect_emb_val ((cfgM m).win 3) t (ix2 r n) a).trans ?_
  match a with
  | ⟨0, _⟩ =>
    show cc0_transform_3 Gen.inb_S21_S1_20 Gen.numel1_S1 (tbl m) (grid0.coords t) 0 * 128 + r.val = 128 * t.val + r.val
    rw [ht]; show t.val * 128 + r.val = _; omega
  | ⟨1, _⟩ =>
    show cc0_transform_3 Gen.inb_S21_S1_20 Gen.numel1_S1 (tbl m) (grid0.coords t) 1 * 1536 + n.val = n.val
    rw [ht]; show 0 * 1536 + n.val = _; omega
theorem iblk_0 (c : Dev nD) (t : Fin (cfgM m).N) (r : Fin 70) (n : Fin 12) :
    iblk m c 0 t (ix2 r n) = (argsOf m c).ws r n := by
  show V m c main_arg4 ((((cfgM m).win 0).rect t).emb (ix2 r n)) = m ((c : Thread nD τ).loc main_arg4) (ix2 r n)
  rw [V_main_arg4]
  congr 1
  funext a
  apply Fin.ext
  exact Window.rect_emb_val_of_index_zero ((cfgM m).win 0) t a (by fin_cases a <;> rfl) (ix2 r n)
theorem iblk_4 (c : Dev nD) (t : Fin (cfgM m).N) (r : Fin 8960) (n : Fin 1536) :
    iblk m c 4 t (ix2 r n) = (argsOf m c).w r n := by
  show V m c main_arg3 ((((cfgM m).win 4).rect t).emb (ix2 r n)) = m ((c : Thread nD τ).loc main_arg3) (ix2 r n)
  rw [V_main_arg3]
  congr 1
  funext a
  apply Fin.ext
  exact Window.rect_emb_val_of_index_zero ((cfgM m).win 4) t a (by fin_cases a <;> rfl) (ix2 r n)
theorem V_main_v0 (c : Dev nD) (j : Fin 1536) : V m c main_v0 (ix2 0 j) = (argsOf m c).b j := by
  have e : V m c main_v0 = shapeCast S1x1536 (m ((c : Thread nD τ).loc main_arg5)) Gen.shapeCasts_S1536_S1x1536 := by
    unfold V
    simp only [StableHlo.after_cons, StableHlo.after_nil, Gen.hostOps0]
    rfl
  rw [e]
  pointwise
  rfl
theorem iblk_5 (c : Dev nD) (t : Fin (cfgM m).N) (j : Fin 1536) :
    iblk m c 5 t (ix2 0 j) = (argsOf m c).b j := by
  rw [← V_main_v0]
  show V m c main_v0 ((((cfgM m).win 5).rect t).emb (ix2 0 j)) = V m c main_v0 (ix2 0 j)
  congr 1
  funext a
  apply Fin.ext
  exact Window.rect_emb_val_of_index_zero ((cfgM m).win 5) t a (by fin_cases a <;> rfl) (ix2 0 j)
theorem V_main_v1 (c : Dev nD) (j : Fin 1536) : V m c main_v1 (ix2 0 j) = (argsOf m c).g j := by
  have e : V m c main_v1 = shapeCast S1x1536 (m ((c : Thread nD τ).loc main_arg6)) Gen.shapeCasts_S1536_S1x1536 := by
    unfold V
    simp only [StableHlo.after_cons, StableHlo.after_nil, Gen.hostOps0]
    rfl
  rw [e]
  pointwise
  rfl
theorem iblk_6 (c : Dev nD) (t : Fin (cfgM m).N) (j : Fin 1536) :
    iblk m c 6 t (ix2 0 j) = (argsOf m c).g j := by
  rw [← V_main_v1]
  show V m c main_v1 ((((cfgM m).win 6).rect t).emb (ix2 0 j)) = V m c main_v1 (ix2 0 j)
  congr 1
  funext a
  apply Fin.ext
  exact Window.rect_emb_val_of_index_zero ((cfgM m).win 6) t a (by fin_cases a <;> rfl) (ix2 0 j)
theorem V_main_v2 (c : Dev nD) (j : Fin 1536) : V m c main_v2 (ix2 0 j) = (argsOf m c).be j := by
  have e : V m c main_v2 = shapeCast S1x1536 (m ((c : Thread nD τ).loc main_arg7)) Gen.shapeCasts_S1536_S1x1536 := by
    unfold V
    simp only [StableHlo.after_cons, StableHlo.after_nil, Gen.hostOps0]
    rfl
  rw [e]
  pointwise
  rfl
theorem iblk_7 (c : Dev nD) (t : Fin (cfgM m).N) (j : Fin 1536) :
    iblk m c 7 t (ix2 0 j) = (argsOf m c).be j := by
  rw [← V_main_v2]
  show V m c main_v2 ((((cfgM m).win 7).rect t).emb (ix2 0 j)) = V m c main_v2 (ix2 0 j)
  congr 1
  funext a
  apply Fin.ext
  exact Window.rect_emb_val_of_index_zero ((cfgM m).win 7) t a (by fin_cases a <;> rfl) (ix2 0 j)

end Cert.Proof.KernelIdeal
end
end
-- ==== Proof.Val.KSum.lean ====
module

public import proofs.«01_k».proof.Proof.Val.KBlk
public import proofs.«01_k».proof.Proof.Val.Spec
public import Idealize.ShloMosaic.PureOps.Ideal
public import Idealize.ShloMosaic.Lib.Pointwise

@[expose] public section

set_option maxRecDepth 16384
set_option maxHeartbeats 4000000

noncomputable section

namespace Cert.Proof.KernelIdeal

open Cert.KernelIdeal
open Idealize.ShloMosaic Idealize.ShloMosaic.TcCoe Idealize.ShloMosaic.Tactic

open Idealize.ShloMosaic.Pipeline (Dat Cfg Window)

variable (m : (ℓ : Loc nD τ sig) → Buf (Elt Ideal) ℓ) (c : Dev nD)

theorem N_180 : (cfgM m).N = 180 := show grid0.N = 180 from Gen.N_0

theorem cu20 : cuAt (F := Ideal) (cuTab m) 20 = (argsOf m c).cu 20 := cu_arg m c 20

theorem wAt_at : (fun (n : Fin 8960) (j : Fin 1536) => wAt m c (ix2 n j)) = Spec.wq (argsOf m c) := by
  funext n j
  refine (WB_at (iblk m c 0 (t₀ m)) (iblk m c 4 (t₀ m)) n j).trans ?_
  exact congrArg₂ (fun a b : EReal => a * b) (iblk_4 m c (t₀ m) n j) (iblk_0 m c (t₀ m) _ _)

theorem select_iff (b : BitVec 1) (x y : EReal) (p : Prop) [Decidable p] (h : b = 1#1 ↔ p) : Scalar.select b x y = if p then x else y := by
  show (if b = 1#1 then x else y) = _
  by_cases hp : p
  · rw [if_pos hp, if_pos (h.mpr hp)]
  · rw [if_neg hp, if_neg (fun hb => hp (h.mp hb))]

/-- A row of a tile is the row of the mathematics. -/
theorem zAt_at (hP : ((argsOf m c).cu 20).toInt ≤ 2147483520) (t : Fin (cfgM m).N) (r : Fin 128) (j : Fin 1536) (hr : 128 * t.val + r.val < 23040) :
    zAt m c t (ix2 r j) = Spec.zm (argsOf m c) ⟨128 * t.val + r.val, hr⟩ j := by
  have h2 : BitVec.toInt (cuAt (F := Ideal) (tbl m 0) 20) ≤ 2147483520 := by
    show BitVec.toInt (cuAt (F := Ideal) (cuTab m) 20) ≤ _
    rw [cu20 m c]; exact hP
  have ht := coord0 t
  by_cases h : k0_cond3 (grid0.coords t) (cuAt (F := Ideal) (cuTab m) 20) = 1#1
  · have h1 := (cond3_iff _ _).mp h
    have e1 := tmap1 (tbl m) (grid0.coords t) h1 h2
    have e2 := tmap2 (tbl m) (grid0.coords t) h1 h2
    have e3 := tmap3 (tbl m) (grid0.coords t) h1 h2
    rw [ht] at e1 e2 e3
    rw [zAt_live m c t h]
    refine (zLive_at (grid0.coords t) (cuTab m) (HB (iblk m c 1 t) (iblk m c 2 t)) (wAt m c) (iblk m c 3 t) (iblk m c 5 t) (iblk m c 6 t) (iblk m c 7 t) r j).trans ?_
    rw [select_iff _ _ _ ((128 * t.val + r.val : ℕ) < ((argsOf m c).cu 20).toInt) (by
      rw [slt_iff, row_int, ht]
      show _ < BitVec.toInt (cuAt (F := Ideal) (cuTab m) 20) ↔ _
      rw [cu20 m c]; push_cast; rfl)]
    unfold Spec.zm Spec.row
    refine if_congr Iff.rfl ?_ rfl
    have hh : (fun n : Fin 8960 => HB (F := Ideal) (iblk m c 1 t) (iblk m c 2 t) (ix2 r n)) = Spec.hq (argsOf m c) ⟨128 * t.val + r.val, hr⟩ := by
      funext n
      refine (HB_at (iblk m c 1 t) (iblk m c 2 t) r n).trans ?_
      exact congrArg₂ (fun a b : EReal => a * b) (iblk_1 m c t e1 r n hr) (iblk_2 m c t e2 r _ hr)
    have hx : (fun j : Fin 1536 => iblk m c 3 t (ix2 r j)) = (argsOf m c).x ⟨128 * t.val + r.val, hr⟩ := funext fun j => iblk_3 m c t e3 r j hr
    have hb : (fun j : Fin 1536 => iblk m c 5 t (ix2 0 j)) = (argsOf m c).b := funext fun j => iblk_5 m c t j
    have hg : (fun j : Fin 1536 => iblk m c 6 t (ix2 0 j)) = (argsOf m c).g := funext fun j => iblk_6 m c t j
    have hbe : (fun j : Fin 1536 => iblk m c 7 t (ix2 0 j)) = (argsOf m c).be := funext fun j => iblk_7 m c t j
    rw [← hh, ← hx, ← hb, ← hg, ← hbe, ← wAt_at m c]
  · have h1 : ¬ 128 * (t.val : ℤ) < ((argsOf m c).cu 20).toInt := fun hh => h ((cond3_iff _ _).mpr (by rw [cu20 m c, ht]; exact hh))
    rw [zAt_dead m c t h, pay4_at]
    unfold Spec.zm
    rw [if_neg]
    show ¬ ((128 * t.val + r.val : ℕ) : ℤ) < ((argsOf m c).cu 20).toInt
    push_cast
    omega

/-! ## The running sums -/

/-- Row `r`'s share of sequence `s`'s sum. -/
def term (A : Spec.Args) (s : Fin 20) (j : Fin 1536) (r : ℕ) : EReal :=
  if h : r < 23040 then (if Spec.inSeq A s r then Spec.zm A ⟨r, h⟩ j else 0) else 0

theorem seg_eq (A : Spec.Args) (s : Fin 20) (j : Fin 1536) : Spec.seg A s j = ∑ r ∈ Finset.range (128 * 180), term A s j r := by
  rw [Finset.sum_range]
  unfold Spec.seg
  refine Finset.sum_congr rfl fun r _ => ?_
  unfold term
  rw [dif_pos r.isLt]

theorem meets_iff (i : grid0.Coords) (lo hi : BitVec 32) :
    meets (rowWord i) lo hi = 1#1 ↔ lo.toInt < 128 * ((i 0).val : ℤ) + 128 ∧ 128 * ((i 0).val : ℤ) < hi.toInt := by
  have hi' : (i 0).val < 180 := (i 0).isLt
  have e : (Scalar.addi (rowWord i) 128#32).toInt = 128 * ((i 0).val : ℤ) + 128 :=
    isInt_toInt (Affine.addi (toInt_isInt (rowWord_int i)) (Affine.ofNat (e := 128) 128 ⟨rfl, by omega⟩) ⟨by omega, by omega, by omega⟩)
  show Scalar.cmpi .ne (Scalar.extui (Scalar.andi (Scalar.cmpi .slt lo (Scalar.addi (rowWord i) 128#32)) (Scalar.cmpi .sgt hi (rowWord i)))) 0#32 = 1#1 ↔ _
  rw [ne_extui, ← e, ← rowWord_int i]
  refine IntOp.andi_eq_one.trans ?_
  exact and_congr IntOp.cmpi_slt IntOp.cmpi_sgt

theorem inRow_iff (A : Spec.Args) (i : grid0.Coords) (s : Fin 20) (r : Fin 128) :
    IntOp.andi (IntOp.cmpi CmpIPredicate.sge (IntOp.addi (Scalar.muli (BitVec.ofNat 32 (i 0).val) 128#32) (BitVec.ofNat 32 r.val)) (A.cu s.castSucc))
            (IntOp.cmpi CmpIPredicate.slt (IntOp.addi (Scalar.muli (BitVec.ofNat 32 (i 0).val) 128#32) (BitVec.ofNat 32 r.val)) (A.cu s.succ)) = 1#1
      ↔ Spec.inSeq A s (128 * (i 0).val + r.val) := by
  rw [IntOp.andi_eq_one, IntOp.cmpi_sge, IntOp.cmpi_slt, row_int]
  unfold Spec.inSeq
  push_cast
  rfl

theorem sAt_at (hP : ((argsOf m c).cu 20).toInt ≤ 2147483520) (s : Fin 20) (j : Fin 1536) :
    ∀ n, n ≤ 180 → sAt m c n (ix2 s j) = ∑ r ∈ Finset.range (128 * n), term (argsOf m c) s j r
  | 0, _ => by
    show Gen.k0_pay1 (F := Ideal) (ix2 s j) = _
    rw [pay1_at]
    rfl
  | n + 1, hn => by
    have ih := sAt_at hP s j n (by omega)
    have hN : n < (cfgM m).N := by rw [N_180]; omega
    rw [Nat.mul_succ, Finset.sum_range_add, ← ih]
    have ht := coord0 ⟨n, hN⟩
    have hz : ∀ r : Fin 128, zAt m c ⟨n, hN⟩ (ix2 r j) = Spec.zm (argsOf m c) ⟨128 * n + r.val, by omega⟩ j :=
      fun r => zAt_at m c hP ⟨n, hN⟩ r j (by show 128 * n + r.val < 23040; omega)
    have hterm : ∀ r : Fin 128, term (argsOf m c) s j (128 * n + r.val)
        = if Spec.inSeq (argsOf m c) s (128 * n + r.val) then zAt m c ⟨n, hN⟩ (ix2 r j) else 0 := fun r => by
      rw [hz]; unfold term; rw [dif_pos]
    rw [Finset.sum_range, Finset.sum_congr rfl fun r _ => hterm r]
    by_cases h : k0_cond3 (grid0.coords ⟨n, hN⟩) (cuAt (F := Ideal) (cuTab m) 20) = 1#1
    · rw [sAt_live m c ⟨n, hN⟩ h]
      have hlo : cuLo (F := Ideal) (cuTab m) s = (argsOf m c).cu s.castSucc := cu_arg m c s.castSucc
      have hhi : cuHi (F := Ideal) (cuTab m) s = (argsOf m c).cu s.succ := cu_arg m c s.succ
      have hmt := meets_iff (grid0.coords ⟨n, hN⟩) ((argsOf m c).cu s.castSucc) ((argsOf m c).cu s.succ)
      rw [ht] at hmt
      show (if meets (rowWord (grid0.coords ⟨n, hN⟩)) (cuLo (F := Ideal) (cuTab m) s) (cuHi (F := Ideal) (cuTab m) s) = 1#1 then
        Gen.k0_pay7 (F := Ideal) (grid0.coords ⟨n, hN⟩) (cuLo (F := Ideal) (cuTab m) s) (cuHi (F := Ideal) (cuTab m) s) (zAt m c ⟨n, hN⟩) (sumRow (F := Ideal) (sAt m c n) s) (ix2 0 j)
        else sAt m c n (ix2 s j)) = _
      rw [hlo, hhi]
      by_cases hm : meets (rowWord (grid0.coords ⟨n, hN⟩)) ((argsOf m c).cu s.castSucc) ((argsOf m c).cu s.succ) = 1#1
      · rw [if_pos hm, row_at]
        refine congrArg₂ (· + ·) rfl (Finset.sum_congr rfl fun r _ => ?_)
        have hi := inRow_iff (argsOf m c) (grid0.coords ⟨n, hN⟩) s r
        rw [ht] at hi
        rw [ht]
        exact select_iff _ _ _ _ hi
      · rw [if_neg hm]
        rw [Finset.sum_eq_zero, add_zero]
        intro r _
        rw [if_neg]
        intro hin
        apply hm
        rw [hmt]
        unfold Spec.inSeq at hin
        push_cast at hin
        show _ < 128 * (n : ℤ) + 128 ∧ 128 * (n : ℤ) < _
        omega
    · rw [sAt_dead m c ⟨n, hN⟩ h]
      rw [zAt_dead m c ⟨n, hN⟩ h]
      rw [Finset.sum_eq_zero, add_zero]
      intro r _
      rw [pay4_at, ite_self]

/-- The means the last point stores. -/
theorem mVal_spec (hP : ((argsOf m c).cu 20).toInt ≤ 2147483520) (s : Fin 20) (j : Fin 1536) :
    mVal (F := Ideal) (cuTab m) (sAt m c 180) (ix2 s j) = Spec.mean (argsOf m c) s j := by
  rw [mVal_at, chain_at, sAt_at m c hP s j 180 le_rfl, ← seg_eq, cu_arg m c, cu_arg m c]
  rfl

end Cert.Proof.KernelIdeal
end
end
-- ==== Proof.Val.KOut.lean ====
module

public import proofs.«01_k».proof.Proof.Val.KSum
public import proofs.«01_k».proof.Proof.Val.Spec
public import Idealize.ShloMosaic.PureOps.Ideal
public import Idealize.ShloMosaic.Lib.Pointwise

@[expose] public section

set_option maxRecDepth 16384
set_option maxHeartbeats 4000000

noncomputable section

namespace Cert.Proof.KernelIdeal

open Cert.KernelIdeal
open Idealize.ShloMosaic Idealize.ShloMosaic.TcCoe Idealize.ShloMosaic.Tactic

open Idealize.ShloMosaic.Pipeline (Dat Cfg Window)

variable (m : (ℓ : Loc nD τ sig) → Buf (Elt Ideal) ℓ) (c : Dev nD)

/-! ## The arrays after the run -/

theorem flush_8 : ∀ t : Fin (cfgM m).N, ((cfgM m).win 8).flush t = true :=
  (by decide +kernel : ∀ t : Fin grid0.N, Pipeline.Window.flushOf grid0 true cc0_transform_8 t = true)

theorem map8 : ∀ t : Fin grid0.N, cc0_transform_8 (grid0.coords t) = ![t.val, 0] := by decide +kernel

/-- The first result. -/
def G8 : S23040x1536.Idx → Elt Ideal .f32 := fun y => Spec.zm (argsOf m c) (y 0) (y 1)

theorem flushed_8 (hP : ((argsOf m c).cu 20).toInt ≤ 2147483520) (t : Fin (cfgM m).N) :
    (dats m 0 c).flushed 8 t = (((cfgM m).win 8).blk t).view.read (Elt Ideal) (G8 m c) := by
  have hN := N_180 m
  have ht : t.val < 180 := by have := t.isLt; omega
  show ((cfgM m).win 8).cut (grid0.coords t) ((dats m 0 c).after 8 t) = _
  rw [after_8]
  have key : ∀ y : S128x1536.Idx, zAt m c t y = G8 m c ((((cfgM m).win 8).rect t).emb y) := by
    intro y
    obtain ⟨r, j, rfl⟩ : ∃ (r : Fin 128) (j : Fin 1536), y = ix2 r j := ⟨y 0, y 1, by funext a; fin_cases a <;> rfl⟩
    have hr : 128 * t.val + r.val < 23040 := by omega
    refine (zAt_at m c hP t r j hr).trans ?_
    have e0 : (((((cfgM m).win 8).rect t).emb (ix2 r j) : S23040x1536.Idx) (0 : Fin 2)).val = 128 * t.val + r.val := by
      refine (Window.rect_emb_val ((cfgM m).win 8) t (ix2 r j) (0 : Fin 2)).trans ?_
      show cc0_transform_8 (grid0.coords t) 0 * 128 + r.val = _
      rw [map8 t]; show t.val * 128 + r.val = _; omega
    have e1 : (((((cfgM m).win 8).rect t).emb (ix2 r j) : S23040x1536.Idx) (1 : Fin 2)).val = j.val := by
      refine (Window.rect_emb_val ((cfgM m).win 8) t (ix2 r j) (1 : Fin 2)).trans ?_
      show cc0_transform_8 (grid0.coords t) 1 * 1536 + j.val = _
      rw [map8 t]; show 0 * 1536 + j.val = _; omega
    exact congrArg₂ (Spec.zm (argsOf m c)) (Fin.ext e0.symm) (Fin.ext e1.symm)
  funext y
  exact key y

theorem cover_8 (i : S23040x1536.Idx) : ∃ t : Fin (cfgM m).N, ((cfgM m).win 8).flush t = true ∧ i ∈ (((cfgM m).win 8).blk t).view.set := by
  have h0 : (i 0 : ℕ) < 23040 := (i 0).isLt
  have h1 : (i 1 : ℕ) < 1536 := (i 1).isLt
  have hN := N_180 m
  obtain ⟨t, ht⟩ : ∃ t : Fin (cfgM m).N, t = ⟨(i 0 : ℕ) / 128, by omega⟩ := ⟨_, rfl⟩
  refine ⟨t, flush_8 m t, ?_⟩
  refine (congrArg (fun T : Finset S23040x1536.Idx => i ∈ T) (View.set_slice_whole main_v3_0 (((cfgM m).win 8).rect t))).mpr (Rect.mem_set_unit.mpr ?_)
  intro a
  match a with
  | ⟨0, _⟩ =>
    show cc0_transform_8 (grid0.coords t) 0 * 128 ≤ (i 0 : ℕ) ∧ (i 0 : ℕ) < cc0_transform_8 (grid0.coords t) 0 * 128 + 128
    rw [map8, ht]; show (i 0 : ℕ) / 128 * 128 ≤ _ ∧ _ < (i 0 : ℕ) / 128 * 128 + 128; omega
  | ⟨1, _⟩ =>
    show cc0_transform_8 (grid0.coords t) 1 * 1536 ≤ (i 1 : ℕ) ∧ (i 1 : ℕ) < cc0_transform_8 (grid0.coords t) 1 * 1536 + 1536
    rw [map8]; show 0 * 1536 ≤ _ ∧ _ < 0 * 1536 + 1536; omega

theorem final_8 (hP : ((argsOf m c).cu 20).toInt ≤ 2147483520) : (dats m 0 c).arrAt 8 (cfgM m).N = G8 m c :=
  (dats m 0 c).arrAt_eq_of_cover 8 (G8 m c) (fun t _ => flushed_8 m c hP t) (cover_8 m)

theorem flushed_9 (t : Fin (cfgM m).N) :
    (dats m 0 c).flushed 9 t = (((cfgM m).win 9).blk t).view.read (Elt Ideal) (mVal (F := Ideal) (cuTab m) (sAt m c 180)) := by
  show ((cfgM m).win 9).cut (grid0.coords t) ((dats m 0 c).after 9 t) = _
  rw [after_9]
  funext y
  show mVal (F := Ideal) (cuTab m) (sAt m c 180) (y : S20x1536.Idx) = mVal (F := Ideal) (cuTab m) (sAt m c 180) ((((cfgM m).win 9).rect t).emb y)
  refine congrArg _ ?_
  funext a
  exact (Fin.ext (Window.rect_emb_val_of_index_zero ((cfgM m).win 9) t a (by fin_cases a <;> rfl) y)).symm

theorem cover_9 (i : S20x1536.Idx) : ∃ t : Fin (cfgM m).N, ((cfgM m).win 9).flush t = true ∧ i ∈ (((cfgM m).win 9).blk t).view.set := by
  have h0 : (i 0 : ℕ) < 20 := (i 0).isLt
  have h1 : (i 1 : ℕ) < 1536 := (i 1).isLt
  have hN := N_180 m
  obtain ⟨t, ht⟩ : ∃ t : Fin (cfgM m).N, t = ⟨179, by omega⟩ := ⟨_, rfl⟩
  refine ⟨t, (flush_9 m t).mpr (by subst ht; rfl), ?_⟩
  refine (congrArg (fun T : Finset S20x1536.Idx => i ∈ T) (View.set_slice_whole main_v3_1 (((cfgM m).win 9).rect t))).mpr (Rect.mem_set_unit.mpr ?_)
  intro a
  match a with
  | ⟨0, _⟩ => show 0 * 20 ≤ (i 0 : ℕ) ∧ (i 0 : ℕ) < 0 * 20 + 20; omega
  | ⟨1, _⟩ => show 0 * 1536 ≤ (i 1 : ℕ) ∧ (i 1 : ℕ) < 0 * 1536 + 1536; omega

theorem final_9 : (dats m 0 c).arrAt 9 (cfgM m).N = mVal (F := Ideal) (cuTab m) (sAt m c 180) :=
  (dats m 0 c).arrAt_eq_of_cover 9 (mVal (F := Ideal) (cuTab m) (sAt m c 180)) (fun t _ => flushed_9 m c t) (cover_9 m)

theorem flushed_10 (t : Fin (cfgM m).N) :
    (dats m 0 c).flushed 10 t = (((cfgM m).win 10).blk t).view.read (Elt Ideal) (codesVal (F := Ideal) (cuTab m) (sAt m c 180)) := by
  show ((cfgM m).win 10).cut (grid0.coords t) ((dats m 0 c).after 10 t) = _
  rw [after_10]
  funext y
  show codesVal (F := Ideal) (cuTab m) (sAt m c 180) (y : S20x1536.Idx) = codesVal (F := Ideal) (cuTab m) (sAt m c 180) ((((cfgM m).win 10).rect t).emb y)
  refine congrArg _ ?_
  funext a
  exact (Fin.ext (Window.rect_emb_val_of_index_zero ((cfgM m).win 10) t a (by fin_cases a <;> rfl) y)).symm

theorem cover_10 (i : S20x1536.Idx) : ∃ t : Fin (cfgM m).N, ((cfgM m).win 10).flush t = true ∧ i ∈ (((cfgM m).win 10).blk t).view.set := by
  have h0 : (i 0 : ℕ) < 20 := (i 0).isLt
  have h1 : (i 1 : ℕ) < 1536 := (i 1).isLt
  have hN := N_180 m
  obtain ⟨t, ht⟩ : ∃ t : Fin (cfgM m).N, t = ⟨179, by omega⟩ := ⟨_, rfl⟩
  refine ⟨t, (flush_10 m t).mpr (by subst ht; rfl), ?_⟩
  refine (congrArg (fun T : Finset S20x1536.Idx => i ∈ T) (View.set_slice_whole main_v3_2 (((cfgM m).win 10).rect t))).mpr (Rect.mem_set_unit.mpr ?_)
  intro a
  match a with
  | ⟨0, _⟩ => show 0 * 20 ≤ (i 0 : ℕ) ∧ (i 0 : ℕ) < 0 * 20 + 20; omega
  | ⟨1, _⟩ => show 0 * 1536 ≤ (i 1 : ℕ) ∧ (i 1 : ℕ) < 0 * 1536 + 1536; omega

theorem final_10 : (dats m 0 c).arrAt 10 (cfgM m).N = codesVal (F := Ideal) (cuTab m) (sAt m c 180) :=
  (dats m 0 c).arrAt_eq_of_cover 10 (codesVal (F := Ideal) (cuTab m) (sAt m c 180)) (fun t _ => flushed_10 m c t) (cover_10 m)

theorem flushed_11 (t : Fin (cfgM m).N) :
    (dats m 0 c).flushed 11 t = (((cfgM m).win 11).blk t).view.read (Elt Ideal) (scaleVal (F := Ideal) (cuTab m) (sAt m c 180)) := by
  show ((cfgM m).win 11).cut (grid0.coords t) ((dats m 0 c).after 11 t) = _
  rw [after_11]
  funext y
  generalize scaleVal (F := Ideal) (cuTab m) (sAt m c 180) = G
  show G (y : S20x1.Idx) = G ((((cfgM m).win 11).rect t).emb y)
  refine congrArg _ ?_
  funext a
  exact (Fin.ext (Window.rect_emb_val_of_index_zero ((cfgM m).win 11) t a (by fin_cases a <;> rfl) y)).symm

theorem cover_11 (i : S20x1.Idx) : ∃ t : Fin (cfgM m).N, ((cfgM m).win 11).flush t = true ∧ i ∈ (((cfgM m).win 11).blk t).view.set := by
  have h0 : (i 0 : ℕ) < 20 := (i 0).isLt
  have h1 : (i 1 : ℕ) < 1 := (i 1).isLt
  have hN := N_180 m
  obtain ⟨t, ht⟩ : ∃ t : Fin (cfgM m).N, t = ⟨179, by omega⟩ := ⟨_, rfl⟩
  refine ⟨t, (flush_11 m t).mpr (by subst ht; rfl), ?_⟩
  refine (congrArg (fun T : Finset S20x1.Idx => i ∈ T) (View.set_slice_whole main_v3_3 (((cfgM m).win 11).rect t))).mpr (Rect.mem_set_unit.mpr ?_)
  intro a
  match a with
  | ⟨0, _⟩ => show 0 * 20 ≤ (i 0 : ℕ) ∧ (i 0 : ℕ) < 0 * 20 + 20; omega
  | ⟨1, _⟩ => show 0 * 1 ≤ (i 1 : ℕ) ∧ (i 1 : ℕ) < 0 * 1 + 1; omega

theorem final_11 : (dats m 0 c).arrAt 11 (cfgM m).N = scaleVal (F := Ideal) (cuTab m) (sAt m c 180) :=
  (dats m 0 c).arrAt_eq_of_cover 11 (scaleVal (F := Ideal) (cuTab m) (sAt m c 180)) (fun t _ => flushed_11 m c t) (cover_11 m)

/-- The sequences' means. -/
def M : FVec Ideal S20x1536 .f32 := fun y => Spec.mean (argsOf m c) (y 0) (y 1)

theorem mVal_eq (hP : ((argsOf m c).cu 20).toInt ≤ 2147483520) : mVal (F := Ideal) (cuTab m) (sAt m c 180) = M m c := by
  funext y
  obtain ⟨r, j, rfl⟩ : ∃ (r : Fin 20) (j : Fin 1536), y = ix2 r j := ⟨y 0, y 1, by funext a; fin_cases a <;> rfl⟩
  exact mVal_spec m c hP r j
theorem codesVal_eq (hP : ((argsOf m c).cu 20).toInt ≤ 2147483520) :
    codesVal (F := Ideal) (cuTab m) (sAt m c 180) = Gen.k0_pay10 (F := Ideal) (M m c) (mulf (φ := .f32) (M m c) (M m c)) := by
  rw [← mVal_eq m c hP]
  rfl
theorem scaleVal_eq (hP : ((argsOf m c).cu 20).toInt ≤ 2147483520) :
    scaleVal (F := Ideal) (cuTab m) (sAt m c 180) = Gen.k0_pay9 (F := Ideal) (M m c) (mulf (φ := .f32) (M m c) (M m c)) := by
  rw [← mVal_eq m c hP]
  rfl

end Cert.Proof.KernelIdeal
end
end
-- ==== Proof.Val.RPure.lean ====
module

public import proofs.«01_k».proof.Proof.Val.KPure
public import proofs.«01_k».proof.Proof.Gen.ReferenceIdeal.Value

@[expose] public section

set_option maxRecDepth 16384
set_option maxHeartbeats 4000000

noncomputable section

namespace Cert.Proof.ReferenceIdeal

open Cert.ReferenceIdeal
open Idealize.ShloMosaic Idealize.ShloMosaic.TcCoe Idealize.ShloMosaic.Tactic

variable (h : Vec Ideal S23040x8960 .fp8e4m3) (hs : Vec Ideal S23040x8960 .bf16) (w : Vec Ideal S8960x1536 .fp8e4m3)
  (ws : Vec Ideal S8960x1536 .bf16) (x : Vec Ideal S23040x1536 .bf16) (b g be : Vec Ideal S1x1536 .f32)
  (sq va : Vec Ideal S23040x1 .i32) (ln : Vec Ideal S20x1 .f32)

/-- Row `r` after the projection. -/
def prow (r : Fin 23040) : Fin 1536 → EReal :=
  Spec.pre (fun n => (h (ix2 r n) * hs (ix2 r n) : EReal)) (fun n j => (w (ix2 n j) * ws (ix2 n j) : EReal))
    (fun j => x (ix2 r j)) (fun j => b (ix2 0 j))

theorem pay5_at (r : Fin 23040) (j : Fin 1536) :
    Gen.k0_pay5 (F := Ideal) (Gen.k0_pay4 h hs w ws x b g) be va (ix2 r j)
      = Scalar.select (IntOp.cmpi CmpIPredicate.ne (va (ix2 r 0)) 0#32)
        (Spec.zn (prow h hs w ws x b r) (fun j => g (ix2 0 j)) (fun j => be (ix2 0 j)) j) 0 := by
  unfold Gen.k0_pay5 Gen.k0_pay4
  pointwise
  rfl

theorem pay6_at (v37 : FVec Ideal S23040x1536 .f32) (k : Fin 20) (j : Fin 1536) :
    Gen.k0_pay6 (F := Ideal) v37 be va sq ln (ix2 k j)
      = Ideal.div (∑ r : Fin 23040, Scalar.select (IntOp.cmpi CmpIPredicate.eq (sq (ix2 r 0)) (BitVec.ofNat 32 k.val))
          (Gen.k0_pay5 (F := Ideal) v37 be va (ix2 r j)) 0)
        (if ln (ix2 k 0) = (0 : EReal) then (1 : EReal) else ln (ix2 k 0)) := by
  unfold Gen.k0_pay6
  pointwise

theorem codes_eq (M : FVec Ideal S20x1536 .f32) (v37 : FVec Ideal S23040x1536 .f32) (hM : Gen.k0_pay6 (F := Ideal) v37 be va sq ln = M) :
    Gen.k0_pay3 (F := Ideal) (Gen.k0_pay6 v37 be va sq ln) (Gen.k0_pay7 v37 be va sq ln) = Cert.KernelIdeal.Gen.k0_pay10 (F := Ideal) M (mulf (φ := .f32) M M) := by
  subst hM; rfl
theorem scale_eq (M : FVec Ideal S20x1536 .f32) (v37 : FVec Ideal S23040x1536 .f32) (hM : Gen.k0_pay6 (F := Ideal) v37 be va sq ln = M) :
    Gen.k0_pay2 (F := Ideal) (Gen.k0_pay6 v37 be va sq ln) (Gen.k0_pay7 v37 be va sq ln) = Cert.KernelIdeal.Gen.k0_pay9 (F := Ideal) M (mulf (φ := .f32) M M) := by
  subst hM; rfl

end Cert.Proof.ReferenceIdeal
end
end
-- ==== Proof.Val.RHost.lean ====
module

public import proofs.«01_k».proof.Proof.Val.RPure
public import Idealize.ShloMosaic.Lib.StableHlo.Run

@[expose] public section

set_option maxRecDepth 16384
set_option maxHeartbeats 4000000

noncomputable section

namespace Cert.Proof.ReferenceIdeal

open Cert.ReferenceIdeal
open Idealize.ShloMosaic Idealize.ShloMosaic.TcCoe Idealize.ShloMosaic.Tactic

variable (m : (ℓ : Loc nD τ sig) → Buf (Elt Ideal) ℓ)

/-- The arrays, read off the arguments. -/
def argsOf (c : Dev nD) : Spec.Args where
  x r j := m ((c : Thread nD τ).loc main_arg0) (ix2 r j)
  h r n := m ((c : Thread nD τ).loc main_arg1) (ix2 r n)
  hs r k := m ((c : Thread nD τ).loc main_arg2) (ix2 r k)
  w n j := m ((c : Thread nD τ).loc main_arg3) (ix2 n j)
  ws k l := m ((c : Thread nD τ).loc main_arg4) (ix2 k l)
  b j := m ((c : Thread nD τ).loc main_arg5) (ix1 j)
  g j := m ((c : Thread nD τ).loc main_arg6) (ix1 j)
  be j := m ((c : Thread nD τ).loc main_arg7) (ix1 j)
  cu k := m ((c : Thread nD τ).loc main_arg8) (ix1 k)

theorem V_v2 (c : Dev nD) (r : Fin 23040) (n : Fin 8960) : Gen.V m c main_v2 (ix2 r n) = (argsOf m c).hs r ⟨n.val / 128, by omega⟩ := by
  have e : Gen.V m c main_v2 = shapeCast S23040x8960 (broadcastInDim S23040x70x128 ![0, 1] Gen.bcast_S23040x70_S23040x70x128_0_1 (truncf (F := Ideal) .bf16 (m ((c : Thread nD τ).loc main_arg2)) Gen.bitsLt_bf16_f32)) Gen.shapeCasts_S23040x70x128_S23040x8960 := by
    unfold Gen.V
    simp only [Gen.hostOps0, Gen.hostOps0_1, Gen.hostOps0_2, Gen.hostOps0_3, Gen.hostOps0_4, List.flatten_cons, List.flatten_nil, List.append_nil, List.cons_append, List.nil_append]
    after_results
    rfl
  rw [e]
  pointwise
  rfl

theorem V_v7 (c : Dev nD) (n : Fin 8960) (j : Fin 1536) : Gen.V m c main_v7 (ix2 n j) = (argsOf m c).ws ⟨n.val / 128, by omega⟩ ⟨j.val / 128, by omega⟩ := by
  have e : Gen.V m c main_v7 = shapeCast S8960x1536 (broadcastInDim S8960x12x128 ![0, 1] Gen.bcast_S8960x12_S8960x12x128_0_1 (shapeCast S8960x12 (broadcastInDim S70x128x12 ![0, 2] Gen.bcast_S70x12_S70x128x12_0_2 (truncf (F := Ideal) .bf16 (m ((c : Thread nD τ).loc main_arg4)) Gen.bitsLt_bf16_f32)) Gen.shapeCasts_S70x128x12_S8960x12)) Gen.shapeCasts_S8960x12x128_S8960x1536 := by
    unfold Gen.V
    simp only [Gen.hostOps0, Gen.hostOps0_1, Gen.hostOps0_2, Gen.hostOps0_3, Gen.hostOps0_4, List.flatten_cons, List.flatten_nil, List.append_nil, List.cons_append, List.nil_append]
    after_results
    rfl
  rw [e]
  pointwise
  rfl

theorem V_v21 (c : Dev nD) (j : Fin 1536) : Gen.V m c main_v21 (ix2 0 j) = (argsOf m c).b j := by
  have e : Gen.V m c main_v21 = broadcastInDim S1x1536 ![1] Gen.bcast_S1536_S1x1536_1 (m ((c : Thread nD τ).loc main_arg5)) := by
    unfold Gen.V
    simp only [Gen.hostOps0, Gen.hostOps0_1, Gen.hostOps0_2, Gen.hostOps0_3, Gen.hostOps0_4, List.flatten_cons, List.flatten_nil, List.append_nil, List.cons_append, List.nil_append]
    after_results
  rw [e]
  pointwise
  rfl

theorem V_v22 (c : Dev nD) (j : Fin 1536) : Gen.V m c main_v22 (ix2 0 j) = (argsOf m c).g j := by
  have e : Gen.V m c main_v22 = broadcastInDim S1x1536 ![1] Gen.bcast_S1536_S1x1536_1 (m ((c : Thread nD τ).loc main_arg6)) := by
    unfold Gen.V
    simp only [Gen.hostOps0, Gen.hostOps0_1, Gen.hostOps0_2, Gen.hostOps0_3, Gen.hostOps0_4, List.flatten_cons, List.flatten_nil, List.append_nil, List.cons_append, List.nil_append]
    after_results
  rw [e]
  pointwise
  rfl

theorem V_v23 (c : Dev nD) (j : Fin 1536) : Gen.V m c main_v23 (ix2 0 j) = (argsOf m c).be j := by
  have e : Gen.V m c main_v23 = broadcastInDim S1x1536 ![1] Gen.bcast_S1536_S1x1536_1 (m ((c : Thread nD τ).loc main_arg7)) := by
    unfold Gen.V
    simp only [Gen.hostOps0, Gen.hostOps0_1, Gen.hostOps0_2, Gen.hostOps0_3, Gen.hostOps0_4, List.flatten_cons, List.flatten_nil, List.append_nil, List.cons_append, List.nil_append]
    after_results
  rw [e]
  pointwise
  rfl

theorem V_v25 (c : Dev nD) (r : Fin 23040) : Gen.V m c main_v25 (ix2 r 0) = (IntOp.cmpi CmpIPredicate.slt (BitVec.ofNat 32 r.val) ((argsOf m c).cu 20)).setWidth 32 := by
  have e : Gen.V m c main_v25 = broadcastInDim S23040x1 ![0] Gen.bcast_S23040_S23040x1_0 (extui 32 (cmpi .slt (iotaInDim S23040 32 0) (broadcastInDim S23040 ![] Gen.bcast_S_S23040 (shapeCast S_ (extractStridedSlice S1 ![20] (m ((c : Thread nD τ).loc main_arg8)) Gen.slices_S21_S1_20) Gen.shapeCasts_S1_S_))) Gen.natLt_1_32) := by
    unfold Gen.V
    simp only [Gen.hostOps0, Gen.hostOps0_1, Gen.hostOps0_2, Gen.hostOps0_3, Gen.hostOps0_4, List.flatten_cons, List.flatten_nil, List.append_nil, List.cons_append, List.nil_append]
    after_results
    rfl
  rw [e]
  pointwise
  rfl

theorem V_v26 (c : Dev nD) (k : Fin 20) : Gen.V m c main_v26 (ix2 k 0) = Spec.len (argsOf m c) k := by
  have e : Gen.V m c main_v26 = broadcastInDim S20x1 ![0] Gen.bcast_S20_S20x1_0 (sitofp (F := Ideal) .f32 (subi (extractStridedSlice S20 ![1] (m ((c : Thread nD τ).loc main_arg8)) Gen.slices_S21_S20_1) (extractStridedSlice S20 ![0] (m ((c : Thread nD τ).loc main_arg8)) Gen.slices_S21_S20_0))) := by
    unfold Gen.V
    simp only [Gen.hostOps0, Gen.hostOps0_1, Gen.hostOps0_2, Gen.hostOps0_3, Gen.hostOps0_4, List.flatten_cons, List.flatten_nil, List.append_nil, List.cons_append, List.nil_append]
    after_results
    rfl
  rw [e]
  pointwise
  have h : (⟨1 + k.val, by omega⟩ : Fin 21) = k.succ := Fin.ext (Nat.add_comm ..)
  rw [h]
  rfl

theorem V_v24 (c : Dev nD) (r : Fin 23040) : Gen.V m c main_v24 (ix2 r 0) = IntOp.minsi (IntOp.subi (Finset.fold IntOp.addi (0#32)
      (fun x : Fin 21 => BitVec.setWidth 32 (IntOp.cmpi CmpIPredicate.sle ((argsOf m c).cu x) (BitVec.ofNat 32 r.val))) Finset.univ) 1#32) 19#32 := by
  have e : Gen.V m c main_v24 = broadcastInDim S23040x1 ![0] Gen.bcast_S23040_S23040x1_0 (minsi (subi (Host.reduce IntOp.addi (extui 32 (cmpi .sle (broadcastInDim S21x23040 ![0, 1] Gen.bcast_S21x1_S21x23040_0_1 (broadcastInDim S21x1 ![0] Gen.bcast_S21_S21x1_0 (m ((c : Thread nD τ).loc main_arg8)))) (broadcastInDim S21x23040 ![0, 1] Gen.bcast_S1x23040_S21x23040_0_1 (broadcastInDim S1x23040 ![1] Gen.bcast_S23040_S1x23040_1 (iotaInDim S23040 32 0)))) Gen.natLt_1_32) (constantI S_ 32 0#32) Gen.reducesTo_S21x23040_S23040_d0 Gen.h_S_) (broadcastInDim S23040 ![] Gen.bcast_S_S23040 (constantI S_ 32 1#32))) (broadcastInDim S23040 ![] Gen.bcast_S_S23040 (constantI S_ 32 19#32))) := by
    unfold Gen.V
    simp only [Gen.hostOps0, Gen.hostOps0_1, Gen.hostOps0_2, Gen.hostOps0_3, Gen.hostOps0_4, List.flatten_cons, List.flatten_nil, List.append_nil, List.cons_append, List.nil_append]
    after_results
    simp -implicitDefEqProofs only [StableHlo.TRef.ofBuf_toBuf, StableHlo.TRef.toBuf, StableHlo.TRef.ofBuf, cast_eq]
  rw [e]
  pointwise
  rfl

end Cert.Proof.ReferenceIdeal
end
end
-- ==== Proof.Val.Count.lean ====
module

public import proofs.«01_k».proof.Proof.Val.Spec
public import Idealize.ShloMosaic.Lib.Affine

@[expose] public section

set_option maxRecDepth 16384
set_option maxHeartbeats 4000000

noncomputable section

namespace Cert.Proof.Spec

open Idealize.ShloMosaic

/-! ## The sequence of a row, counted -/

theorem pick_word : ∀ (n : Fin 21) (s : Fin 20),
    IntOp.minsi (IntOp.subi (BitVec.ofNat 32 n.val) 1#32) 19#32 = BitVec.ofNat 32 s.val ↔ n.val = s.val + 1 := by decide +kernel

theorem count_word (cu : Fin 21 → BitVec 32) (hs : ∀ k : Fin 20, (cu k.castSucc).toInt ≤ (cu k.succ).toInt) (r : ℕ) (hr : r < 23040)
    (h20 : (r : ℤ) < (cu 20).toInt) (s : Fin 20) :
    IntOp.minsi (IntOp.subi (Finset.fold IntOp.addi (0#32)
      (fun x : Fin 21 => BitVec.setWidth 32 (IntOp.cmpi CmpIPredicate.sle (cu x) (BitVec.ofNat 32 r))) Finset.univ) 1#32) 19#32 = BitVec.ofNat 32 s.val
      ↔ (cu s.castSucc).toInt ≤ r ∧ (r : ℤ) < (cu s.succ).toInt := by
  have hmono : Monotone fun k : Fin 21 => (cu k).toInt := Fin.monotone_iff_le_succ.mpr hs
  have hrw : (BitVec.ofNat 32 r).toInt = (r : ℤ) := by
    have h := Affine.ofNat (e := (r : ℤ)) r ⟨rfl, by omega⟩
    unfold Affine.IsInt at h; exact h
  obtain ⟨C, hC⟩ : ∃ C, C = (Finset.univ.filter fun x : Fin 21 => (cu x).toInt ≤ (r : ℤ)).card := ⟨_, rfl⟩
  have key : ∀ k : Fin 21, (cu k).toInt ≤ (r : ℤ) ↔ k.val < C := by
    intro k
    constructor
    · intro h
      have hsub : Finset.Iic k ⊆ Finset.univ.filter fun x : Fin 21 => (cu x).toInt ≤ (r : ℤ) := fun x hx => by
        rw [Finset.mem_filter]
        exact ⟨Finset.mem_univ _, (hmono (Finset.mem_Iic.mp hx)).trans h⟩
      have hc := Finset.card_le_card hsub
      rw [Fin.card_Iic, ← hC] at hc
      omega
    · intro h
      by_contra hn
      have hsub : (Finset.univ.filter fun x : Fin 21 => (cu x).toInt ≤ (r : ℤ)) ⊆ Finset.Iio k := fun x hx => by
        rw [Finset.mem_filter] at hx
        rw [Finset.mem_Iio]
        by_contra hk
        exact hn ((hmono (not_lt.mp hk)).trans hx.2)
      have hc := Finset.card_le_card hsub
      rw [Fin.card_Iio, ← hC] at hc
      omega
  have hC20 : C ≤ 20 := by
    by_contra h
    have := (key 20).mpr (by show 20 < C; omega)
    omega
  have hfold : Finset.fold IntOp.addi (0#32)
      (fun x : Fin 21 => BitVec.setWidth 32 (IntOp.cmpi CmpIPredicate.sle (cu x) (BitVec.ofNat 32 r))) Finset.univ = BitVec.ofNat 32 C := by
    have e : ∀ x : Fin 21, BitVec.setWidth 32 (IntOp.cmpi CmpIPredicate.sle (cu x) (BitVec.ofNat 32 r))
        = BitVec.ofNat 32 (if (cu x).toInt ≤ (r : ℤ) then 1 else 0) := by
      intro x
      by_cases h : (cu x).toInt ≤ (r : ℤ)
      · rw [if_pos h, IntOp.cmpi_sle.mpr (by rw [hrw]; exact h)]; rfl
      · rw [if_neg h]
        have hn : ¬ IntOp.cmpi CmpIPredicate.sle (cu x) (BitVec.ofNat 32 r) = 1#1 := fun hh => h (by rw [← hrw]; exact IntOp.cmpi_sle.mp hh)
        revert hn
        generalize IntOp.cmpi CmpIPredicate.sle (cu x) (BitVec.ofNat 32 r) = w
        revert w; decide
    have g : ∀ S : Finset (Fin 21), Finset.fold IntOp.addi (0#32)
        (fun x : Fin 21 => BitVec.setWidth 32 (IntOp.cmpi CmpIPredicate.sle (cu x) (BitVec.ofNat 32 r))) S
          = BitVec.ofNat 32 (∑ x ∈ S, if (cu x).toInt ≤ (r : ℤ) then 1 else 0) := by
      intro S
      induction S using Finset.induction_on with
      | empty => rfl
      | insert x S hx ih =>
        rw [Finset.fold_insert hx, ih, e, Finset.sum_insert hx, BitVec.ofNat_add]
        rfl
    rw [g, hC, Finset.card_filter]
  rw [hfold, pick_word ⟨C, by omega⟩ s]
  show C = s.val + 1 ↔ _
  rw [key, ← not_le (a := (cu s.succ).toInt), key]
  show C = s.val + 1 ↔ s.val < C ∧ ¬ (s.val + 1 < C)
  omega

end Cert.Proof.Spec
end
-- ==== Proof.Val.ROut.lean ====
module

public import proofs.«01_k».proof.Proof.Val.RHost
public import proofs.«01_k».proof.Proof.Val.Count
public import proofs.«01_k».proof.Proof.Val.KSum
public import Idealize.ShloMosaic.Lib.StableHlo.Run

@[expose] public section

set_option maxRecDepth 16384
set_option maxHeartbeats 4000000

noncomputable section

namespace Cert.Proof.ReferenceIdeal

open Cert.ReferenceIdeal
open Idealize.ShloMosaic Idealize.ShloMosaic.TcCoe Idealize.ShloMosaic.Tactic

open Idealize.ShloMosaic.Pipeline (Dat Cfg Window)

/-! ## What the body leaves, from the blocks it reads -/

theorem hz2 : (![0, 0] : Fin 2 → Nat) = fun _ => 0 := funext fun a => by fin_cases a <;> rfl

theorem ld_0 {e : EltTy} (X : Vec Ideal S23040x8960 e) : View.ld (Val := Elt Ideal) X Gen.r0_0 = X := View.ld_unit_zero (S := S23040x8960) hz2 _ X
theorem ld_1 {e : EltTy} (X : Vec Ideal S8960x1536 e) : View.ld (Val := Elt Ideal) X Gen.r0_1 = X := View.ld_unit_zero (S := S8960x1536) hz2 _ X
theorem ld_2 {e : EltTy} (X : Vec Ideal S23040x1536 e) : View.ld (Val := Elt Ideal) X Gen.r0_2 = X := View.ld_unit_zero (S := S23040x1536) hz2 _ X
theorem ld_3 {e : EltTy} (X : Vec Ideal S1x1536 e) : View.ld (Val := Elt Ideal) X Gen.r0_3 = X := View.ld_unit_zero (S := S1x1536) hz2 _ X
theorem ld_4 {e : EltTy} (X : Vec Ideal S23040x1 e) : View.ld (Val := Elt Ideal) X Gen.r0_4 = X := View.ld_unit_zero (S := S23040x1) hz2 _ X
theorem ld_5 {e : EltTy} (X : Vec Ideal S20x1 e) : View.ld (Val := Elt Ideal) X Gen.r0_5 = X := View.ld_unit_zero (S := S20x1) hz2 _ X

section
variable (x0 : Vec Ideal S23040x1536 .bf16) (x1 : Vec Ideal S23040x8960 .fp8e4m3) (x2 : Vec Ideal S23040x8960 .bf16)
  (x3 : Vec Ideal S8960x1536 .fp8e4m3) (x4 : Vec Ideal S8960x1536 .bf16) (x5 x6 x7 : Vec Ideal S1x1536 .f32)
  (x8 x9 : Vec Ideal S23040x1 .i32) (x10 : Vec Ideal S20x1 .f32)

theorem p8 : Gen.k0_pay8 (F := Ideal) x0 x1 x2 x3 x4 x5 x6 x7 x8 x9 x10 = Gen.k0_pay4 x1 x2 x3 x4 x0 x5 x6 := by
  unfold Gen.k0_pay8
  simp only [ld_0, ld_1, ld_2, ld_3, ld_4, ld_5]
theorem p9 : Gen.k0_pay9 (F := Ideal) x0 x1 x2 x3 x4 x5 x6 x7 x8 x9 x10 = Gen.k0_pay6 (Gen.k0_pay4 x1 x2 x3 x4 x0 x5 x6) x7 x9 x8 x10 := by
  unfold Gen.k0_pay9
  rw [p8]
  simp only [ld_0, ld_1, ld_2, ld_3, ld_4, ld_5]
theorem p10 : Gen.k0_pay10 (F := Ideal) x0 x1 x2 x3 x4 x5 x6 x7 x8 x9 x10 = Gen.k0_pay7 (Gen.k0_pay4 x1 x2 x3 x4 x0 x5 x6) x7 x9 x8 x10 := by
  unfold Gen.k0_pay10
  rw [p8]
  simp only [ld_0, ld_1, ld_2, ld_3, ld_4, ld_5]
theorem o11 : Gen.out0_11 (F := Ideal) x0 x1 x2 x3 x4 x5 x6 x7 x8 x9 x10 = Gen.k0_pay5 (Gen.k0_pay4 x1 x2 x3 x4 x0 x5 x6) x7 x9 := by
  unfold Gen.out0_11
  rw [View.canon_unit_zero hz2, p8]
  simp only [ld_0, ld_1, ld_2, ld_3, ld_4, ld_5]
theorem o12 : Gen.out0_12 (F := Ideal) x0 x1 x2 x3 x4 x5 x6 x7 x8 x9 x10 = Gen.k0_pay6 (Gen.k0_pay4 x1 x2 x3 x4 x0 x5 x6) x7 x9 x8 x10 := by
  unfold Gen.out0_12
  rw [View.canon_unit_zero hz2, p8]
  simp only [ld_0, ld_1, ld_2, ld_3, ld_4, ld_5]
theorem o13 : Gen.out0_13 (F := Ideal) x0 x1 x2 x3 x4 x5 x6 x7 x8 x9 x10
    = Gen.k0_pay3 (Gen.k0_pay6 (Gen.k0_pay4 x1 x2 x3 x4 x0 x5 x6) x7 x9 x8 x10) (Gen.k0_pay7 (Gen.k0_pay4 x1 x2 x3 x4 x0 x5 x6) x7 x9 x8 x10) := by
  unfold Gen.out0_13
  rw [View.canon_unit_zero hz2, p9, p10]
theorem o14 : Gen.out0_14 (F := Ideal) x0 x1 x2 x3 x4 x5 x6 x7 x8 x9 x10
    = Gen.k0_pay2 (Gen.k0_pay6 (Gen.k0_pay4 x1 x2 x3 x4 x0 x5 x6) x7 x9 x8 x10) (Gen.k0_pay7 (Gen.k0_pay4 x1 x2 x3 x4 x0 x5 x6) x7 x9 x8 x10) := by
  unfold Gen.out0_14
  rw [View.canon_unit_zero hz2, p9, p10]

/-- A function of the eleven blocks, at blocks equal one by one. -/
theorem congr11 {β : Type} (f : Vec Ideal S23040x1536 .bf16 → Vec Ideal S23040x8960 .fp8e4m3 → Vec Ideal S23040x8960 .bf16 →
    Vec Ideal S8960x1536 .fp8e4m3 → Vec Ideal S8960x1536 .bf16 → Vec Ideal S1x1536 .f32 → Vec Ideal S1x1536 .f32 → Vec Ideal S1x1536 .f32 →
    Vec Ideal S23040x1 .i32 → Vec Ideal S23040x1 .i32 → Vec Ideal S20x1 .f32 → β) {y0 y1 y2 y3 y4 y5 y6 y7 y8 y9 y10}
    (h0 : x0 = y0) (h1 : x1 = y1) (h2 : x2 = y2) (h3 : x3 = y3) (h4 : x4 = y4) (h5 : x5 = y5) (h6 : x6 = y6) (h7 : x7 = y7)
    (h8 : x8 = y8) (h9 : x9 = y9) (h10 : x10 = y10) :
    f x0 x1 x2 x3 x4 x5 x6 x7 x8 x9 x10 = f y0 y1 y2 y3 y4 y5 y6 y7 y8 y9 y10 := by
  subst h0 h1 h2 h3 h4 h5 h6 h7 h8 h9 h10
  rfl
end

/-! ## The blocks are the whole arrays -/

variable (m : (ℓ : Loc nD τ sig) → Buf (Elt Ideal) ℓ) (c : Dev nD)

theorem iblk_0 (t : Fin cfg0.N) : (Gen.iblk m c 0 t : Vec Ideal S23040x1536 .bf16) = Gen.V m c main_arg0 := by
  funext y
  show Gen.V m c main_arg0 (((cfg0.win 0).rect t).emb y) = Gen.V m c main_arg0 y
  refine congrArg _ ?_
  funext a
  exact Fin.ext (Window.rect_emb_val_of_index_zero (cfg0.win 0) t a (by fin_cases a <;> rfl) y)
theorem iblk_1 (t : Fin cfg0.N) : (Gen.iblk m c 1 t : Vec Ideal S23040x8960 .fp8e4m3) = Gen.V m c main_arg1 := by
  funext y
  show Gen.V m c main_arg1 (((cfg0.win 1).rect t).emb y) = Gen.V m c main_arg1 y
  refine congrArg _ ?_
  funext a
  exact Fin.ext (Window.rect_emb_val_of_index_zero (cfg0.win 1) t a (by fin_cases a <;> rfl) y)
theorem iblk_2 (t : Fin cfg0.N) : (Gen.iblk m c 2 t : Vec Ideal S23040x8960 .bf16) = Gen.V m c main_v2 := by
  funext y
  show Gen.V m c main_v2 (((cfg0.win 2).rect t).emb y) = Gen.V m c main_v2 y
  refine congrArg _ ?_
  funext a
  exact Fin.ext (Window.rect_emb_val_of_index_zero (cfg0.win 2) t a (by fin_cases a <;> rfl) y)
theorem iblk_3 (t : Fin cfg0.N) : (Gen.iblk m c 3 t : Vec Ideal S8960x1536 .fp8e4m3) = Gen.V m c main_arg3 := by
  funext y
  show Gen.V m c main_arg3 (((cfg0.win 3).rect t).emb y) = Gen.V m c main_arg3 y
  refine congrArg _ ?_
  funext a
  exact Fin.ext (Window.rect_emb_val_of_index_zero (cfg0.win 3) t a (by fin_cases a <;> rfl) y)
theorem iblk_4 (t : Fin cfg0.N) : (Gen.iblk m c 4 t : Vec Ideal S8960x1536 .bf16) = Gen.V m c main_v7 := by
  funext y
  show Gen.V m c main_v7 (((cfg0.win 4).rect t).emb y) = Gen.V m c main_v7 y
  refine congrArg _ ?_
  funext a
  exact Fin.ext (Window.rect_emb_val_of_index_zero (cfg0.win 4) t a (by fin_cases a <;> rfl) y)
theorem iblk_5 (t : Fin cfg0.N) : (Gen.iblk m c 5 t : Vec Ideal S1x1536 .f32) = Gen.V m c main_v21 := by
  funext y
  show Gen.V m c main_v21 (((cfg0.win 5).rect t).emb y) = Gen.V m c main_v21 y
  refine congrArg _ ?_
  funext a
  exact Fin.ext (Window.rect_emb_val_of_index_zero (cfg0.win 5) t a (by fin_cases a <;> rfl) y)
theorem iblk_6 (t : Fin cfg0.N) : (Gen.iblk m c 6 t : Vec Ideal S1x1536 .f32) = Gen.V m c main_v22 := by
  funext y
  show Gen.V m c main_v22 (((cfg0.win 6).rect t).emb y) = Gen.V m c main_v22 y
  refine congrArg _ ?_
  funext a
  exact Fin.ext (Window.rect_emb_val_of_index_zero (cfg0.win 6) t a (by fin_cases a <;> rfl) y)
theorem iblk_7 (t : Fin cfg0.N) : (Gen.iblk m c 7 t : Vec Ideal S1x1536 .f32) = Gen.V m c main_v23 := by
  funext y
  show Gen.V m c main_v23 (((cfg0.win 7).rect t).emb y) = Gen.V m c main_v23 y
  refine congrArg _ ?_
  funext a
  exact Fin.ext (Window.rect_emb_val_of_index_zero (cfg0.win 7) t a (by fin_cases a <;> rfl) y)
theorem iblk_8 (t : Fin cfg0.N) : (Gen.iblk m c 8 t : Vec Ideal S23040x1 .i32) = Gen.V m c main_v24 := by
  funext y
  show Gen.V m c main_v24 (((cfg0.win 8).rect t).emb y) = Gen.V m c main_v24 y
  refine congrArg _ ?_
  funext a
  exact Fin.ext (Window.rect_emb_val_of_index_zero (cfg0.win 8) t a (by fin_cases a <;> rfl) y)
theorem iblk_9 (t : Fin cfg0.N) : (Gen.iblk m c 9 t : Vec Ideal S23040x1 .i32) = Gen.V m c main_v25 := by
  funext y
  show Gen.V m c main_v25 (((cfg0.win 9).rect t).emb y) = Gen.V m c main_v25 y
  refine congrArg _ ?_
  funext a
  exact Fin.ext (Window.rect_emb_val_of_index_zero (cfg0.win 9) t a (by fin_cases a <;> rfl) y)
theorem iblk_10 (t : Fin cfg0.N) : (Gen.iblk m c 10 t : Vec Ideal S20x1 .f32) = Gen.V m c main_v26 := by
  funext y
  show Gen.V m c main_v26 (((cfg0.win 10).rect t).emb y) = Gen.V m c main_v26 y
  refine congrArg _ ?_
  funext a
  exact Fin.ext (Window.rect_emb_val_of_index_zero (cfg0.win 10) t a (by fin_cases a <;> rfl) y)

/-- The normalised rows, before the padding is zeroed, as the reference's program has them. -/
def v37 : FVec Ideal S23040x1536 .f32 := (Gen.k0_pay4 (F := Ideal) (Gen.V m c main_arg1) (Gen.V m c main_v2) (Gen.V m c main_arg3) (Gen.V m c main_v7) (Gen.V m c main_arg0) (Gen.V m c main_v21) (Gen.V m c main_v22))
def Z : FVec Ideal S23040x1536 .f32 := Gen.k0_pay5 (F := Ideal) (v37 m c) (Gen.V m c main_v23) (Gen.V m c main_v25)
def Mr : FVec Ideal S20x1536 .f32 := Gen.k0_pay6 (F := Ideal) (v37 m c) (Gen.V m c main_v23) (Gen.V m c main_v25) (Gen.V m c main_v24) (Gen.V m c main_v26)
def Qr : FVec Ideal S20x1 .f32 := Gen.k0_pay7 (F := Ideal) (v37 m c) (Gen.V m c main_v23) (Gen.V m c main_v25) (Gen.V m c main_v24) (Gen.V m c main_v26)

theorem fin_N (t : Fin cfg0.N) : t.val = 0 := by
  have h : cfg0.N = 1 := by decide +kernel
  have := t.isLt
  omega
theorem zero_N : 0 < cfg0.N := by decide +kernel

theorem after_11 (t : Fin cfg0.N) : (Gen.dats m 0 c).after 11 t = Z m c :=
  (Gen.after0_11 m c t).trans ((congr11 _ _ _ _ _ _ _ _ _ _ _ (Gen.out0_11 (F := Ideal)) (iblk_0 m c t) (iblk_1 m c t) (iblk_2 m c t) (iblk_3 m c t) (iblk_4 m c t) (iblk_5 m c t) (iblk_6 m c t) (iblk_7 m c t) (iblk_8 m c t) (iblk_9 m c t) (iblk_10 m c t)).trans (o11 _ _ _ _ _ _ _ _ _ _ _))

theorem flushed_11 (t : Fin cfg0.N) :
    (Gen.dats m 0 c).flushed 11 t = ((cfg0.win 11).blk t).view.read (Elt Ideal) (Z m c) := by
  show (cfg0.win 11).cut (grid0.coords t) ((Gen.dats m 0 c).after 11 t) = _
  rw [after_11]
  generalize Z m c = G
  funext y
  show G (y : S23040x1536.Idx) = G (((cfg0.win 11).rect t).emb y)
  refine congrArg _ ?_
  funext a
  exact (Fin.ext (Window.rect_emb_val_of_index_zero (cfg0.win 11) t a (by fin_cases a <;> rfl) y)).symm

theorem cover_11 (i : S23040x1536.Idx) : ∃ t : Fin cfg0.N, (cfg0.win 11).flush t = true ∧ i ∈ ((cfg0.win 11).blk t).view.set := by
  have h0 : (i 0 : ℕ) < 23040 := (i 0).isLt
  have h1 : (i 1 : ℕ) < 1536 := (i 1).isLt
  refine ⟨⟨0, zero_N⟩, Gen.flush0_11 _, ?_⟩
  refine (congrArg (fun T : Finset S23040x1536.Idx => i ∈ T) (View.set_slice_whole main_v27_0 ((cfg0.win 11).rect ⟨0, zero_N⟩))).mpr (Rect.mem_set_unit.mpr ?_)
  intro a
  match a with
  | ⟨0, _⟩ => show 0 * 23040 ≤ (i 0 : ℕ) ∧ (i 0 : ℕ) < 0 * 23040 + 23040; omega
  | ⟨1, _⟩ => show 0 * 1536 ≤ (i 1 : ℕ) ∧ (i 1 : ℕ) < 0 * 1536 + 1536; omega

theorem final_11 : (Gen.dats m 0 c).arrAt 11 cfg0.N = Z m c :=
  (Gen.dats m 0 c).arrAt_eq_of_cover 11 (Z m c) (fun t _ => flushed_11 m c t) cover_11

theorem after_12 (t : Fin cfg0.N) : (Gen.dats m 0 c).after 12 t = Mr m c :=
  (Gen.after0_12 m c t).trans ((congr11 _ _ _ _ _ _ _ _ _ _ _ (Gen.out0_12 (F := Ideal)) (iblk_0 m c t) (iblk_1 m c t) (iblk_2 m c t) (iblk_3 m c t) (iblk_4 m c t) (iblk_5 m c t) (iblk_6 m c t) (iblk_7 m c t) (iblk_8 m c t) (iblk_9 m c t) (iblk_10 m c t)).trans (o12 _ _ _ _ _ _ _ _ _ _ _))

theorem flushed_12 (t : Fin cfg0.N) :
    (Gen.dats m 0 c).flushed 12 t = ((cfg0.win 12).blk t).view.read (Elt Ideal) (Mr m c) := by
  show (cfg0.win 12).cut (grid0.coords t) ((Gen.dats m 0 c).after 12 t) = _
  rw [after_12]
  generalize Mr m c = G
  funext y
  show G (y : S20x1536.Idx) = G (((cfg0.win 12).rect t).emb y)
  refine congrArg _ ?_
  funext a
  exact (Fin.ext (Window.rect_emb_val_of_index_zero (cfg0.win 12) t a (by fin_cases a <;> rfl) y)).symm

theorem cover_12 (i : S20x1536.Idx) : ∃ t : Fin cfg0.N, (cfg0.win 12).flush t = true ∧ i ∈ ((cfg0.win 12).blk t).view.set := by
  have h0 : (i 0 : ℕ) < 20 := (i 0).isLt
  have h1 : (i 1 : ℕ) < 1536 := (i 1).isLt
  refine ⟨⟨0, zero_N⟩, Gen.flush0_12 _, ?_⟩
  refine (congrArg (fun T : Finset S20x1536.Idx => i ∈ T) (View.set_slice_whole main_v27_1 ((cfg0.win 12).rect ⟨0, zero_N⟩))).mpr (Rect.mem_set_unit.mpr ?_)
  intro a
  match a with
  | ⟨0, _⟩ => show 0 * 20 ≤ (i 0 : ℕ) ∧ (i 0 : ℕ) < 0 * 20 + 20; omega
  | ⟨1, _⟩ => show 0 * 1536 ≤ (i 1 : ℕ) ∧ (i 1 : ℕ) < 0 * 1536 + 1536; omega

theorem final_12 : (Gen.dats m 0 c).arrAt 12 cfg0.N = Mr m c :=
  (Gen.dats m 0 c).arrAt_eq_of_cover 12 (Mr m c) (fun t _ => flushed_12 m c t) cover_12

theorem after_13 (t : Fin cfg0.N) : (Gen.dats m 0 c).after 13 t = Gen.k0_pay3 (F := Ideal) (Mr m c) (Qr m c) :=
  (Gen.after0_13 m c t).trans ((congr11 _ _ _ _ _ _ _ _ _ _ _ (Gen.out0_13 (F := Ideal)) (iblk_0 m c t) (iblk_1 m c t) (iblk_2 m c t) (iblk_3 m c t) (iblk_4 m c t) (iblk_5 m c t) (iblk_6 m c t) (iblk_7 m c t) (iblk_8 m c t) (iblk_9 m c t) (iblk_10 m c t)).trans (o13 _ _ _ _ _ _ _ _ _ _ _))

theorem flushed_13 (t : Fin cfg0.N) :
    (Gen.dats m 0 c).flushed 13 t = ((cfg0.win 13).blk t).view.read (Elt Ideal) (Gen.k0_pay3 (F := Ideal) (Mr m c) (Qr m c)) := by
  show (cfg0.win 13).cut (grid0.coords t) ((Gen.dats m 0 c).after 13 t) = _
  rw [after_13]
  generalize Gen.k0_pay3 (F := Ideal) (Mr m c) (Qr m c) = G
  funext y
  show G (y : S20x1536.Idx) = G (((cfg0.win 13).rect t).emb y)
  refine congrArg _ ?_
  funext a
  exact (Fin.ext (Window.rect_emb_val_of_index_zero (cfg0.win 13) t a (by fin_cases a <;> rfl) y)).symm

theorem cover_13 (i : S20x1536.Idx) : ∃ t : Fin cfg0.N, (cfg0.win 13).flush t = true ∧ i ∈ ((cfg0.win 13).blk t).view.set := by
  have h0 : (i 0 : ℕ) < 20 := (i 0).isLt
  have h1 : (i 1 : ℕ) < 1536 := (i 1).isLt
  refine ⟨⟨0, zero_N⟩, Gen.flush0_13 _, ?_⟩
  refine (congrArg (fun T : Finset S20x1536.Idx => i ∈ T) (View.set_slice_whole main_v27_2 ((cfg0.win 13).rect ⟨0, zero_N⟩))).mpr (Rect.mem_set_unit.mpr ?_)
  intro a
  match a with
  | ⟨0, _⟩ => show 0 * 20 ≤ (i 0 : ℕ) ∧ (i 0 : ℕ) < 0 * 20 + 20; omega
  | ⟨1, _⟩ => show 0 * 1536 ≤ (i 1 : ℕ) ∧ (i 1 : ℕ) < 0 * 1536 + 1536; omega

theorem final_13 : (Gen.dats m 0 c).arrAt 13 cfg0.N = Gen.k0_pay3 (F := Ideal) (Mr m c) (Qr m c) :=
  (Gen.dats m 0 c).arrAt_eq_of_cover 13 (Gen.k0_pay3 (F := Ideal) (Mr m c) (Qr m c)) (fun t _ => flushed_13 m c t) cover_13

theorem after_14 (t : Fin cfg0.N) : (Gen.dats m 0 c).after 14 t = Gen.k0_pay2 (F := Ideal) (Mr m c) (Qr m c) :=
  (Gen.after0_14 m c t).trans ((congr11 _ _ _ _ _ _ _ _ _ _ _ (Gen.out0_14 (F := Ideal)) (iblk_0 m c t) (iblk_1 m c t) (iblk_2 m c t) (iblk_3 m c t) (iblk_4 m c t) (iblk_5 m c t) (iblk_6 m c t) (iblk_7 m c t) (iblk_8 m c t) (iblk_9 m c t) (iblk_10 m c t)).trans (o14 _ _ _ _ _ _ _ _ _ _ _))

theorem flushed_14 (t : Fin cfg0.N) :
    (Gen.dats m 0 c).flushed 14 t = ((cfg0.win 14).blk t).view.read (Elt Ideal) (Gen.k0_pay2 (F := Ideal) (Mr m c) (Qr m c)) := by
  show (cfg0.win 14).cut (grid0.coords t) ((Gen.dats m 0 c).after 14 t) = _
  rw [after_14]
  generalize Gen.k0_pay2 (F := Ideal) (Mr m c) (Qr m c) = G
  funext y
  show G (y : S20x1.Idx) = G (((cfg0.win 14).rect t).emb y)
  refine congrArg _ ?_
  funext a
  exact (Fin.ext (Window.rect_emb_val_of_index_zero (cfg0.win 14) t a (by fin_cases a <;> rfl) y)).symm

theorem cover_14 (i : S20x1.Idx) : ∃ t : Fin cfg0.N, (cfg0.win 14).flush t = true ∧ i ∈ ((cfg0.win 14).blk t).view.set := by
  have h0 : (i 0 : ℕ) < 20 := (i 0).isLt
  have h1 : (i 1 : ℕ) < 1 := (i 1).isLt
  refine ⟨⟨0, zero_N⟩, Gen.flush0_14 _, ?_⟩
  refine (congrArg (fun T : Finset S20x1.Idx => i ∈ T) (View.set_slice_whole main_v27_3 ((cfg0.win 14).rect ⟨0, zero_N⟩))).mpr (Rect.mem_set_unit.mpr ?_)
  intro a
  match a with
  | ⟨0, _⟩ => show 0 * 20 ≤ (i 0 : ℕ) ∧ (i 0 : ℕ) < 0 * 20 + 20; omega
  | ⟨1, _⟩ => show 0 * 1 ≤ (i 1 : ℕ) ∧ (i 1 : ℕ) < 0 * 1 + 1; omega

theorem final_14 : (Gen.dats m 0 c).arrAt 14 cfg0.N = Gen.k0_pay2 (F := Ideal) (Mr m c) (Qr m c) :=
  (Gen.dats m 0 c).arrAt_eq_of_cover 14 (Gen.k0_pay2 (F := Ideal) (Mr m c) (Qr m c)) (fun t _ => flushed_14 m c t) cover_14

/-! ## Their values -/

theorem prow_eq (r : Fin 23040) : prow (Gen.V m c main_arg1) (Gen.V m c main_v2) (Gen.V m c main_arg3) (Gen.V m c main_v7)
    (Gen.V m c main_arg0) (Gen.V m c main_v21) r = Spec.row (argsOf m c) r := by
  have ea : (fun n : Fin 8960 => (fun a b : EReal => a * b) (Gen.V m c main_arg1 (ix2 r n)) (Gen.V m c main_v2 (ix2 r n))) = Spec.hq (argsOf m c) r :=
    funext fun n => congrArg₂ (fun a b : EReal => a * b) (congrFun (Gen.V_main_arg1 m c) (ix2 r n)) (V_v2 m c r n)
  have ew : (fun (n : Fin 8960) (j : Fin 1536) => (fun a b : EReal => a * b) (Gen.V m c main_arg3 (ix2 n j)) (Gen.V m c main_v7 (ix2 n j))) = Spec.wq (argsOf m c) :=
    funext fun n => funext fun j => congrArg₂ (fun a b : EReal => a * b) (congrFun (Gen.V_main_arg3 m c) (ix2 n j)) (V_v7 m c n j)
  have ex : (fun j : Fin 1536 => (Gen.V m c main_arg0 (ix2 r j) : EReal)) = (argsOf m c).x r :=
    funext fun j => congrFun (Gen.V_main_arg0 m c) (ix2 r j)
  have eb : (fun j : Fin 1536 => (Gen.V m c main_v21 (ix2 0 j) : EReal)) = (argsOf m c).b :=
    funext fun j => V_v21 m c j
  show Spec.pre _ _ _ _ = Spec.pre _ _ _ _
  exact congr (congr (congrArg₂ Spec.pre ea ew) ex) eb

/-- The flag of a row, read as a comparison. -/
theorem live_iff (v : BitVec 32) (r : ℕ) (hr : r < 23040) :
    IntOp.cmpi CmpIPredicate.ne ((IntOp.cmpi CmpIPredicate.slt (BitVec.ofNat 32 r) v).setWidth 32) 0#32 = 1#1 ↔ (r : ℤ) < v.toInt := by
  have hrw : (BitVec.ofNat 32 r).toInt = (r : ℤ) := by
    have h := Affine.ofNat (e := (r : ℤ)) r ⟨rfl, by omega⟩
    unfold Affine.IsInt at h; exact h
  have h := IntOp.cmpi_slt (x := BitVec.ofNat 32 r) (y := v)
  rw [hrw] at h
  rw [← h]
  generalize IntOp.cmpi CmpIPredicate.slt (BitVec.ofNat 32 r) v = b
  revert b
  decide

theorem Z_at (r : Fin 23040) (j : Fin 1536) : Z m c (ix2 r j) = Spec.zm (argsOf m c) r j := by
  refine (pay5_at _ _ _ _ _ _ _ _ _ r j).trans ?_
  refine (congrArg₂ (fun (w : BitVec 32) (z : EReal) => Scalar.select (IntOp.cmpi CmpIPredicate.ne w 0#32) z 0) (V_v25 m c r)
    (congrFun (congr (congrArg₂ Spec.zn (prow_eq m c r) (funext fun j => V_v22 m c j)) (funext fun j => V_v23 m c j)) j)).trans ?_
  exact Cert.Proof.KernelIdeal.select_iff _ _ _ _ (live_iff _ r.val r.isLt)

theorem zm_pad (A : Spec.Args) (r : Fin 23040) (j : Fin 1536) (h : ¬ (r.val : ℤ) < (A.cu 20).toInt) : Spec.zm A r j = 0 := if_neg h

/-- A row's summand in a sequence's sum. -/
theorem term_eq (hs : ∀ k : Fin 20, ((argsOf m c).cu k.castSucc).toInt ≤ ((argsOf m c).cu k.succ).toInt) (s : Fin 20) (j : Fin 1536) (r : Fin 23040) :
    Scalar.select (IntOp.cmpi CmpIPredicate.eq (Gen.V m c main_v24 (ix2 r 0)) (BitVec.ofNat 32 s.val)) (Z m c (ix2 r j)) (0 : EReal)
      = if Spec.inSeq (argsOf m c) s r.val then Spec.zm (argsOf m c) r j else 0 := by
  refine (congrArg₂ (fun (w : BitVec 32) (z : EReal) => Scalar.select (IntOp.cmpi CmpIPredicate.eq w (BitVec.ofNat 32 s.val)) z 0) (V_v24 m c r)
    (Z_at m c r j)).trans ?_
  by_cases h20 : (r.val : ℤ) < ((argsOf m c).cu 20).toInt
  · refine Cert.Proof.KernelIdeal.select_iff _ _ _ _ ?_
    exact IntOp.cmpi_eq.trans (Spec.count_word (argsOf m c).cu hs r.val r.isLt h20 s)
  · rw [zm_pad _ _ _ h20, ite_self]
    unfold Scalar.select
    exact ite_self _

theorem Mr_at (hs : ∀ k : Fin 20, ((argsOf m c).cu k.castSucc).toInt ≤ ((argsOf m c).cu k.succ).toInt) (s : Fin 20) (j : Fin 1536) :
    Mr m c (ix2 s j) = Spec.mean (argsOf m c) s j := by
  refine (pay6_at _ _ _ _ _ s j).trans ?_
  exact congrArg₂ Ideal.div (Finset.sum_congr rfl fun r _ => term_eq m c hs s j r)
    (congrArg (fun l : EReal => if l = 0 then (1 : EReal) else l) (V_v26 m c s))

/-- The sequences' means. -/
def M : FVec Ideal S20x1536 .f32 := fun y => Spec.mean (argsOf m c) (y 0) (y 1)

theorem Z_eq : Z m c = fun y => Spec.zm (argsOf m c) (y 0) (y 1) := by
  funext y
  obtain ⟨r, j, rfl⟩ : ∃ (r : Fin 23040) (j : Fin 1536), y = ix2 r j := ⟨y 0, y 1, by funext a; fin_cases a <;> rfl⟩
  exact Z_at m c r j
theorem Mr_eq (hs : ∀ k : Fin 20, ((argsOf m c).cu k.castSucc).toInt ≤ ((argsOf m c).cu k.succ).toInt) : Mr m c = M m c := by
  funext y
  obtain ⟨s, j, rfl⟩ : ∃ (s : Fin 20) (j : Fin 1536), y = ix2 s j := ⟨y 0, y 1, by funext a; fin_cases a <;> rfl⟩
  exact Mr_at m c hs s j
theorem C_eq (hs : ∀ k : Fin 20, ((argsOf m c).cu k.castSucc).toInt ≤ ((argsOf m c).cu k.succ).toInt) :
    Gen.k0_pay3 (F := Ideal) (Mr m c) (Qr m c) = Cert.KernelIdeal.Gen.k0_pay10 (F := Ideal) (M m c) (mulf (φ := .f32) (M m c) (M m c)) :=
  codes_eq _ _ _ _ (M m c) _ (Mr_eq m c hs)
theorem E_eq (hs : ∀ k : Fin 20, ((argsOf m c).cu k.castSucc).toInt ≤ ((argsOf m c).cu k.succ).toInt) :
    Gen.k0_pay2 (F := Ideal) (Mr m c) (Qr m c) = Cert.KernelIdeal.Gen.k0_pay9 (F := Ideal) (M m c) (mulf (φ := .f32) (M m c) (M m c)) :=
  scale_eq _ _ _ _ (M m c) _ (Mr_eq m c hs)

end Cert.Proof.ReferenceIdeal
end
end
-- ==== Proof.Val.Alg.lean ====
module

public import proofs.«01_k».proof.Defs
public import proofs.«01_k».proof.Proof.Gen.Pre_packed
public import proofs.«01_k».proof.Proof.Val.KOut
public import proofs.«01_k».proof.Proof.Val.ROut
public import proofs.«01_k».proof.Proof.KernI.Frame
public import Idealize.ShloMosaic.Lib.ReduceAll

@[expose] public section

set_option maxRecDepth 16384
set_option maxHeartbeats 4000000

noncomputable section

namespace Cert.Proof

open Idealize.ShloMosaic Idealize.ShloMosaic.TcCoe Idealize.SL.Sem

/-! ## What the precondition says -/

section
variable (x : FVec Ideal Cert.Pre_packed.S23040x1536 .bf16) (h : FVec Ideal Cert.Pre_packed.S23040x8960 .fp8e4m3)
  (hs : FVec Ideal Cert.Pre_packed.S23040x70 .f32) (w : FVec Ideal Cert.Pre_packed.S8960x1536 .fp8e4m3)
  (ws : FVec Ideal Cert.Pre_packed.S70x12 .f32) (b g be : FVec Ideal Cert.Pre_packed.S1536 .f32) (cu : IVec Cert.Pre_packed.S21 32)

theorem pre_split (hp : Cert.Pre_packed.fn (F := Ideal) x h hs w ws b g be cu = fun _ => 1#1) :
    (∀ k : Fin 20, (cu (ix1 k.castSucc)).toInt ≤ (cu (ix1 k.succ)).toInt) ∧ (cu (ix1 20)).toInt ≤ 2147483520 := by
  have j : Cert.Pre_packed.S_.Idx := fun a => a.elim0
  have e := congrFun hp j
  obtain ⟨e1, e2⟩ := IntOp.andi_eq_one.1 e
  haveI : Subsingleton Cert.Pre_packed.S_.Idx := ⟨fun a b => funext fun k => k.elim0⟩
  constructor
  · intro k
    have e3 := IntOp.cmpi_sle.1 (Host.reduce_andi_all _ _ _ _ j e1 (ix1 k))
    have ha : (extractStridedSlice Cert.Pre_packed.S20 ![0] cu Cert.Pre_packed.Gen.slices_S21_S20_0) (ix1 k) = cu (ix1 k.castSucc) := by
      pointwise
      refine congrArg cu (congrArg ix1 (Fin.ext ?_))
      simp
    have hb : (extractStridedSlice Cert.Pre_packed.S20 ![1] cu Cert.Pre_packed.Gen.slices_S21_S20_1) (ix1 k) = cu (ix1 k.succ) := by
      pointwise
      refine congrArg cu (congrArg ix1 (Fin.ext ?_))
      simp
      try omega
    have e4 : (cu (ix1 k.castSucc)).toInt ≤ (cu (ix1 k.succ)).toInt := by
      rw [← ha, ← hb]; exact e3
    exact e4
  · have e3 := IntOp.cmpi_sle.1 e2
    have ha : (shapeCast Cert.Pre_packed.S_ (extractStridedSlice Cert.Pre_packed.S1 ![20] cu Cert.Pre_packed.Gen.slices_S21_S1_20) Cert.Pre_packed.Gen.shapeCasts_S1_S_) j = cu (ix1 20) := by
      pointwise
    have hc : (2147483520#32).toInt = 2147483520 := by decide
    have e4 : (cu (ix1 20)).toInt ≤ (2147483520#32).toInt := by
      rw [← ha]; exact e3
    rwa [hc] at e4
end

/-! ## The two runs -/

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The conditions on the prefix sums, at one device. -/
theorem packed_of (hp : Cert.Pre_KernelIdeal_packed m) (c : Dev Cert.KernelIdeal.nD) :
    (∀ k : Fin 20, ((Cert.Proof.KernelIdeal.argsOf m c).cu k.castSucc).toInt ≤ ((Cert.Proof.KernelIdeal.argsOf m c).cu k.succ).toInt)
      ∧ ((Cert.Proof.KernelIdeal.argsOf m c).cu 20).toInt ≤ 2147483520 :=
  pre_split _ _ _ _ _ _ _ _ _ (hp c)

theorem algebraic : Cert.algebraic_KernelIdeal_ReferenceIdeal_pre_packed := by
  intro m g m' g' hp hargs
  have hA : ∀ c : Dev Cert.KernelIdeal.nD, Cert.Proof.ReferenceIdeal.argsOf m' c = Cert.Proof.KernelIdeal.argsOf m c := by
    intro c
    obtain ⟨h0, h1, h2, h3, h4, h5, h6, h7, h8⟩ := hargs c
    unfold Cert.Proof.ReferenceIdeal.argsOf Cert.Proof.KernelIdeal.argsOf
    congr 1
    · funext r j; exact congrFun h0 (ix2 r j)
    · funext r j; exact congrFun h1 (ix2 r j)
    · funext r j; exact congrFun h2 (ix2 r j)
    · funext r j; exact congrFun h3 (ix2 r j)
    · funext r j; exact congrFun h4 (ix2 r j)
    · funext j; exact congrFun h5 (ix1 j)
    · funext j; exact congrFun h6 (ix1 j)
    · funext j; exact congrFun h7 (ix1 j)
    · funext j; exact congrFun h8 (ix1 j)
  have hM : ∀ c : Dev Cert.KernelIdeal.nD, Cert.Proof.ReferenceIdeal.M m' c = Cert.Proof.KernelIdeal.M m c := by
    intro c
    unfold Cert.Proof.ReferenceIdeal.M Cert.Proof.KernelIdeal.M
    rw [hA c]
  have hsort : ∀ c : Dev Cert.KernelIdeal.nD, ∀ k : Fin 20,
      ((Cert.Proof.ReferenceIdeal.argsOf m' c).cu k.castSucc).toInt ≤ ((Cert.Proof.ReferenceIdeal.argsOf m' c).cu k.succ).toInt := by
    intro c k
    rw [hA c]
    exact (packed_of m hp c).1 k
  refine ⟨fun c => Cert.Proof.KernelIdeal.G8 m c, fun c => Cert.Proof.KernelIdeal.M m c,
    fun c => Cert.KernelIdeal.Gen.k0_pay10 (F := Ideal) (Cert.Proof.KernelIdeal.M m c) (mulf (φ := .f32) (Cert.Proof.KernelIdeal.M m c) (Cert.Proof.KernelIdeal.M m c)),
    fun c => Cert.KernelIdeal.Gen.k0_pay9 (F := Ideal) (Cert.Proof.KernelIdeal.M m c) (mulf (φ := .f32) (Cert.Proof.KernelIdeal.M m c) (Cert.Proof.KernelIdeal.M m c)),
    ?_, ?_⟩
  · refine (θ_run _ _ _).mono (fun r h c => ?_) (Cert.Proof.KernelIdeal.run_main (F := Ideal) m g)
    have hP := (packed_of m hp c).2
    exact ⟨((h.1 c).1 8).trans (Cert.Proof.KernelIdeal.final_8 m c hP),
      ((h.1 c).1 9).trans ((Cert.Proof.KernelIdeal.final_9 m c).trans (Cert.Proof.KernelIdeal.mVal_eq m c hP)),
      ((h.1 c).1 10).trans ((Cert.Proof.KernelIdeal.final_10 m c).trans (Cert.Proof.KernelIdeal.codesVal_eq m c hP)),
      ((h.1 c).1 11).trans ((Cert.Proof.KernelIdeal.final_11 m c).trans (Cert.Proof.KernelIdeal.scaleVal_eq m c hP)),
      Cert.Proof.KernelIdeal.unchanged m r h.1 c⟩
  · refine (θ_run _ _ _).mono (fun r h c => ?_) (Cert.ReferenceIdeal.Value.run_blocks (F := Ideal) m' g')
    obtain ⟨h0, h1, h2, h3, hk⟩ := h c
    have hs := hsort c
    refine ⟨h0.trans ((Cert.Proof.ReferenceIdeal.final_11 m' c).trans ((Cert.Proof.ReferenceIdeal.Z_eq m' c).trans ?_)),
      h1.trans ((Cert.Proof.ReferenceIdeal.final_12 m' c).trans ((Cert.Proof.ReferenceIdeal.Mr_eq m' c hs).trans (hM c))),
      h2.trans ((Cert.Proof.ReferenceIdeal.final_13 m' c).trans ((Cert.Proof.ReferenceIdeal.C_eq m' c hs).trans ?_)),
      h3.trans ((Cert.Proof.ReferenceIdeal.final_14 m' c).trans ((Cert.Proof.ReferenceIdeal.E_eq m' c hs).trans ?_)), hk⟩
    · unfold Cert.Proof.KernelIdeal.G8
      rw [hA c]
    · exact congrArg (fun M => Cert.KernelIdeal.Gen.k0_pay10 (F := Ideal) M (mulf (φ := .f32) M M)) (hM c)
    · exact congrArg (fun M => Cert.KernelIdeal.Gen.k0_pay9 (F := Ideal) M (mulf (φ := .f32) M M)) (hM c)
end

end Cert.Proof
end
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_packed
public import proofs.«01_k».proof.Proof.Gen.ReferenceIdeal.Frame
public import proofs.«01_k».proof.Proof.Kern.Frame
public import proofs.«01_k».proof.Proof.KernI.Frame
public import proofs.«01_k».proof.Proof.Val.Alg

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_packed.Gen.facts,
    fun m g _ => Cert.Proof.Kernel.frame m g,
    fun m g _ => Cert.Proof.KernelIdeal.frame m g,
    fun m g _ => Cert.Proof.KernelIdeal.frame m g,
    fun m g _ => Cert.ReferenceIdeal.Gen.frame m g,
    fun m g _ => Cert.ReferenceIdeal.Gen.frame m g,
    trivial,
    Cert.Proof.algebraic⟩

end Cert.Proof

end
